-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v35_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18)) (v1 : (c : Dev Cert.Kernel2Ideal.nD) → Buf (Elt Ideal) ((c.tc : Thread Cert.Kernel2Ideal.nD Cert.Kernel2Ideal.τ).loc Cert.Kernel2Ideal.main_v20)) (v2 : (c : Dev Cert.Kernel2Ideal.nD) → Buf (Elt Ideal) ((c.tc : Thread Cert.Kernel2Ideal.nD Cert.Kernel2Ideal.τ).loc Cert.Kernel2Ideal.main_v22)) (v3 : (c : Dev Cert.Kernel2Ideal.nD) → Buf (Elt Ideal) ((c.tc : Thread Cert.Kernel2Ideal.nD Cert.Kernel2Ideal.τ).loc Cert.Kernel2Ideal.main_v24)) (v4 : (c : Dev Cert.Kernel2Ideal.nD) → Buf (Elt Ideal) ((c.tc : Thread Cert.Kernel2Ideal.nD Cert.Kernel2Ideal.τ).loc Cert.Kernel2Ideal.main_v26)) (v5 : (c : Dev Cert.Kernel2Ideal.nD) → Buf (Elt Ideal) ((c.tc : Thread Cert.Kernel2Ideal.nD Cert.Kernel2Ideal.τ).loc Cert.Kernel2Ideal.main_v28)) (v6 : (c : Dev Cert.Kernel2Ideal.nD) → Buf (Elt Ideal) ((c.tc : Thread Cert.Kernel2Ideal.nD Cert.Kernel2Ideal.τ).loc Cert.Kernel2Ideal.main_v30)) (v7 : (c : Dev Cert.Kernel2Ideal.nD) → Buf (Elt Ideal) ((c.tc : Thread Cert.Kernel2Ideal.nD Cert.Kernel2Ideal.τ).loc Cert.Kernel2Ideal.main_v32)) (v8 : (c : Dev Cert.Kernel2Ideal.nD) → Buf (Elt Ideal) ((c.tc : Thread Cert.Kernel2Ideal.nD Cert.Kernel2Ideal.τ).loc Cert.Kernel2Ideal.main_v34)) (v9 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_v20) = v1 c
          ∧ r.2.mem ((c.tc : Thread Cert.Kernel2Ideal.nD Cert.Kernel2Ideal.τ).loc Cert.Kernel2Ideal.main_v22) = v2 c
          ∧ r.2.mem ((c.tc : Thread Cert.Kernel2Ideal.nD Cert.Kernel2Ideal.τ).loc Cert.Kernel2Ideal.main_v24) = v3 c
          ∧ r.2.mem ((c.tc : Thread Cert.Kernel2Ideal.nD Cert.Kernel2Ideal.τ).loc Cert.Kernel2Ideal.main_v26) = v4 c
          ∧ r.2.mem ((c.tc : Thread Cert.Kernel2Ideal.nD Cert.Kernel2Ideal.τ).loc Cert.Kernel2Ideal.main_v28) = v5 c
          ∧ r.2.mem ((c.tc : Thread Cert.Kernel2Ideal.nD Cert.Kernel2Ideal.τ).loc Cert.Kernel2Ideal.main_v30) = v6 c
          ∧ r.2.mem ((c.tc : Thread Cert.Kernel2Ideal.nD Cert.Kernel2Ideal.τ).loc Cert.Kernel2Ideal.main_v32) = v7 c
          ∧ r.2.mem ((c.tc : Thread Cert.Kernel2Ideal.nD Cert.Kernel2Ideal.τ).loc Cert.Kernel2Ideal.main_v34) = v8 c
          ∧ r.2.mem ((c.tc : Thread Cert.Kernel2Ideal.nD Cert.Kernel2Ideal.τ).loc Cert.Kernel2Ideal.main_v36) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v41) = v5 c
          ∧ r.2.mem ((c.tc : Thread Cert.Reference2Ideal.nD Cert.Reference2Ideal.τ).loc Cert.Reference2Ideal.main_v21) = v6 c
          ∧ r.2.mem ((c.tc : Thread Cert.Reference2Ideal.nD Cert.Reference2Ideal.τ).loc Cert.Reference2Ideal.main_v22) = v7 c
          ∧ r.2.mem ((c.tc : Thread Cert.Reference2Ideal.nD Cert.Reference2Ideal.τ).loc Cert.Reference2Ideal.main_v44) = v8 c
          ∧ r.2.mem ((c.tc : Thread Cert.Reference2Ideal.nD Cert.Reference2Ideal.τ).loc Cert.Reference2Ideal.main_v45) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v7)) (v2 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_v14) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)) (v1 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_v9) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v8) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8448x6144 : Shape := ⟨2, ![8448, 6144]⟩
abbrev S8448x128 : Shape := ⟨2, ![8448, 128]⟩
abbrev S1x16x1024 : Shape := ⟨3, ![1, 16, 1024]⟩
abbrev S1x1024 : Shape := ⟨2, ![1, 1024]⟩
abbrev S1x2048 : Shape := ⟨2, ![1, 2048]⟩
abbrev S16x1024 : Shape := ⟨2, ![16, 1024]⟩
abbrev S_ : Shape := ⟨0, ![]⟩
abbrev S128x1024 : Shape := ⟨2, ![128, 1024]⟩
abbrev S1024 : Shape := ⟨1, ![1024]⟩
abbrev S2048 : Shape := ⟨1, ![2048]⟩
abbrev S8192x2048 : Shape := ⟨2, ![8192, 2048]⟩
abbrev S4x4x256x512 : Shape := ⟨4, ![4, 4, 256, 512]⟩
abbrev S64x1024 : Shape := ⟨2, ![64, 1024]⟩
abbrev S64x2048 : Shape := ⟨2, ![64, 2048]⟩
abbrev S64x128 : Shape := ⟨2, ![64, 128]⟩
abbrev S1x4x256x512 : Shape := ⟨4, ![1, 4, 256, 512]⟩
abbrev S4x512x256 : Shape := ⟨3, ![4, 512, 256]⟩
abbrev S512x256 : Shape := ⟨2, ![512, 256]⟩
abbrev S1x512x256 : Shape := ⟨3, ![1, 512, 256]⟩
abbrev S64x64 : Shape := ⟨2, ![64, 64]⟩
abbrev S64x256 : Shape := ⟨2, ![64, 256]⟩
abbrev S64x512 : Shape := ⟨2, ![64, 512]⟩
abbrev S16x64 : Shape := ⟨2, ![16, 64]⟩
abbrev S16x256 : Shape := ⟨2, ![16, 256]⟩
abbrev S16 : Shape := ⟨1, ![16]⟩
abbrev S16x1 : Shape := ⟨2, ![16, 1]⟩
abbrev S1x256 : Shape := ⟨2, ![1, 256]⟩
abbrev S64 : Shape := ⟨1, ![64]⟩
abbrev S64x1 : Shape := ⟨2, ![64, 1]⟩
abbrev S1x512 : Shape := ⟨2, ![1, 512]⟩
abbrev S256x512 : Shape := ⟨2, ![256, 512]⟩
abbrev S1x1x256x512 : Shape := ⟨4, ![1, 1, 256, 512]⟩

abbrev nBuf : Space → Nat
  | .hbm => 15
  | .vmem => 18
  | .smem => 0
  | _ => 0

abbrev bufTy : (tb : Table) → Fin (tcTables nBuf tb) → BufTy
  | .hbm, ⟨0, _⟩ => ⟨S8448x6144, .f32⟩
  | .hbm, ⟨1, _⟩ => ⟨S8448x128, .f32⟩
  | .hbm, ⟨2, _⟩ => ⟨S1x16x1024, .f32⟩
  | .hbm, ⟨3, _⟩ => ⟨S1x1024, .f32⟩
  | .hbm, ⟨4, _⟩ => ⟨S1x2048, .f32⟩
  | .hbm, ⟨5, _⟩ => ⟨S16x1024, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S1024, .f32⟩
  | .hbm, ⟨10, _⟩ => ⟨S1x1024, .f32⟩
  | .hbm, ⟨11, _⟩ => ⟨S2048, .f32⟩
  | .hbm, ⟨12, _⟩ => ⟨S1x2048, .f32⟩
  | .hbm, ⟨13, _⟩ => ⟨S8192x2048, .bf16⟩
  | .hbm, ⟨14, _⟩ => ⟨S4x4x256x512, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S128x1024, .f32⟩
  | .local _ .vmem, ⟨11, _⟩ => ⟨S1x1024, .f32⟩
  | .local _ .vmem, ⟨12, _⟩ => ⟨S1x2048, .f32⟩
  | .local _ .vmem, ⟨13, _⟩ => ⟨S64x2048, .bf16⟩
  | .local _ .vmem, ⟨14, _⟩ => ⟨S64x2048, .bf16⟩
  | .local _ .vmem, ⟨15, _⟩ => ⟨S1x4x256x512, .f32⟩
  | .local _ .vmem, ⟨16, _⟩ => ⟨S1x4x256x512, .f32⟩
  | .local _ .vmem, ⟨17, _⟩ => ⟨S4x512x256, .f32⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32_659 : BitVec 32 := 31#32
  let v3101 : BitVec 1 := Scalar.cmpi .eq arg1 c31_i32_659
  let v3102 : BitVec 32 := Scalar.extui v3101
  let c0_i32_660 : BitVec 32 := 0#32
  let v3103 : BitVec 1 := Scalar.cmpi .ne v3102 c0_i32_660
  v3103

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8448x6144 : Shape := ⟨2, ![8448, 6144]⟩
abbrev S8448x128 : Shape := ⟨2, ![8448, 128]⟩
abbrev S1x16x1024 : Shape := ⟨3, ![1, 16, 1024]⟩
abbrev S1x1024 : Shape := ⟨2, ![1, 1024]⟩
abbrev S1x2048 : Shape := ⟨2, ![1, 2048]⟩
abbrev S8192x6144 : Shape := ⟨2, ![8192, 6144]⟩
abbrev S4x2048x6144 : Shape := ⟨3, ![4, 2048, 6144]⟩
abbrev S4x2048x1024 : Shape := ⟨3, ![4, 2048, 1024]⟩
abbrev S4x2048x2048 : Shape := ⟨3, ![4, 2048, 2048]⟩
abbrev S8192x16 : Shape := ⟨2, ![8192, 16]⟩
abbrev S4x2048x16 : Shape := ⟨3, ![4, 2048, 16]⟩
abbrev S4x2048x4x256 : Shape := ⟨4, ![4, 2048, 4, 256]⟩
abbrev S_ : Shape := ⟨0, ![]⟩
abbrev S4x2048x4x512 : Shape := ⟨4, ![4, 2048, 4, 512]⟩
abbrev S16x1024 : Shape := ⟨2, ![16, 1024]⟩
abbrev S1024 : Shape := ⟨1, ![1024]⟩
abbrev S1x1x1024 : Shape := ⟨3, ![1, 1, 1024]⟩
abbrev S4x4x256x512 : Shape := ⟨4, ![4, 4, 256, 512]⟩
abbrev S64x64 : Shape := ⟨2, ![64, 64]⟩
abbrev S4x32x64x4x256 : Shape := ⟨5, ![4, 32, 64, 4, 256]⟩
abbrev S32x4x64x4x256 : Shape := ⟨5, ![32, 4, 64, 4, 256]⟩
abbrev S4x32x64x4x512 : Shape := ⟨5, ![4, 32, 64, 4, 512]⟩
abbrev S32x4x64x4x512 : Shape := ⟨5, ![32, 4, 64, 4, 512]⟩
abbrev S1x4x64x4x256 : Shape := ⟨5, ![1, 4, 64, 4, 256]⟩
abbrev S4x64x4x256 : Shape := ⟨4, ![4, 64, 4, 256]⟩
abbrev S1x4x64x4x512 : Shape := ⟨5, ![1, 4, 64, 4, 512]⟩
abbrev S4x64x4x512 : Shape := ⟨4, ![4, 64, 4, 512]⟩
abbrev S4x4x512x64 : Shape := ⟨4, ![4, 4, 512, 64]⟩
abbrev S4x64x1x4x256 : Shape := ⟨5, ![4, 64, 1, 4, 256]⟩
abbrev S4x1x64x4x256 : Shape := ⟨5, ![4, 1, 64, 4, 256]⟩
abbrev S4x64x64x4x256 : Shape := ⟨5, ![4, 64, 64, 4, 256]⟩
abbrev S1x64x64x1x1 : Shape := ⟨5, ![1, 64, 64, 1, 1]⟩
abbrev S4x64x64x4 : Shape := ⟨4, ![4, 64, 64, 4]⟩
abbrev S4x1x4x256 : Shape := ⟨4, ![4, 1, 4, 256]⟩
abbrev S4x4x256 : Shape := ⟨3, ![4, 4, 256]⟩
abbrev S4x4x256x1 : Shape := ⟨4, ![4, 4, 256, 1]⟩
abbrev S2048 : Shape := ⟨1, ![2048]⟩
abbrev S4x512 : Shape := ⟨2, ![4, 512]⟩
abbrev S4x2048x4 : Shape := ⟨3, ![4, 2048, 4]⟩
abbrev S4x2048x4x1 : Shape := ⟨4, ![4, 2048, 4, 1]⟩
abbrev S1x1x4x512 : Shape := ⟨4, ![1, 1, 4, 512]⟩
abbrev S8192x2048 : Shape := ⟨2, ![8192, 2048]⟩

abbrev nBuf : Space → Nat
  | .hbm => 187
  | .vmem => 0
  | .smem => 0
  | _ => 0

abbrev hbmTy0_0 (i : Nat) : BufTy := match i % 128 with
  | 0 => ⟨S8448x6144, .f32⟩
  | 1 => ⟨S8448x128, .f32⟩
  | 2 => ⟨S1x16x1024, .f32⟩
  | 3 => ⟨S1x1024, .f32⟩
  | 4 => ⟨S1x2048, .f32⟩
  | 5 => ⟨S8192x6144, .f32⟩
  | 6 => ⟨S4x2048x6144, .f32⟩
  | 7 => ⟨S4x2048x1024, .f32⟩
  | 8 => ⟨S4x2048x1024, .f32⟩
  | 9 => ⟨S4x2048x2048, .f32⟩
  | 10 => ⟨S4x2048x2048, .f32⟩
  | 11 => ⟨S8192x16, .f32⟩
  | 12 => ⟨S4x2048x16, .f32⟩
  | 13 => ⟨S4x2048x4x256, .f32⟩
  | 14 => ⟨S_, .f32⟩
  | 15 => ⟨S4x2048x4x256, .f32⟩
  | 16 => ⟨S4x2048x4x256, .f32⟩
  | 17 => ⟨S4x2048x4x256, .f32⟩
  | 18 => ⟨S4x2048x4x512, .f32⟩
  | 19 => ⟨S16x1024, .f32⟩
  | 20 => ⟨S4x2048x1024, .f32⟩
  | 21 => ⟨S1024, .f32⟩
  | 22 => ⟨S1x1x1024, .f32⟩
  | 23 => ⟨S4x2048x1024, .f32⟩
  | 24 => ⟨S4x2048x1024, .f32⟩
  | 25 => ⟨S4x2048x1024, .f32⟩
  | 26 => ⟨S_, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .i1⟩
  | 32 => ⟨S4x2048x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S4x2048x1024, .f32⟩
  | 40 => ⟨S4x2048x1024, .f32⟩
  | 41 => ⟨S_, .f32⟩
  | 42 => ⟨S4x2048x1024, .f32⟩
  | 43 => ⟨S4x2048x1024, .f32⟩
  | 44 => ⟨S4x2048x4x256, .f32⟩
  | 45 => ⟨S_, .f32⟩
  | 46 => ⟨S4x4x256x512, .f32⟩
  | 47 => ⟨S_, .i1⟩
  | 48 => ⟨S64x64, .i1⟩
  | 49 => ⟨S64x64, .i32⟩
  | 50 => ⟨S_, .i32⟩
  | 51 => ⟨S64x64, .i32⟩
  | 52 => ⟨S64x64, .i32⟩
  | 53 => ⟨S64x64, .i32⟩
  | 54 => ⟨S64x64, .i1⟩
  | 55 => ⟨S_, .i1⟩
  | 56 => ⟨S64x64, .i1⟩
  | 57 => ⟨S64x64, .i1⟩
  | 58 => ⟨S4x32x64x4x256, .f32⟩
  | 59 => ⟨S32x4x64x4x256, .f32⟩
  | 60 => ⟨S4x32x64x4x256, .f32⟩
  | 61 => ⟨S32x4x64x4x256, .f32⟩
  | 62 => ⟨S4x32x64x4x512, .f32⟩
  | 63 => ⟨S32x4x64x4x512, .f32⟩
  | 64 => ⟨S4x32x64x4x256, .f32⟩
  | 65 => ⟨S32x4x64x4x256, .f32⟩
  | 66 => ⟨S_, .f32⟩
  | 67 => ⟨S32x4x64x4x512, .f32⟩
  | 68 => ⟨S_, .i32⟩
  | 69 => ⟨S32x4x64x4x256, .f32⟩
  | 70 => ⟨S32x4x64x4x256, .f32⟩
  | 71 => ⟨S32x4x64x4x512, .f32⟩
  | 72 => ⟨S32x4x64x4x256, .f32⟩
  | 73 => ⟨S64x64, .i1⟩
  | 74 => ⟨S_, .i32⟩
  | 75 => ⟨S4x4x256x512, .f32⟩
  | 76 => ⟨S32x4x64x4x512, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x4x64x4x256, .f32⟩
  | 84 => ⟨S4x64x4x256, .f32⟩
  | 85 => ⟨S_, .i32⟩
  | 86 => ⟨S_, .i32⟩
  | 87 => ⟨S_, .i32⟩
  | 88 => ⟨S_, .i32⟩
  | 89 => ⟨S1x4x64x4x256, .f32⟩
  | 90 => ⟨S4x64x4x256, .f32⟩
  | 91 => ⟨S_, .i32⟩
  | 92 => ⟨S_, .i32⟩
  | 93 => ⟨S_, .i32⟩
  | 94 => ⟨S_, .i32⟩
  | 95 => ⟨S1x4x64x4x512, .f32⟩
  | 96 => ⟨S4x64x4x512, .f32⟩
  | 97 => ⟨S_, .i32⟩
  | 98 => ⟨S_, .i32⟩
  | 99 => ⟨S_, .i32⟩
  | 100 => ⟨S_, .i32⟩
  | 101 => ⟨S1x4x64x4x256, .f32⟩
  | 102 => ⟨S4x64x4x256, .f32⟩
  | 103 => ⟨S_, .f32⟩
  | 104 => ⟨S_, .f32⟩
  | 105 => ⟨S4x64x4x256, .f32⟩
  | 106 => ⟨S4x64x4x256, .f32⟩
  | 107 => ⟨S4x64x4x256, .f32⟩
  | 108 => ⟨S4x4x512x64, .f32⟩
  | 109 => ⟨S4x64x4x512, .f32⟩
  | 110 => ⟨S4x64x1x4x256, .f32⟩
  | 111 => ⟨S4x1x64x4x256, .f32⟩
  | 112 => ⟨S4x64x64x4x256, .f32⟩
  | 113 => ⟨S4x64x64x4x256, .f32⟩
  | 114 => ⟨S4x64x64x4x256, .f32⟩
  | 115 => ⟨S1x64x64x1x1, .i1⟩
  | 116 => ⟨S_, .f32⟩
  | 117 => ⟨S_, .f32⟩
  | 118 => ⟨S4x64x64x4x256, .i1⟩
  | 119 => ⟨S4x64x64x4x256, .f32⟩
  | 120 => ⟨S4x64x64x4x256, .f32⟩
  | 121 => ⟨S4x64x64x4x256, .f32⟩
  | 122 => ⟨S4x64x1x4x256, .f32⟩
  | 123 => ⟨S4x1x64x4x256, .f32⟩
  | 124 => ⟨S4x64x64x4x256, .f32⟩
  | 125 => ⟨S4x64x64x4x256, .f32⟩
  | 126 => ⟨S4x64x64x4x256, .f32⟩
  | 127 => ⟨S4x64x64x4x256, .f32⟩
  | _ => ⟨S8448x6144, .f32⟩

abbrev hbmTy0_1 (i : Nat) : BufTy := match i % 128 with
  | 0 => ⟨S_, .f32⟩
  | 1 => ⟨S4x64x64x4, .f32⟩
  | 2 => ⟨S4x4x512x64, .f32⟩
  | 3 => ⟨S4x64x4x512, .f32⟩
  | 4 => ⟨S4x1x4x256, .f32⟩
  | 5 => ⟨S4x4x256, .f32⟩
  | 6 => ⟨S4x1x4x256, .f32⟩
  | 7 => ⟨S4x64x4x256, .f32⟩
  | 8 => ⟨S4x64x4x256, .f32⟩
  | 9 => ⟨S4x64x4x256, .f32⟩
  | 10 => ⟨S4x64x4x256, .f32⟩
  | 11 => ⟨S4x4x256, .f32⟩
  | 12 => ⟨S4x4x256x1, .f32⟩
  | 13 => ⟨S4x4x256x512, .f32⟩
  | 14 => ⟨S4x4x256x512, .f32⟩
  | 15 => ⟨S4x4x256x512, .f32⟩
  | 16 => ⟨S4x4x256x512, .f32⟩
  | 17 => ⟨S4x64x4x512, .f32⟩
  | 18 => ⟨S1x4x64x4x512, .f32⟩
  | 19 => ⟨S_, .i32⟩
  | 20 => ⟨S_, .i32⟩
  | 21 => ⟨S_, .i32⟩
  | 22 => ⟨S_, .i32⟩
  | 23 => ⟨S32x4x64x4x512, .f32⟩
  | 24 => ⟨S_, .i32⟩
  | 25 => ⟨S_, .i32⟩
  | 26 => ⟨S4x32x64x4x512, .f32⟩
  | 27 => ⟨S4x2048x4x512, .f32⟩
  | 28 => ⟨S2048, .f32⟩
  | 29 => ⟨S4x512, .f32⟩
  | 30 => ⟨S4x2048x4x512, .f32⟩
  | 31 => ⟨S_, .f32⟩
  | 32 => ⟨S4x2048x4, .f32⟩
  | 33 => ⟨S4x2048x4x1, .f32⟩
  | 34 => ⟨S_, .f32⟩
  | 35 => ⟨S4x2048x4x1, .f32⟩
  | 36 => ⟨S4x2048x4x1, .f32⟩
  | 37 => ⟨S_, .f32⟩
  | 38 => ⟨S4x2048x4x1, .f32⟩
  | 39 => ⟨S4x2048x4x1, .f32⟩
  | 40 => ⟨S4x2048x4x1, .f32⟩
  | 41 => ⟨S4x2048x4x512, .f32⟩
  | 42 => ⟨S4x2048x4x512, .f32⟩
  | 43 => ⟨S1x1x4x512, .f32⟩
  | 44 => ⟨S4x2048x4x512, .f32⟩
  | 45 => ⟨S4x2048x4x512, .f32⟩
  | 46 => ⟨S4x2048x2048, .f32⟩
  | 47 => ⟨S4x2048x2048, .f32⟩
  | 48 => ⟨S4x2048x2048, .f32⟩
  | 49 => ⟨S_, .f32⟩
  | 50 => ⟨S4x2048x2048, .f32⟩
  | 51 => ⟨S4x2048x2048, .f32⟩
  | 52 => ⟨S_, .f32⟩
  | 53 => ⟨S4x2048x2048, .f32⟩
  | 54 => ⟨S4x2048x2048, .f32⟩
  | 55 => ⟨S4x2048x2048, .f32⟩
  | 56 => ⟨S4x2048x2048, .f32⟩
  | 57 => ⟨S8192x2048, .f32⟩
  | 58 => ⟨S8192x2048, .bf16⟩
  | _ => ⟨S8448x6144, .f32⟩

abbrev hbmTy (i : Nat) : BufTy := match i / 128 with
  | 0 => hbmTy0_0 i
  | 1 => hbmTy0_1 i
  | _ => ⟨S8448x6144, .f32⟩

abbrev bufTy : (tb : Table) → Fin (tcTables nBuf tb) → BufTy
  | .hbm, ⟨i, _⟩ => hbmTy i
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_0 : Ref sig .tc := ⟨.hbm, 55, rfl⟩
abbrev main_call1_v5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_2 : Ref sig .tc := ⟨.hbm, 66, rfl⟩
abbrev main_v34 : Ref sig .tc := ⟨.hbm, 67, rfl⟩
abbrev main_c_3 : Ref sig .tc := ⟨.hbm, 68, rfl⟩
abbrev main_v35_0 : Ref sig .tc := ⟨.hbm, 69, rfl⟩
abbrev main_v35_1 : Ref sig .tc := ⟨.hbm, 70, rfl⟩
abbrev main_v35_2 : Ref sig .tc := ⟨.hbm, 71, rfl⟩
abbrev main_v35_3 : Ref sig .tc := ⟨.hbm, 72, rfl⟩
abbrev main_v35_4 : Ref sig .tc := ⟨.hbm, 73, rfl⟩
abbrev main_v35_5 : Ref sig .tc := ⟨.hbm, 74, rfl⟩
abbrev main_v35_6 : Ref sig .tc := ⟨.hbm, 75, rfl⟩
abbrev main_v35_7 : Ref sig .tc := ⟨.hbm, 76, rfl⟩
abbrev main_while0c_c_14 : Ref sig .tc := ⟨.hbm, 77, rfl⟩
abbrev main_while0c_v58 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_c_2 : Ref sig .tc := ⟨.hbm, 82, rfl⟩
abbrev main_while0b_call2_v0 : Ref sig .tc := ⟨.hbm, 83, rfl⟩
abbrev main_while0b_v58 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_v0 : Ref sig .tc := ⟨.hbm, 89, rfl⟩
abbrev main_while0b_v59 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_v0 : Ref sig .tc := ⟨.hbm, 95, rfl⟩
abbrev main_while0b_v60 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_c_2 : Ref sig .tc := ⟨.hbm, 100, rfl⟩
abbrev main_while0b_call5_v0 : Ref sig .tc := ⟨.hbm, 101, rfl⟩
abbrev main_while0b_v61 : Ref sig .tc := ⟨.hbm, 102, rfl⟩
abbrev main_while0b_call6_call0_cst : Ref sig .tc := ⟨.hbm, 103, rfl⟩
abbrev main_while0b_call6_call0_v0 : Ref sig .tc := ⟨.hbm, 104, rfl⟩
abbrev main_while0b_v62 : Ref sig .tc := ⟨.hbm, 105, rfl⟩
abbrev main_while0b_v63 : Ref sig .tc := ⟨.hbm, 106, rfl⟩
abbrev main_while0b_v64 : Ref sig .tc := ⟨.hbm, 107, rfl⟩
abbrev main_while0b_v65 : Ref sig .tc := ⟨.hbm, 108, rfl⟩
abbrev main_while0b_v66 : Ref sig .tc := ⟨.hbm, 109, rfl⟩
abbrev main_while0b_v67 : Ref sig .tc := ⟨.hbm, 110, rfl⟩
abbrev main_while0b_v68 : Ref sig .tc := ⟨.hbm, 111, rfl⟩
abbrev main_while0b_v69 : Ref sig .tc := ⟨.hbm, 112, rfl⟩
abbrev main_while0b_v70 : Ref sig .tc := ⟨.hbm, 113, rfl⟩
abbrev main_while0b_v71 : Ref sig .tc := ⟨.hbm, 114, rfl⟩
abbrev main_while0b_v72 : Ref sig .tc := ⟨.hbm, 115, rfl⟩
abbrev main_while0b_cst_14 : Ref sig .tc := ⟨.hbm, 116, rfl⟩
abbrev main_while0b_call7_v0 : Ref sig .tc := ⟨.hbm, 117, rfl⟩
abbrev main_while0b_call7_v1 : Ref sig .tc := ⟨.hbm, 118, rfl⟩
abbrev main_while0b_call7_v2 : Ref sig .tc := ⟨.hbm, 119, rfl⟩
abbrev main_while0b_v73 : Ref sig .tc := ⟨.hbm, 120, rfl⟩
abbrev main_while0b_v74 : Ref sig .tc := ⟨.hbm, 121, rfl⟩
abbrev main_while0b_v75 : Ref sig .tc := ⟨.hbm, 122, rfl⟩
abbrev main_while0b_v76 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_cst_15 : Ref sig .tc := ⟨.hbm, 128, rfl⟩
abbrev main_while0b_v81 : Ref sig .tc := ⟨.hbm, 129, rfl⟩
abbrev main_while0b_v82 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_call8_v0 : Ref sig .tc := ⟨.hbm, 146, rfl⟩
abbrev main_while0b_call8_c : Ref sig .tc := ⟨.hbm, 147, rfl⟩
abbrev main_while0b_call8_c_0 : Ref sig .tc := ⟨.hbm, 148, rfl⟩
abbrev main_while0b_call8_c_1 : Ref sig .tc := ⟨.hbm, 149, rfl⟩
abbrev main_while0b_call8_c_2 : Ref sig .tc := ⟨.hbm, 150, rfl⟩
abbrev main_while0b_v98 : Ref sig .tc := ⟨.hbm, 151, rfl⟩
abbrev main_while0b_c_16 : Ref sig .tc := ⟨.hbm, 152, rfl⟩
abbrev main_while0b_v99 : Ref sig .tc := ⟨.hbm, 153, rfl⟩
abbrev main_v36 : Ref sig .tc := ⟨.hbm, 154, rfl⟩
abbrev main_v37 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_cst_4 : Ref sig .tc := ⟨.hbm, 159, rfl⟩
abbrev main_v41 : Ref sig .tc := ⟨.hbm, 160, rfl⟩
abbrev main_v42 : Ref sig .tc := ⟨.hbm, 161, rfl⟩
abbrev main_cst_5 : Ref sig .tc := ⟨.hbm, 162, rfl⟩
abbrev main_v43 : Ref sig .tc := ⟨.hbm, 163, rfl⟩
abbrev main_v44 : Ref sig .tc := ⟨.hbm, 164, rfl⟩
abbrev main_cst_6 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_call9_v0 : Ref sig .tc := ⟨.hbm, 175, rfl⟩
abbrev main_call9_v1 : Ref sig .tc := ⟨.hbm, 176, rfl⟩
abbrev main_call9_cst : Ref sig .tc := ⟨.hbm, 177, rfl⟩
abbrev main_call9_v2 : Ref sig .tc := ⟨.hbm, 178, rfl⟩
abbrev main_call9_v3 : Ref sig .tc := ⟨.hbm, 179, rfl⟩
abbrev main_call9_cst_0 : Ref sig .tc := ⟨.hbm, 180, rfl⟩
abbrev main_call9_v4 : Ref sig .tc := ⟨.hbm, 181, rfl⟩
abbrev main_call9_v5 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x2048x4096 : Shape := ⟨3, ![4, 2048, 4096]⟩
abbrev S32x8x4096 : Shape := ⟨3, ![32, 8, 4096]⟩
abbrev S1x4096 : Shape := ⟨2, ![1, 4096]⟩
abbrev S1x4096x12304 : Shape := ⟨3, ![1, 4096, 12304]⟩
abbrev S8192x4096 : Shape := ⟨2, ![8192, 4096]⟩
abbrev S256x4096 : Shape := ⟨2, ![256, 4096]⟩
abbrev S4096x12304 : Shape := ⟨2, ![4096, 12304]⟩
abbrev S12304x4096 : Shape := ⟨2, ![12304, 4096]⟩
abbrev S6144x4096 : Shape := ⟨2, ![6144, 4096]⟩
abbrev S16x4096 : Shape := ⟨2, ![16, 4096]⟩
abbrev S_ : Shape := ⟨0, ![]⟩
abbrev S128x4096 : Shape := ⟨2, ![128, 4096]⟩
abbrev S4096 : Shape := ⟨1, ![4096]⟩
abbrev S8448x4096 : Shape := ⟨2, ![8448, 4096]⟩
abbrev S256 : Shape := ⟨1, ![256]⟩
abbrev S256x1 : Shape := ⟨2, ![256, 1]⟩
abbrev S8448x6144 : Shape := ⟨2, ![8448, 6144]⟩
abbrev S1408x4096 : Shape := ⟨2, ![1408, 4096]⟩
abbrev S512x4096 : Shape := ⟨2, ![512, 4096]⟩
abbrev S1408x512 : Shape := ⟨2, ![1408, 512]⟩
abbrev S8448x128 : Shape := ⟨2, ![8448, 128]⟩
abbrev S768x4096 : Shape := ⟨2, ![768, 4096]⟩
abbrev S768x128 : Shape := ⟨2, ![768, 128]⟩
abbrev S8192x6144 : Shape := ⟨2, ![8192, 6144]⟩
abbrev S4x2048x6144 : Shape := ⟨3, ![4, 2048, 6144]⟩
abbrev S256x6144 : Shape := ⟨2, ![256, 6144]⟩
abbrev S32x8x6144 : Shape := ⟨3, ![32, 8, 6144]⟩
abbrev S8192x16 : Shape := ⟨2, ![8192, 16]⟩
abbrev S4x2048x16 : Shape := ⟨3, ![4, 2048, 16]⟩
abbrev S256x16 : Shape := ⟨2, ![256, 16]⟩
abbrev S32x8x16 : Shape := ⟨3, ![32, 8, 16]⟩
abbrev S8192x2048 : Shape := ⟨2, ![8192, 2048]⟩
abbrev S4x2048x2048 : Shape := ⟨3, ![4, 2048, 2048]⟩
abbrev S256x2048 : Shape := ⟨2, ![256, 2048]⟩
abbrev S32x8x2048 : Shape := ⟨3, ![32, 8, 2048]⟩
abbrev S1x4x2048x8x2x128 : Shape := ⟨6, ![1, 4, 2048, 8, 2, 128]⟩
abbrev S1x4x2048x8x256 : Shape := ⟨5, ![1, 4, 2048, 8, 256]⟩
abbrev S1x32x8x8x2x128 : Shape := ⟨6, ![1, 32, 8, 8, 2, 128]⟩
abbrev S1x32x8x8x256 : Shape := ⟨5, ![1, 32, 8, 8, 256]⟩

abbrev nBuf : Space → Nat
  | .hbm => 43
  | .vmem => 24
  | .smem => 0
  | _ => 0

abbrev bufTy : (tb : Table) → Fin (tcTables nBuf tb) → BufTy
  | .hbm, ⟨0, _⟩ => ⟨S4x2048x4096, .f32⟩
  | .hbm, ⟨1, _⟩ => ⟨S32x8x4096, .f32⟩
  | .hbm, ⟨2, _⟩ => ⟨S1x4096, .f32⟩
  | .hbm, ⟨3, _⟩ => ⟨S1x4096x12304, .f32⟩
  | .hbm, ⟨4, _⟩ => ⟨S8192x4096, .f32⟩
  | .hbm, ⟨5, _⟩ => ⟨S256x4096, .f32⟩
  | .hbm, ⟨6, _⟩ => ⟨S4096x12304, .f32⟩
  | .hbm, ⟨7, _⟩ => ⟨S12304x4096, .f32⟩
  | .hbm, ⟨8, _⟩ => ⟨S6144x4096, .f32⟩
  | .hbm, ⟨9, _⟩ => ⟨S6144x4096, .bf16⟩
  | .hbm, ⟨10, _⟩ => ⟨S6144x4096, .f32⟩
  | .hbm, ⟨11, _⟩ => ⟨S6144x4096, .bf16⟩
  | .hbm, ⟨12, _⟩ => ⟨S16x4096, .f32⟩
  | .hbm, ⟨13, _⟩ => ⟨S_, .i32⟩
  | .hbm, ⟨14, _⟩ => ⟨S_, .f32⟩
  | .hbm, ⟨15, _⟩ => ⟨S128x4096, .f32⟩
  | .hbm, ⟨16, _⟩ => ⟨S128x4096, .bf16⟩
  | .hbm, ⟨17, _⟩ => ⟨S4096, .f32⟩
  | .hbm, ⟨18, _⟩ => ⟨S1x4096, .f32⟩
  | .hbm, ⟨19, _⟩ => ⟨S8448x4096, .bf16⟩
  | .hbm, ⟨20, _⟩ => ⟨S8448x6144, .f32⟩
  | .hbm, ⟨21, _⟩ => ⟨S8448x6144, .f32⟩
  | .hbm, ⟨22, _⟩ => ⟨S8448x128, .f32⟩
  | .hbm, ⟨23, _⟩ => ⟨S8192x6144, .f32⟩
  | .hbm, ⟨24, _⟩ => ⟨S4x2048x6144, .f32⟩
  | .hbm, ⟨25, _⟩ => ⟨S256x6144, .f32⟩
  | .hbm, ⟨26, _⟩ => ⟨S32x8x6144, .f32⟩
  | .hbm, ⟨27, _⟩ => ⟨S8192x16, .f32⟩
  | .hbm, ⟨28, _⟩ => ⟨S4x2048x16, .f32⟩
  | .hbm, ⟨29, _⟩ => ⟨S256x16, .f32⟩
  | .hbm, ⟨30, _⟩ => ⟨S32x8x16, .f32⟩
  | .hbm, ⟨31, _⟩ => ⟨S8192x2048, .f32⟩
  | .hbm, ⟨32, _⟩ => ⟨S4x2048x2048, .f32⟩
  | .hbm, ⟨33, _⟩ => ⟨S256x2048, .f32⟩
  | .hbm, ⟨34, _⟩ => ⟨S32x8x2048, .f32⟩
  | .hbm, ⟨35, _⟩ => ⟨S8192x2048, .f32⟩
  | .hbm, ⟨36, _⟩ => ⟨S1x4x2048x8x2x128, .f32⟩
  | .hbm, ⟨37, _⟩ => ⟨S8192x2048, .f32⟩
  | .hbm, ⟨38, _⟩ => ⟨S1x4x2048x8x256, .f32⟩
  | .hbm, ⟨39, _⟩ => ⟨S256x2048, .f32⟩
  | .hbm, ⟨40, _⟩ => ⟨S1x32x8x8x2x128, .f32⟩
  | .hbm, ⟨41, _⟩ => ⟨S256x2048, .f32⟩
  | .hbm, ⟨42, _⟩ => ⟨S1x32x8x8x256, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S1408x4096, .bf16⟩
  | .local _ .vmem, ⟨8, _⟩ => ⟨S1408x4096, .bf16⟩
  | .local _ .vmem, ⟨9, _⟩ => ⟨S512x4096, .bf16⟩
  | .local _ .vmem, ⟨10, _⟩ => ⟨S512x4096, .bf16⟩
  | .local _ .vmem, ⟨11, _⟩ => ⟨S1408x512, .f32⟩
  | .local _ .vmem, ⟨12, _⟩ => ⟨S1408x512, .f32⟩
  | .local _ .vmem, ⟨13, _⟩ => ⟨S1408x4096, .bf16⟩
  | .local _ .vmem, ⟨14, _⟩ => ⟨S1408x4096, .bf16⟩
  | .local _ .vmem, ⟨15, _⟩ => ⟨S512x4096, .bf16⟩
  | .local _ .vmem, ⟨16, _⟩ => ⟨S512x4096, .bf16⟩
  | .local _ .vmem, ⟨17, _⟩ => ⟨S1408x512, .f32⟩
  | .local _ .vmem, ⟨18, _⟩ => ⟨S1408x512, .f32⟩
  | .local _ .vmem, ⟨19, _⟩ => ⟨S768x4096, .bf16⟩
  | .local _ .vmem, ⟨20, _⟩ => ⟨S768x4096, .bf16⟩
  | .local _ .vmem, ⟨21, _⟩ => ⟨S128x4096, .bf16⟩
  | .local _ .vmem, ⟨22, _⟩ => ⟨S768x128, .f32⟩
  | .local _ .vmem, ⟨23, _⟩ => ⟨S768x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![6, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1408x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1408x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![6, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1408x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1408x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![11, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S768x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S128x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S768x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference2Ideal.lean ====
abbrev S4x2048x4096 : Shape := ⟨3, ![4, 2048, 4096]⟩
abbrev S32x8x4096 : Shape := ⟨3, ![32, 8, 4096]⟩
abbrev S1x4096 : Shape := ⟨2, ![1, 4096]⟩
abbrev S1x4096x12304 : Shape := ⟨3, ![1, 4096, 12304]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x12304 : Shape := ⟨2, ![4096, 12304]⟩
abbrev S4x2048x12304 : Shape := ⟨3, ![4, 2048, 12304]⟩
abbrev S4x2048x6144 : Shape := ⟨3, ![4, 2048, 6144]⟩
abbrev S4x2048x16 : Shape := ⟨3, ![4, 2048, 16]⟩
abbrev S4x2048x2048 : Shape := ⟨3, ![4, 2048, 2048]⟩
abbrev S1x4x2048x8x2x128 : Shape := ⟨6, ![1, 4, 2048, 8, 2, 128]⟩
abbrev S1x4x2048x8x256 : Shape := ⟨5, ![1, 4, 2048, 8, 256]⟩
abbrev S32x8 : Shape := ⟨2, ![32, 8]⟩
abbrev S32x8x1 : Shape := ⟨3, ![32, 8, 1]⟩
abbrev S32x8x12304 : Shape := ⟨3, ![32, 8, 12304]⟩
abbrev S32x8x6144 : Shape := ⟨3, ![32, 8, 6144]⟩
abbrev S32x8x16 : Shape := ⟨3, ![32, 8, 16]⟩
abbrev S32x8x2048 : Shape := ⟨3, ![32, 8, 2048]⟩
abbrev S1x32x8x8x2x128 : Shape := ⟨6, ![1, 32, 8, 8, 2, 128]⟩
abbrev S1x32x8x8x256 : Shape := ⟨5, ![1, 32, 8, 8, 256]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x8x4096, .f32⟩
  | .hbm, ⟨2, _⟩ => ⟨S1x4096, .f32⟩
  | .hbm, ⟨3, _⟩ => ⟨S1x4096x12304, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4096x12304, .f32⟩
  | .hbm, ⟨22, _⟩ => ⟨S4x2048x12304, .f32⟩
  | .hbm, ⟨23, _⟩ => ⟨S4x2048x6144, .f32⟩
  | .hbm, ⟨24, _⟩ => ⟨S4x2048x16, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S1x4x2048x8x2x128, .f32⟩
  | .hbm, ⟨29, _⟩ => ⟨S1x4x2048x8x256, .f32⟩
  | .hbm, ⟨30, _⟩ => ⟨S4096, .f32⟩
  | .hbm, ⟨31, _⟩ => ⟨S32x8x4096, .f32⟩
  | .hbm, ⟨32, _⟩ => ⟨S_, .f32⟩
  | .hbm, ⟨33, _⟩ => ⟨S32x8, .f32⟩
  | .hbm, ⟨34, _⟩ => ⟨S32x8x1, .f32⟩
  | .hbm, ⟨35, _⟩ => ⟨S_, .f32⟩
  | .hbm, ⟨36, _⟩ => ⟨S32x8x1, .f32⟩
  | .hbm, ⟨37, _⟩ => ⟨S32x8x1, .f32⟩
  | .hbm, ⟨38, _⟩ => ⟨S_, .f32⟩
  | .hbm, ⟨39, _⟩ => ⟨S32x8x1, .f32⟩
  | .hbm, ⟨40, _⟩ => ⟨S32x8x1, .f32⟩
  | .hbm, ⟨41, _⟩ => ⟨S32x8x1, .f32⟩
  | .hbm, ⟨42, _⟩ => ⟨S32x8x4096, .f32⟩
  | .hbm, ⟨43, _⟩ => ⟨S32x8x4096, .f32⟩
  | .hbm, ⟨44, _⟩ => ⟨S1x1x4096, .f32⟩
  | .hbm, ⟨45, _⟩ => ⟨S32x8x4096, .f32⟩
  | .hbm, ⟨46, _⟩ => ⟨S32x8x4096, .f32⟩
  | .hbm, ⟨47, _⟩ => ⟨S4096x12304, .f32⟩
  | .hbm, ⟨48, _⟩ => ⟨S32x8x12304, .f32⟩
  | .hbm, ⟨49, _⟩ => ⟨S32x8x6144, .f32⟩
  | .hbm, ⟨50, _⟩ => ⟨S32x8x16, .f32⟩
  | .hbm, ⟨51, _⟩ => ⟨S32x8x2048, .f32⟩
  | .hbm, ⟨52, _⟩ => ⟨S32x8x2048, .f32⟩
  | .hbm, ⟨53, _⟩ => ⟨S32x8x2048, .f32⟩
  | .hbm, ⟨54, _⟩ => ⟨S1x32x8x8x2x128, .f32⟩
  | .hbm, ⟨55, _⟩ => ⟨S1x32x8x8x256, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Kernel3.lean ====
abbrev S8192x2048 : Shape := ⟨2, ![8192, 2048]⟩
abbrev S256x2048 : Shape := ⟨2, ![256, 2048]⟩
abbrev S1x4096x4096 : Shape := ⟨3, ![1, 4096, 4096]⟩
abbrev S4x2048x4096 : Shape := ⟨3, ![4, 2048, 4096]⟩
abbrev S32x8x4096 : Shape := ⟨3, ![32, 8, 4096]⟩
abbrev S1x4096 : Shape := ⟨2, ![1, 4096]⟩
abbrev S1x4096x1024 : Shape := ⟨3, ![1, 4096, 1024]⟩
abbrev S8192x4096 : Shape := ⟨2, ![8192, 4096]⟩
abbrev S256x4096 : Shape := ⟨2, ![256, 4096]⟩
abbrev S4096x4096 : Shape := ⟨2, ![4096, 4096]⟩
abbrev S1024x2048 : Shape := ⟨2, ![1024, 2048]⟩
abbrev S4096x1024 : Shape := ⟨2, ![4096, 1024]⟩
abbrev S1024x1024 : Shape := ⟨2, ![1024, 1024]⟩
abbrev S2048x1024 : Shape := ⟨2, ![2048, 1024]⟩
abbrev S256x1024 : Shape := ⟨2, ![256, 1024]⟩
abbrev S4096 : Shape := ⟨1, ![4096]⟩
abbrev S8448x4096 : Shape := ⟨2, ![8448, 4096]⟩
abbrev S256 : Shape := ⟨1, ![256]⟩
abbrev S256x1 : Shape := ⟨2, ![256, 1]⟩
abbrev S1024x4096 : Shape := ⟨2, ![1024, 4096]⟩
abbrev S1024x8448 : Shape := ⟨2, ![1024, 8448]⟩
abbrev S768x4096 : Shape := ⟨2, ![768, 4096]⟩
abbrev S1024x768 : Shape := ⟨2, ![1024, 768]⟩

abbrev nBuf : Space → Nat
  | .hbm => 24
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S256x2048, .f32⟩
  | .hbm, ⟨3, _⟩ => ⟨S256x2048, .f32⟩
  | .hbm, ⟨4, _⟩ => ⟨S1x4096x4096, .f32⟩
  | .hbm, ⟨5, _⟩ => ⟨S4x2048x4096, .f32⟩
  | .hbm, ⟨6, _⟩ => ⟨S32x8x4096, .f32⟩
  | .hbm, ⟨7, _⟩ => ⟨S1x4096, .f32⟩
  | .hbm, ⟨8, _⟩ => ⟨S1x4096x1024, .f32⟩
  | .hbm, ⟨9, _⟩ => ⟨S8192x4096, .f32⟩
  | .hbm, ⟨10, _⟩ => ⟨S256x4096, .f32⟩
  | .hbm, ⟨11, _⟩ => ⟨S4096x4096, .f32⟩
  | .hbm, ⟨12, _⟩ => ⟨S4096x4096, .bf16⟩
  | .hbm, ⟨13, _⟩ => ⟨S8192x4096, .f32⟩
  | .hbm, ⟨14, _⟩ => ⟨S256x2048, .bf16⟩
  | .hbm, ⟨15, _⟩ => ⟨S256x2048, .bf16⟩
  | .hbm, ⟨16, _⟩ => ⟨S256x4096, .f32⟩
  | .hbm, ⟨17, _⟩ => ⟨S4096, .f32⟩
  | .hbm, ⟨18, _⟩ => ⟨S1x4096, .f32⟩
  | .hbm, ⟨19, _⟩ => ⟨S8448x4096, .bf16⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x8448, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S256x2048, .bf16⟩
  | .local _ .vmem, ⟨11, _⟩ => ⟨S256x2048, .bf16⟩
  | .local _ .vmem, ⟨12, _⟩ => ⟨S4096x1024, .bf16⟩
  | .local _ .vmem, ⟨13, _⟩ => ⟨S4096x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S256x4096, .f32⟩
  | .local _ .vmem, ⟨22, _⟩ => ⟨S1x4096, .f32⟩
  | .local _ .vmem, ⟨23, _⟩ => ⟨S256x4096, .bf16⟩
  | .local _ .vmem, ⟨24, _⟩ => ⟨S256x4096, .bf16⟩
  | .local _ .vmem, ⟨25, _⟩ => ⟨S1024x4096, .bf16⟩
  | .local _ .vmem, ⟨26, _⟩ => ⟨S768x4096, .bf16⟩
  | .local _ .vmem, ⟨27, _⟩ => ⟨S768x4096, .bf16⟩
  | .local _ .vmem, ⟨28, _⟩ => ⟨S1024x768, .f32⟩
  | .local _ .vmem, ⟨29, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc3_sem0_0 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S256x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![33], ![false]⟩

def k2_cond1 (i : grid2.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k2_cond2 (i : grid2.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc2_transform_0 (i : grid2.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![11, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S768x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference3Ideal.lean ====
abbrev S8192x2048 : Shape := ⟨2, ![8192, 2048]⟩
abbrev S256x2048 : Shape := ⟨2, ![256, 2048]⟩
abbrev S1x4096x4096 : Shape := ⟨3, ![1, 4096, 4096]⟩
abbrev S4x2048x4096 : Shape := ⟨3, ![4, 2048, 4096]⟩
abbrev S32x8x4096 : Shape := ⟨3, ![32, 8, 4096]⟩
abbrev S1x4096 : Shape := ⟨2, ![1, 4096]⟩
abbrev S1x4096x1024 : Shape := ⟨3, ![1, 4096, 1024]⟩
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S8192x1024 : Shape := ⟨2, ![8192, 1024]⟩
abbrev S256x4096 : Shape := ⟨2, ![256, 4096]⟩
abbrev S256 : Shape := ⟨1, ![256]⟩
abbrev S256x1 : Shape := ⟨2, ![256, 1]⟩
abbrev S256x1024 : Shape := ⟨2, ![256, 1024]⟩
abbrev S8448x1024 : Shape := ⟨2, ![8448, 1024]⟩
abbrev S1024x8448 : Shape := ⟨2, ![1024, 8448]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S256x2048, .f32⟩
  | .hbm, ⟨3, _⟩ => ⟨S256x2048, .f32⟩
  | .hbm, ⟨4, _⟩ => ⟨S1x4096x4096, .f32⟩
  | .hbm, ⟨5, _⟩ => ⟨S4x2048x4096, .f32⟩
  | .hbm, ⟨6, _⟩ => ⟨S32x8x4096, .f32⟩
  | .hbm, ⟨7, _⟩ => ⟨S1x4096, .f32⟩
  | .hbm, ⟨8, _⟩ => ⟨S1x4096x1024, .f32⟩
  | .hbm, ⟨9, _⟩ => ⟨S8192x4096, .bf16⟩
  | .hbm, ⟨10, _⟩ => ⟨S8192x4096, .f32⟩
  | .hbm, ⟨11, _⟩ => ⟨S4096x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S4096x1024, .f32⟩
  | .hbm, ⟨33, _⟩ => ⟨S8192x1024, .f32⟩
  | .hbm, ⟨34, _⟩ => ⟨S256x4096, .f32⟩
  | .hbm, ⟨35, _⟩ => ⟨S4096x4096, .f32⟩
  | .hbm, ⟨36, _⟩ => ⟨S256x4096, .f32⟩
  | .hbm, ⟨37, _⟩ => ⟨S256x4096, .f32⟩
  | .hbm, ⟨38, _⟩ => ⟨S256x4096, .f32⟩
  | .hbm, ⟨39, _⟩ => ⟨S4096, .f32⟩
  | .hbm, ⟨40, _⟩ => ⟨S256x4096, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x4096, .f32⟩
  | .hbm, ⟨52, _⟩ => ⟨S256x4096, .f32⟩
  | .hbm, ⟨53, _⟩ => ⟨S1x4096, .f32⟩
  | .hbm, ⟨54, _⟩ => ⟨S256x4096, .f32⟩
  | .hbm, ⟨55, _⟩ => ⟨S256x4096, .f32⟩
  | .hbm, ⟨56, _⟩ => ⟨S4096x1024, .f32⟩
  | .hbm, ⟨57, _⟩ => ⟨S256x1024, .f32⟩
  | .hbm, ⟨58, _⟩ => ⟨S8448x1024, .f32⟩
  | .hbm, ⟨59, _⟩ => ⟨S1024x8448, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S1x16384x4096 : Shape := ⟨3, ![1, 16384, 4096]⟩
abbrev S16384x8448 : Shape := ⟨2, ![16384, 8448]⟩
abbrev S8192x4096 : Shape := ⟨2, ![8192, 4096]⟩
abbrev S256x4096 : Shape := ⟨2, ![256, 4096]⟩
abbrev S4096 : Shape := ⟨1, ![4096]⟩
abbrev S16384x4096 : Shape := ⟨2, ![16384, 4096]⟩
abbrev S4096x16384 : Shape := ⟨2, ![4096, 16384]⟩
abbrev S4096x8448 : Shape := ⟨2, ![4096, 8448]⟩
abbrev S4096x1024 : Shape := ⟨2, ![4096, 1024]⟩
abbrev S1024x768 : Shape := ⟨2, ![1024, 768]⟩
abbrev S4096x768 : Shape := ⟨2, ![4096, 768]⟩
abbrev S1024x1024 : Shape := ⟨2, ![1024, 1024]⟩
abbrev S1x4096 : Shape := ⟨2, ![1, 4096]⟩
abbrev S4096x256 : Shape := ⟨2, ![4096, 256]⟩
abbrev S256 : Shape := ⟨1, ![256]⟩
abbrev S256x1 : Shape := ⟨2, ![256, 1]⟩
abbrev S4x2048x4096 : Shape := ⟨3, ![4, 2048, 4096]⟩
abbrev S32x8x4096 : Shape := ⟨3, ![32, 8, 4096]⟩

abbrev nBuf : Space → Nat
  | .hbm => 15
  | .vmem => 17
  | .smem => 0
  | _ => 0

abbrev bufTy : (tb : Table) → Fin (tcTables nBuf tb) → BufTy
  | .hbm, ⟨0, _⟩ => ⟨S1x16384x4096, .f32⟩
  | .hbm, ⟨1, _⟩ => ⟨S16384x8448, .bf16⟩
  | .hbm, ⟨2, _⟩ => ⟨S8192x4096, .f32⟩
  | .hbm, ⟨3, _⟩ => ⟨S256x4096, .f32⟩
  | .hbm, ⟨4, _⟩ => ⟨S4096, .f32⟩
  | .hbm, ⟨5, _⟩ => ⟨S16384x4096, .f32⟩
  | .hbm, ⟨6, _⟩ => ⟨S4096x16384, .f32⟩
  | .hbm, ⟨7, _⟩ => ⟨S4096x16384, .bf16⟩
  | .hbm, ⟨8, _⟩ => ⟨S4096x8448, .f32⟩
  | .hbm, ⟨9, _⟩ => ⟨S1x4096, .f32⟩
  | .hbm, ⟨10, _⟩ => ⟨S8192x4096, .f32⟩
  | .hbm, ⟨11, _⟩ => ⟨S1x4096, .f32⟩
  | .hbm, ⟨12, _⟩ => ⟨S256x4096, .f32⟩
  | .hbm, ⟨13, _⟩ => ⟨S4x2048x4096, .f32⟩
  | .hbm, ⟨14, _⟩ => ⟨S32x8x4096, .f32⟩
  | .local _ .vmem, ⟨0, _⟩ => ⟨S4096x1024, .bf16⟩
  | .local _ .vmem, ⟨1, _⟩ => ⟨S4096x1024, .bf16⟩
  | .local _ .vmem, ⟨2, _⟩ => ⟨S1024x768, .bf16⟩
  | .local _ .vmem, ⟨3, _⟩ => ⟨S1024x768, .bf16⟩
  | .local _ .vmem, ⟨4, _⟩ => ⟨S4096x768, .f32⟩
  | .local _ .vmem, ⟨5, _⟩ => ⟨S4096x768, .f32⟩
  | .local _ .vmem, ⟨6, _⟩ => ⟨S256x4096, .f32⟩
  | .local _ .vmem, ⟨7, _⟩ => ⟨S256x4096, .f32⟩
  | .local _ .vmem, ⟨8, _⟩ => ⟨S4096x256, .f32⟩
  | .local _ .vmem, ⟨9, _⟩ => ⟨S4096x256, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S4096x256, .f32⟩
  | .local _ .vmem, ⟨15, _⟩ => ⟨S1x4096, .f32⟩
  | .local _ .vmem, ⟨16, _⟩ => ⟨S256x4096, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem3_0 : DmaSem sig := 16

abbrev nD : Nat := 1
abbrev τ : Topo := Topo.v7x

variable {F : FTy → Type} [FloatOps F]

abbrev grid0 : Pipeline.Grid := ⟨3, ![1, 11, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]
-- ==== Reference4Ideal.lean ====
abbrev S1x16384x4096 : Shape := ⟨3, ![1, 16384, 4096]⟩
abbrev S16384x8448 : Shape := ⟨2, ![16384, 8448]⟩
abbrev S8192x4096 : Shape := ⟨2, ![8192, 4096]⟩
abbrev S256x4096 : Shape := ⟨2, ![256, 4096]⟩
abbrev S4096 : Shape := ⟨1, ![4096]⟩
abbrev S8448x16384 : Shape := ⟨2, ![8448, 16384]⟩
abbrev S16384x4096 : Shape := ⟨2, ![16384, 4096]⟩
abbrev S8448x4096 : Shape := ⟨2, ![8448, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S256 : Shape := ⟨1, ![256]⟩
abbrev S256x1 : Shape := ⟨2, ![256, 1]⟩
abbrev S4x2048x4096 : Shape := ⟨3, ![4, 2048, 4096]⟩
abbrev S32x8x4096 : Shape := ⟨3, ![32, 8, 4096]⟩

abbrev nBuf : Space → Nat
  | .hbm => 47
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S16384x8448, .bf16⟩
  | .hbm, ⟨2, _⟩ => ⟨S8192x4096, .f32⟩
  | .hbm, ⟨3, _⟩ => ⟨S256x4096, .f32⟩
  | .hbm, ⟨4, _⟩ => ⟨S4096, .f32⟩
  | .hbm, ⟨5, _⟩ => ⟨S8448x16384, .bf16⟩
  | .hbm, ⟨6, _⟩ => ⟨S8448x16384, .f32⟩
  | .hbm, ⟨7, _⟩ => ⟨S16384x4096, .f32⟩
  | .hbm, ⟨8, _⟩ => ⟨S8448x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S256x4096, .f32⟩
  | .hbm, ⟨28, _⟩ => ⟨S256x4096, .f32⟩
  | .hbm, ⟨29, _⟩ => ⟨S256x4096, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x4096, .f32⟩
  | .hbm, ⟨41, _⟩ => ⟨S256x4096, .f32⟩
  | .hbm, ⟨42, _⟩ => ⟨S1x4096, .f32⟩
  | .hbm, ⟨43, _⟩ => ⟨S256x4096, .f32⟩
  | .hbm, ⟨44, _⟩ => ⟨S256x4096, .f32⟩
  | .hbm, ⟨45, _⟩ => ⟨S4x2048x4096, .f32⟩
  | .hbm, ⟨46, _⟩ => ⟨S32x8x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S8448x6144 : Shape := ⟨2, ![8448, 6144]⟩
abbrev S8448x128 : Shape := ⟨2, ![8448, 128]⟩
abbrev S1x16x1024 : Shape := ⟨3, ![1, 16, 1024]⟩
abbrev S1x1024 : Shape := ⟨2, ![1, 1024]⟩
abbrev S1x2048 : Shape := ⟨2, ![1, 2048]⟩
abbrev S1x32x4x256x512 : Shape := ⟨5, ![1, 32, 4, 256, 512]⟩
abbrev S16x1024 : Shape := ⟨2, ![16, 1024]⟩
abbrev S_ : Shape := ⟨0, ![]⟩
abbrev S128x1024 : Shape := ⟨2, ![128, 1024]⟩
abbrev S1024 : Shape := ⟨1, ![1024]⟩
abbrev S2048 : Shape := ⟨1, ![2048]⟩
abbrev S32x4x256x512 : Shape := ⟨4, ![32, 4, 256, 512]⟩
abbrev S256x2048 : Shape := ⟨2, ![256, 2048]⟩
abbrev S8x1024 : Shape := ⟨2, ![8, 1024]⟩
abbrev S8x2048 : Shape := ⟨2, ![8, 2048]⟩
abbrev S8x128 : Shape := ⟨2, ![8, 128]⟩
abbrev S1x4x256x512 : Shape := ⟨4, ![1, 4, 256, 512]⟩
abbrev S4x512x256 : Shape := ⟨3, ![4, 512, 256]⟩
abbrev S1x1x256x512 : Shape := ⟨4, ![1, 1, 256, 512]⟩
abbrev S256x512 : Shape := ⟨2, ![256, 512]⟩
abbrev S512x256 : Shape := ⟨2, ![512, 256]⟩
abbrev S1x512x256 : Shape := ⟨3, ![1, 512, 256]⟩
abbrev S16x2048 : Shape := ⟨2, ![16, 2048]⟩
abbrev S16x128 : Shape := ⟨2, ![16, 128]⟩
abbrev S16x1 : Shape := ⟨2, ![16, 1]⟩
abbrev S16x16 : Shape := ⟨2, ![16, 16]⟩
abbrev S16x256 : Shape := ⟨2, ![16, 256]⟩
abbrev S16x512 : Shape := ⟨2, ![16, 512]⟩
abbrev S16 : Shape := ⟨1, ![16]⟩
abbrev S1x256 : Shape := ⟨2, ![1, 256]⟩
abbrev S8x512 : Shape := ⟨2, ![8, 512]⟩
abbrev S8 : Shape := ⟨1, ![8]⟩
abbrev S8x1 : Shape := ⟨2, ![8, 1]⟩
abbrev S1x512 : Shape := ⟨2, ![1, 512]⟩

abbrev nBuf : Space → Nat
  | .hbm => 18
  | .vmem => 20
  | .smem => 0
  | _ => 0

abbrev bufTy : (tb : Table) → Fin (tcTables nBuf tb) → BufTy
  | .hbm, ⟨0, _⟩ => ⟨S8448x6144, .f32⟩
  | .hbm, ⟨1, _⟩ => ⟨S8448x128, .f32⟩
  | .hbm, ⟨2, _⟩ => ⟨S1x16x1024, .f32⟩
  | .hbm, ⟨3, _⟩ => ⟨S1x1024, .f32⟩
  | .hbm, ⟨4, _⟩ => ⟨S1x2048, .f32⟩
  | .hbm, ⟨5, _⟩ => ⟨S1x32x4x256x512, .f32⟩
  | .hbm, ⟨6, _⟩ => ⟨S16x1024, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S1024, .f32⟩
  | .hbm, ⟨11, _⟩ => ⟨S1x1024, .f32⟩
  | .hbm, ⟨12, _⟩ => ⟨S2048, .f32⟩
  | .hbm, ⟨13, _⟩ => ⟨S1x2048, .f32⟩
  | .hbm, ⟨14, _⟩ => ⟨S32x4x256x512, .f32⟩
  | .hbm, ⟨15, _⟩ => ⟨S256x2048, .f32⟩
  | .hbm, ⟨16, _⟩ => ⟨S32x4x256x512, .f32⟩
  | .hbm, ⟨17, _⟩ => ⟨S1x32x4x256x512, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x128, .f32⟩
  | .local _ .vmem, ⟨9, _⟩ => ⟨S8x128, .f32⟩
  | .local _ .vmem, ⟨10, _⟩ => ⟨S128x1024, .f32⟩
  | .local _ .vmem, ⟨11, _⟩ => ⟨S1x1024, .f32⟩
  | .local _ .vmem, ⟨12, _⟩ => ⟨S1x2048, .f32⟩
  | .local _ .vmem, ⟨13, _⟩ => ⟨S1x4x256x512, .f32⟩
  | .local _ .vmem, ⟨14, _⟩ => ⟨S1x4x256x512, .f32⟩
  | .local _ .vmem, ⟨15, _⟩ => ⟨S8x2048, .f32⟩
  | .local _ .vmem, ⟨16, _⟩ => ⟨S8x2048, .f32⟩
  | .local _ .vmem, ⟨17, _⟩ => ⟨S1x4x256x512, .f32⟩
  | .local _ .vmem, ⟨18, _⟩ => ⟨S1x4x256x512, .f32⟩
  | .local _ .vmem, ⟨19, _⟩ => ⟨S4x512x256, .f32⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_218 : BitVec 32 := 0#32
  let v905 : BitVec 1 := Scalar.cmpi .eq arg1 c0_i32_218
  let v906 : BitVec 32 := Scalar.extui v905
  let c0_i32_219 : BitVec 32 := 0#32
  let v907 : BitVec 1 := Scalar.cmpi .ne v906 c0_i32_219
  v907

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference5Ideal.lean ====
abbrev S8448x6144 : Shape := ⟨2, ![8448, 6144]⟩
abbrev S8448x128 : Shape := ⟨2, ![8448, 128]⟩
abbrev S1x16x1024 : Shape := ⟨3, ![1, 16, 1024]⟩
abbrev S1x1024 : Shape := ⟨2, ![1, 1024]⟩
abbrev S1x2048 : Shape := ⟨2, ![1, 2048]⟩
abbrev S1x32x4x256x512 : Shape := ⟨5, ![1, 32, 4, 256, 512]⟩
abbrev S256x6144 : Shape := ⟨2, ![256, 6144]⟩
abbrev S32x8x6144 : Shape := ⟨3, ![32, 8, 6144]⟩
abbrev S32x8x1024 : Shape := ⟨3, ![32, 8, 1024]⟩
abbrev S32x8x2048 : Shape := ⟨3, ![32, 8, 2048]⟩
abbrev S256x16 : Shape := ⟨2, ![256, 16]⟩
abbrev S32x8x16 : Shape := ⟨3, ![32, 8, 16]⟩
abbrev S32x8x4x256 : Shape := ⟨4, ![32, 8, 4, 256]⟩
abbrev S_ : Shape := ⟨0, ![]⟩
abbrev S32x8x4x512 : Shape := ⟨4, ![32, 8, 4, 512]⟩
abbrev S16x1024 : Shape := ⟨2, ![16, 1024]⟩
abbrev S1024 : Shape := ⟨1, ![1024]⟩
abbrev S1x1x1024 : Shape := ⟨3, ![1, 1, 1024]⟩
abbrev S32x4x256x512 : Shape := ⟨4, ![32, 4, 256, 512]⟩
abbrev S32x4x512x8 : Shape := ⟨4, ![32, 4, 512, 8]⟩
abbrev S32x8x1x4x256 : Shape := ⟨5, ![32, 8, 1, 4, 256]⟩
abbrev S32x1x8x4x256 : Shape := ⟨5, ![32, 1, 8, 4, 256]⟩
abbrev S32x8x8x4x256 : Shape := ⟨5, ![32, 8, 8, 4, 256]⟩
abbrev S8x8 : Shape := ⟨2, ![8, 8]⟩
abbrev S1x8x8x1x1 : Shape := ⟨5, ![1, 8, 8, 1, 1]⟩
abbrev S32x8x8x4 : Shape := ⟨4, ![32, 8, 8, 4]⟩
abbrev S32x1x4x256 : Shape := ⟨4, ![32, 1, 4, 256]⟩
abbrev S32x4x256 : Shape := ⟨3, ![32, 4, 256]⟩
abbrev S32x4x256x1 : Shape := ⟨4, ![32, 4, 256, 1]⟩
abbrev S2048 : Shape := ⟨1, ![2048]⟩
abbrev S4x512 : Shape := ⟨2, ![4, 512]⟩
abbrev S32x8x4 : Shape := ⟨3, ![32, 8, 4]⟩
abbrev S32x8x4x1 : Shape := ⟨4, ![32, 8, 4, 1]⟩
abbrev S1x1x4x512 : Shape := ⟨4, ![1, 1, 4, 512]⟩
abbrev S256x2048 : Shape := ⟨2, ![256, 2048]⟩

abbrev nBuf : Space → Nat
  | .hbm => 132
  | .vmem => 0
  | .smem => 0
  | _ => 0

abbrev hbmTy0_0 (i : Nat) : BufTy := match i % 128 with
  | 0 => ⟨S8448x6144, .f32⟩
  | 1 => ⟨S8448x128, .f32⟩
  | 2 => ⟨S1x16x1024, .f32⟩
  | 3 => ⟨S1x1024, .f32⟩
  | 4 => ⟨S1x2048, .f32⟩
  | 5 => ⟨S1x32x4x256x512, .f32⟩
  | 6 => ⟨S256x6144, .f32⟩
  | 7 => ⟨S32x8x6144, .f32⟩
  | 8 => ⟨S32x8x1024, .f32⟩
  | 9 => ⟨S32x8x1024, .f32⟩
  | 10 => ⟨S32x8x2048, .f32⟩
  | 11 => ⟨S32x8x2048, .f32⟩
  | 12 => ⟨S256x16, .f32⟩
  | 13 => ⟨S32x8x16, .f32⟩
  | 14 => ⟨S32x8x4x256, .f32⟩
  | 15 => ⟨S_, .f32⟩
  | 16 => ⟨S32x8x4x256, .f32⟩
  | 17 => ⟨S32x8x4x256, .f32⟩
  | 18 => ⟨S32x8x4x256, .f32⟩
  | 19 => ⟨S32x8x4x512, .f32⟩
  | 20 => ⟨S16x1024, .f32⟩
  | 21 => ⟨S32x8x1024, .f32⟩
  | 22 => ⟨S1024, .f32⟩
  | 23 => ⟨S1x1x1024, .f32⟩
  | 24 => ⟨S32x8x1024, .f32⟩
  | 25 => ⟨S32x8x1024, .f32⟩
  | 26 => ⟨S32x8x1024, .f32⟩
  | 27 => ⟨S_, .f32⟩
  | 28 => ⟨S32x8x1024, .f32⟩
  | 29 => ⟨S32x8x1024, .f32⟩
  | 30 => ⟨S32x8x1024, .f32⟩
  | 31 => ⟨S32x8x1024, .f32⟩
  | 32 => ⟨S32x8x1024, .i1⟩
  | 33 => ⟨S32x8x1024, .f32⟩
  | 34 => ⟨S32x8x1024, .f32⟩
  | 35 => ⟨S32x8x1024, .f32⟩
  | 36 => ⟨S32x8x1024, .f32⟩
  | 37 => ⟨S32x8x1024, .f32⟩
  | 38 => ⟨S32x8x1024, .f32⟩
  | 39 => ⟨S32x8x1024, .f32⟩
  | 40 => ⟨S32x8x1024, .f32⟩
  | 41 => ⟨S32x8x1024, .f32⟩
  | 42 => ⟨S_, .f32⟩
  | 43 => ⟨S32x8x1024, .f32⟩
  | 44 => ⟨S32x8x1024, .f32⟩
  | 45 => ⟨S32x8x4x256, .f32⟩
  | 46 => ⟨S32x4x256x512, .f32⟩
  | 47 => ⟨S_, .f32⟩
  | 48 => ⟨S_, .f32⟩
  | 49 => ⟨S32x8x4x256, .f32⟩
  | 50 => ⟨S32x8x4x256, .f32⟩
  | 51 => ⟨S32x8x4x256, .f32⟩
  | 52 => ⟨S32x4x512x8, .f32⟩
  | 53 => ⟨S32x8x4x512, .f32⟩
  | 54 => ⟨S32x8x1x4x256, .f32⟩
  | 55 => ⟨S32x1x8x4x256, .f32⟩
  | 56 => ⟨S32x8x8x4x256, .f32⟩
  | 57 => ⟨S32x8x8x4x256, .f32⟩
  | 58 => ⟨S32x8x8x4x256, .f32⟩
  | 59 => ⟨S_, .i1⟩
  | 60 => ⟨S8x8, .i1⟩
  | 61 => ⟨S8x8, .i32⟩
  | 62 => ⟨S_, .i32⟩
  | 63 => ⟨S8x8, .i32⟩
  | 64 => ⟨S8x8, .i32⟩
  | 65 => ⟨S8x8, .i32⟩
  | 66 => ⟨S8x8, .i1⟩
  | 67 => ⟨S_, .i1⟩
  | 68 => ⟨S8x8, .i1⟩
  | 69 => ⟨S8x8, .i1⟩
  | 70 => ⟨S1x8x8x1x1, .i1⟩
  | 71 => ⟨S_, .f32⟩
  | 72 => ⟨S_, .f32⟩
  | 73 => ⟨S32x8x8x4x256, .i1⟩
  | 74 => ⟨S32x8x8x4x256, .f32⟩
  | 75 => ⟨S32x8x8x4x256, .f32⟩
  | 76 => ⟨S32x8x8x4x256, .f32⟩
  | 77 => ⟨S32x8x1x4x256, .f32⟩
  | 78 => ⟨S32x1x8x4x256, .f32⟩
  | 79 => ⟨S32x8x8x4x256, .f32⟩
  | 80 => ⟨S32x8x8x4x256, .f32⟩
  | 81 => ⟨S32x8x8x4x256, .f32⟩
  | 82 => ⟨S32x8x8x4x256, .f32⟩
  | 83 => ⟨S_, .f32⟩
  | 84 => ⟨S32x8x8x4, .f32⟩
  | 85 => ⟨S32x4x512x8, .f32⟩
  | 86 => ⟨S32x8x4x512, .f32⟩
  | 87 => ⟨S32x1x4x256, .f32⟩
  | 88 => ⟨S32x4x256, .f32⟩
  | 89 => ⟨S32x1x4x256, .f32⟩
  | 90 => ⟨S32x8x4x256, .f32⟩
  | 91 => ⟨S32x8x4x256, .f32⟩
  | 92 => ⟨S32x8x4x256, .f32⟩
  | 93 => ⟨S32x8x4x256, .f32⟩
  | 94 => ⟨S32x4x256, .f32⟩
  | 95 => ⟨S32x4x256x1, .f32⟩
  | 96 => ⟨S32x4x256x512, .f32⟩
  | 97 => ⟨S32x4x256x512, .f32⟩
  | 98 => ⟨S32x4x256x512, .f32⟩
  | 99 => ⟨S32x4x256x512, .f32⟩
  | 100 => ⟨S32x8x4x512, .f32⟩
  | 101 => ⟨S2048, .f32⟩
  | 102 => ⟨S4x512, .f32⟩
  | 103 => ⟨S32x8x4x512, .f32⟩
  | 104 => ⟨S_, .f32⟩
  | 105 => ⟨S32x8x4, .f32⟩
  | 106 => ⟨S32x8x4x1, .f32⟩
  | 107 => ⟨S_, .f32⟩
  | 108 => ⟨S32x8x4x1, .f32⟩
  | 109 => ⟨S32x8x4x1, .f32⟩
  | 110 => ⟨S_, .f32⟩
  | 111 => ⟨S32x8x4x1, .f32⟩
  | 112 => ⟨S32x8x4x1, .f32⟩
  | 113 => ⟨S32x8x4x1, .f32⟩
  | 114 => ⟨S32x8x4x512, .f32⟩
  | 115 => ⟨S32x8x4x512, .f32⟩
  | 116 => ⟨S1x1x4x512, .f32⟩
  | 117 => ⟨S32x8x4x512, .f32⟩
  | 118 => ⟨S32x8x4x512, .f32⟩
  | 119 => ⟨S32x8x2048, .f32⟩
  | 120 => ⟨S32x8x2048, .f32⟩
  | 121 => ⟨S32x8x2048, .f32⟩
  | 122 => ⟨S_, .f32⟩
  | 123 => ⟨S32x8x2048, .f32⟩
  | 124 => ⟨S32x8x2048, .f32⟩
  | 125 => ⟨S_, .f32⟩
  | 126 => ⟨S32x8x2048, .f32⟩
  | 127 => ⟨S32x8x2048, .f32⟩
  | _ => ⟨S8448x6144, .f32⟩

abbrev hbmTy0_1 (i : Nat) : BufTy := match i % 128 with
  | 0 => ⟨S32x8x2048, .f32⟩
  | 1 => ⟨S32x8x2048, .f32⟩
  | 2 => ⟨S256x2048, .f32⟩
  | 3 => ⟨S1x32x4x256x512, .f32⟩
  | _ => ⟨S8448x6144, .f32⟩

abbrev hbmTy (i : Nat) : BufTy := match i / 128 with
  | 0 => hbmTy0_0 i
  | 1 => hbmTy0_1 i
  | _ => ⟨S8448x6144, .f32⟩

abbrev bufTy : (tb : Table) → Fin (tcTables nBuf tb) → BufTy
  | .hbm, ⟨i, _⟩ => hbmTy i
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v19 : Ref sig .tc := ⟨.hbm, 41, rfl⟩
abbrev main_cst_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_call0_cst : Ref sig .tc := ⟨.hbm, 47, rfl⟩
abbrev main_call1_call0_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c : Ref sig .tc := ⟨.hbm, 59, rfl⟩
abbrev main_v34 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_0 : Ref sig .tc := ⟨.hbm, 67, rfl⟩
abbrev main_call2_v5 : Ref sig .tc := ⟨.hbm, 68, rfl⟩
abbrev main_v35 : Ref sig .tc := ⟨.hbm, 69, rfl⟩
abbrev main_v36 : Ref sig .tc := ⟨.hbm, 70, rfl⟩
abbrev main_cst_1 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_2 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_3 : Ref sig .tc := ⟨.hbm, 104, rfl⟩
abbrev main_v65 : Ref sig .tc := ⟨.hbm, 105, rfl⟩
abbrev main_v66 : Ref sig .tc := ⟨.hbm, 106, rfl⟩
abbrev main_cst_4 : Ref sig .tc := ⟨.hbm, 107, rfl⟩
abbrev main_v67 : Ref sig .tc := ⟨.hbm, 108, rfl⟩
abbrev main_v68 : Ref sig .tc := ⟨.hbm, 109, rfl⟩
abbrev main_cst_5 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_call4_v0 : Ref sig .tc := ⟨.hbm, 120, rfl⟩
abbrev main_call4_v1 : Ref sig .tc := ⟨.hbm, 121, rfl⟩
abbrev main_call4_cst : Ref sig .tc := ⟨.hbm, 122, rfl⟩
abbrev main_call4_v2 : Ref sig .tc := ⟨.hbm, 123, rfl⟩
abbrev main_call4_v3 : Ref sig .tc := ⟨.hbm, 124, rfl⟩
abbrev main_call4_cst_0 : Ref sig .tc := ⟨.hbm, 125, rfl⟩
abbrev main_call4_v4 : Ref sig .tc := ⟨.hbm, 126, rfl⟩
abbrev main_call4_v5 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩

abbrev nD : Nat := 1
abbrev τ : Topo := Topo.v7x

variable {F : FTy → Type} [FloatOps F]
-- ==== Kernel6.lean ====
abbrev S8448x4096 : Shape := ⟨2, ![8448, 4096]⟩
abbrev S1x16384x4096 : Shape := ⟨3, ![1, 16384, 4096]⟩
abbrev S8x66x128x128 : Shape := ⟨4, ![8, 66, 128, 128]⟩
abbrev S66x8x128 : Shape := ⟨3, ![66, 8, 128]⟩
abbrev S16384x4096 : Shape := ⟨2, ![16384, 4096]⟩
abbrev S16384x8448 : Shape := ⟨2, ![16384, 8448]⟩
abbrev S768x4096 : Shape := ⟨2, ![768, 4096]⟩
abbrev S1024x4096 : Shape := ⟨2, ![1024, 4096]⟩
abbrev S8x6x128x128 : Shape := ⟨4, ![8, 6, 128, 128]⟩
abbrev S8x6x8x128 : Shape := ⟨4, ![8, 6, 8, 128]⟩
abbrev S6x8x128 : Shape := ⟨3, ![6, 8, 128]⟩
abbrev S1024x768 : Shape := ⟨2, ![1024, 768]⟩
abbrev S128x128 : Shape := ⟨2, ![128, 128]⟩
abbrev S1x1x1x128 : Shape := ⟨4, ![1, 1, 1, 128]⟩
abbrev S1x128 : Shape := ⟨2, ![1, 128]⟩
abbrev S8x128 : Shape := ⟨2, ![8, 128]⟩
abbrev S1x1x128 : Shape := ⟨3, ![1, 1, 128]⟩
abbrev S1x1x128x128 : Shape := ⟨4, ![1, 1, 128, 128]⟩

abbrev nBuf : Space → Nat
  | .hbm => 8
  | .vmem => 12
  | .smem => 0
  | _ => 0

abbrev bufTy : (tb : Table) → Fin (tcTables nBuf tb) → BufTy
  | .hbm, ⟨0, _⟩ => ⟨S8448x4096, .bf16⟩
  | .hbm, ⟨1, _⟩ => ⟨S1x16384x4096, .f32⟩
  | .hbm, ⟨2, _⟩ => ⟨S8x66x128x128, .f32⟩
  | .hbm, ⟨3, _⟩ => ⟨S8x66x128x128, .f32⟩
  | .hbm, ⟨4, _⟩ => ⟨S66x8x128, .f32⟩
  | .hbm, ⟨5, _⟩ => ⟨S16384x4096, .f32⟩
  | .hbm, ⟨6, _⟩ => ⟨S16384x4096, .bf16⟩
  | .hbm, ⟨7, _⟩ => ⟨S16384x8448, .bf16⟩
  | .local _ .vmem, ⟨0, _⟩ => ⟨S768x4096, .bf16⟩
  | .local _ .vmem, ⟨1, _⟩ => ⟨S768x4096, .bf16⟩
  | .local _ .vmem, ⟨2, _⟩ => ⟨S1024x4096, .bf16⟩
  | .local _ .vmem, ⟨3, _⟩ => ⟨S1024x4096, .bf16⟩
  | .local _ .vmem, ⟨4, _⟩ => ⟨S8x6x128x128, .f32⟩
  | .local _ .vmem, ⟨5, _⟩ => ⟨S8x6x128x128, .f32⟩
  | .local _ .vmem, ⟨6, _⟩ => ⟨S8x6x8x128, .f32⟩
  | .local _ .vmem, ⟨7, _⟩ => ⟨S8x6x8x128, .f32⟩
  | .local _ .vmem, ⟨8, _⟩ => ⟨S6x8x128, .f32⟩
  | .local _ .vmem, ⟨9, _⟩ => ⟨S6x8x128, .f32⟩
  | .local _ .vmem, ⟨10, _⟩ => ⟨S1024x768, .bf16⟩
  | .local _ .vmem, ⟨11, _⟩ => ⟨S1024x768, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x6x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x6x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8448x4096 : Shape := ⟨2, ![8448, 4096]⟩
abbrev S1x16384x4096 : Shape := ⟨3, ![1, 16384, 4096]⟩
abbrev S8x66x128x128 : Shape := ⟨4, ![8, 66, 128, 128]⟩
abbrev S66x8x128 : Shape := ⟨3, ![66, 8, 128]⟩
abbrev S66x128x8x128 : Shape := ⟨4, ![66, 128, 8, 128]⟩
abbrev S8448x8x128 : Shape := ⟨3, ![8448, 8, 128]⟩
abbrev S8448x8x128x1 : Shape := ⟨4, ![8448, 8, 128, 1]⟩
abbrev S8448x8x1x128 : Shape := ⟨4, ![8448, 8, 1, 128]⟩
abbrev S8448x8x128x128 : Shape := ⟨4, ![8448, 8, 128, 128]⟩
abbrev S66x128x8 : Shape := ⟨3, ![66, 128, 8]⟩
abbrev S8448x8 : Shape := ⟨2, ![8448, 8]⟩
abbrev S8448x8x1x1 : Shape := ⟨4, ![8448, 8, 1, 1]⟩
abbrev S_ : Shape := ⟨0, ![]⟩
abbrev S8448x128x128 : Shape := ⟨3, ![8448, 128, 128]⟩
abbrev S8448x16384 : Shape := ⟨2, ![8448, 16384]⟩
abbrev S16384x4096 : Shape := ⟨2, ![16384, 4096]⟩
abbrev S16384x8448 : Shape := ⟨2, ![16384, 8448]⟩

abbrev nBuf : Space → Nat
  | .hbm => 52
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S1x16384x4096, .f32⟩
  | .hbm, ⟨2, _⟩ => ⟨S8x66x128x128, .f32⟩
  | .hbm, ⟨3, _⟩ => ⟨S8x66x128x128, .f32⟩
  | .hbm, ⟨4, _⟩ => ⟨S66x8x128, .f32⟩
  | .hbm, ⟨5, _⟩ => ⟨S66x128x8x128, .f32⟩
  | .hbm, ⟨6, _⟩ => ⟨S8448x8x128, .f32⟩
  | .hbm, ⟨7, _⟩ => ⟨S8448x8x128x1, .f32⟩
  | .hbm, ⟨8, _⟩ => ⟨S66x128x8x128, .f32⟩
  | .hbm, ⟨9, _⟩ => ⟨S8448x8x128, .f32⟩
  | .hbm, ⟨10, _⟩ => ⟨S8448x8x1x128, .f32⟩
  | .hbm, ⟨11, _⟩ => ⟨S8448x8x128x128, .f32⟩
  | .hbm, ⟨12, _⟩ => ⟨S8448x8x128x128, .f32⟩
  | .hbm, ⟨13, _⟩ => ⟨S8448x8x128x128, .f32⟩
  | .hbm, ⟨14, _⟩ => ⟨S66x128x8, .f32⟩
  | .hbm, ⟨15, _⟩ => ⟨S8448x8, .f32⟩
  | .hbm, ⟨16, _⟩ => ⟨S8448x8x1x1, .f32⟩
  | .hbm, ⟨17, _⟩ => ⟨S8448x8x128x128, .f32⟩
  | .hbm, ⟨18, _⟩ => ⟨S8448x8x128x128, .i1⟩
  | .hbm, ⟨19, _⟩ => ⟨S_, .f32⟩
  | .hbm, ⟨20, _⟩ => ⟨S_, .f32⟩
  | .hbm, ⟨21, _⟩ => ⟨S8448x8x128x128, .f32⟩
  | .hbm, ⟨22, _⟩ => ⟨S8448x8x128x128, .f32⟩
  | .hbm, ⟨23, _⟩ => ⟨S_, .f32⟩
  | .hbm, ⟨24, _⟩ => ⟨S8448x128x128, .f32⟩
  | .hbm, ⟨25, _⟩ => ⟨S8448x16384, .f32⟩
  | .hbm, ⟨26, _⟩ => ⟨S8448x4096, .f32⟩
  | .hbm, ⟨27, _⟩ => ⟨S16384x4096, .f32⟩
  | .hbm, ⟨28, _⟩ => ⟨S8448x16384, .f32⟩
  | .hbm, ⟨29, _⟩ => ⟨S8448x16384, .f32⟩
  | .hbm, ⟨30, _⟩ => ⟨S8448x16384, .f32⟩
  | .hbm, ⟨31, _⟩ => ⟨S_, .f32⟩
  | .hbm, ⟨32, _⟩ => ⟨S8448x16384, .f32⟩
  | .hbm, ⟨33, _⟩ => ⟨S8448x16384, .f32⟩
  | .hbm, ⟨34, _⟩ => ⟨S8448x16384, .f32⟩
  | .hbm, ⟨35, _⟩ => ⟨S_, .f32⟩
  | .hbm, ⟨36, _⟩ => ⟨S8448x16384, .f32⟩
  | .hbm, ⟨37, _⟩ => ⟨S8448x16384, .f32⟩
  | .hbm, ⟨38, _⟩ => ⟨S8448x16384, .f32⟩
  | .hbm, ⟨39, _⟩ => ⟨S_, .f32⟩
  | .hbm, ⟨40, _⟩ => ⟨S8448x16384, .f32⟩
  | .hbm, ⟨41, _⟩ => ⟨S8448x16384, .f32⟩
  | .hbm, ⟨42, _⟩ => ⟨S_, .f32⟩
  | .hbm, ⟨43, _⟩ => ⟨S8448x16384, .f32⟩
  | .hbm, ⟨44, _⟩ => ⟨S8448x16384, .f32⟩
  | .hbm, ⟨45, _⟩ => ⟨S8448x16384, .f32⟩
  | .hbm, ⟨46, _⟩ => ⟨S_, .f32⟩
  | .hbm, ⟨47, _⟩ => ⟨S8448x16384, .f32⟩
  | .hbm, ⟨48, _⟩ => ⟨S8448x16384, .f32⟩
  | .hbm, ⟨49, _⟩ => ⟨S8448x16384, .f32⟩
  | .hbm, ⟨50, _⟩ => ⟨S16384x8448, .f32⟩
  | .hbm, ⟨51, _⟩ => ⟨S16384x8448, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.Decay.lean ====
module

public import Idealize.ShloMosaic.Lib.Pointwise
public import Idealize.ShloMosaic.Lib.IdealHost

/-! # Arithmetic of the gates and the decays

The extended-real facts the proof rests on: the two spellings of the log-sigmoid agree, a gate is never
positive, sums of gates only fall, and a decay over a stretch of tokens is the product of the decays over its
two halves. -/

@[expose] public section

noncomputable section

namespace Cert.Gla

open Idealize.ShloMosaic
open scoped BigOperators

/-- `log (1 + exp (-|x|))`: the part of the log-sigmoid that both spellings share. -/
def softTail (x : EReal) : EReal := Ideal.log1p (Ideal.exp (-(max x (-x))))

/-- The log-sigmoid as the kernel writes it. -/
def logSig (x : EReal) : EReal := min x 0 - softTail x

/-- An exponential is not negative. -/
theorem exp_nonneg (x : EReal) : 0 ≤ Ideal.exp x := by
  induction x with
  | bot => simp
  | top => simp
  | coe r => simpa using (Real.exp_pos r).le

/-- The exponential of something at most zero is at most one. -/
theorem exp_le_one {x : EReal} (h : x ≤ 0) : Ideal.exp x ≤ 1 := by
  induction x with
  | bot => simp
  | top => simp at h
  | coe r =>
    have hr : r ≤ 0 := by exact_mod_cast h
    rw [Ideal.exp_coe]
    exact_mod_cast Real.exp_le_one_iff.mpr hr

/-- The shared part is a nonnegative real. -/
theorem softTail_real (x : EReal) : ∃ r : ℝ, 0 ≤ r ∧ softTail x = (r : EReal) := by
  have key : ∀ y : ℝ, 0 ≤ y → ∃ r : ℝ, 0 ≤ r ∧ Ideal.log1p (y : EReal) = (r : EReal) := by
    intro y hy
    refine ⟨Real.log (1 + y), Real.log_nonneg (by linarith), ?_⟩
    unfold Ideal.log1p
    rw [show (1 : EReal) + (y : EReal) = ((1 + y : ℝ) : EReal) by push_cast; rfl, Ideal.log_coe,
      if_neg (by linarith)]
  unfold softTail
  induction x with
  | bot => simpa using key 0 le_rfl
  | top => simpa using key 0 le_rfl
  | coe r =>
    rw [show -(max (r : EReal) (-(r : EReal))) = ((-(max r (-r)) : ℝ) : EReal) by push_cast; rfl, Ideal.exp_coe]
    exact key _ (Real.exp_pos _).le

/-- The log-sigmoid is not positive. -/
theorem logSig_nonpos (x : EReal) : logSig x ≤ 0 := by
  obtain ⟨r, hr, h⟩ := softTail_real x
  unfold logSig
  rw [h]
  calc min x 0 - (r : EReal) ≤ 0 - 0 := EReal.sub_le_sub (min_le_right _ _) (by exact_mod_cast hr)
    _ = 0 := by simp

/-- The reference's spelling, minus the softplus of the negated argument, is the same number. -/
theorem neg_softplus (x : EReal) :
    -(max (-x) 0 + Ideal.log1p (Ideal.exp (-(max (-x - 0) (-(-x - 0)))))) = logSig x := by
  obtain ⟨r, hr, h⟩ := softTail_real x
  have e : Ideal.log1p (Ideal.exp (-(max (-x - 0) (-(-x - 0))))) = (r : EReal) := by
    rw [← h]; unfold softTail; rw [sub_zero, neg_neg, max_comm]
  unfold logSig
  rw [e, h, EReal.neg_add (Or.inr (by simp)) (Or.inr (by simp))]
  congr 1
  induction x with
  | bot => simp
  | top => simp
  | coe a =>
    rw [show -(max (-(a : EReal)) 0) = ((-(max (-a) 0) : ℝ) : EReal) by push_cast; rfl,
      show min (a : EReal) 0 = ((min a 0 : ℝ) : EReal) by push_cast; rfl]
    congr 1
    rcases le_total a 0 with h | h
    · rw [max_eq_left (by linarith), min_eq_left h]; ring
    · rw [max_eq_right (by linarith), min_eq_right h]; ring

/-- One sixteenth of a number that is not positive is not positive. -/
theorem sixteenth_nonpos {x : EReal} (h : x ≤ 0) : x * ((1 / 16 : ℝ) : EReal) ≤ 0 :=
  EReal.mul_nonpos_iff.mpr (Or.inr ⟨h, by exact_mod_cast (by norm_num : (0:ℝ) ≤ 1/16)⟩)

/-- Dividing by sixteen is multiplying by one sixteenth. -/
theorem div_sixteen (x : EReal) : Ideal.div x ((16 : ℝ) : EReal) = x * ((1 / 16 : ℝ) : EReal) := by
  unfold Ideal.div
  rw [if_neg (by exact_mod_cast (by norm_num : (16:ℝ) ≠ 0)), ← EReal.coe_inv]
  norm_num

/-- A decay over a stretch is the product of the decays over its two halves: `c` is what has accumulated at the
    start, `b` at the middle, `a` at the end. -/
theorem decay_split {a b c : EReal} (hab : a ≤ b) (hbc : b ≤ c) (hc : c ≤ 0) :
    Ideal.exp (a - b) * Ideal.exp (min (b - c) 0) = Ideal.exp (a - c) := by
  have hb : b ≤ 0 := hbc.trans hc
  have ha : a ≤ 0 := hab.trans hb
  induction c with
  | top => simp at hc
  | bot =>
    have hb' : b = ⊥ := le_bot_iff.mp hbc
    subst hb'
    have ha' : a = ⊥ := le_bot_iff.mp hab
    subst ha'
    simp
  | coe c =>
    induction b with
    | top => simp at hb
    | bot =>
      have ha' : a = ⊥ := le_bot_iff.mp hab
      subst ha'
      simp
    | coe b =>
      induction a with
      | top => simp at ha
      | bot => simp
      | coe a =>
        have h1 : b ≤ c := by exact_mod_cast hbc
        rw [show min ((b : EReal) - (c : EReal)) 0 = ((b - c : ℝ) : EReal) by
          rw [min_eq_left]; · push_cast; rfl
          · rw [← EReal.coe_sub]; exact_mod_cast (by linarith : b - c ≤ 0)]
        rw [← EReal.coe_sub, ← EReal.coe_sub, Ideal.exp_coe, Ideal.exp_coe, Ideal.exp_coe, ← EReal.coe_mul,
          ← Real.exp_add]
        congr 2; ring

/-- The difference of what has accumulated at a later and an earlier token is not positive. -/
theorem min_decay {a c : EReal} (hac : a ≤ c) (hc : c ≤ 0) : min (a - c) 0 = a - c := by
  refine min_eq_left ?_
  induction c with
  | top => simp at hc
  | bot => rw [le_bot_iff.mp hac]; simp
  | coe c =>
    induction a with
    | top => simp at hac
    | bot => simp
    | coe a =>
      have h : a ≤ c := by exact_mod_cast hac
      rw [← EReal.coe_sub]; exact_mod_cast (by linarith : a - c ≤ 0)

/-- What has accumulated of the gates `g` up to and including token `r`. -/
def cum (g : Fin 64 → EReal) (r : Fin 64) : EReal := ∑ s : Fin 64, if s ≤ r then g s else 0

/-- What has accumulated of gates at most zero is at most zero. -/
theorem cum_nonpos {g : Fin 64 → EReal} (hg : ∀ s, g s ≤ 0) (r : Fin 64) : cum g r ≤ 0 :=
  Finset.sum_nonpos fun s _ => by split <;> simp [hg]

/-- It only falls from token to token. -/
theorem cum_anti {g : Fin 64 → EReal} (hg : ∀ s, g s ≤ 0) {r t : Fin 64} (h : r ≤ t) : cum g t ≤ cum g r :=
  Finset.sum_le_sum fun s _ => by
    by_cases h1 : s ≤ r
    · rw [if_pos h1, if_pos (h1.trans h)]
    · rw [if_neg h1]; split <;> simp [hg]

/-- The weight of an earlier token `s` for token `t`: the decay between them, and nothing for a later token. -/
def decay (G : Fin 64 → EReal) (t s : Fin 64) : EReal := Ideal.exp (if s ≤ t then G t - G s else ⊥)

end Cert.Gla

end
-- ==== Proof.Chunk.lean ====
module

public import proofs.«01_k».proof.Proof.Decay

/-! # Gated linear attention over one chunk of sixty-four tokens

The formulas both programs are shown to compute: the sum a token reads, its normalisation, and the state that the
chunk leaves. They are over functions, so that they say nothing of how a program lays its arrays out. -/

@[expose] public section

noncomputable section

namespace Cert.Gla

open Idealize.ShloMosaic
open scoped BigOperators

/-- The weight of token `s` for token `t` in a head: the query against the key, each channel with its decay. -/
def weight (Q K G : Fin 64 → Fin 256 → EReal) (t s : Fin 64) : EReal :=
  ∑ x : Fin 256, Q t x * K s x * decay (fun r => G r x) t s

/-- What token `r` of a chunk reads: the state the chunk began with, and the tokens of the chunk up to `r`. -/
def mix (Q K G : Fin 64 → Fin 256 → EReal) (V : Fin 64 → Fin 512 → EReal) (S : Fin 256 → Fin 512 → EReal)
    (r : Fin 64) (e : Fin 512) : EReal :=
  (∑ x : Fin 256, Q r x * Ideal.exp (G r x) * S x e) + ∑ s : Fin 64, weight Q K G r s * V s e

/-- A head's output row, normalised, scaled by its gain and gated by `z · sigmoid z`. -/
def normed (o gain z : Fin 512 → EReal) (e : Fin 512) : EReal :=
  o e * Ideal.rsqrt (Ideal.div (∑ x : Fin 512, o x * o x) (Ideal.ofBits FTy.f32 1140850688#32)
      + Ideal.ofBits FTy.f32 897988541#32) * gain e * (z e * Ideal.logistic (z e))

/-- The state after a chunk. -/
def after (K G : Fin 64 → Fin 256 → EReal) (V : Fin 64 → Fin 512 → EReal) (S : Fin 256 → Fin 512 → EReal)
    (x : Fin 256) (e : Fin 512) : EReal :=
  S x e * Ideal.exp (G 63 x) + ∑ s : Fin 64, V s e * (K s x * Ideal.exp (G 63 x - G s x))

/-- One gate: a sixteenth of the log-sigmoid. -/
def gate (x : EReal) : EReal := logSig x * ((1 / 16 : ℝ) : EReal)

/-- A gate is at most zero. -/
theorem gate_nonpos (x : EReal) : gate x ≤ 0 := sixteenth_nonpos (logSig_nonpos x)

/-- Channel `x` of head `h` among the 1024 of all heads. -/
def chan (h : Fin 4) (x : Fin 256) : Fin 1024 := ⟨256 * h.val + x.val, by omega⟩

/-- Value channel `e` of head `h` among the 2048 of all heads. -/
def vchan (h : Fin 4) (e : Fin 512) : Fin 2048 := ⟨512 * h.val + e.val, by omega⟩

/-- The channels of head 0 are the first 256. -/
theorem chan_0 (x : Fin 256) (hx : x.val < 1024) : (⟨x.val, hx⟩ : Fin 1024) = chan 0 x := Fin.ext (by simp [chan])

/-- The channels of head 1 are the second 256. -/
theorem chan_1 (x : Fin 256) (hx : 256 + x.val < 1024) : (⟨256 + x.val, hx⟩ : Fin 1024) = chan 1 x := rfl

/-- The channels of head 2 are the third 256. -/
theorem chan_2 (x : Fin 256) (hx : 512 + x.val < 1024) : (⟨512 + x.val, hx⟩ : Fin 1024) = chan 2 x := rfl

/-- The channels of head 3 are the fourth 256. -/
theorem chan_3 (x : Fin 256) (hx : 768 + x.val < 1024) : (⟨768 + x.val, hx⟩ : Fin 1024) = chan 3 x := rfl

/-- The value channels of head 0 are the first 512. -/
theorem vchan_0 (x : Fin 512) (hx : x.val < 2048) : (⟨x.val, hx⟩ : Fin 2048) = vchan 0 x := Fin.ext (by simp [vchan])

/-- The value channels of head 1 are the second 512. -/
theorem vchan_1 (x : Fin 512) (hx : 512 + x.val < 2048) : (⟨512 + x.val, hx⟩ : Fin 2048) = vchan 1 x := rfl

/-- The value channels of head 2 are the third 512. -/
theorem vchan_2 (x : Fin 512) (hx : 1024 + x.val < 2048) : (⟨1024 + x.val, hx⟩ : Fin 2048) = vchan 2 x := rfl

/-- The value channels of head 3 are the fourth 512. -/
theorem vchan_3 (x : Fin 512) (hx : 1536 + x.val < 2048) : (⟨1536 + x.val, hx⟩ : Fin 2048) = vchan 3 x := rfl

end Cert.Gla

end
-- ==== Proof.Spec.lean ====
module

public import proofs.«01_k».proof.Proof.Chunk

/-! # Gated linear attention over the prompt, as functions of the call's arguments

`p` holds the projections of every token (queries, keys, values and output gates side by side), `ga` the low-rank gate
inputs, `w` and `b` the gate's second projection, `u` the gains. A batch row is 32 chunks of 64 tokens; chunk `n` of all is
chunk `n % 32` of batch row `n / 32`. -/

@[expose] public section

noncomputable section

namespace Cert.Gla

open Idealize.ShloMosaic
open scoped BigOperators

/-- Token `r` of chunk `n`. -/
def row (n : ℕ) (r : Fin 64) : Fin 8448 := ⟨(64 * n + r.val) % 8448, Nat.mod_lt _ (by decide)⟩

/-- A chunk's queries, scaled. -/
def qs (p : Fin 8448 → Fin 6144 → EReal) (n : ℕ) (h : Fin 4) (r : Fin 64) (x : Fin 256) : EReal :=
  p (row n r) ⟨256 * h.val + x.val, by omega⟩ * Ideal.ofBits FTy.f32 1031798784#32

/-- A chunk's keys. -/
def ks (p : Fin 8448 → Fin 6144 → EReal) (n : ℕ) (h : Fin 4) (r : Fin 64) (x : Fin 256) : EReal :=
  p (row n r) ⟨1024 + (256 * h.val + x.val), by omega⟩

/-- A chunk's values. -/
def vs (p : Fin 8448 → Fin 6144 → EReal) (n : ℕ) (h : Fin 4) (r : Fin 64) (e : Fin 512) : EReal :=
  p (row n r) ⟨2048 + (512 * h.val + e.val), by omega⟩

/-- A chunk's output gates. -/
def zs (p : Fin 8448 → Fin 6144 → EReal) (n : ℕ) (h : Fin 4) (r : Fin 64) (e : Fin 512) : EReal :=
  p (row n r) ⟨4096 + (512 * h.val + e.val), by omega⟩

/-- A chunk's accumulated forget gates. -/
def gs (ga : Fin 8448 → Fin 128 → EReal) (w : Fin 16 → Fin 1024 → EReal) (b : Fin 1024 → EReal) (n : ℕ) (h : Fin 4)
    (r : Fin 64) (x : Fin 256) : EReal :=
  cum (fun s => gate ((∑ j : Fin 16, ga (row n s) ⟨j.val, by omega⟩ * w j (chan h x)) + b (chan h x))) r

/-- The state of batch row `a` after its first `k` chunks. -/
def stateAt (p : Fin 8448 → Fin 6144 → EReal) (ga : Fin 8448 → Fin 128 → EReal) (w : Fin 16 → Fin 1024 → EReal)
    (b : Fin 1024 → EReal) (a : ℕ) : ℕ → Fin 4 → Fin 256 → Fin 512 → EReal
  | 0, _, _, _ => 0
  | k + 1, h, x, e => after (ks p (32 * a + k) h) (gs ga w b (32 * a + k) h) (vs p (32 * a + k) h)
      (stateAt p ga w b a k h) x e

/-- Token `r` of chunk `k` of batch row `a`: what its head `h` puts out. -/
def outAt (p : Fin 8448 → Fin 6144 → EReal) (ga : Fin 8448 → Fin 128 → EReal) (w : Fin 16 → Fin 1024 → EReal)
    (b : Fin 1024 → EReal) (u : Fin 2048 → EReal) (a k : ℕ) (r : Fin 64) (h : Fin 4) (e : Fin 512) : EReal :=
  normed (mix (qs p (32 * a + k) h) (ks p (32 * a + k) h) (gs ga w b (32 * a + k) h) (vs p (32 * a + k) h)
      (stateAt p ga w b a k h) r)
    (fun e => u (vchan h e)) (zs p (32 * a + k) h r) e

end Cert.Gla

end
-- ==== Proof.Weights.lean ====
module

public import proofs.«01_k».proof.Proof.Chunk
public import proofs.«01_k».proof.Proof.Gen.KernelIdeal.Skeleton
public import Idealize.ShloMosaic.Lib.WordCmp

/-! # The kernel's attention weights, read at an index: the common part

A sub-block of sixteen tokens has its weights for the tokens before it from one product, taken against a row of the
accumulated gates just before the sub-block, and its own sixteen columns one at a time. -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- What a proof about the weights asks of the accumulated gates: never positive and only falling. -/
structure Falls (G : FVec Ideal S64x1024 .f32) : Prop where
  nonpos : ∀ r l, G (ix2 r l) ≤ 0
  anti : ∀ (r t : Fin 64) l, r ≤ t → G (ix2 t l) ≤ G (ix2 r l)

/-- A token gives no weight to those after it. -/
theorem weight_later (Q K G : Fin 64 → Fin 256 → EReal) {t s : Fin 64} (h : ¬ s ≤ t) : weight Q K G t s = 0 :=
  Finset.sum_eq_zero fun x _ => by simp [decay, if_neg h]

/-- A column of the sub-block's own tokens: the difference of the accumulated gates is not positive, so the kernel's
    minimum with zero does nothing. -/
theorem weight_own (Q K G : Fin 64 → Fin 256 → EReal) {t s : Fin 64} (h : s ≤ t) (h0 : ∀ x, G s x ≤ 0)
    (ha : ∀ x, G t x ≤ G s x) :
    (∑ x : Fin 256, Q t x * Ideal.exp (min (G t x - G s x) 0) * K s x) = weight Q K G t s :=
  Finset.sum_congr rfl fun x _ => by
    rw [decay, if_pos h, min_decay (ha x) (h0 x), mul_assoc, mul_assoc, mul_comm (Ideal.exp _)]

/-- A token before the sub-block: the decay goes over the row `m` just before the sub-block. -/
theorem weight_before (Q K G : Fin 64 → Fin 256 → EReal) {t s : Fin 64} (m : Fin 64) (h : s ≤ t) (h0 : ∀ x, G s x ≤ 0)
    (ha : ∀ x, G t x ≤ G m x) (hb : ∀ x, G m x ≤ G s x) :
    (∑ x : Fin 256, Q t x * Ideal.exp (G t x - G m x) * (K s x * Ideal.exp (min (G m x - G s x) 0)))
      = weight Q K G t s :=
  Finset.sum_congr rfl fun x _ => by
    rw [decay, if_pos h, mul_mul_mul_comm, decay_split (ha x) (hb x) (h0 x)]

/-- A select on a decided statement is a choice. -/
theorem select_decide {α : Type} (p : Prop) [Decidable p] (a b : α) :
    Scalar.select (BitVec.ofBool (decide p)) a b = if p then a else b := by
  by_cases h : p
  · simp [Scalar.select, h]
  · simp [Scalar.select, h]

/-- A select on "the column is `s`" is a choice on the column. -/
theorem select_eq {α : Type} (s : ℕ) (l : Fin 64) (hs : s < 64) (a b : α) :
    Scalar.select (IntOp.cmpi CmpIPredicate.eq (BitVec.ofNat 32 l.val) (BitVec.ofNat 32 s)) a b
      = if l.val = s then a else b := by
  have hl := l.isLt
  rw [WordCmp.cmpi_eq_eq_toNat, select_decide]
  simp only [BitVec.toNat_ofNat]
  rw [Nat.mod_eq_of_lt (by omega), Nat.mod_eq_of_lt (by omega)]

/-- A select on "the column lies before the sub-block" is a choice on the column. -/
theorem select_lt {α : Type} (s : ℕ) (l : Fin 64) (hs : s < 64) (a b : α) :
    Scalar.select (IntOp.cmpi CmpIPredicate.slt (BitVec.ofNat 32 l.val) (BitVec.ofNat 32 s)) a b
      = if l.val < s then a else b := by
  have hl := l.isLt
  rw [WordCmp.cmpi_slt_ofNat (by omega) (by omega), select_decide]

/-- A select on "the column is not after the row" is a choice on the two. -/
theorem select_le {α : Type} (lo : ℕ) (r : Fin 16) (l : Fin 64) (hs : lo < 64) (a b : α) :
    Scalar.select (IntOp.cmpi CmpIPredicate.sle (BitVec.ofNat 32 l.val)
        (IntOp.addi (BitVec.ofNat 32 lo) (BitVec.ofNat 32 r.val))) a b
      = if l.val ≤ lo + r.val then a else b := by
  have hl := l.isLt
  have hr := r.isLt
  rw [show IntOp.addi (BitVec.ofNat 32 lo) (BitVec.ofNat 32 r.val) = BitVec.ofNat 32 (lo + r.val) from
    (BitVec.ofNat_add ..).symm, WordCmp.cmpi_sle_ofNat (by omega) (by omega), select_decide]

end Cert.Gla

end
-- ==== Proof.Rows0.lean ====
module

public import proofs.«01_k».proof.Proof.Weights
public import proofs.«01_k».proof.Proof.Gen.KernelIdeal.Skeleton
public import Idealize.ShloMosaic.Lib.WordCmp

/-! # The kernel's attention weights, read at an index: the first sub-block

The rows 0 to 15 of the four heads' weight matrices: as the kernel computes them, and their entries. -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- Rows 0 to 15 of head 0's weights. -/
def rows0_0 (x1 G Q : FVec Ideal S64x1024 .f32) (B : FVec Ideal S1x1024 .f32) (P : FVec Ideal S64x1024 .f32) : FVec Ideal S16x64 .f32 :=
  (k0_pay113 (iota Kind.tc S16x64 32 [1] iota_S16x64_d1_w32) (iota Kind.tc S16x64 32 [0] iota_S16x64_d0_w32) (k0_pay112 x1 G (iota Kind.tc S16x64 32 [1] iota_S16x64_d1_w32) (k0_pay24 B P) (k0_pay25 Q) (k0_pay102 x1 (iota Kind.tc S16x64 32 [1] iota_S16x64_d1_w32) (k0_pay25 Q) (k0_pay96 x1
    G (iota Kind.tc S16x64 32 [1] iota_S16x64_d1_w32) (k0_pay24 B P) (k0_pay25 Q) (k0_pay91 x1 G (iota Kind.tc S16x64 32 [1] iota_S16x64_d1_w32) (k0_pay24 B P) (k0_pay25 Q) (k0_pay86 x1 G (iota Kind.tc S16x64 32 [1] iota_S16x64_d1_w32) (k0_pay24 B
    P) (k0_pay25 Q) (k0_pay80 x1 G (iota Kind.tc S16x64 32 [1] iota_S16x64_d1_w32) (k0_pay24 B P) (k0_pay25 Q) (k0_pay69 (iota Kind.tc S16x64 32 [1] iota_S16x64_d1_w32) (k0_pay62 x1 G (iota Kind.tc S16x64 32 [1] iota_S16x64_d1_w32) (k0_pay24 B P)
    (k0_pay25 Q) (k0_pay57 x1 G (iota Kind.tc S16x64 32 [1] iota_S16x64_d1_w32) (k0_pay24 B P) (k0_pay25 Q) (k0_pay52 x1 G (iota Kind.tc S16x64 32 [1] iota_S16x64_d1_w32) (k0_pay24 B P) (k0_pay25 Q)
    (k0_pay47 x1 G (iota Kind.tc S16x64 32 [1] iota_S16x64_d1_w32) (k0_pay24 B P) (k0_pay25 Q) (k0_pay42 x1 G (iota Kind.tc S16x64 32 [1] iota_S16x64_d1_w32) (k0_pay24 B P) (k0_pay25 Q) (k0_pay32 x1 (iota Kind.tc S16x64 32 [1] iota_S16x64_d1_w32)
    (k0_pay25 Q) k0_pay26 (k0_pay30 B P)) (k0_pay37 x1 G (k0_pay24 B P) (k0_pay25 Q))))))) (k0_pay66 G (k0_pay24 B P)
    (k0_pay25 Q)) (k0_pay67 x1)) (k0_pay74 x1 G (k0_pay24 B P) (k0_pay25 Q)) (k0_pay75 (iota Kind.tc S16x64 32 [1] iota_S16x64_d1_w32)))))) (k0_pay100 G
    (k0_pay24 B P))) (k0_pay107 x1 G (k0_pay24 B P) (k0_pay25 Q))))

set_option maxHeartbeats 4000000 in
/-- Their entries. -/
theorem rows0_0_at (x1 G Q : FVec Ideal S64x1024 .f32) (hG : Falls G) (B : FVec Ideal S1x1024 .f32) (P : FVec Ideal S64x1024 .f32)
    (hB : ∀ (r : Fin 16) l, k0_pay24 B P (ix2 r l) = G (ix2 (⟨r.val, by omega⟩ : Fin 64) l))
    (hD : ∀ (r : Fin 16) l, k0_pay30 B P (ix2 r l) = min (G (ix2 (⟨r.val, by omega⟩ : Fin 64) l) - G (ix2 0 l)) 0)
    (r : Fin 16) (l : Fin 64) :
    rows0_0 x1 G Q B P (ix2 r l)
      = weight (fun t x => Q (ix2 t ⟨x.val, by omega⟩)) (fun t x => x1 (ix2 t ⟨x.val, by omega⟩))
          (fun t x => G (ix2 t ⟨x.val, by omega⟩)) ⟨r.val, by omega⟩ l := by
  pointwise [rows0_0, k0_pay25, k0_pay26, k0_pay27, k0_pay28, k0_pay29, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, hB, hD]
  simp only [select_le 0 _ _ (by decide), select_eq 0 _ (by decide), select_eq 1 _ (by decide), select_eq 2 _ (by decide), select_eq 3 _ (by decide),
    select_eq 4 _ (by decide), select_eq 5 _ (by decide), select_eq 6 _ (by decide), select_eq 7 _ (by decide),
    select_eq 8 _ (by decide), select_eq 9 _ (by decide), select_eq 10 _ (by decide), select_eq 11 _ (by decide),
    select_eq 12 _ (by decide), select_eq 13 _ (by decide), select_eq 14 _ (by decide), select_eq 15 _ (by decide)]
  by_cases hl : l.val ≤ 0 + r.val
  · rw [if_pos hl]
    have hlo : 0 ≤ l.val := Nat.zero_le _
    rcases l with ⟨l, hl64⟩
    have hr := r.isLt
    simp only at hl hlo ⊢
    have hle : l ≤ r.val := by omega
    have hl' : l < 16 := by omega
    interval_cases l
    all_goals
      simp only [Nat.reduceEqDiff, if_true, if_false, -Fin.reduceFinMk]
      exact weight_own (fun t x => Q (ix2 t ⟨x.val, by omega⟩)) (fun t x => x1 (ix2 t ⟨x.val, by omega⟩))
        (fun t x => G (ix2 t ⟨x.val, by omega⟩)) (t := ⟨r.val, by omega⟩) (Fin.le_def.mpr hle) (fun x => hG.nonpos _ _)
        (fun x => hG.anti _ _ _ (Fin.le_def.mpr hle))
  · rw [if_neg hl]
    exact (weight_later _ _ _ (fun h => hl ((Nat.zero_add _).symm ▸ Fin.le_def.mp h))).symm

/-- Rows 0 to 15 of head 1's weights. -/
def rows0_1 (x1 G Q : FVec Ideal S64x1024 .f32) (B : FVec Ideal S1x1024 .f32) (P : FVec Ideal S64x1024 .f32) : FVec Ideal S16x64 .f32 :=
  (k0_pay114 (iota Kind.tc S16x64 32 [1] iota_S16x64_d1_w32) (iota Kind.tc S16x64 32 [0] iota_S16x64_d0_w32) (k0_pay108 (iota Kind.tc S16x64 32 [1] iota_S16x64_d1_w32) (k0_pay103 x1 (iota Kind.tc S16x64 32 [1] iota_S16x64_d1_w32) (k0_pay25 Q) (k0_pay97 x1 G (iota Kind.tc S16x64 32 [1] iota_S16x64_d1_w32) (k0_pay24 B P) (k0_pay25
    Q) (k0_pay92 x1 G (iota Kind.tc S16x64 32 [1] iota_S16x64_d1_w32) (k0_pay24 B P) (k0_pay25 Q) (k0_pay87 x1 G (iota Kind.tc S16x64 32 [1] iota_S16x64_d1_w32) (k0_pay24 B P) (k0_pay25 Q) (k0_pay76 (iota Kind.tc S16x64 32 [1] iota_S16x64_d1_w32)
    (k0_pay70 (iota Kind.tc S16x64 32 [1] iota_S16x64_d1_w32) (k0_pay63 x1 G (iota Kind.tc S16x64 32 [1] iota_S16x64_d1_w32) (k0_pay24 B P) (k0_pay25 Q) (k0_pay58 x1 G (iota Kind.tc S16x64 32 [1] iota_S16x64_d1_w32) (k0_pay24 B P) (k0_pay25 Q)
    (k0_pay53 x1 G (iota Kind.tc S16x64 32 [1] iota_S16x64_d1_w32) (k0_pay24 B P) (k0_pay25 Q) (k0_pay48 x1 G (iota Kind.tc S16x64 32 [1] iota_S16x64_d1_w32) (k0_pay24 B P) (k0_pay25 Q) (k0_pay38 (iota Kind.tc S16x64 32 [1] iota_S16x64_d1_w32)
    (k0_pay33 x1 (iota Kind.tc S16x64 32 [1] iota_S16x64_d1_w32) (k0_pay25 Q) k0_pay27 (k0_pay30 B P)) (k0_pay36 x1 G (k0_pay24 B P) (k0_pay25 Q))) (k0_pay43 x1
    G (k0_pay24 B P) (k0_pay25 Q)))))) (k0_pay66 G (k0_pay24 B P) (k0_pay25 Q)) (k0_pay67 x1)) (k0_pay73 x1 G
    (k0_pay24 B P) (k0_pay25 Q))) (k0_pay81 x1 G (k0_pay24 B P) (k0_pay25 Q)) k0_pay82))) (k0_pay100 G (k0_pay24 B
    P))) (k0_pay106 x1 G (k0_pay24 B P) (k0_pay25 Q))) (k0_pay111 x1 G (k0_pay24 B P) (k0_pay25 Q)))

set_option maxHeartbeats 4000000 in
/-- Their entries. -/
theorem rows0_1_at (x1 G Q : FVec Ideal S64x1024 .f32) (hG : Falls G) (B : FVec Ideal S1x1024 .f32) (P : FVec Ideal S64x1024 .f32)
    (hB : ∀ (r : Fin 16) l, k0_pay24 B P (ix2 r l) = G (ix2 (⟨r.val, by omega⟩ : Fin 64) l))
    (hD : ∀ (r : Fin 16) l, k0_pay30 B P (ix2 r l) = min (G (ix2 (⟨r.val, by omega⟩ : Fin 64) l) - G (ix2 0 l)) 0)
    (r : Fin 16) (l : Fin 64) :
    rows0_1 x1 G Q B P (ix2 r l)
      = weight (fun t x => Q (ix2 t ⟨256 + x.val, by omega⟩)) (fun t x => x1 (ix2 t ⟨256 + x.val, by omega⟩))
          (fun t x => G (ix2 t ⟨256 + x.val, by omega⟩)) ⟨r.val, by omega⟩ l := by
  pointwise [rows0_1, k0_pay25, k0_pay26, k0_pay27, k0_pay28, k0_pay29, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, hB, hD]
  simp only [select_le 0 _ _ (by decide), select_eq 0 _ (by decide), select_eq 1 _ (by decide), select_eq 2 _ (by decide), select_eq 3 _ (by decide),
    select_eq 4 _ (by decide), select_eq 5 _ (by decide), select_eq 6 _ (by decide), select_eq 7 _ (by decide),
    select_eq 8 _ (by decide), select_eq 9 _ (by decide), select_eq 10 _ (by decide), select_eq 11 _ (by decide),
    select_eq 12 _ (by decide), select_eq 13 _ (by decide), select_eq 14 _ (by decide), select_eq 15 _ (by decide)]
  by_cases hl : l.val ≤ 0 + r.val
  · rw [if_pos hl]
    have hlo : 0 ≤ l.val := Nat.zero_le _
    rcases l with ⟨l, hl64⟩
    have hr := r.isLt
    simp only at hl hlo ⊢
    have hle : l ≤ r.val := by omega
    have hl' : l < 16 := by omega
    interval_cases l
    all_goals
      simp only [Nat.reduceEqDiff, if_true, if_false, -Fin.reduceFinMk]
      exact weight_own (fun t x => Q (ix2 t ⟨256 + x.val, by omega⟩)) (fun t x => x1 (ix2 t ⟨256 + x.val, by omega⟩))
        (fun t x => G (ix2 t ⟨256 + x.val, by omega⟩)) (t := ⟨r.val, by omega⟩) (Fin.le_def.mpr hle) (fun x => hG.nonpos _ _)
        (fun x => hG.anti _ _ _ (Fin.le_def.mpr hle))
  · rw [if_neg hl]
    exact (weight_later _ _ _ (fun h => hl ((Nat.zero_add _).symm ▸ Fin.le_def.mp h))).symm

/-- Rows 0 to 15 of head 2's weights. -/
def rows0_2 (x1 G Q : FVec Ideal S64x1024 .f32) (B : FVec Ideal S1x1024 .f32) (P : FVec Ideal S64x1024 .f32) : FVec Ideal S16x64 .f32 :=
  (k0_pay115 (iota Kind.tc S16x64 32 [1] iota_S16x64_d1_w32) (iota Kind.tc S16x64 32 [0] iota_S16x64_d0_w32) (k0_pay109 (iota Kind.tc S16x64 32 [1] iota_S16x64_d1_w32) (k0_pay104 x1 (iota Kind.tc S16x64 32 [1] iota_S16x64_d1_w32) (k0_pay25 Q) (k0_pay98 x1 G (iota Kind.tc S16x64 32 [1] iota_S16x64_d1_w32) (k0_pay24 B P) (k0_pay25
    Q) (k0_pay93 x1 G (iota Kind.tc S16x64 32 [1] iota_S16x64_d1_w32) (k0_pay24 B P) (k0_pay25 Q) (k0_pay83 (iota Kind.tc S16x64 32 [1] iota_S16x64_d1_w32) (k0_pay77 (iota Kind.tc S16x64 32 [1] iota_S16x64_d1_w32) (k0_pay71 (iota Kind.tc S16x64 32 [1] iota_S16x64_d1_w32) (k0_pay64 x1 G
    (iota Kind.tc S16x64 32 [1] iota_S16x64_d1_w32) (k0_pay24 B P) (k0_pay25 Q) (k0_pay59 x1 G (iota Kind.tc S16x64 32 [1] iota_S16x64_d1_w32) (k0_pay24 B P) (k0_pay25 Q) (k0_pay54 x1 G (iota Kind.tc S16x64 32 [1] iota_S16x64_d1_w32) (k0_pay24 B
    P) (k0_pay25 Q) (k0_pay44 (iota Kind.tc S16x64 32 [1] iota_S16x64_d1_w32) (k0_pay39 (iota Kind.tc S16x64 32 [1] iota_S16x64_d1_w32) (k0_pay34 x1 (iota Kind.tc S16x64 32 [1] iota_S16x64_d1_w32) (k0_pay25 Q) k0_pay28 (k0_pay30 B P)) (k0_pay36 x1
    G (k0_pay24 B P) (k0_pay25 Q))) (k0_pay41 x1 G (k0_pay24 B P) (k0_pay25 Q))) (k0_pay49 x1 G (k0_pay24 B P)
    (k0_pay25 Q))))) (k0_pay66 G (k0_pay24 B P) (k0_pay25 Q)) (k0_pay67 x1)) (k0_pay73 x1 G (k0_pay24 B P) (k0_pay25
    Q))) (k0_pay79 x1 G (k0_pay24 B P) (k0_pay25 Q))) (k0_pay88 x1 G (k0_pay24 B P) (k0_pay25 Q)) 10#32)) (k0_pay100 G
    (k0_pay24 B P))) (k0_pay106 x1 G (k0_pay24 B P) (k0_pay25 Q))) (k0_pay111 x1 G (k0_pay24 B P) (k0_pay25 Q)))

set_option maxHeartbeats 4000000 in
/-- Their entries. -/
theorem rows0_2_at (x1 G Q : FVec Ideal S64x1024 .f32) (hG : Falls G) (B : FVec Ideal S1x1024 .f32) (P : FVec Ideal S64x1024 .f32)
    (hB : ∀ (r : Fin 16) l, k0_pay24 B P (ix2 r l) = G (ix2 (⟨r.val, by omega⟩ : Fin 64) l))
    (hD : ∀ (r : Fin 16) l, k0_pay30 B P (ix2 r l) = min (G (ix2 (⟨r.val, by omega⟩ : Fin 64) l) - G (ix2 0 l)) 0)
    (r : Fin 16) (l : Fin 64) :
    rows0_2 x1 G Q B P (ix2 r l)
      = weight (fun t x => Q (ix2 t ⟨512 + x.val, by omega⟩)) (fun t x => x1 (ix2 t ⟨512 + x.val, by omega⟩))
          (fun t x => G (ix2 t ⟨512 + x.val, by omega⟩)) ⟨r.val, by omega⟩ l := by
  pointwise [rows0_2, k0_pay25, k0_pay26, k0_pay27, k0_pay28, k0_pay29, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, hB, hD]
  simp only [select_le 0 _ _ (by decide), select_eq 0 _ (by decide), select_eq 1 _ (by decide), select_eq 2 _ (by decide), select_eq 3 _ (by decide),
    select_eq 4 _ (by decide), select_eq 5 _ (by decide), select_eq 6 _ (by decide), select_eq 7 _ (by decide),
    select_eq 8 _ (by decide), select_eq 9 _ (by decide), select_eq 10 _ (by decide), select_eq 11 _ (by decide),
    select_eq 12 _ (by decide), select_eq 13 _ (by decide), select_eq 14 _ (by decide), select_eq 15 _ (by decide)]
  by_cases hl : l.val ≤ 0 + r.val
  · rw [if_pos hl]
    have hlo : 0 ≤ l.val := Nat.zero_le _
    rcases l with ⟨l, hl64⟩
    have hr := r.isLt
    simp only at hl hlo ⊢
    have hle : l ≤ r.val := by omega
    have hl' : l < 16 := by omega
    interval_cases l
    all_goals
      simp only [Nat.reduceEqDiff, if_true, if_false, -Fin.reduceFinMk]
      exact weight_own (fun t x => Q (ix2 t ⟨512 + x.val, by omega⟩)) (fun t x => x1 (ix2 t ⟨512 + x.val, by omega⟩))
        (fun t x => G (ix2 t ⟨512 + x.val, by omega⟩)) (t := ⟨r.val, by omega⟩) (Fin.le_def.mpr hle) (fun x => hG.nonpos _ _)
        (fun x => hG.anti _ _ _ (Fin.le_def.mpr hle))
  · rw [if_neg hl]
    exact (weight_later _ _ _ (fun h => hl ((Nat.zero_add _).symm ▸ Fin.le_def.mp h))).symm

/-- Rows 0 to 15 of head 3's weights. -/
def rows0_3 (x1 G Q : FVec Ideal S64x1024 .f32) (B : FVec Ideal S1x1024 .f32) (P : FVec Ideal S64x1024 .f32) : FVec Ideal S16x64 .f32 :=
  (k0_pay116 (iota Kind.tc S16x64 32 [1] iota_S16x64_d1_w32) (iota Kind.tc S16x64 32 [0] iota_S16x64_d0_w32) (k0_pay110 (iota Kind.tc S16x64 32 [1] iota_S16x64_d1_w32) (k0_pay105 x1 (iota Kind.tc S16x64 32 [1] iota_S16x64_d1_w32) (k0_pay25 Q) (k0_pay99 x1 G (iota Kind.tc S16x64 32 [1] iota_S16x64_d1_w32) (k0_pay24 B P) (k0_pay25
    Q) (k0_pay89 (iota Kind.tc S16x64 32 [1] iota_S16x64_d1_w32) (k0_pay84 (iota Kind.tc S16x64 32 [1] iota_S16x64_d1_w32) (k0_pay78 (iota Kind.tc S16x64 32 [1] iota_S16x64_d1_w32) (k0_pay72 (iota Kind.tc S16x64 32 [1] iota_S16x64_d1_w32) (k0_pay65 x1 G (iota Kind.tc S16x64 32 [1] iota_S16x64_d1_w32) (k0_pay24 B P) (k0_pay25 Q)
    (k0_pay60 x1 G (iota Kind.tc S16x64 32 [1] iota_S16x64_d1_w32) (k0_pay24 B P) (k0_pay25 Q) (k0_pay50 (iota Kind.tc S16x64 32 [1] iota_S16x64_d1_w32) (k0_pay45 (iota Kind.tc S16x64 32 [1] iota_S16x64_d1_w32) (k0_pay40 (iota Kind.tc S16x64 32 [1] iota_S16x64_d1_w32) (k0_pay35 x1 (iota Kind.tc S16x64 32 [1] iota_S16x64_d1_w32)
    (k0_pay25 Q) k0_pay29 (k0_pay30 B P)) (k0_pay36 x1 G (k0_pay24 B P) (k0_pay25 Q))) (k0_pay41 x1 G (k0_pay24 B P)
    (k0_pay25 Q))) (k0_pay46 x1 G (k0_pay24 B P) (k0_pay25 Q))) (k0_pay55 x1 G (k0_pay24 B P) (k0_pay25 Q))))
    (k0_pay66 G (k0_pay24 B P) (k0_pay25 Q)) (k0_pay67 x1)) (k0_pay73 x1 G (k0_pay24 B P) (k0_pay25 Q))) (k0_pay79 x1
    G (k0_pay24 B P) (k0_pay25 Q))) (k0_pay85 x1 G (k0_pay24 B P) (k0_pay25 Q))) (k0_pay94 x1 G (k0_pay24 B P)
    (k0_pay25 Q))) (k0_pay100 G (k0_pay24 B P))) (k0_pay106 x1 G (k0_pay24 B P) (k0_pay25 Q))) (k0_pay111 x1 G
    (k0_pay24 B P) (k0_pay25 Q)))

set_option maxHeartbeats 4000000 in
/-- Their entries. -/
theorem rows0_3_at (x1 G Q : FVec Ideal S64x1024 .f32) (hG : Falls G) (B : FVec Ideal S1x1024 .f32) (P : FVec Ideal S64x1024 .f32)
    (hB : ∀ (r : Fin 16) l, k0_pay24 B P (ix2 r l) = G (ix2 (⟨r.val, by omega⟩ : Fin 64) l))
    (hD : ∀ (r : Fin 16) l, k0_pay30 B P (ix2 r l) = min (G (ix2 (⟨r.val, by omega⟩ : Fin 64) l) - G (ix2 0 l)) 0)
    (r : Fin 16) (l : Fin 64) :
    rows0_3 x1 G Q B P (ix2 r l)
      = weight (fun t x => Q (ix2 t ⟨768 + x.val, by omega⟩)) (fun t x => x1 (ix2 t ⟨768 + x.val, by omega⟩))
          (fun t x => G (ix2 t ⟨768 + x.val, by omega⟩)) ⟨r.val, by omega⟩ l := by
  pointwise [rows0_3, k0_pay25, k0_pay26, k0_pay27, k0_pay28, k0_pay29, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, hB, hD]
  simp only [select_le 0 _ _ (by decide), select_eq 0 _ (by decide), select_eq 1 _ (by decide), select_eq 2 _ (by decide), select_eq 3 _ (by decide),
    select_eq 4 _ (by decide), select_eq 5 _ (by decide), select_eq 6 _ (by decide), select_eq 7 _ (by decide),
    select_eq 8 _ (by decide), select_eq 9 _ (by decide), select_eq 10 _ (by decide), select_eq 11 _ (by decide),
    select_eq 12 _ (by decide), select_eq 13 _ (by decide), select_eq 14 _ (by decide), select_eq 15 _ (by decide)]
  by_cases hl : l.val ≤ 0 + r.val
  · rw [if_pos hl]
    have hlo : 0 ≤ l.val := Nat.zero_le _
    rcases l with ⟨l, hl64⟩
    have hr := r.isLt
    simp only at hl hlo ⊢
    have hle : l ≤ r.val := by omega
    have hl' : l < 16 := by omega
    interval_cases l
    all_goals
      simp only [Nat.reduceEqDiff, if_true, if_false, -Fin.reduceFinMk]
      exact weight_own (fun t x => Q (ix2 t ⟨768 + x.val, by omega⟩)) (fun t x => x1 (ix2 t ⟨768 + x.val, by omega⟩))
        (fun t x => G (ix2 t ⟨768 + x.val, by omega⟩)) (t := ⟨r.val, by omega⟩) (Fin.le_def.mpr hle) (fun x => hG.nonpos _ _)
        (fun x => hG.anti _ _ _ (Fin.le_def.mpr hle))
  · rw [if_neg hl]
    exact (weight_later _ _ _ (fun h => hl ((Nat.zero_add _).symm ▸ Fin.le_def.mp h))).symm

end Cert.Gla

end
-- ==== Proof.Rows1.lean ====
module

public import proofs.«01_k».proof.Proof.Weights
public import proofs.«01_k».proof.Proof.Gen.KernelIdeal.Skeleton
public import Idealize.ShloMosaic.Lib.WordCmp

/-! # The kernel's attention weights, read at an index: the second sub-block

The rows 16 to 31 of the four heads' weight matrices: as the kernel computes them, and their entries. -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- Rows 16 to 31 of head 0's weights. -/
def rows1_0 (x1 G Q : FVec Ideal S64x1024 .f32) : FVec Ideal S16x64 .f32 :=
  (k0_pay209 (iota Kind.tc S16x64 32 [1] iota_S16x64_d1_w32) (iota Kind.tc S16x64 32 [0] iota_S16x64_d0_w32) (k0_pay208 x1 G (iota Kind.tc S16x64 32 [1] iota_S16x64_d1_w32) (k0_pay117 G) (k0_pay118 Q) (k0_pay198 x1 (iota Kind.tc S16x64 32 [1] iota_S16x64_d1_w32) (k0_pay118 Q) (k0_pay192
    x1 G (iota Kind.tc S16x64 32 [1] iota_S16x64_d1_w32) (k0_pay117 G) (k0_pay118 Q) (k0_pay187 x1 G (iota Kind.tc S16x64 32 [1] iota_S16x64_d1_w32) (k0_pay117 G) (k0_pay118 Q) (k0_pay182 x1 G (iota Kind.tc S16x64 32 [1] iota_S16x64_d1_w32)
    (k0_pay117 G) (k0_pay118 Q) (k0_pay176 x1 G (iota Kind.tc S16x64 32 [1] iota_S16x64_d1_w32) (k0_pay117 G) (k0_pay118 Q) (k0_pay165 (iota Kind.tc S16x64 32 [1] iota_S16x64_d1_w32) (k0_pay158 x1 G (iota Kind.tc S16x64 32 [1] iota_S16x64_d1_w32)
    (k0_pay117 G) (k0_pay118 Q) (k0_pay153 x1 G (iota Kind.tc S16x64 32 [1] iota_S16x64_d1_w32) (k0_pay117 G) (k0_pay118 Q) (k0_pay148 x1 G (iota Kind.tc S16x64 32 [1] iota_S16x64_d1_w32) (k0_pay117 G)
    (k0_pay118 Q) (k0_pay143 x1 G (iota Kind.tc S16x64 32 [1] iota_S16x64_d1_w32) (k0_pay117 G) (k0_pay118 Q) (k0_pay138 x1 G (iota Kind.tc S16x64 32 [1] iota_S16x64_d1_w32) (k0_pay117 G) (k0_pay118 Q)
    (k0_pay128 x1 (iota Kind.tc S16x64 32 [1] iota_S16x64_d1_w32) (k0_pay118 Q) (k0_pay122 x1 G (iota Kind.tc S16x64 32 [1] iota_S16x64_d1_w32) (k0_pay117 G) (k0_pay118 Q)) (k0_pay126 G (k0_pay117 G)))
    (k0_pay133 x1 G (k0_pay117 G) (k0_pay118 Q))))))) (k0_pay162 G (k0_pay117 G) (k0_pay118 Q)) (k0_pay163 x1))
    (k0_pay170 x1 G (k0_pay117 G) (k0_pay118 Q)) (k0_pay171 (iota Kind.tc S16x64 32 [1] iota_S16x64_d1_w32)))))) (k0_pay196 G (k0_pay117 G))) (k0_pay203 x1 G
    (k0_pay117 G) (k0_pay118 Q))))

set_option maxHeartbeats 4000000 in
/-- Their entries. -/
theorem rows1_0_at (x1 G Q : FVec Ideal S64x1024 .f32) (hG : Falls G)
    (r : Fin 16) (l : Fin 64) :
    rows1_0 x1 G Q (ix2 r l)
      = weight (fun t x => Q (ix2 t ⟨x.val, by omega⟩)) (fun t x => x1 (ix2 t ⟨x.val, by omega⟩))
          (fun t x => G (ix2 t ⟨x.val, by omega⟩)) ⟨16 + r.val, by omega⟩ l := by
  pointwise [rows1_0, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166,
    k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186,
    k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206,
    k0_pay207, k0_pay208, k0_pay209, k0_pay210, k0_pay211, k0_pay212]
  simp only [select_le 16 _ _ (by decide), select_eq 16 _ (by decide), select_eq 17 _ (by decide), select_eq 18 _ (by decide), select_eq 19 _ (by decide),
    select_eq 20 _ (by decide), select_eq 21 _ (by decide), select_eq 22 _ (by decide), select_eq 23 _ (by decide),
    select_eq 24 _ (by decide), select_eq 25 _ (by decide), select_eq 26 _ (by decide), select_eq 27 _ (by decide),
    select_eq 28 _ (by decide), select_eq 29 _ (by decide), select_eq 30 _ (by decide), select_eq 31 _ (by decide), select_lt 16 _ (by decide)]
  by_cases hl : l.val ≤ 16 + r.val
  · rw [if_pos hl]
    by_cases hlo : 16 ≤ l.val
    · rcases l with ⟨l, hl64⟩
      have hr := r.isLt
      simp only at hl hlo ⊢
      have hle : l ≤ 16 + r.val := by omega
      have hl' : l < 32 := by omega
      interval_cases l
      all_goals
        simp only [Nat.reduceEqDiff, if_true, if_false, -Fin.reduceFinMk]
        exact weight_own (fun t x => Q (ix2 t ⟨x.val, by omega⟩)) (fun t x => x1 (ix2 t ⟨x.val, by omega⟩))
          (fun t x => G (ix2 t ⟨x.val, by omega⟩)) (t := ⟨16 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨x.val, by omega⟩)) (fun t x => x1 (ix2 t ⟨x.val, by omega⟩))
        (fun t x => G (ix2 t ⟨x.val, by omega⟩)) (t := ⟨16 + r.val, by omega⟩) ⟨15, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 16 to 31 of head 1's weights. -/
def rows1_1 (x1 G Q : FVec Ideal S64x1024 .f32) : FVec Ideal S16x64 .f32 :=
  (k0_pay210 (iota Kind.tc S16x64 32 [1] iota_S16x64_d1_w32) (iota Kind.tc S16x64 32 [0] iota_S16x64_d0_w32) (k0_pay204 (iota Kind.tc S16x64 32 [1] iota_S16x64_d1_w32) (k0_pay199 x1 (iota Kind.tc S16x64 32 [1] iota_S16x64_d1_w32) (k0_pay118 Q) (k0_pay193 x1 G (iota Kind.tc S16x64 32 [1] iota_S16x64_d1_w32) (k0_pay117 G)
    (k0_pay118 Q) (k0_pay188 x1 G (iota Kind.tc S16x64 32 [1] iota_S16x64_d1_w32) (k0_pay117 G) (k0_pay118 Q) (k0_pay183 x1 G (iota Kind.tc S16x64 32 [1] iota_S16x64_d1_w32) (k0_pay117 G) (k0_pay118 Q)
    (k0_pay172 (iota Kind.tc S16x64 32 [1] iota_S16x64_d1_w32) (k0_pay166 (iota Kind.tc S16x64 32 [1] iota_S16x64_d1_w32) (k0_pay159 x1 G (iota Kind.tc S16x64 32 [1] iota_S16x64_d1_w32) (k0_pay117 G) (k0_pay118 Q) (k0_pay154 x1 G (iota Kind.tc S16x64 32 [1] iota_S16x64_d1_w32) (k0_pay117
    G) (k0_pay118 Q) (k0_pay149 x1 G (iota Kind.tc S16x64 32 [1] iota_S16x64_d1_w32) (k0_pay117 G) (k0_pay118 Q) (k0_pay144 x1 G (iota Kind.tc S16x64 32 [1] iota_S16x64_d1_w32) (k0_pay117 G) (k0_pay118 Q)
    (k0_pay134 (iota Kind.tc S16x64 32 [1] iota_S16x64_d1_w32) (k0_pay129 x1 (iota Kind.tc S16x64 32 [1] iota_S16x64_d1_w32) (k0_pay118 Q) (k0_pay123 x1 G (iota Kind.tc S16x64 32 [1] iota_S16x64_d1_w32) (k0_pay117 G) (k0_pay118 Q)) (k0_pay126 G
    (k0_pay117 G))) (k0_pay132 x1 G (k0_pay117 G) (k0_pay118 Q))) (k0_pay139 x1 G (k0_pay117 G) (k0_pay118 Q))))))
    (k0_pay162 G (k0_pay117 G) (k0_pay118 Q)) (k0_pay163 x1)) (k0_pay169 x1 G (k0_pay117 G) (k0_pay118 Q))) (k0_pay177
    x1 G (k0_pay117 G) (k0_pay118 Q)) k0_pay178))) (k0_pay196 G (k0_pay117 G))) (k0_pay202 x1 G (k0_pay117 G)
    (k0_pay118 Q))) (k0_pay207 x1 G (k0_pay117 G) (k0_pay118 Q)))

set_option maxHeartbeats 4000000 in
/-- Their entries. -/
theorem rows1_1_at (x1 G Q : FVec Ideal S64x1024 .f32) (hG : Falls G)
    (r : Fin 16) (l : Fin 64) :
    rows1_1 x1 G Q (ix2 r l)
      = weight (fun t x => Q (ix2 t ⟨256 + x.val, by omega⟩)) (fun t x => x1 (ix2 t ⟨256 + x.val, by omega⟩))
          (fun t x => G (ix2 t ⟨256 + x.val, by omega⟩)) ⟨16 + r.val, by omega⟩ l := by
  pointwise [rows1_1, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166,
    k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186,
    k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206,
    k0_pay207, k0_pay208, k0_pay209, k0_pay210, k0_pay211, k0_pay212]
  simp only [select_le 16 _ _ (by decide), select_eq 16 _ (by decide), select_eq 17 _ (by decide), select_eq 18 _ (by decide), select_eq 19 _ (by decide),
    select_eq 20 _ (by decide), select_eq 21 _ (by decide), select_eq 22 _ (by decide), select_eq 23 _ (by decide),
    select_eq 24 _ (by decide), select_eq 25 _ (by decide), select_eq 26 _ (by decide), select_eq 27 _ (by decide),
    select_eq 28 _ (by decide), select_eq 29 _ (by decide), select_eq 30 _ (by decide), select_eq 31 _ (by decide), select_lt 16 _ (by decide)]
  by_cases hl : l.val ≤ 16 + r.val
  · rw [if_pos hl]
    by_cases hlo : 16 ≤ l.val
    · rcases l with ⟨l, hl64⟩
      have hr := r.isLt
      simp only at hl hlo ⊢
      have hle : l ≤ 16 + r.val := by omega
      have hl' : l < 32 := by omega
      interval_cases l
      all_goals
        simp only [Nat.reduceEqDiff, if_true, if_false, -Fin.reduceFinMk]
        exact weight_own (fun t x => Q (ix2 t ⟨256 + x.val, by omega⟩)) (fun t x => x1 (ix2 t ⟨256 + x.val, by omega⟩))
          (fun t x => G (ix2 t ⟨256 + x.val, by omega⟩)) (t := ⟨16 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨256 + x.val, by omega⟩)) (fun t x => x1 (ix2 t ⟨256 + x.val, by omega⟩))
        (fun t x => G (ix2 t ⟨256 + x.val, by omega⟩)) (t := ⟨16 + r.val, by omega⟩) ⟨15, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 16 to 31 of head 2's weights. -/
def rows1_2 (x1 G Q : FVec Ideal S64x1024 .f32) : FVec Ideal S16x64 .f32 :=
  (k0_pay211 (iota Kind.tc S16x64 32 [1] iota_S16x64_d1_w32) (iota Kind.tc S16x64 32 [0] iota_S16x64_d0_w32) (k0_pay205 (iota Kind.tc S16x64 32 [1] iota_S16x64_d1_w32) (k0_pay200 x1 (iota Kind.tc S16x64 32 [1] iota_S16x64_d1_w32) (k0_pay118 Q) (k0_pay194 x1 G (iota Kind.tc S16x64 32 [1] iota_S16x64_d1_w32) (k0_pay117 G)
    (k0_pay118 Q) (k0_pay189 x1 G (iota Kind.tc S16x64 32 [1] iota_S16x64_d1_w32) (k0_pay117 G) (k0_pay118 Q) (k0_pay179 (iota Kind.tc S16x64 32 [1] iota_S16x64_d1_w32) (k0_pay173 (iota Kind.tc S16x64 32 [1] iota_S16x64_d1_w32) (k0_pay167 (iota Kind.tc S16x64 32 [1] iota_S16x64_d1_w32)
    (k0_pay160 x1 G (iota Kind.tc S16x64 32 [1] iota_S16x64_d1_w32) (k0_pay117 G) (k0_pay118 Q) (k0_pay155 x1 G (iota Kind.tc S16x64 32 [1] iota_S16x64_d1_w32) (k0_pay117 G) (k0_pay118 Q) (k0_pay150 x1 G
    (iota Kind.tc S16x64 32 [1] iota_S16x64_d1_w32) (k0_pay117 G) (k0_pay118 Q) (k0_pay140 (iota Kind.tc S16x64 32 [1] iota_S16x64_d1_w32) (k0_pay135 (iota Kind.tc S16x64 32 [1] iota_S16x64_d1_w32) (k0_pay130 x1 (iota Kind.tc S16x64 32 [1] iota_S16x64_d1_w32) (k0_pay118 Q) (k0_pay124 x1 G
    (iota Kind.tc S16x64 32 [1] iota_S16x64_d1_w32) (k0_pay117 G) (k0_pay118 Q)) (k0_pay126 G (k0_pay117 G))) (k0_pay132 x1 G (k0_pay117 G) (k0_pay118 Q)))
    (k0_pay137 x1 G (k0_pay117 G) (k0_pay118 Q))) (k0_pay145 x1 G (k0_pay117 G) (k0_pay118 Q))))) (k0_pay162 G
    (k0_pay117 G) (k0_pay118 Q)) (k0_pay163 x1)) (k0_pay169 x1 G (k0_pay117 G) (k0_pay118 Q))) (k0_pay175 x1 G
    (k0_pay117 G) (k0_pay118 Q))) (k0_pay184 x1 G (k0_pay117 G) (k0_pay118 Q)) 26#32)) (k0_pay196 G (k0_pay117 G)))
    (k0_pay202 x1 G (k0_pay117 G) (k0_pay118 Q))) (k0_pay207 x1 G (k0_pay117 G) (k0_pay118 Q)))

set_option maxHeartbeats 4000000 in
/-- Their entries. -/
theorem rows1_2_at (x1 G Q : FVec Ideal S64x1024 .f32) (hG : Falls G)
    (r : Fin 16) (l : Fin 64) :
    rows1_2 x1 G Q (ix2 r l)
      = weight (fun t x => Q (ix2 t ⟨512 + x.val, by omega⟩)) (fun t x => x1 (ix2 t ⟨512 + x.val, by omega⟩))
          (fun t x => G (ix2 t ⟨512 + x.val, by omega⟩)) ⟨16 + r.val, by omega⟩ l := by
  pointwise [rows1_2, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166,
    k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186,
    k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206,
    k0_pay207, k0_pay208, k0_pay209, k0_pay210, k0_pay211, k0_pay212]
  simp only [select_le 16 _ _ (by decide), select_eq 16 _ (by decide), select_eq 17 _ (by decide), select_eq 18 _ (by decide), select_eq 19 _ (by decide),
    select_eq 20 _ (by decide), select_eq 21 _ (by decide), select_eq 22 _ (by decide), select_eq 23 _ (by decide),
    select_eq 24 _ (by decide), select_eq 25 _ (by decide), select_eq 26 _ (by decide), select_eq 27 _ (by decide),
    select_eq 28 _ (by decide), select_eq 29 _ (by decide), select_eq 30 _ (by decide), select_eq 31 _ (by decide), select_lt 16 _ (by decide)]
  by_cases hl : l.val ≤ 16 + r.val
  · rw [if_pos hl]
    by_cases hlo : 16 ≤ l.val
    · rcases l with ⟨l, hl64⟩
      have hr := r.isLt
      simp only at hl hlo ⊢
      have hle : l ≤ 16 + r.val := by omega
      have hl' : l < 32 := by omega
      interval_cases l
      all_goals
        simp only [Nat.reduceEqDiff, if_true, if_false, -Fin.reduceFinMk]
        exact weight_own (fun t x => Q (ix2 t ⟨512 + x.val, by omega⟩)) (fun t x => x1 (ix2 t ⟨512 + x.val, by omega⟩))
          (fun t x => G (ix2 t ⟨512 + x.val, by omega⟩)) (t := ⟨16 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨512 + x.val, by omega⟩)) (fun t x => x1 (ix2 t ⟨512 + x.val, by omega⟩))
        (fun t x => G (ix2 t ⟨512 + x.val, by omega⟩)) (t := ⟨16 + r.val, by omega⟩) ⟨15, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 16 to 31 of head 3's weights. -/
def rows1_3 (x1 G Q : FVec Ideal S64x1024 .f32) : FVec Ideal S16x64 .f32 :=
  (k0_pay212 (iota Kind.tc S16x64 32 [1] iota_S16x64_d1_w32) (iota Kind.tc S16x64 32 [0] iota_S16x64_d0_w32) (k0_pay206 (iota Kind.tc S16x64 32 [1] iota_S16x64_d1_w32) (k0_pay201 x1 (iota Kind.tc S16x64 32 [1] iota_S16x64_d1_w32) (k0_pay118 Q) (k0_pay195 x1 G (iota Kind.tc S16x64 32 [1] iota_S16x64_d1_w32) (k0_pay117 G)
    (k0_pay118 Q) (k0_pay185 (iota Kind.tc S16x64 32 [1] iota_S16x64_d1_w32) (k0_pay180 (iota Kind.tc S16x64 32 [1] iota_S16x64_d1_w32) (k0_pay174 (iota Kind.tc S16x64 32 [1] iota_S16x64_d1_w32) (k0_pay168 (iota Kind.tc S16x64 32 [1] iota_S16x64_d1_w32) (k0_pay161 x1 G (iota Kind.tc S16x64 32 [1] iota_S16x64_d1_w32) (k0_pay117 G)
    (k0_pay118 Q) (k0_pay156 x1 G (iota Kind.tc S16x64 32 [1] iota_S16x64_d1_w32) (k0_pay117 G) (k0_pay118 Q) (k0_pay146 (iota Kind.tc S16x64 32 [1] iota_S16x64_d1_w32) (k0_pay141 (iota Kind.tc S16x64 32 [1] iota_S16x64_d1_w32) (k0_pay136 (iota Kind.tc S16x64 32 [1] iota_S16x64_d1_w32)
    (k0_pay131 x1 (iota Kind.tc S16x64 32 [1] iota_S16x64_d1_w32) (k0_pay118 Q) (k0_pay125 x1 G (iota Kind.tc S16x64 32 [1] iota_S16x64_d1_w32) (k0_pay117 G) (k0_pay118 Q)) (k0_pay126 G (k0_pay117 G)))
    (k0_pay132 x1 G (k0_pay117 G) (k0_pay118 Q))) (k0_pay137 x1 G (k0_pay117 G) (k0_pay118 Q))) (k0_pay142 x1 G
    (k0_pay117 G) (k0_pay118 Q))) (k0_pay151 x1 G (k0_pay117 G) (k0_pay118 Q)))) (k0_pay162 G (k0_pay117 G) (k0_pay118
    Q)) (k0_pay163 x1)) (k0_pay169 x1 G (k0_pay117 G) (k0_pay118 Q))) (k0_pay175 x1 G (k0_pay117 G) (k0_pay118 Q)))
    (k0_pay181 x1 G (k0_pay117 G) (k0_pay118 Q))) (k0_pay190 x1 G (k0_pay117 G) (k0_pay118 Q))) (k0_pay196 G
    (k0_pay117 G))) (k0_pay202 x1 G (k0_pay117 G) (k0_pay118 Q))) (k0_pay207 x1 G (k0_pay117 G) (k0_pay118 Q)))

set_option maxHeartbeats 4000000 in
/-- Their entries. -/
theorem rows1_3_at (x1 G Q : FVec Ideal S64x1024 .f32) (hG : Falls G)
    (r : Fin 16) (l : Fin 64) :
    rows1_3 x1 G Q (ix2 r l)
      = weight (fun t x => Q (ix2 t ⟨768 + x.val, by omega⟩)) (fun t x => x1 (ix2 t ⟨768 + x.val, by omega⟩))
          (fun t x => G (ix2 t ⟨768 + x.val, by omega⟩)) ⟨16 + r.val, by omega⟩ l := by
  pointwise [rows1_3, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166,
    k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186,
    k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206,
    k0_pay207, k0_pay208, k0_pay209, k0_pay210, k0_pay211, k0_pay212]
  simp only [select_le 16 _ _ (by decide), select_eq 16 _ (by decide), select_eq 17 _ (by decide), select_eq 18 _ (by decide), select_eq 19 _ (by decide),
    select_eq 20 _ (by decide), select_eq 21 _ (by decide), select_eq 22 _ (by decide), select_eq 23 _ (by decide),
    select_eq 24 _ (by decide), select_eq 25 _ (by decide), select_eq 26 _ (by decide), select_eq 27 _ (by decide),
    select_eq 28 _ (by decide), select_eq 29 _ (by decide), select_eq 30 _ (by decide), select_eq 31 _ (by decide), select_lt 16 _ (by decide)]
  by_cases hl : l.val ≤ 16 + r.val
  · rw [if_pos hl]
    by_cases hlo : 16 ≤ l.val
    · rcases l with ⟨l, hl64⟩
      have hr := r.isLt
      simp only at hl hlo ⊢
      have hle : l ≤ 16 + r.val := by omega
      have hl' : l < 32 := by omega
      interval_cases l
      all_goals
        simp only [Nat.reduceEqDiff, if_true, if_false, -Fin.reduceFinMk]
        exact weight_own (fun t x => Q (ix2 t ⟨768 + x.val, by omega⟩)) (fun t x => x1 (ix2 t ⟨768 + x.val, by omega⟩))
          (fun t x => G (ix2 t ⟨768 + x.val, by omega⟩)) (t := ⟨16 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨768 + x.val, by omega⟩)) (fun t x => x1 (ix2 t ⟨768 + x.val, by omega⟩))
        (fun t x => G (ix2 t ⟨768 + x.val, by omega⟩)) (t := ⟨16 + r.val, by omega⟩) ⟨15, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

end Cert.Gla

end
-- ==== Proof.Rows2.lean ====
module

public import proofs.«01_k».proof.Proof.Weights
public import proofs.«01_k».proof.Proof.Gen.KernelIdeal.Skeleton
public import Idealize.ShloMosaic.Lib.WordCmp

/-! # The kernel's attention weights, read at an index: the third sub-block

The rows 32 to 47 of the four heads' weight matrices: as the kernel computes them, and their entries. -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- Rows 32 to 47 of head 0's weights. -/
def rows2_0 (x1 G Q : FVec Ideal S64x1024 .f32) : FVec Ideal S16x64 .f32 :=
  (k0_pay305 (iota Kind.tc S16x64 32 [1] iota_S16x64_d1_w32) (iota Kind.tc S16x64 32 [0] iota_S16x64_d0_w32) (k0_pay304 x1 G (iota Kind.tc S16x64 32 [1] iota_S16x64_d1_w32) (k0_pay213 G) (k0_pay214 Q) (k0_pay294 x1 (iota Kind.tc S16x64 32 [1] iota_S16x64_d1_w32) (k0_pay214 Q) (k0_pay288
    x1 G (iota Kind.tc S16x64 32 [1] iota_S16x64_d1_w32) (k0_pay213 G) (k0_pay214 Q) (k0_pay283 x1 G (iota Kind.tc S16x64 32 [1] iota_S16x64_d1_w32) (k0_pay213 G) (k0_pay214 Q) (k0_pay278 x1 G (iota Kind.tc S16x64 32 [1] iota_S16x64_d1_w32)
    (k0_pay213 G) (k0_pay214 Q) (k0_pay272 x1 G (iota Kind.tc S16x64 32 [1] iota_S16x64_d1_w32) (k0_pay213 G) (k0_pay214 Q) (k0_pay261 (iota Kind.tc S16x64 32 [1] iota_S16x64_d1_w32) (k0_pay254 x1 G (iota Kind.tc S16x64 32 [1] iota_S16x64_d1_w32)
    (k0_pay213 G) (k0_pay214 Q) (k0_pay249 x1 G (iota Kind.tc S16x64 32 [1] iota_S16x64_d1_w32) (k0_pay213 G) (k0_pay214 Q) (k0_pay244 x1 G (iota Kind.tc S16x64 32 [1] iota_S16x64_d1_w32) (k0_pay213 G)
    (k0_pay214 Q) (k0_pay239 x1 G (iota Kind.tc S16x64 32 [1] iota_S16x64_d1_w32) (k0_pay213 G) (k0_pay214 Q) (k0_pay234 x1 G (iota Kind.tc S16x64 32 [1] iota_S16x64_d1_w32) (k0_pay213 G) (k0_pay214 Q)
    (k0_pay224 x1 (iota Kind.tc S16x64 32 [1] iota_S16x64_d1_w32) (k0_pay214 Q) (k0_pay218 x1 G (iota Kind.tc S16x64 32 [1] iota_S16x64_d1_w32) (k0_pay213 G) (k0_pay214 Q)) (k0_pay222 G (k0_pay213 G)))
    (k0_pay229 x1 G (k0_pay213 G) (k0_pay214 Q))))))) (k0_pay258 G (k0_pay213 G) (k0_pay214 Q)) (k0_pay259 x1))
    (k0_pay266 x1 G (k0_pay213 G) (k0_pay214 Q)) (k0_pay267 (iota Kind.tc S16x64 32 [1] iota_S16x64_d1_w32)))))) (k0_pay292 G (k0_pay213 G))) (k0_pay299 x1 G
    (k0_pay213 G) (k0_pay214 Q))))

set_option maxHeartbeats 4000000 in
/-- Their entries. -/
theorem rows2_0_at (x1 G Q : FVec Ideal S64x1024 .f32) (hG : Falls G)
    (r : Fin 16) (l : Fin 64) :
    rows2_0 x1 G Q (ix2 r l)
      = weight (fun t x => Q (ix2 t ⟨x.val, by omega⟩)) (fun t x => x1 (ix2 t ⟨x.val, by omega⟩))
          (fun t x => G (ix2 t ⟨x.val, by omega⟩)) ⟨32 + r.val, by omega⟩ l := by
  pointwise [rows2_0, k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302,
    k0_pay303, k0_pay304, k0_pay305, k0_pay306, k0_pay307, k0_pay308]
  simp only [select_le 32 _ _ (by decide), select_eq 32 _ (by decide), select_eq 33 _ (by decide), select_eq 34 _ (by decide), select_eq 35 _ (by decide),
    select_eq 36 _ (by decide), select_eq 37 _ (by decide), select_eq 38 _ (by decide), select_eq 39 _ (by decide),
    select_eq 40 _ (by decide), select_eq 41 _ (by decide), select_eq 42 _ (by decide), select_eq 43 _ (by decide),
    select_eq 44 _ (by decide), select_eq 45 _ (by decide), select_eq 46 _ (by decide), select_eq 47 _ (by decide), select_lt 32 _ (by decide)]
  by_cases hl : l.val ≤ 32 + r.val
  · rw [if_pos hl]
    by_cases hlo : 32 ≤ l.val
    · rcases l with ⟨l, hl64⟩
      have hr := r.isLt
      simp only at hl hlo ⊢
      have hle : l ≤ 32 + r.val := by omega
      have hl' : l < 48 := by omega
      interval_cases l
      all_goals
        simp only [Nat.reduceEqDiff, if_true, if_false, -Fin.reduceFinMk]
        exact weight_own (fun t x => Q (ix2 t ⟨x.val, by omega⟩)) (fun t x => x1 (ix2 t ⟨x.val, by omega⟩))
          (fun t x => G (ix2 t ⟨x.val, by omega⟩)) (t := ⟨32 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨x.val, by omega⟩)) (fun t x => x1 (ix2 t ⟨x.val, by omega⟩))
        (fun t x => G (ix2 t ⟨x.val, by omega⟩)) (t := ⟨32 + r.val, by omega⟩) ⟨31, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 32 to 47 of head 1's weights. -/
def rows2_1 (x1 G Q : FVec Ideal S64x1024 .f32) : FVec Ideal S16x64 .f32 :=
  (k0_pay306 (iota Kind.tc S16x64 32 [1] iota_S16x64_d1_w32) (iota Kind.tc S16x64 32 [0] iota_S16x64_d0_w32) (k0_pay300 (iota Kind.tc S16x64 32 [1] iota_S16x64_d1_w32) (k0_pay295 x1 (iota Kind.tc S16x64 32 [1] iota_S16x64_d1_w32) (k0_pay214 Q) (k0_pay289 x1 G (iota Kind.tc S16x64 32 [1] iota_S16x64_d1_w32) (k0_pay213 G)
    (k0_pay214 Q) (k0_pay284 x1 G (iota Kind.tc S16x64 32 [1] iota_S16x64_d1_w32) (k0_pay213 G) (k0_pay214 Q) (k0_pay279 x1 G (iota Kind.tc S16x64 32 [1] iota_S16x64_d1_w32) (k0_pay213 G) (k0_pay214 Q)
    (k0_pay268 (iota Kind.tc S16x64 32 [1] iota_S16x64_d1_w32) (k0_pay262 (iota Kind.tc S16x64 32 [1] iota_S16x64_d1_w32) (k0_pay255 x1 G (iota Kind.tc S16x64 32 [1] iota_S16x64_d1_w32) (k0_pay213 G) (k0_pay214 Q) (k0_pay250 x1 G (iota Kind.tc S16x64 32 [1] iota_S16x64_d1_w32) (k0_pay213
    G) (k0_pay214 Q) (k0_pay245 x1 G (iota Kind.tc S16x64 32 [1] iota_S16x64_d1_w32) (k0_pay213 G) (k0_pay214 Q) (k0_pay240 x1 G (iota Kind.tc S16x64 32 [1] iota_S16x64_d1_w32) (k0_pay213 G) (k0_pay214 Q)
    (k0_pay230 (iota Kind.tc S16x64 32 [1] iota_S16x64_d1_w32) (k0_pay225 x1 (iota Kind.tc S16x64 32 [1] iota_S16x64_d1_w32) (k0_pay214 Q) (k0_pay219 x1 G (iota Kind.tc S16x64 32 [1] iota_S16x64_d1_w32) (k0_pay213 G) (k0_pay214 Q)) (k0_pay222 G
    (k0_pay213 G))) (k0_pay228 x1 G (k0_pay213 G) (k0_pay214 Q))) (k0_pay235 x1 G (k0_pay213 G) (k0_pay214 Q))))))
    (k0_pay258 G (k0_pay213 G) (k0_pay214 Q)) (k0_pay259 x1)) (k0_pay265 x1 G (k0_pay213 G) (k0_pay214 Q))) (k0_pay273
    x1 G (k0_pay213 G) (k0_pay214 Q)) k0_pay274))) (k0_pay292 G (k0_pay213 G))) (k0_pay298 x1 G (k0_pay213 G)
    (k0_pay214 Q))) (k0_pay303 x1 G (k0_pay213 G) (k0_pay214 Q)))

set_option maxHeartbeats 4000000 in
/-- Their entries. -/
theorem rows2_1_at (x1 G Q : FVec Ideal S64x1024 .f32) (hG : Falls G)
    (r : Fin 16) (l : Fin 64) :
    rows2_1 x1 G Q (ix2 r l)
      = weight (fun t x => Q (ix2 t ⟨256 + x.val, by omega⟩)) (fun t x => x1 (ix2 t ⟨256 + x.val, by omega⟩))
          (fun t x => G (ix2 t ⟨256 + x.val, by omega⟩)) ⟨32 + r.val, by omega⟩ l := by
  pointwise [rows2_1, k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302,
    k0_pay303, k0_pay304, k0_pay305, k0_pay306, k0_pay307, k0_pay308]
  simp only [select_le 32 _ _ (by decide), select_eq 32 _ (by decide), select_eq 33 _ (by decide), select_eq 34 _ (by decide), select_eq 35 _ (by decide),
    select_eq 36 _ (by decide), select_eq 37 _ (by decide), select_eq 38 _ (by decide), select_eq 39 _ (by decide),
    select_eq 40 _ (by decide), select_eq 41 _ (by decide), select_eq 42 _ (by decide), select_eq 43 _ (by decide),
    select_eq 44 _ (by decide), select_eq 45 _ (by decide), select_eq 46 _ (by decide), select_eq 47 _ (by decide), select_lt 32 _ (by decide)]
  by_cases hl : l.val ≤ 32 + r.val
  · rw [if_pos hl]
    by_cases hlo : 32 ≤ l.val
    · rcases l with ⟨l, hl64⟩
      have hr := r.isLt
      simp only at hl hlo ⊢
      have hle : l ≤ 32 + r.val := by omega
      have hl' : l < 48 := by omega
      interval_cases l
      all_goals
        simp only [Nat.reduceEqDiff, if_true, if_false, -Fin.reduceFinMk]
        exact weight_own (fun t x => Q (ix2 t ⟨256 + x.val, by omega⟩)) (fun t x => x1 (ix2 t ⟨256 + x.val, by omega⟩))
          (fun t x => G (ix2 t ⟨256 + x.val, by omega⟩)) (t := ⟨32 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨256 + x.val, by omega⟩)) (fun t x => x1 (ix2 t ⟨256 + x.val, by omega⟩))
        (fun t x => G (ix2 t ⟨256 + x.val, by omega⟩)) (t := ⟨32 + r.val, by omega⟩) ⟨31, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 32 to 47 of head 2's weights. -/
def rows2_2 (x1 G Q : FVec Ideal S64x1024 .f32) : FVec Ideal S16x64 .f32 :=
  (k0_pay307 (iota Kind.tc S16x64 32 [1] iota_S16x64_d1_w32) (iota Kind.tc S16x64 32 [0] iota_S16x64_d0_w32) (k0_pay301 (iota Kind.tc S16x64 32 [1] iota_S16x64_d1_w32) (k0_pay296 x1 (iota Kind.tc S16x64 32 [1] iota_S16x64_d1_w32) (k0_pay214 Q) (k0_pay290 x1 G (iota Kind.tc S16x64 32 [1] iota_S16x64_d1_w32) (k0_pay213 G)
    (k0_pay214 Q) (k0_pay285 x1 G (iota Kind.tc S16x64 32 [1] iota_S16x64_d1_w32) (k0_pay213 G) (k0_pay214 Q) (k0_pay275 (iota Kind.tc S16x64 32 [1] iota_S16x64_d1_w32) (k0_pay269 (iota Kind.tc S16x64 32 [1] iota_S16x64_d1_w32) (k0_pay263 (iota Kind.tc S16x64 32 [1] iota_S16x64_d1_w32)
    (k0_pay256 x1 G (iota Kind.tc S16x64 32 [1] iota_S16x64_d1_w32) (k0_pay213 G) (k0_pay214 Q) (k0_pay251 x1 G (iota Kind.tc S16x64 32 [1] iota_S16x64_d1_w32) (k0_pay213 G) (k0_pay214 Q) (k0_pay246 x1 G
    (iota Kind.tc S16x64 32 [1] iota_S16x64_d1_w32) (k0_pay213 G) (k0_pay214 Q) (k0_pay236 (iota Kind.tc S16x64 32 [1] iota_S16x64_d1_w32) (k0_pay231 (iota Kind.tc S16x64 32 [1] iota_S16x64_d1_w32) (k0_pay226 x1 (iota Kind.tc S16x64 32 [1] iota_S16x64_d1_w32) (k0_pay214 Q) (k0_pay220 x1 G
    (iota Kind.tc S16x64 32 [1] iota_S16x64_d1_w32) (k0_pay213 G) (k0_pay214 Q)) (k0_pay222 G (k0_pay213 G))) (k0_pay228 x1 G (k0_pay213 G) (k0_pay214 Q)))
    (k0_pay233 x1 G (k0_pay213 G) (k0_pay214 Q))) (k0_pay241 x1 G (k0_pay213 G) (k0_pay214 Q))))) (k0_pay258 G
    (k0_pay213 G) (k0_pay214 Q)) (k0_pay259 x1)) (k0_pay265 x1 G (k0_pay213 G) (k0_pay214 Q))) (k0_pay271 x1 G
    (k0_pay213 G) (k0_pay214 Q))) (k0_pay280 x1 G (k0_pay213 G) (k0_pay214 Q)) 42#32)) (k0_pay292 G (k0_pay213 G)))
    (k0_pay298 x1 G (k0_pay213 G) (k0_pay214 Q))) (k0_pay303 x1 G (k0_pay213 G) (k0_pay214 Q)))

set_option maxHeartbeats 4000000 in
/-- Their entries. -/
theorem rows2_2_at (x1 G Q : FVec Ideal S64x1024 .f32) (hG : Falls G)
    (r : Fin 16) (l : Fin 64) :
    rows2_2 x1 G Q (ix2 r l)
      = weight (fun t x => Q (ix2 t ⟨512 + x.val, by omega⟩)) (fun t x => x1 (ix2 t ⟨512 + x.val, by omega⟩))
          (fun t x => G (ix2 t ⟨512 + x.val, by omega⟩)) ⟨32 + r.val, by omega⟩ l := by
  pointwise [rows2_2, k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302,
    k0_pay303, k0_pay304, k0_pay305, k0_pay306, k0_pay307, k0_pay308]
  simp only [select_le 32 _ _ (by decide), select_eq 32 _ (by decide), select_eq 33 _ (by decide), select_eq 34 _ (by decide), select_eq 35 _ (by decide),
    select_eq 36 _ (by decide), select_eq 37 _ (by decide), select_eq 38 _ (by decide), select_eq 39 _ (by decide),
    select_eq 40 _ (by decide), select_eq 41 _ (by decide), select_eq 42 _ (by decide), select_eq 43 _ (by decide),
    select_eq 44 _ (by decide), select_eq 45 _ (by decide), select_eq 46 _ (by decide), select_eq 47 _ (by decide), select_lt 32 _ (by decide)]
  by_cases hl : l.val ≤ 32 + r.val
  · rw [if_pos hl]
    by_cases hlo : 32 ≤ l.val
    · rcases l with ⟨l, hl64⟩
      have hr := r.isLt
      simp only at hl hlo ⊢
      have hle : l ≤ 32 + r.val := by omega
      have hl' : l < 48 := by omega
      interval_cases l
      all_goals
        simp only [Nat.reduceEqDiff, if_true, if_false, -Fin.reduceFinMk]
        exact weight_own (fun t x => Q (ix2 t ⟨512 + x.val, by omega⟩)) (fun t x => x1 (ix2 t ⟨512 + x.val, by omega⟩))
          (fun t x => G (ix2 t ⟨512 + x.val, by omega⟩)) (t := ⟨32 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨512 + x.val, by omega⟩)) (fun t x => x1 (ix2 t ⟨512 + x.val, by omega⟩))
        (fun t x => G (ix2 t ⟨512 + x.val, by omega⟩)) (t := ⟨32 + r.val, by omega⟩) ⟨31, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 32 to 47 of head 3's weights. -/
def rows2_3 (x1 G Q : FVec Ideal S64x1024 .f32) : FVec Ideal S16x64 .f32 :=
  (k0_pay308 (iota Kind.tc S16x64 32 [1] iota_S16x64_d1_w32) (iota Kind.tc S16x64 32 [0] iota_S16x64_d0_w32) (k0_pay302 (iota Kind.tc S16x64 32 [1] iota_S16x64_d1_w32) (k0_pay297 x1 (iota Kind.tc S16x64 32 [1] iota_S16x64_d1_w32) (k0_pay214 Q) (k0_pay291 x1 G (iota Kind.tc S16x64 32 [1] iota_S16x64_d1_w32) (k0_pay213 G)
    (k0_pay214 Q) (k0_pay281 (iota Kind.tc S16x64 32 [1] iota_S16x64_d1_w32) (k0_pay276 (iota Kind.tc S16x64 32 [1] iota_S16x64_d1_w32) (k0_pay270 (iota Kind.tc S16x64 32 [1] iota_S16x64_d1_w32) (k0_pay264 (iota Kind.tc S16x64 32 [1] iota_S16x64_d1_w32) (k0_pay257 x1 G (iota Kind.tc S16x64 32 [1] iota_S16x64_d1_w32) (k0_pay213 G)
    (k0_pay214 Q) (k0_pay252 x1 G (iota Kind.tc S16x64 32 [1] iota_S16x64_d1_w32) (k0_pay213 G) (k0_pay214 Q) (k0_pay242 (iota Kind.tc S16x64 32 [1] iota_S16x64_d1_w32) (k0_pay237 (iota Kind.tc S16x64 32 [1] iota_S16x64_d1_w32) (k0_pay232 (iota Kind.tc S16x64 32 [1] iota_S16x64_d1_w32)
    (k0_pay227 x1 (iota Kind.tc S16x64 32 [1] iota_S16x64_d1_w32) (k0_pay214 Q) (k0_pay221 x1 G (iota Kind.tc S16x64 32 [1] iota_S16x64_d1_w32) (k0_pay213 G) (k0_pay214 Q)) (k0_pay222 G (k0_pay213 G)))
    (k0_pay228 x1 G (k0_pay213 G) (k0_pay214 Q))) (k0_pay233 x1 G (k0_pay213 G) (k0_pay214 Q))) (k0_pay238 x1 G
    (k0_pay213 G) (k0_pay214 Q))) (k0_pay247 x1 G (k0_pay213 G) (k0_pay214 Q)))) (k0_pay258 G (k0_pay213 G) (k0_pay214
    Q)) (k0_pay259 x1)) (k0_pay265 x1 G (k0_pay213 G) (k0_pay214 Q))) (k0_pay271 x1 G (k0_pay213 G) (k0_pay214 Q)))
    (k0_pay277 x1 G (k0_pay213 G) (k0_pay214 Q))) (k0_pay286 x1 G (k0_pay213 G) (k0_pay214 Q))) (k0_pay292 G
    (k0_pay213 G))) (k0_pay298 x1 G (k0_pay213 G) (k0_pay214 Q))) (k0_pay303 x1 G (k0_pay213 G) (k0_pay214 Q)))

set_option maxHeartbeats 4000000 in
/-- Their entries. -/
theorem rows2_3_at (x1 G Q : FVec Ideal S64x1024 .f32) (hG : Falls G)
    (r : Fin 16) (l : Fin 64) :
    rows2_3 x1 G Q (ix2 r l)
      = weight (fun t x => Q (ix2 t ⟨768 + x.val, by omega⟩)) (fun t x => x1 (ix2 t ⟨768 + x.val, by omega⟩))
          (fun t x => G (ix2 t ⟨768 + x.val, by omega⟩)) ⟨32 + r.val, by omega⟩ l := by
  pointwise [rows2_3, k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302,
    k0_pay303, k0_pay304, k0_pay305, k0_pay306, k0_pay307, k0_pay308]
  simp only [select_le 32 _ _ (by decide), select_eq 32 _ (by decide), select_eq 33 _ (by decide), select_eq 34 _ (by decide), select_eq 35 _ (by decide),
    select_eq 36 _ (by decide), select_eq 37 _ (by decide), select_eq 38 _ (by decide), select_eq 39 _ (by decide),
    select_eq 40 _ (by decide), select_eq 41 _ (by decide), select_eq 42 _ (by decide), select_eq 43 _ (by decide),
    select_eq 44 _ (by decide), select_eq 45 _ (by decide), select_eq 46 _ (by decide), select_eq 47 _ (by decide), select_lt 32 _ (by decide)]
  by_cases hl : l.val ≤ 32 + r.val
  · rw [if_pos hl]
    by_cases hlo : 32 ≤ l.val
    · rcases l with ⟨l, hl64⟩
      have hr := r.isLt
      simp only at hl hlo ⊢
      have hle : l ≤ 32 + r.val := by omega
      have hl' : l < 48 := by omega
      interval_cases l
      all_goals
        simp only [Nat.reduceEqDiff, if_true, if_false, -Fin.reduceFinMk]
        exact weight_own (fun t x => Q (ix2 t ⟨768 + x.val, by omega⟩)) (fun t x => x1 (ix2 t ⟨768 + x.val, by omega⟩))
          (fun t x => G (ix2 t ⟨768 + x.val, by omega⟩)) (t := ⟨32 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨768 + x.val, by omega⟩)) (fun t x => x1 (ix2 t ⟨768 + x.val, by omega⟩))
        (fun t x => G (ix2 t ⟨768 + x.val, by omega⟩)) (t := ⟨32 + r.val, by omega⟩) ⟨31, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

end Cert.Gla

end
-- ==== Proof.Rows3.lean ====
module

public import proofs.«01_k».proof.Proof.Weights
public import proofs.«01_k».proof.Proof.Gen.KernelIdeal.Skeleton
public import Idealize.ShloMosaic.Lib.WordCmp

/-! # The kernel's attention weights, read at an index: the fourth sub-block

The rows 48 to 63 of the four heads' weight matrices: as the kernel computes them, and their entries. -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- Rows 48 to 63 of head 0's weights. -/
def rows3_0 (x1 G Q : FVec Ideal S64x1024 .f32) : FVec Ideal S16x64 .f32 :=
  (k0_pay401 (iota Kind.tc S16x64 32 [1] iota_S16x64_d1_w32) (iota Kind.tc S16x64 32 [0] iota_S16x64_d0_w32) (k0_pay400 x1 G (iota Kind.tc S16x64 32 [1] iota_S16x64_d1_w32) (k0_pay309 G) (k0_pay310 Q) (k0_pay390 x1 (iota Kind.tc S16x64 32 [1] iota_S16x64_d1_w32) (k0_pay310 Q) (k0_pay384
    x1 G (iota Kind.tc S16x64 32 [1] iota_S16x64_d1_w32) (k0_pay309 G) (k0_pay310 Q) (k0_pay379 x1 G (iota Kind.tc S16x64 32 [1] iota_S16x64_d1_w32) (k0_pay309 G) (k0_pay310 Q) (k0_pay374 x1 G (iota Kind.tc S16x64 32 [1] iota_S16x64_d1_w32)
    (k0_pay309 G) (k0_pay310 Q) (k0_pay368 x1 G (iota Kind.tc S16x64 32 [1] iota_S16x64_d1_w32) (k0_pay309 G) (k0_pay310 Q) (k0_pay357 (iota Kind.tc S16x64 32 [1] iota_S16x64_d1_w32) (k0_pay350 x1 G (iota Kind.tc S16x64 32 [1] iota_S16x64_d1_w32)
    (k0_pay309 G) (k0_pay310 Q) (k0_pay345 x1 G (iota Kind.tc S16x64 32 [1] iota_S16x64_d1_w32) (k0_pay309 G) (k0_pay310 Q) (k0_pay340 x1 G (iota Kind.tc S16x64 32 [1] iota_S16x64_d1_w32) (k0_pay309 G)
    (k0_pay310 Q) (k0_pay335 x1 G (iota Kind.tc S16x64 32 [1] iota_S16x64_d1_w32) (k0_pay309 G) (k0_pay310 Q) (k0_pay330 x1 G (iota Kind.tc S16x64 32 [1] iota_S16x64_d1_w32) (k0_pay309 G) (k0_pay310 Q)
    (k0_pay320 x1 (iota Kind.tc S16x64 32 [1] iota_S16x64_d1_w32) (k0_pay310 Q) (k0_pay314 x1 G (iota Kind.tc S16x64 32 [1] iota_S16x64_d1_w32) (k0_pay309 G) (k0_pay310 Q)) (k0_pay318 G (k0_pay309 G)))
    (k0_pay325 x1 G (k0_pay309 G) (k0_pay310 Q))))))) (k0_pay354 G (k0_pay309 G) (k0_pay310 Q)) (k0_pay355 x1))
    (k0_pay362 x1 G (k0_pay309 G) (k0_pay310 Q)) (k0_pay363 (iota Kind.tc S16x64 32 [1] iota_S16x64_d1_w32)))))) (k0_pay388 G (k0_pay309 G))) (k0_pay395 x1 G
    (k0_pay309 G) (k0_pay310 Q))))

set_option maxHeartbeats 4000000 in
/-- Their entries. -/
theorem rows3_0_at (x1 G Q : FVec Ideal S64x1024 .f32) (hG : Falls G)
    (r : Fin 16) (l : Fin 64) :
    rows3_0 x1 G Q (ix2 r l)
      = weight (fun t x => Q (ix2 t ⟨x.val, by omega⟩)) (fun t x => x1 (ix2 t ⟨x.val, by omega⟩))
          (fun t x => G (ix2 t ⟨x.val, by omega⟩)) ⟨48 + r.val, by omega⟩ l := by
  pointwise [rows3_0, k0_pay309, k0_pay310, k0_pay311, k0_pay312, k0_pay313, k0_pay314, k0_pay315, k0_pay316, k0_pay317, k0_pay318,
    k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338,
    k0_pay339, k0_pay340, k0_pay341, k0_pay342, k0_pay343, k0_pay344, k0_pay345, k0_pay346, k0_pay347, k0_pay348,
    k0_pay349, k0_pay350, k0_pay351, k0_pay352, k0_pay353, k0_pay354, k0_pay355, k0_pay356, k0_pay357, k0_pay358,
    k0_pay359, k0_pay360, k0_pay361, k0_pay362, k0_pay363, k0_pay364, k0_pay365, k0_pay366, k0_pay367, k0_pay368,
    k0_pay369, k0_pay370, k0_pay371, k0_pay372, k0_pay373, k0_pay374, k0_pay375, k0_pay376, k0_pay377, k0_pay378,
    k0_pay379, k0_pay380, k0_pay381, k0_pay382, k0_pay383, k0_pay384, k0_pay385, k0_pay386, k0_pay387, k0_pay388,
    k0_pay389, k0_pay390, k0_pay391, k0_pay392, k0_pay393, k0_pay394, k0_pay395, k0_pay396, k0_pay397, k0_pay398,
    k0_pay399, k0_pay400, k0_pay401, k0_pay402, k0_pay403, k0_pay404]
  simp only [select_le 48 _ _ (by decide), select_eq 48 _ (by decide), select_eq 49 _ (by decide), select_eq 50 _ (by decide), select_eq 51 _ (by decide),
    select_eq 52 _ (by decide), select_eq 53 _ (by decide), select_eq 54 _ (by decide), select_eq 55 _ (by decide),
    select_eq 56 _ (by decide), select_eq 57 _ (by decide), select_eq 58 _ (by decide), select_eq 59 _ (by decide),
    select_eq 60 _ (by decide), select_eq 61 _ (by decide), select_eq 62 _ (by decide), select_eq 63 _ (by decide), select_lt 48 _ (by decide)]
  by_cases hl : l.val ≤ 48 + r.val
  · rw [if_pos hl]
    by_cases hlo : 48 ≤ l.val
    · rcases l with ⟨l, hl64⟩
      have hr := r.isLt
      simp only at hl hlo ⊢
      have hle : l ≤ 48 + r.val := by omega
      have hl' : l < 64 := by omega
      interval_cases l
      all_goals
        simp only [Nat.reduceEqDiff, if_true, if_false, -Fin.reduceFinMk]
        exact weight_own (fun t x => Q (ix2 t ⟨x.val, by omega⟩)) (fun t x => x1 (ix2 t ⟨x.val, by omega⟩))
          (fun t x => G (ix2 t ⟨x.val, by omega⟩)) (t := ⟨48 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨x.val, by omega⟩)) (fun t x => x1 (ix2 t ⟨x.val, by omega⟩))
        (fun t x => G (ix2 t ⟨x.val, by omega⟩)) (t := ⟨48 + r.val, by omega⟩) ⟨47, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 48 to 63 of head 1's weights. -/
def rows3_1 (x1 G Q : FVec Ideal S64x1024 .f32) : FVec Ideal S16x64 .f32 :=
  (k0_pay402 (iota Kind.tc S16x64 32 [1] iota_S16x64_d1_w32) (iota Kind.tc S16x64 32 [0] iota_S16x64_d0_w32) (k0_pay396 (iota Kind.tc S16x64 32 [1] iota_S16x64_d1_w32) (k0_pay391 x1 (iota Kind.tc S16x64 32 [1] iota_S16x64_d1_w32) (k0_pay310 Q) (k0_pay385 x1 G (iota Kind.tc S16x64 32 [1] iota_S16x64_d1_w32) (k0_pay309 G)
    (k0_pay310 Q) (k0_pay380 x1 G (iota Kind.tc S16x64 32 [1] iota_S16x64_d1_w32) (k0_pay309 G) (k0_pay310 Q) (k0_pay375 x1 G (iota Kind.tc S16x64 32 [1] iota_S16x64_d1_w32) (k0_pay309 G) (k0_pay310 Q)
    (k0_pay364 (iota Kind.tc S16x64 32 [1] iota_S16x64_d1_w32) (k0_pay358 (iota Kind.tc S16x64 32 [1] iota_S16x64_d1_w32) (k0_pay351 x1 G (iota Kind.tc S16x64 32 [1] iota_S16x64_d1_w32) (k0_pay309 G) (k0_pay310 Q) (k0_pay346 x1 G (iota Kind.tc S16x64 32 [1] iota_S16x64_d1_w32) (k0_pay309
    G) (k0_pay310 Q) (k0_pay341 x1 G (iota Kind.tc S16x64 32 [1] iota_S16x64_d1_w32) (k0_pay309 G) (k0_pay310 Q) (k0_pay336 x1 G (iota Kind.tc S16x64 32 [1] iota_S16x64_d1_w32) (k0_pay309 G) (k0_pay310 Q)
    (k0_pay326 (iota Kind.tc S16x64 32 [1] iota_S16x64_d1_w32) (k0_pay321 x1 (iota Kind.tc S16x64 32 [1] iota_S16x64_d1_w32) (k0_pay310 Q) (k0_pay315 x1 G (iota Kind.tc S16x64 32 [1] iota_S16x64_d1_w32) (k0_pay309 G) (k0_pay310 Q)) (k0_pay318 G
    (k0_pay309 G))) (k0_pay324 x1 G (k0_pay309 G) (k0_pay310 Q))) (k0_pay331 x1 G (k0_pay309 G) (k0_pay310 Q))))))
    (k0_pay354 G (k0_pay309 G) (k0_pay310 Q)) (k0_pay355 x1)) (k0_pay361 x1 G (k0_pay309 G) (k0_pay310 Q))) (k0_pay369
    x1 G (k0_pay309 G) (k0_pay310 Q)) k0_pay370))) (k0_pay388 G (k0_pay309 G))) (k0_pay394 x1 G (k0_pay309 G)
    (k0_pay310 Q))) (k0_pay399 x1 G (k0_pay309 G) (k0_pay310 Q)))

set_option maxHeartbeats 4000000 in
/-- Their entries. -/
theorem rows3_1_at (x1 G Q : FVec Ideal S64x1024 .f32) (hG : Falls G)
    (r : Fin 16) (l : Fin 64) :
    rows3_1 x1 G Q (ix2 r l)
      = weight (fun t x => Q (ix2 t ⟨256 + x.val, by omega⟩)) (fun t x => x1 (ix2 t ⟨256 + x.val, by omega⟩))
          (fun t x => G (ix2 t ⟨256 + x.val, by omega⟩)) ⟨48 + r.val, by omega⟩ l := by
  pointwise [rows3_1, k0_pay309, k0_pay310, k0_pay311, k0_pay312, k0_pay313, k0_pay314, k0_pay315, k0_pay316, k0_pay317, k0_pay318,
    k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338,
    k0_pay339, k0_pay340, k0_pay341, k0_pay342, k0_pay343, k0_pay344, k0_pay345, k0_pay346, k0_pay347, k0_pay348,
    k0_pay349, k0_pay350, k0_pay351, k0_pay352, k0_pay353, k0_pay354, k0_pay355, k0_pay356, k0_pay357, k0_pay358,
    k0_pay359, k0_pay360, k0_pay361, k0_pay362, k0_pay363, k0_pay364, k0_pay365, k0_pay366, k0_pay367, k0_pay368,
    k0_pay369, k0_pay370, k0_pay371, k0_pay372, k0_pay373, k0_pay374, k0_pay375, k0_pay376, k0_pay377, k0_pay378,
    k0_pay379, k0_pay380, k0_pay381, k0_pay382, k0_pay383, k0_pay384, k0_pay385, k0_pay386, k0_pay387, k0_pay388,
    k0_pay389, k0_pay390, k0_pay391, k0_pay392, k0_pay393, k0_pay394, k0_pay395, k0_pay396, k0_pay397, k0_pay398,
    k0_pay399, k0_pay400, k0_pay401, k0_pay402, k0_pay403, k0_pay404]
  simp only [select_le 48 _ _ (by decide), select_eq 48 _ (by decide), select_eq 49 _ (by decide), select_eq 50 _ (by decide), select_eq 51 _ (by decide),
    select_eq 52 _ (by decide), select_eq 53 _ (by decide), select_eq 54 _ (by decide), select_eq 55 _ (by decide),
    select_eq 56 _ (by decide), select_eq 57 _ (by decide), select_eq 58 _ (by decide), select_eq 59 _ (by decide),
    select_eq 60 _ (by decide), select_eq 61 _ (by decide), select_eq 62 _ (by decide), select_eq 63 _ (by decide), select_lt 48 _ (by decide)]
  by_cases hl : l.val ≤ 48 + r.val
  · rw [if_pos hl]
    by_cases hlo : 48 ≤ l.val
    · rcases l with ⟨l, hl64⟩
      have hr := r.isLt
      simp only at hl hlo ⊢
      have hle : l ≤ 48 + r.val := by omega
      have hl' : l < 64 := by omega
      interval_cases l
      all_goals
        simp only [Nat.reduceEqDiff, if_true, if_false, -Fin.reduceFinMk]
        exact weight_own (fun t x => Q (ix2 t ⟨256 + x.val, by omega⟩)) (fun t x => x1 (ix2 t ⟨256 + x.val, by omega⟩))
          (fun t x => G (ix2 t ⟨256 + x.val, by omega⟩)) (t := ⟨48 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨256 + x.val, by omega⟩)) (fun t x => x1 (ix2 t ⟨256 + x.val, by omega⟩))
        (fun t x => G (ix2 t ⟨256 + x.val, by omega⟩)) (t := ⟨48 + r.val, by omega⟩) ⟨47, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 48 to 63 of head 2's weights. -/
def rows3_2 (x1 G Q : FVec Ideal S64x1024 .f32) : FVec Ideal S16x64 .f32 :=
  (k0_pay403 (iota Kind.tc S16x64 32 [1] iota_S16x64_d1_w32) (iota Kind.tc S16x64 32 [0] iota_S16x64_d0_w32) (k0_pay397 (iota Kind.tc S16x64 32 [1] iota_S16x64_d1_w32) (k0_pay392 x1 (iota Kind.tc S16x64 32 [1] iota_S16x64_d1_w32) (k0_pay310 Q) (k0_pay386 x1 G (iota Kind.tc S16x64 32 [1] iota_S16x64_d1_w32) (k0_pay309 G)
    (k0_pay310 Q) (k0_pay381 x1 G (iota Kind.tc S16x64 32 [1] iota_S16x64_d1_w32) (k0_pay309 G) (k0_pay310 Q) (k0_pay371 (iota Kind.tc S16x64 32 [1] iota_S16x64_d1_w32) (k0_pay365 (iota Kind.tc S16x64 32 [1] iota_S16x64_d1_w32) (k0_pay359 (iota Kind.tc S16x64 32 [1] iota_S16x64_d1_w32)
    (k0_pay352 x1 G (iota Kind.tc S16x64 32 [1] iota_S16x64_d1_w32) (k0_pay309 G) (k0_pay310 Q) (k0_pay347 x1 G (iota Kind.tc S16x64 32 [1] iota_S16x64_d1_w32) (k0_pay309 G) (k0_pay310 Q) (k0_pay342 x1 G
    (iota Kind.tc S16x64 32 [1] iota_S16x64_d1_w32) (k0_pay309 G) (k0_pay310 Q) (k0_pay332 (iota Kind.tc S16x64 32 [1] iota_S16x64_d1_w32) (k0_pay327 (iota Kind.tc S16x64 32 [1] iota_S16x64_d1_w32) (k0_pay322 x1 (iota Kind.tc S16x64 32 [1] iota_S16x64_d1_w32) (k0_pay310 Q) (k0_pay316 x1 G
    (iota Kind.tc S16x64 32 [1] iota_S16x64_d1_w32) (k0_pay309 G) (k0_pay310 Q)) (k0_pay318 G (k0_pay309 G))) (k0_pay324 x1 G (k0_pay309 G) (k0_pay310 Q)))
    (k0_pay329 x1 G (k0_pay309 G) (k0_pay310 Q))) (k0_pay337 x1 G (k0_pay309 G) (k0_pay310 Q))))) (k0_pay354 G
    (k0_pay309 G) (k0_pay310 Q)) (k0_pay355 x1)) (k0_pay361 x1 G (k0_pay309 G) (k0_pay310 Q))) (k0_pay367 x1 G
    (k0_pay309 G) (k0_pay310 Q))) (k0_pay376 x1 G (k0_pay309 G) (k0_pay310 Q)) 58#32)) (k0_pay388 G (k0_pay309 G)))
    (k0_pay394 x1 G (k0_pay309 G) (k0_pay310 Q))) (k0_pay399 x1 G (k0_pay309 G) (k0_pay310 Q)))

set_option maxHeartbeats 4000000 in
/-- Their entries. -/
theorem rows3_2_at (x1 G Q : FVec Ideal S64x1024 .f32) (hG : Falls G)
    (r : Fin 16) (l : Fin 64) :
    rows3_2 x1 G Q (ix2 r l)
      = weight (fun t x => Q (ix2 t ⟨512 + x.val, by omega⟩)) (fun t x => x1 (ix2 t ⟨512 + x.val, by omega⟩))
          (fun t x => G (ix2 t ⟨512 + x.val, by omega⟩)) ⟨48 + r.val, by omega⟩ l := by
  pointwise [rows3_2, k0_pay309, k0_pay310, k0_pay311, k0_pay312, k0_pay313, k0_pay314, k0_pay315, k0_pay316, k0_pay317, k0_pay318,
    k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338,
    k0_pay339, k0_pay340, k0_pay341, k0_pay342, k0_pay343, k0_pay344, k0_pay345, k0_pay346, k0_pay347, k0_pay348,
    k0_pay349, k0_pay350, k0_pay351, k0_pay352, k0_pay353, k0_pay354, k0_pay355, k0_pay356, k0_pay357, k0_pay358,
    k0_pay359, k0_pay360, k0_pay361, k0_pay362, k0_pay363, k0_pay364, k0_pay365, k0_pay366, k0_pay367, k0_pay368,
    k0_pay369, k0_pay370, k0_pay371, k0_pay372, k0_pay373, k0_pay374, k0_pay375, k0_pay376, k0_pay377, k0_pay378,
    k0_pay379, k0_pay380, k0_pay381, k0_pay382, k0_pay383, k0_pay384, k0_pay385, k0_pay386, k0_pay387, k0_pay388,
    k0_pay389, k0_pay390, k0_pay391, k0_pay392, k0_pay393, k0_pay394, k0_pay395, k0_pay396, k0_pay397, k0_pay398,
    k0_pay399, k0_pay400, k0_pay401, k0_pay402, k0_pay403, k0_pay404]
  simp only [select_le 48 _ _ (by decide), select_eq 48 _ (by decide), select_eq 49 _ (by decide), select_eq 50 _ (by decide), select_eq 51 _ (by decide),
    select_eq 52 _ (by decide), select_eq 53 _ (by decide), select_eq 54 _ (by decide), select_eq 55 _ (by decide),
    select_eq 56 _ (by decide), select_eq 57 _ (by decide), select_eq 58 _ (by decide), select_eq 59 _ (by decide),
    select_eq 60 _ (by decide), select_eq 61 _ (by decide), select_eq 62 _ (by decide), select_eq 63 _ (by decide), select_lt 48 _ (by decide)]
  by_cases hl : l.val ≤ 48 + r.val
  · rw [if_pos hl]
    by_cases hlo : 48 ≤ l.val
    · rcases l with ⟨l, hl64⟩
      have hr := r.isLt
      simp only at hl hlo ⊢
      have hle : l ≤ 48 + r.val := by omega
      have hl' : l < 64 := by omega
      interval_cases l
      all_goals
        simp only [Nat.reduceEqDiff, if_true, if_false, -Fin.reduceFinMk]
        exact weight_own (fun t x => Q (ix2 t ⟨512 + x.val, by omega⟩)) (fun t x => x1 (ix2 t ⟨512 + x.val, by omega⟩))
          (fun t x => G (ix2 t ⟨512 + x.val, by omega⟩)) (t := ⟨48 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨512 + x.val, by omega⟩)) (fun t x => x1 (ix2 t ⟨512 + x.val, by omega⟩))
        (fun t x => G (ix2 t ⟨512 + x.val, by omega⟩)) (t := ⟨48 + r.val, by omega⟩) ⟨47, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

/-- Rows 48 to 63 of head 3's weights. -/
def rows3_3 (x1 G Q : FVec Ideal S64x1024 .f32) : FVec Ideal S16x64 .f32 :=
  (k0_pay404 (iota Kind.tc S16x64 32 [1] iota_S16x64_d1_w32) (iota Kind.tc S16x64 32 [0] iota_S16x64_d0_w32) (k0_pay398 (iota Kind.tc S16x64 32 [1] iota_S16x64_d1_w32) (k0_pay393 x1 (iota Kind.tc S16x64 32 [1] iota_S16x64_d1_w32) (k0_pay310 Q) (k0_pay387 x1 G (iota Kind.tc S16x64 32 [1] iota_S16x64_d1_w32) (k0_pay309 G)
    (k0_pay310 Q) (k0_pay377 (iota Kind.tc S16x64 32 [1] iota_S16x64_d1_w32) (k0_pay372 (iota Kind.tc S16x64 32 [1] iota_S16x64_d1_w32) (k0_pay366 (iota Kind.tc S16x64 32 [1] iota_S16x64_d1_w32) (k0_pay360 (iota Kind.tc S16x64 32 [1] iota_S16x64_d1_w32) (k0_pay353 x1 G (iota Kind.tc S16x64 32 [1] iota_S16x64_d1_w32) (k0_pay309 G)
    (k0_pay310 Q) (k0_pay348 x1 G (iota Kind.tc S16x64 32 [1] iota_S16x64_d1_w32) (k0_pay309 G) (k0_pay310 Q) (k0_pay338 (iota Kind.tc S16x64 32 [1] iota_S16x64_d1_w32) (k0_pay333 (iota Kind.tc S16x64 32 [1] iota_S16x64_d1_w32) (k0_pay328 (iota Kind.tc S16x64 32 [1] iota_S16x64_d1_w32)
    (k0_pay323 x1 (iota Kind.tc S16x64 32 [1] iota_S16x64_d1_w32) (k0_pay310 Q) (k0_pay317 x1 G (iota Kind.tc S16x64 32 [1] iota_S16x64_d1_w32) (k0_pay309 G) (k0_pay310 Q)) (k0_pay318 G (k0_pay309 G)))
    (k0_pay324 x1 G (k0_pay309 G) (k0_pay310 Q))) (k0_pay329 x1 G (k0_pay309 G) (k0_pay310 Q))) (k0_pay334 x1 G
    (k0_pay309 G) (k0_pay310 Q))) (k0_pay343 x1 G (k0_pay309 G) (k0_pay310 Q)))) (k0_pay354 G (k0_pay309 G) (k0_pay310
    Q)) (k0_pay355 x1)) (k0_pay361 x1 G (k0_pay309 G) (k0_pay310 Q))) (k0_pay367 x1 G (k0_pay309 G) (k0_pay310 Q)))
    (k0_pay373 x1 G (k0_pay309 G) (k0_pay310 Q))) (k0_pay382 x1 G (k0_pay309 G) (k0_pay310 Q))) (k0_pay388 G
    (k0_pay309 G))) (k0_pay394 x1 G (k0_pay309 G) (k0_pay310 Q))) (k0_pay399 x1 G (k0_pay309 G) (k0_pay310 Q)))

set_option maxHeartbeats 4000000 in
/-- Their entries. -/
theorem rows3_3_at (x1 G Q : FVec Ideal S64x1024 .f32) (hG : Falls G)
    (r : Fin 16) (l : Fin 64) :
    rows3_3 x1 G Q (ix2 r l)
      = weight (fun t x => Q (ix2 t ⟨768 + x.val, by omega⟩)) (fun t x => x1 (ix2 t ⟨768 + x.val, by omega⟩))
          (fun t x => G (ix2 t ⟨768 + x.val, by omega⟩)) ⟨48 + r.val, by omega⟩ l := by
  pointwise [rows3_3, k0_pay309, k0_pay310, k0_pay311, k0_pay312, k0_pay313, k0_pay314, k0_pay315, k0_pay316, k0_pay317, k0_pay318,
    k0_pay319, k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337, k0_pay338,
    k0_pay339, k0_pay340, k0_pay341, k0_pay342, k0_pay343, k0_pay344, k0_pay345, k0_pay346, k0_pay347, k0_pay348,
    k0_pay349, k0_pay350, k0_pay351, k0_pay352, k0_pay353, k0_pay354, k0_pay355, k0_pay356, k0_pay357, k0_pay358,
    k0_pay359, k0_pay360, k0_pay361, k0_pay362, k0_pay363, k0_pay364, k0_pay365, k0_pay366, k0_pay367, k0_pay368,
    k0_pay369, k0_pay370, k0_pay371, k0_pay372, k0_pay373, k0_pay374, k0_pay375, k0_pay376, k0_pay377, k0_pay378,
    k0_pay379, k0_pay380, k0_pay381, k0_pay382, k0_pay383, k0_pay384, k0_pay385, k0_pay386, k0_pay387, k0_pay388,
    k0_pay389, k0_pay390, k0_pay391, k0_pay392, k0_pay393, k0_pay394, k0_pay395, k0_pay396, k0_pay397, k0_pay398,
    k0_pay399, k0_pay400, k0_pay401, k0_pay402, k0_pay403, k0_pay404]
  simp only [select_le 48 _ _ (by decide), select_eq 48 _ (by decide), select_eq 49 _ (by decide), select_eq 50 _ (by decide), select_eq 51 _ (by decide),
    select_eq 52 _ (by decide), select_eq 53 _ (by decide), select_eq 54 _ (by decide), select_eq 55 _ (by decide),
    select_eq 56 _ (by decide), select_eq 57 _ (by decide), select_eq 58 _ (by decide), select_eq 59 _ (by decide),
    select_eq 60 _ (by decide), select_eq 61 _ (by decide), select_eq 62 _ (by decide), select_eq 63 _ (by decide), select_lt 48 _ (by decide)]
  by_cases hl : l.val ≤ 48 + r.val
  · rw [if_pos hl]
    by_cases hlo : 48 ≤ l.val
    · rcases l with ⟨l, hl64⟩
      have hr := r.isLt
      simp only at hl hlo ⊢
      have hle : l ≤ 48 + r.val := by omega
      have hl' : l < 64 := by omega
      interval_cases l
      all_goals
        simp only [Nat.reduceEqDiff, if_true, if_false, -Fin.reduceFinMk]
        exact weight_own (fun t x => Q (ix2 t ⟨768 + x.val, by omega⟩)) (fun t x => x1 (ix2 t ⟨768 + x.val, by omega⟩))
          (fun t x => G (ix2 t ⟨768 + x.val, by omega⟩)) (t := ⟨48 + r.val, by omega⟩) (Fin.le_def.mpr hle) (fun x => hG.nonpos _ _)
          (fun x => hG.anti _ _ _ (Fin.le_def.mpr hle))
    · repeat rw [if_neg (by omega)]
      rw [if_pos (by omega)]
      exact weight_before (fun t x => Q (ix2 t ⟨768 + x.val, by omega⟩)) (fun t x => x1 (ix2 t ⟨768 + x.val, by omega⟩))
        (fun t x => G (ix2 t ⟨768 + x.val, by omega⟩)) (t := ⟨48 + r.val, by omega⟩) ⟨47, by decide⟩ (Fin.mk_le_mk.mpr (by omega)) (fun x => hG.nonpos _ _)
        (fun x => hG.anti _ _ _ (Fin.mk_le_mk.mpr (by omega))) (fun x => hG.anti _ _ _ (Fin.mk_le_mk.mpr (by omega)))
  · rw [if_neg hl]
    exact (weight_later _ _ _ (fun h => hl (Fin.le_def.mp h))).symm

end Cert.Gla

end
-- ==== Proof.Heads.lean ====
module

public import proofs.«01_k».proof.Proof.Rows0
public import proofs.«01_k».proof.Proof.Rows1
public import proofs.«01_k».proof.Proof.Rows2
public import proofs.«01_k».proof.Proof.Rows3

/-! # The kernel's chunk, read at an index

The accumulated gates, each head's output and each head's new state, as the kernel's expressions compute them. -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- The sixteenth by which the gates are scaled. -/
theorem ofBits_sixteenth : Ideal.ofBits FTy.f32 1031798784#32 = ((1 / 16 : ℝ) : EReal) := by
  simp [Ideal.ofBits, Ideal.ieee, -EReal.coe_mul]; norm_num

/-- The kernel's triangle of ones and zeros, entry by entry. -/
theorem triangle (r s : Fin 64) :
    (FloatOps.sitofp FTy.f32 (BitVec.setWidth 32 (IntOp.cmpi CmpIPredicate.sle (BitVec.ofNat 32 s.val)
      (BitVec.ofNat 32 r.val))) : Ideal FTy.f32) = if s ≤ r then (1 : EReal) else 0 := by
  have hr := r.isLt
  have hs := s.isLt
  rw [WordCmp.cmpi_sle_ofNat (by omega) (by omega)]
  by_cases h : s ≤ r
  · rw [if_pos h, decide_eq_true (Fin.le_def.mp h)]
    show (((1#32 : BitVec 32).toInt : ℝ) : EReal) = 1
    norm_num
  · rw [if_neg h, decide_eq_false (fun h' => h (Fin.le_def.mpr h'))]
    show (((0#32 : BitVec 32).toInt : ℝ) : EReal) = 0
    norm_num

/-- The accumulated gates: the product with the triangle is the running sum. -/
theorem sums_at (B : FVec Ideal S1x1024 .f32) (P : FVec Ideal S64x1024 .f32) (r : Fin 64) (l : Fin 1024) :
    k0_pay17 B P (ix2 r l) = cum (fun s => gate (P (ix2 s l) + B (ix2 0 l))) r := by
  pointwise [k0_pay17]
  refine Finset.sum_congr rfl fun s _ => ?_
  rw [triangle]
  by_cases h : s ≤ r
  · rw [if_pos h, if_pos h, one_mul, ofBits_sixteenth, zero_sub]; rfl
  · rw [if_neg h, if_neg h, zero_mul]

/-- The accumulated gates are never positive and only fall. -/
theorem sums_fall (B : FVec Ideal S1x1024 .f32) (P : FVec Ideal S64x1024 .f32) : Falls (k0_pay17 B P) where
  nonpos r l := by rw [sums_at]; exact cum_nonpos (fun _ => gate_nonpos _) r
  anti r t l h := by rw [sums_at, sums_at]; exact cum_anti (fun _ => gate_nonpos _) h

/-- The first sixteen rows of the accumulated gates. -/
theorem sums_top (B : FVec Ideal S1x1024 .f32) (P : FVec Ideal S64x1024 .f32) (r : Fin 16) (l : Fin 1024) :
    k0_pay24 B P (ix2 r l) = k0_pay17 B P (ix2 (⟨r.val, by omega⟩ : Fin 64) l) := by
  pointwise [k0_pay24]

/-- Their differences to the first row, as the first column of the first sub-block needs them. -/
theorem sums_top_diff (B : FVec Ideal S1x1024 .f32) (P : FVec Ideal S64x1024 .f32) (r : Fin 16) (l : Fin 1024) :
    k0_pay30 B P (ix2 r l)
      = min (k0_pay17 B P (ix2 (⟨r.val, by omega⟩ : Fin 64) l) - k0_pay17 B P (ix2 0 l)) 0 := by
  pointwise [k0_pay30, sums_top]

/-- The last row of the accumulated gates. -/
theorem sums_last (B : FVec Ideal S1x1024 .f32) (P : FVec Ideal S64x1024 .f32) (l : Fin 1024) :
    k0_pay18 B P (ix2 0 l) = k0_pay17 B P (ix2 63 l) := by
  pointwise [k0_pay18]

/-- Four blocks of sixteen rows, one under the other, are the matrix `W` whose rows they are. -/
theorem stack (W : Fin 64 → Fin 64 → EReal) (r0 r1 r2 r3 : FVec Ideal S16x64 .f32)
    (h0 : ∀ (r : Fin 16) l, r0 (ix2 r l) = W ⟨r.val, by omega⟩ l)
    (h1 : ∀ (r : Fin 16) l, r1 (ix2 r l) = W ⟨16 + r.val, by omega⟩ l)
    (h2 : ∀ (r : Fin 16) l, r2 (ix2 r l) = W ⟨32 + r.val, by omega⟩ l)
    (h3 : ∀ (r : Fin 16) l, r3 (ix2 r l) = W ⟨48 + r.val, by omega⟩ l) (r l : Fin 64) :
    (if h : r.val < 16 then r0 (ix2 ⟨r.val, h⟩ l)
      else if h : r.val - 16 < 16 then r1 (ix2 ⟨r.val - 16, h⟩ l)
        else if h : r.val - 16 - 16 < 16 then r2 (ix2 ⟨r.val - 16 - 16, h⟩ l)
          else r3 (ix2 ⟨r.val - 16 - 16 - 16, by omega⟩ l)) = W r l := by
  split
  · rw [h0]
  · split
    · rw [h1]; congr 1; exact Fin.ext (by simp only; omega)
    · split
      · rw [h2]; congr 1; exact Fin.ext (by simp only; omega)
      · rw [h3]; congr 1; exact Fin.ext (by simp only; omega)

/-- Head 0's new state. -/
theorem state0_at (x1 : FVec Ideal S64x1024 .f32) (x2 : FVec Ideal S64x2048 .f32) (B : FVec Ideal S1x1024 .f32)
    (P : FVec Ideal S64x1024 .f32) (s : FVec Ideal S1x512x256 .f32) (e : Fin 512) (x : Fin 256) :
    k0_pay421 (k0_pay410 x1 x2 (k0_pay11 s) (k0_pay18 B P) (k0_pay405 (k0_pay17 B P) (k0_pay18 B P))) (ix3 0 e x)
      = after (fun r x => x1 (ix2 r (chan 0 x))) (fun r x => k0_pay17 B P (ix2 r (chan 0 x))) (fun r e => x2 (ix2 r (vchan 0 e)))
          (fun x e => s (ix3 0 e x)) x e := by
  pointwise [k0_pay421, k0_pay410, k0_pay11, k0_pay405, k0_pay406, k0_pay407, k0_pay408, sums_last, chan_0, vchan_0]
  rfl

set_option maxHeartbeats 1000000 in
/-- Head 0's output. -/
theorem out0_at (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32) (r : Fin 64)
    (e : Fin 512) :
    k0_pay422 (k0_pay411 x2 x3 (k0_pay10 x7) (k0_pay20 B (k0_pay11 s) Q P)
      (rows0_0 x1 (k0_pay17 B P) Q B P) (rows1_0 x1 (k0_pay17 B P) Q) (rows2_0 x1 (k0_pay17 B P) Q)
      (rows3_0 x1 (k0_pay17 B P) Q)) (ix2 r e)
      = normed (mix (fun r x => Q (ix2 r (chan 0 x))) (fun r x => x1 (ix2 r (chan 0 x))) (fun r x => k0_pay17 B P (ix2 r (chan 0 x)))
          (fun r e => x2 (ix2 r (vchan 0 e))) (fun x e => s (ix3 0 e x)) r)
          (fun e => x7 (ix2 0 (vchan 0 e))) (fun e => x3 (ix2 r (vchan 0 e))) e := by
  have h0 := rows0_0_at x1 (k0_pay17 B P) Q (sums_fall B P) B P (sums_top B P) (sums_top_diff B P)
  have h1 := rows1_0_at x1 (k0_pay17 B P) Q (sums_fall B P)
  have h2 := rows2_0_at x1 (k0_pay17 B P) Q (sums_fall B P)
  have h3 := rows3_0_at x1 (k0_pay17 B P) Q (sums_fall B P)
  simp only [chan_0] at h0 h1 h2 h3
  pointwise [k0_pay422, k0_pay411, k0_pay10, k0_pay20, k0_pay11, k0_pay19, k0_pay408, k0_pay409]
  simp only [stack _ _ _ _ _ h0 h1 h2 h3, chan_0, vchan_0]
  rfl

/-- Head 1's new state. -/
theorem state1_at (x1 : FVec Ideal S64x1024 .f32) (x2 : FVec Ideal S64x2048 .f32) (B : FVec Ideal S1x1024 .f32)
    (P : FVec Ideal S64x1024 .f32) (s : FVec Ideal S1x512x256 .f32) (e : Fin 512) (x : Fin 256) :
    k0_pay423 (k0_pay413 x1 x2 (k0_pay12 s) (k0_pay18 B P) (k0_pay405 (k0_pay17 B P) (k0_pay18 B P))) (ix3 0 e x)
      = after (fun r x => x1 (ix2 r (chan 1 x))) (fun r x => k0_pay17 B P (ix2 r (chan 1 x))) (fun r e => x2 (ix2 r (vchan 1 e)))
          (fun x e => s (ix3 0 e x)) x e := by
  pointwise [k0_pay423, k0_pay413, k0_pay12, k0_pay405, k0_pay406, k0_pay407, k0_pay408, sums_last, chan_1, vchan_1]
  rfl

set_option maxHeartbeats 1000000 in
/-- Head 1's output. -/
theorem out1_at (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32) (r : Fin 64)
    (e : Fin 512) :
    k0_pay424 (k0_pay415 (k0_pay10 x7) (k0_pay409 x3) (k0_pay412 x2 (k0_pay21 B (k0_pay12 s) Q P)
      (rows0_1 x1 (k0_pay17 B P) Q B P) (rows1_1 x1 (k0_pay17 B P) Q) (rows2_1 x1 (k0_pay17 B P) Q)
      (rows3_1 x1 (k0_pay17 B P) Q)) (k0_pay414 x2 (k0_pay21 B (k0_pay12 s) Q P)
      (rows0_1 x1 (k0_pay17 B P) Q B P) (rows1_1 x1 (k0_pay17 B P) Q) (rows2_1 x1 (k0_pay17 B P) Q)
      (rows3_1 x1 (k0_pay17 B P) Q))) (ix2 r e)
      = normed (mix (fun r x => Q (ix2 r (chan 1 x))) (fun r x => x1 (ix2 r (chan 1 x))) (fun r x => k0_pay17 B P (ix2 r (chan 1 x)))
          (fun r e => x2 (ix2 r (vchan 1 e))) (fun x e => s (ix3 0 e x)) r)
          (fun e => x7 (ix2 0 (vchan 1 e))) (fun e => x3 (ix2 r (vchan 1 e))) e := by
  have h0 := rows0_1_at x1 (k0_pay17 B P) Q (sums_fall B P) B P (sums_top B P) (sums_top_diff B P)
  have h1 := rows1_1_at x1 (k0_pay17 B P) Q (sums_fall B P)
  have h2 := rows2_1_at x1 (k0_pay17 B P) Q (sums_fall B P)
  have h3 := rows3_1_at x1 (k0_pay17 B P) Q (sums_fall B P)
  simp only [chan_1] at h0 h1 h2 h3
  pointwise [k0_pay424, k0_pay415, k0_pay10, k0_pay409, k0_pay412, k0_pay414, k0_pay21, k0_pay12, k0_pay19, k0_pay408]
  simp only [stack _ _ _ _ _ h0 h1 h2 h3, chan_1, vchan_1]
  rfl

/-- Head 2's new state. -/
theorem state2_at (x1 : FVec Ideal S64x1024 .f32) (x2 : FVec Ideal S64x2048 .f32) (B : FVec Ideal S1x1024 .f32)
    (P : FVec Ideal S64x1024 .f32) (s : FVec Ideal S1x512x256 .f32) (e : Fin 512) (x : Fin 256) :
    k0_pay425 (k0_pay416 (k0_pay13 s) (k0_pay406 x1 (k0_pay405 (k0_pay17 B P) (k0_pay18 B P))) (k0_pay407 (k0_pay18 B P)) (k0_pay408 x2)) (ix3 0 e x)
      = after (fun r x => x1 (ix2 r (chan 2 x))) (fun r x => k0_pay17 B P (ix2 r (chan 2 x))) (fun r e => x2 (ix2 r (vchan 2 e)))
          (fun x e => s (ix3 0 e x)) x e := by
  pointwise [k0_pay425, k0_pay416, k0_pay13, k0_pay406, k0_pay405, k0_pay407, k0_pay408, sums_last, chan_2, vchan_2]
  rfl

set_option maxHeartbeats 1000000 in
/-- Head 2's output. -/
theorem out2_at (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32) (r : Fin 64)
    (e : Fin 512) :
    k0_pay426 (k0_pay417 (k0_pay10 x7) (k0_pay22 B (k0_pay13 s) Q P)
      (rows0_2 x1 (k0_pay17 B P) Q B P) (rows1_2 x1 (k0_pay17 B P) Q) (rows2_2 x1 (k0_pay17 B P) Q)
      (rows3_2 x1 (k0_pay17 B P) Q) (k0_pay408 x2) (k0_pay409 x3)) (ix2 r e)
      = normed (mix (fun r x => Q (ix2 r (chan 2 x))) (fun r x => x1 (ix2 r (chan 2 x))) (fun r x => k0_pay17 B P (ix2 r (chan 2 x)))
          (fun r e => x2 (ix2 r (vchan 2 e))) (fun x e => s (ix3 0 e x)) r)
          (fun e => x7 (ix2 0 (vchan 2 e))) (fun e => x3 (ix2 r (vchan 2 e))) e := by
  have h0 := rows0_2_at x1 (k0_pay17 B P) Q (sums_fall B P) B P (sums_top B P) (sums_top_diff B P)
  have h1 := rows1_2_at x1 (k0_pay17 B P) Q (sums_fall B P)
  have h2 := rows2_2_at x1 (k0_pay17 B P) Q (sums_fall B P)
  have h3 := rows3_2_at x1 (k0_pay17 B P) Q (sums_fall B P)
  simp only [chan_2] at h0 h1 h2 h3
  pointwise [k0_pay426, k0_pay417, k0_pay10, k0_pay22, k0_pay13, k0_pay19, k0_pay408, k0_pay409]
  simp only [stack _ _ _ _ _ h0 h1 h2 h3, chan_2, vchan_2]
  rfl

/-- Head 3's new state. -/
theorem state3_at (x1 : FVec Ideal S64x1024 .f32) (x2 : FVec Ideal S64x2048 .f32) (B : FVec Ideal S1x1024 .f32)
    (P : FVec Ideal S64x1024 .f32) (s : FVec Ideal S1x512x256 .f32) (e : Fin 512) (x : Fin 256) :
    k0_pay427 (k0_pay419 (k0_pay14 s) (k0_pay406 x1 (k0_pay405 (k0_pay17 B P) (k0_pay18 B P))) (k0_pay407 (k0_pay18 B P)) (k0_pay408 x2)) (ix3 0 e x)
      = after (fun r x => x1 (ix2 r (chan 3 x))) (fun r x => k0_pay17 B P (ix2 r (chan 3 x))) (fun r e => x2 (ix2 r (vchan 3 e)))
          (fun x e => s (ix3 0 e x)) x e := by
  pointwise [k0_pay427, k0_pay419, k0_pay14, k0_pay406, k0_pay405, k0_pay407, k0_pay408, sums_last, chan_3, vchan_3]
  rfl

set_option maxHeartbeats 1000000 in
/-- Head 3's output. -/
theorem out3_at (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32) (r : Fin 64)
    (e : Fin 512) :
    k0_pay428 (k0_pay10 x7) (k0_pay409 x3) (k0_pay418 (k0_pay23 B (k0_pay14 s) Q P)
      (rows0_3 x1 (k0_pay17 B P) Q B P) (rows1_3 x1 (k0_pay17 B P) Q) (rows2_3 x1 (k0_pay17 B P) Q)
      (rows3_3 x1 (k0_pay17 B P) Q) (k0_pay408 x2)) (k0_pay420 (k0_pay23 B (k0_pay14 s) Q P)
      (rows0_3 x1 (k0_pay17 B P) Q B P) (rows1_3 x1 (k0_pay17 B P) Q) (rows2_3 x1 (k0_pay17 B P) Q)
      (rows3_3 x1 (k0_pay17 B P) Q) (k0_pay408 x2)) (ix2 r e)
      = normed (mix (fun r x => Q (ix2 r (chan 3 x))) (fun r x => x1 (ix2 r (chan 3 x))) (fun r x => k0_pay17 B P (ix2 r (chan 3 x)))
          (fun r e => x2 (ix2 r (vchan 3 e))) (fun x e => s (ix3 0 e x)) r)
          (fun e => x7 (ix2 0 (vchan 3 e))) (fun e => x3 (ix2 r (vchan 3 e))) e := by
  have h0 := rows0_3_at x1 (k0_pay17 B P) Q (sums_fall B P) B P (sums_top B P) (sums_top_diff B P)
  have h1 := rows1_3_at x1 (k0_pay17 B P) Q (sums_fall B P)
  have h2 := rows2_3_at x1 (k0_pay17 B P) Q (sums_fall B P)
  have h3 := rows3_3_at x1 (k0_pay17 B P) Q (sums_fall B P)
  simp only [chan_3] at h0 h1 h2 h3
  pointwise [k0_pay428, k0_pay418, k0_pay420, k0_pay10, k0_pay409, k0_pay23, k0_pay14, k0_pay19, k0_pay408]
  simp only [stack _ _ _ _ _ h0 h1 h2 h3, chan_3, vchan_3]
  rfl

end Cert.Gla

end
-- ==== Proof.Steps.lean ====
module

public import proofs.«01_k».proof.Proof.Heads
public import proofs.«01_k».proof.Proof.Gen.KernelIdeal.Value
public import Idealize.ShloMosaic.Lib.Pipeline.ValueKit
public import Idealize.ShloMosaic.Lib.Pipeline.ReadBack

/-! # What one grid point leaves

Each grid point of the kernel works on one chunk. Here its output block and the state it leaves are read off the run, as
the chunk formulas over the point's input blocks and the state before. -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- The accumulated gates of a chunk, as the kernel computes them from its blocks. -/
abbrev gates (x4 : FVec Ideal S64x128 .f32) (x5 : FVec Ideal S128x1024 .f32) (x6 : FVec Ideal S1x1024 .f32) :
    FVec Ideal S64x1024 .f32 := k0_pay17 (k0_pay9 x6) (k0_pay16 x4 x5)

/-- The state a chunk leaves, from its blocks and the state before. -/
def stepState (x1 : FVec Ideal S64x1024 .f32) (x2 : FVec Ideal S64x2048 .f32) (G : FVec Ideal S64x1024 .f32)
    (S : Fin 4 → Fin 256 → Fin 512 → EReal) (h : Fin 4) (x : Fin 256) (e : Fin 512) : EReal :=
  after (fun r x => x1 (ix2 r (chan h x))) (fun r x => G (ix2 r (chan h x)))
    (fun r e => x2 (ix2 r (vchan h e))) (S h) x e

/-- The same, laid out as the kernel's scratch array, in which the channels come last. -/
def blockState (x1 : FVec Ideal S64x1024 .f32) (x2 : FVec Ideal S64x2048 .f32) (G : FVec Ideal S64x1024 .f32)
    (S : Fin 4 → Fin 256 → Fin 512 → EReal) (y : S4x512x256.Idx) : EReal := stepState x1 x2 G S (y 0) (y 2) (y 1)

/-- The output block of a chunk, from its blocks and the state before. -/
def stepOut (Q x1 : FVec Ideal S64x1024 .f32) (x2 x3 : FVec Ideal S64x2048 .f32) (G : FVec Ideal S64x1024 .f32)
    (x7 : FVec Ideal S1x2048 .f32) (S : Fin 4 → Fin 256 → Fin 512 → EReal) (r : Fin 64) (h : Fin 4) (e : Fin 512) :
    EReal :=
  normed (mix (fun r x => Q (ix2 r (chan h x))) (fun r x => x1 (ix2 r (chan h x)))
      (fun r x => G (ix2 r (chan h x))) (fun r e => x2 (ix2 r (vchan h e))) (S h) r)
    (fun e => x7 (ix2 0 (vchan h e))) (fun e => x3 (ix2 r (vchan h e))) e

/-- An index whose first axis has one value. -/
theorem unit_first (y : S1x512x256.Idx) : ∃ e x, y = ix3 0 e x := by
  idx_vars y
  obtain rfl : y0 = 0 := Subsingleton.elim _ _
  exact ⟨y1, y2, rfl⟩

/-- Where a head's state lies in the whole state. -/
theorem place_state (h : ℕ) (inb : ∀ a, (![h, 0, 0] : Fin 3 → ℕ) a + (![1, 512, 256] : Fin 3 → ℕ) a ≤ S4x512x256.size a)
    (e : Fin 512) (x : Fin 256) :
    (Rect.unit (s := S4x512x256) ![h, 0, 0] ![1, 512, 256] inb).emb (ix3 0 e x)
      = ix3 (⟨h, by have := inb 0; simp at this; omega⟩ : Fin 4) e x := by
  funext a
  refine Fin.ext ((Rect.idx_unit_val _ _ _ _ a).trans ?_)
  match a with
  | 0 => simp
  | 1 => simp
  | 2 => simp

/-- The output block, laid out as the kernel's block. -/
def blockOut (Q x1 : FVec Ideal S64x1024 .f32) (x2 x3 : FVec Ideal S64x2048 .f32) (G : FVec Ideal S64x1024 .f32)
    (x7 : FVec Ideal S1x2048 .f32) (S : Fin 4 → Fin 256 → Fin 512 → EReal) (y : S64x2048.Idx) : EReal :=
  stepOut Q x1 x2 x3 G x7 S (y 0)
    ⟨(y 1).val / 512, by have h : (y 1).val < 2048 := (y 1).isLt; omega⟩ ⟨(y 1).val % 512, Nat.mod_lt _ (by decide)⟩

/-- The output block at a token and a head's channel. -/
theorem blockOut_at (Q x1 : FVec Ideal S64x1024 .f32) (x2 x3 : FVec Ideal S64x2048 .f32) (G : FVec Ideal S64x1024 .f32)
    (x7 : FVec Ideal S1x2048 .f32) (S : Fin 4 → Fin 256 → Fin 512 → EReal) (r : Fin 64) (h : Fin 4) (e : Fin 512) :
    blockOut Q x1 x2 x3 G x7 S (ix2 r (vchan h e)) = stepOut Q x1 x2 x3 G x7 S r h e := by
  have h1 : (512 * h.val + e.val) / 512 = h.val := by omega
  have h2 : (512 * h.val + e.val) % 512 = e.val := by omega
  show stepOut Q x1 x2 x3 G x7 S r ⟨(512 * h.val + e.val) / 512, _⟩ ⟨(512 * h.val + e.val) % 512, _⟩ = _
  congr 1
  · exact Fin.ext h1
  · exact Fin.ext h2

/-- Where a head's output lies in the block. -/
theorem place_out (h : Fin 4) (o : ℕ) (ho : o = 512 * h.val)
    (inb : ∀ a, (![0, o] : Fin 2 → ℕ) a + (![64, 512] : Fin 2 → ℕ) a ≤ S64x2048.size a) (r : Fin 64) (e : Fin 512) :
    (Rect.unit (s := S64x2048) ![0, o] ![64, 512] inb).emb (ix2 r e) = ix2 r (vchan h e) := by
  subst ho
  funext a
  refine Fin.ext ((Rect.idx_unit_val _ _ _ _ a).trans ?_)
  match a with
  | 0 => simp
  | 1 => simp [vchan]

/-- The state as it is written out. -/
def blockFinal (x1 : FVec Ideal S64x1024 .f32) (x2 : FVec Ideal S64x2048 .f32) (G : FVec Ideal S64x1024 .f32)
    (S : Fin 4 → Fin 256 → Fin 512 → EReal) (y : S1x4x256x512.Idx) : EReal := stepState x1 x2 G S (y 1) (y 2) (y 3)

/-- An index whose first two axes have one value each. -/
theorem unit_both (y : S1x1x256x512.Idx) : ∃ x e, y = ix4 0 0 x e := by
  idx_vars y
  obtain rfl : y0 = 0 := Subsingleton.elim _ _
  obtain rfl : y1 = 0 := Subsingleton.elim _ _
  exact ⟨y2, y3, rfl⟩

/-- Where a head's state lies in the written block. -/
theorem place_final (h : ℕ)
    (inb : ∀ a, (![0, h, 0, 0] : Fin 4 → ℕ) a + (![1, 1, 256, 512] : Fin 4 → ℕ) a ≤ S1x4x256x512.size a)
    (x : Fin 256) (e : Fin 512) :
    (Rect.unit (s := S1x4x256x512) ![0, h, 0, 0] ![1, 1, 256, 512] inb).emb (ix4 0 0 x e)
      = ix4 (0 : Fin 1) (⟨h, by have := inb 1; simp at this; omega⟩ : Fin 4) x e := by
  funext a
  refine Fin.ext ((Rect.idx_unit_val _ _ _ _ a).trans ?_)
  match a with
  | 0 => simp
  | 1 => simp
  | 2 => simp
  | 3 => simp

variable (m : (ℓ : Loc nD τ sig) → Buf (Elt Ideal) ℓ)

/-- The zeros with which head 0 begins. -/
theorem zero0_at (e : Fin 512) (x : Fin 256) : (k0_pay5 (F := Ideal)) (ix3 0 e x) = (0 : EReal) := by
  pointwise [k0_pay5]

/-- Head 0's new state, at its place in the whole state. -/
theorem state0_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 0 x e)
    (y : (Rect.unit (s := S4x512x256) ![0, 0, 0] ![1, 512, 256] inb_S4x512x256_S1x512x256_0_0_0).shape.Idx) :
    (k0_pay421 (k0_pay410 x1 x2 (k0_pay11 s) (k0_pay18 B P) (k0_pay405 (k0_pay17 B P) (k0_pay18 B P))) : FVec Ideal S1x512x256 .f32) y
      = blockState x1 x2 (k0_pay17 B P) S
          ((Rect.unit (s := S4x512x256) ![0, 0, 0] ![1, 512, 256] inb_S4x512x256_S1x512x256_0_0_0).emb y) := by
  obtain ⟨e, x, rfl⟩ : ∃ e x, y = ix3 0 e x := unit_first y
  rw [place_state 0 _ e x, state0_at]
  simp only [hs]
  rfl

/-- The zeros with which head 1 begins. -/
theorem zero1_at (e : Fin 512) (x : Fin 256) : (k0_pay6 (F := Ideal)) (ix3 0 e x) = (0 : EReal) := by
  pointwise [k0_pay6]

/-- Head 1's new state, at its place in the whole state. -/
theorem state1_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 1 x e)
    (y : (Rect.unit (s := S4x512x256) ![1, 0, 0] ![1, 512, 256] inb_S4x512x256_S1x512x256_1_0_0).shape.Idx) :
    (k0_pay423 (k0_pay413 x1 x2 (k0_pay12 s) (k0_pay18 B P) (k0_pay405 (k0_pay17 B P) (k0_pay18 B P))) : FVec Ideal S1x512x256 .f32) y
      = blockState x1 x2 (k0_pay17 B P) S
          ((Rect.unit (s := S4x512x256) ![1, 0, 0] ![1, 512, 256] inb_S4x512x256_S1x512x256_1_0_0).emb y) := by
  obtain ⟨e, x, rfl⟩ : ∃ e x, y = ix3 0 e x := unit_first y
  rw [place_state 1 _ e x, state1_at]
  simp only [hs]
  rfl

/-- The zeros with which head 2 begins. -/
theorem zero2_at (e : Fin 512) (x : Fin 256) : (k0_pay7 (F := Ideal)) (ix3 0 e x) = (0 : EReal) := by
  pointwise [k0_pay7]

/-- Head 2's new state, at its place in the whole state. -/
theorem state2_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 2 x e)
    (y : (Rect.unit (s := S4x512x256) ![2, 0, 0] ![1, 512, 256] inb_S4x512x256_S1x512x256_2_0_0).shape.Idx) :
    (k0_pay425 (k0_pay416 (k0_pay13 s) (k0_pay406 x1 (k0_pay405 (k0_pay17 B P) (k0_pay18 B P))) (k0_pay407 (k0_pay18 B P)) (k0_pay408 x2)) : FVec Ideal S1x512x256 .f32) y
      = blockState x1 x2 (k0_pay17 B P) S
          ((Rect.unit (s := S4x512x256) ![2, 0, 0] ![1, 512, 256] inb_S4x512x256_S1x512x256_2_0_0).emb y) := by
  obtain ⟨e, x, rfl⟩ : ∃ e x, y = ix3 0 e x := unit_first y
  rw [place_state 2 _ e x, state2_at]
  simp only [hs]
  rfl

/-- The zeros with which head 3 begins. -/
theorem zero3_at (e : Fin 512) (x : Fin 256) : (k0_pay8 (F := Ideal)) (ix3 0 e x) = (0 : EReal) := by
  pointwise [k0_pay8]

/-- Head 3's new state, at its place in the whole state. -/
theorem state3_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 3 x e)
    (y : (Rect.unit (s := S4x512x256) ![3, 0, 0] ![1, 512, 256] inb_S4x512x256_S1x512x256_3_0_0).shape.Idx) :
    (k0_pay427 (k0_pay419 (k0_pay14 s) (k0_pay406 x1 (k0_pay405 (k0_pay17 B P) (k0_pay18 B P))) (k0_pay407 (k0_pay18 B P)) (k0_pay408 x2)) : FVec Ideal S1x512x256 .f32) y
      = blockState x1 x2 (k0_pay17 B P) S
          ((Rect.unit (s := S4x512x256) ![3, 0, 0] ![1, 512, 256] inb_S4x512x256_S1x512x256_3_0_0).emb y) := by
  obtain ⟨e, x, rfl⟩ : ∃ e x, y = ix3 0 e x := unit_first y
  rw [place_state 3 _ e x, state3_at]
  simp only [hs]
  rfl

/-- Head 0's output, at its place in the block. -/
theorem out0_piece (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32)
    (S : Fin 4 → Fin 256 → Fin 512 → EReal) (hs : ∀ e x, s (ix3 0 e x) = S 0 x e)
    (inb : ∀ a, (![0, 0] : Fin 2 → ℕ) a + (![64, 512] : Fin 2 → ℕ) a ≤ S64x2048.size a)
    (y : (Rect.unit (s := S64x2048) ![0, 0] ![64, 512] inb).shape.Idx) :
    (k0_pay422 (k0_pay411 x2 x3 (k0_pay10 x7) (k0_pay20 B (k0_pay11 s) Q P)
      (rows0_0 x1 (k0_pay17 B P) Q B P) (rows1_0 x1 (k0_pay17 B P) Q) (rows2_0 x1 (k0_pay17 B P) Q)
      (rows3_0 x1 (k0_pay17 B P) Q)) : FVec Ideal S64x512 .bf16) y
      = blockOut Q x1 x2 x3 (k0_pay17 B P) x7 S ((Rect.unit (s := S64x2048) ![0, 0] ![64, 512] inb).emb y) := by
  obtain ⟨r, e, rfl⟩ : ∃ r e, y = ix2 r e := ⟨y 0, y 1, by idx_vars y⟩
  rw [place_out 0 0 (by rfl) inb, blockOut_at, out0_at]
  simp only [hs]
  rfl

/-- Head 1's output, at its place in the block. -/
theorem out1_piece (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32)
    (S : Fin 4 → Fin 256 → Fin 512 → EReal) (hs : ∀ e x, s (ix3 0 e x) = S 1 x e)
    (inb : ∀ a, (![0, 512] : Fin 2 → ℕ) a + (![64, 512] : Fin 2 → ℕ) a ≤ S64x2048.size a)
    (y : (Rect.unit (s := S64x2048) ![0, 512] ![64, 512] inb).shape.Idx) :
    (k0_pay424 (k0_pay415 (k0_pay10 x7) (k0_pay409 x3) (k0_pay412 x2 (k0_pay21 B (k0_pay12 s) Q P)
      (rows0_1 x1 (k0_pay17 B P) Q B P) (rows1_1 x1 (k0_pay17 B P) Q) (rows2_1 x1 (k0_pay17 B P) Q)
      (rows3_1 x1 (k0_pay17 B P) Q)) (k0_pay414 x2 (k0_pay21 B (k0_pay12 s) Q P)
      (rows0_1 x1 (k0_pay17 B P) Q B P) (rows1_1 x1 (k0_pay17 B P) Q) (rows2_1 x1 (k0_pay17 B P) Q)
      (rows3_1 x1 (k0_pay17 B P) Q))) : FVec Ideal S64x512 .bf16) y
      = blockOut Q x1 x2 x3 (k0_pay17 B P) x7 S ((Rect.unit (s := S64x2048) ![0, 512] ![64, 512] inb).emb y) := by
  obtain ⟨r, e, rfl⟩ : ∃ r e, y = ix2 r e := ⟨y 0, y 1, by idx_vars y⟩
  rw [place_out 1 512 (by rfl) inb, blockOut_at, out1_at]
  simp only [hs]
  rfl

/-- Head 2's output, at its place in the block. -/
theorem out2_piece (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32)
    (S : Fin 4 → Fin 256 → Fin 512 → EReal) (hs : ∀ e x, s (ix3 0 e x) = S 2 x e)
    (inb : ∀ a, (![0, 1024] : Fin 2 → ℕ) a + (![64, 512] : Fin 2 → ℕ) a ≤ S64x2048.size a)
    (y : (Rect.unit (s := S64x2048) ![0, 1024] ![64, 512] inb).shape.Idx) :
    (k0_pay426 (k0_pay417 (k0_pay10 x7) (k0_pay22 B (k0_pay13 s) Q P)
      (rows0_2 x1 (k0_pay17 B P) Q B P) (rows1_2 x1 (k0_pay17 B P) Q) (rows2_2 x1 (k0_pay17 B P) Q)
      (rows3_2 x1 (k0_pay17 B P) Q) (k0_pay408 x2) (k0_pay409 x3)) : FVec Ideal S64x512 .bf16) y
      = blockOut Q x1 x2 x3 (k0_pay17 B P) x7 S ((Rect.unit (s := S64x2048) ![0, 1024] ![64, 512] inb).emb y) := by
  obtain ⟨r, e, rfl⟩ : ∃ r e, y = ix2 r e := ⟨y 0, y 1, by idx_vars y⟩
  rw [place_out 2 1024 (by rfl) inb, blockOut_at, out2_at]
  simp only [hs]
  rfl

/-- Head 3's output, at its place in the block. -/
theorem out3_piece (Q x1 : FVec Ideal S64x1024 .f32) (x2 x3 : FVec Ideal S64x2048 .f32) (x7 : FVec Ideal S1x2048 .f32)
    (B : FVec Ideal S1x1024 .f32) (P : FVec Ideal S64x1024 .f32) (s : FVec Ideal S1x512x256 .f32)
    (S : Fin 4 → Fin 256 → Fin 512 → EReal) (hs : ∀ e x, s (ix3 0 e x) = S 3 x e)
    (inb : ∀ a, (![0, 1536] : Fin 2 → ℕ) a + (![64, 512] : Fin 2 → ℕ) a ≤ S64x2048.size a)
    (y : (Rect.unit (s := S64x2048) ![0, 1536] ![64, 512] inb).shape.Idx) :
    (k0_pay428 (k0_pay10 x7) (k0_pay409 x3) (k0_pay418 (k0_pay23 B (k0_pay14 s) Q P)
      (rows0_3 x1 (k0_pay17 B P) Q B P) (rows1_3 x1 (k0_pay17 B P) Q) (rows2_3 x1 (k0_pay17 B P) Q)
      (rows3_3 x1 (k0_pay17 B P) Q) (k0_pay408 x2)) (k0_pay420 (k0_pay23 B (k0_pay14 s) Q P)
      (rows0_3 x1 (k0_pay17 B P) Q B P) (rows1_3 x1 (k0_pay17 B P) Q) (rows2_3 x1 (k0_pay17 B P) Q)
      (rows3_3 x1 (k0_pay17 B P) Q) (k0_pay408 x2)) : FVec Ideal S64x512 .bf16) y
      = blockOut Q x1 x2 x3 (k0_pay17 B P) x7 S ((Rect.unit (s := S64x2048) ![0, 1536] ![64, 512] inb).emb y) := by
  obtain ⟨r, e, rfl⟩ : ∃ r e, y = ix2 r e := ⟨y 0, y 1, by idx_vars y⟩
  rw [place_out 3 1536 (by rfl) inb, blockOut_at, out3_at]
  simp only [hs]
  rfl

/-- The state is written out with channels and values exchanged. -/
theorem turn0 (v : FVec Ideal S512x256 .f32) (x : Fin 256) (e : Fin 512) :
    k0_pay1 v (ix4 0 0 x e) = k0_pay421 v (ix3 0 e x) := by
  pointwise [k0_pay1, k0_pay421]

/-- Head 0's final state, at its place in the written block. -/
theorem final0_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 0 x e)
    (inb : ∀ a, (![0, 0, 0, 0] : Fin 4 → ℕ) a + (![1, 1, 256, 512] : Fin 4 → ℕ) a ≤ S1x4x256x512.size a)
    (y : (Rect.unit (s := S1x4x256x512) ![0, 0, 0, 0] ![1, 1, 256, 512] inb).shape.Idx) :
    (k0_pay1 (k0_pay410 x1 x2 (k0_pay11 s) (k0_pay18 B P) (k0_pay405 (k0_pay17 B P) (k0_pay18 B P))) : FVec Ideal S1x1x256x512 .f32) y
      = blockFinal x1 x2 (k0_pay17 B P) S
          ((Rect.unit (s := S1x4x256x512) ![0, 0, 0, 0] ![1, 1, 256, 512] inb).emb y) := by
  obtain ⟨x, e, rfl⟩ : ∃ x e, y = ix4 0 0 x e := unit_both y
  rw [place_final 0 inb x e, turn0, state0_at]
  simp only [hs]
  rfl

/-- The state is written out with channels and values exchanged. -/
theorem turn1 (v : FVec Ideal S512x256 .f32) (x : Fin 256) (e : Fin 512) :
    k0_pay2 v (ix4 0 0 x e) = k0_pay423 v (ix3 0 e x) := by
  pointwise [k0_pay2, k0_pay423]

/-- Head 1's final state, at its place in the written block. -/
theorem final1_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 1 x e)
    (inb : ∀ a, (![0, 1, 0, 0] : Fin 4 → ℕ) a + (![1, 1, 256, 512] : Fin 4 → ℕ) a ≤ S1x4x256x512.size a)
    (y : (Rect.unit (s := S1x4x256x512) ![0, 1, 0, 0] ![1, 1, 256, 512] inb).shape.Idx) :
    (k0_pay2 (k0_pay413 x1 x2 (k0_pay12 s) (k0_pay18 B P) (k0_pay405 (k0_pay17 B P) (k0_pay18 B P))) : FVec Ideal S1x1x256x512 .f32) y
      = blockFinal x1 x2 (k0_pay17 B P) S
          ((Rect.unit (s := S1x4x256x512) ![0, 1, 0, 0] ![1, 1, 256, 512] inb).emb y) := by
  obtain ⟨x, e, rfl⟩ : ∃ x e, y = ix4 0 0 x e := unit_both y
  rw [place_final 1 inb x e, turn1, state1_at]
  simp only [hs]
  rfl

/-- The state is written out with channels and values exchanged. -/
theorem turn2 (v : FVec Ideal S512x256 .f32) (x : Fin 256) (e : Fin 512) :
    k0_pay3 v (ix4 0 0 x e) = k0_pay425 v (ix3 0 e x) := by
  pointwise [k0_pay3, k0_pay425]

/-- Head 2's final state, at its place in the written block. -/
theorem final2_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 2 x e)
    (inb : ∀ a, (![0, 2, 0, 0] : Fin 4 → ℕ) a + (![1, 1, 256, 512] : Fin 4 → ℕ) a ≤ S1x4x256x512.size a)
    (y : (Rect.unit (s := S1x4x256x512) ![0, 2, 0, 0] ![1, 1, 256, 512] inb).shape.Idx) :
    (k0_pay3 (k0_pay416 (k0_pay13 s) (k0_pay406 x1 (k0_pay405 (k0_pay17 B P) (k0_pay18 B P))) (k0_pay407 (k0_pay18 B P)) (k0_pay408 x2)) : FVec Ideal S1x1x256x512 .f32) y
      = blockFinal x1 x2 (k0_pay17 B P) S
          ((Rect.unit (s := S1x4x256x512) ![0, 2, 0, 0] ![1, 1, 256, 512] inb).emb y) := by
  obtain ⟨x, e, rfl⟩ : ∃ x e, y = ix4 0 0 x e := unit_both y
  rw [place_final 2 inb x e, turn2, state2_at]
  simp only [hs]
  rfl

/-- The state is written out with channels and values exchanged. -/
theorem turn3 (v : FVec Ideal S512x256 .f32) (x : Fin 256) (e : Fin 512) :
    k0_pay4 v (ix4 0 0 x e) = k0_pay427 v (ix3 0 e x) := by
  pointwise [k0_pay4, k0_pay427]

/-- Head 3's final state, at its place in the written block. -/
theorem final3_piece (x1 : FVec Ideal S64x1024 .f32) (x2 : FVec Ideal S64x2048 .f32) (B : FVec Ideal S1x1024 .f32)
    (P : FVec Ideal S64x1024 .f32) (s : FVec Ideal S1x512x256 .f32) (S : Fin 4 → Fin 256 → Fin 512 → EReal)
    (hs : ∀ e x, s (ix3 0 e x) = S 3 x e)
    (inb : ∀ a, (![0, 3, 0, 0] : Fin 4 → ℕ) a + (![1, 1, 256, 512] : Fin 4 → ℕ) a ≤ S1x4x256x512.size a)
    (y : (Rect.unit (s := S1x4x256x512) ![0, 3, 0, 0] ![1, 1, 256, 512] inb).shape.Idx) :
    (k0_pay4 (k0_pay419 (k0_pay14 s) (k0_pay406 x1 (k0_pay405 (k0_pay17 B P) (k0_pay18 B P))) (k0_pay407 (k0_pay18 B P)) (k0_pay408 x2)) : FVec Ideal S1x1x256x512 .f32) y
      = blockFinal x1 x2 (k0_pay17 B P) S
          ((Rect.unit (s := S1x4x256x512) ![0, 3, 0, 0] ![1, 1, 256, 512] inb).emb y) := by
  obtain ⟨x, e, rfl⟩ : ∃ x e, y = ix4 0 0 x e := unit_both y
  rw [place_final 3 inb x e, turn3, state3_at]
  simp only [hs]
  rfl

set_option maxHeartbeats 2000000 in
/-- The state left by the first chunk of a batch row. -/
theorem state_A (c : Dev nD) (t : Fin cfg0.N) (h0 : t.val % 32 = 0) (h1 : ¬t.val % 32 = 31) (h : Fin 4) (e : Fin 512)
    (x : Fin 256) :
    (outsAt0 m c t.val t.isLt).2.2 (ix3 h e x)
      = stepState (iblk m c 1 t) (iblk m c 2 t) (gates (iblk m c 4 t) (iblk m c 5 t) (iblk m c 6 t))
          (fun _ _ _ => 0) h x e := by
  rw [outsAt0_A m c t h0 h1]; dsimp only; unfold sout0_A_0
  rw [View.read_writes_eq_canon _ _ _ (by intro y; apply scover0_A_0)]
  unfold kernelRun0_A; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_out
  simp (disch := decide) only [↓ View.readCov_skip, ↓ View.readCov_cons_toLoadRect]
  refine View.canon_append_of_piecesOf (Val := Elt Ideal) (s := S4x512x256) (e := .f32)
    (blockState x1 x2 (gates x4 x5 x6) (fun _ _ _ => 0)) [_, _, _, _] [_, _, _, _] ⟨?_, ?_, ?_, ?_, trivial⟩ (ix3 h e x) ?_
  rotate_left 4
  · exact View.cover_of_tiledL _ ![1, 512, 256] (by rfl) _
  · refine state3_piece x1 x2 (k0_pay9 x6) (k0_pay16 x4 x5) _ _ (fun e x => ?_)
    exact zero3_at e x
  · refine state2_piece x1 x2 (k0_pay9 x6) (k0_pay16 x4 x5) _ _ (fun e x => ?_)
    exact zero2_at e x
  · refine state1_piece x1 x2 (k0_pay9 x6) (k0_pay16 x4 x5) _ _ (fun e x => ?_)
    exact zero1_at e x
  · refine state0_piece x1 x2 (k0_pay9 x6) (k0_pay16 x4 x5) _ _ (fun e x => ?_)
    exact zero0_at e x

set_option maxHeartbeats 2000000 in
/-- The state left by a later chunk. -/
theorem state_B (c : Dev nD) (t : Fin cfg0.N) (h0 : ¬t.val % 32 = 0) (h1 : ¬t.val % 32 = 31) (h : Fin 4) (e : Fin 512)
    (x : Fin 256) :
    (outsAt0 m c t.val t.isLt).2.2 (ix3 h e x)
      = stepState (iblk m c 1 t) (iblk m c 2 t) (gates (iblk m c 4 t) (iblk m c 5 t) (iblk m c 6 t))
          (fun h x e => (outsAt0 m c (t.val - 1) (Nat.lt_of_le_of_lt (Nat.sub_le _ _) t.isLt)).2.2 (ix3 h e x)) h x e := by
  rw [outsAt0_B m c t h0 h1]; dsimp only; unfold sout0_B_0
  rw [View.read_writes_eq_canon _ _ _ (by intro y; apply scover0_B_0)]
  unfold kernelRun0_B; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) (Nat.lt_of_le_of_lt (Nat.sub_le _ _) t.isLt)).2.2 = S
  frame_out
  simp (disch := decide) only [read_unread_whole]
  refine View.canon_append_of_piecesOf (Val := Elt Ideal) (s := S4x512x256) (e := .f32)
    (blockState x1 x2 (gates x4 x5 x6) (fun h x e => S (ix3 h e x))) [] [_, _, _, _] ⟨?_, ?_, ?_, ?_, trivial⟩ (ix3 h e x) ?_
  rotate_left 4
  · exact View.cover_of_tiledL _ ![1, 512, 256] (by rfl) _
  · refine state3_piece x1 x2 (k0_pay9 x6) (k0_pay16 x4 x5) _ _ (fun e x => ?_)
    exact congrArg S (place_state 3 _ e x)
  · refine state2_piece x1 x2 (k0_pay9 x6) (k0_pay16 x4 x5) _ _ (fun e x => ?_)
    exact congrArg S (place_state 2 _ e x)
  · refine state1_piece x1 x2 (k0_pay9 x6) (k0_pay16 x4 x5) _ _ (fun e x => ?_)
    exact congrArg S (place_state 1 _ e x)
  · refine state0_piece x1 x2 (k0_pay9 x6) (k0_pay16 x4 x5) _ _ (fun e x => ?_)
    exact congrArg S (place_state 0 _ e x)

set_option maxHeartbeats 2000000 in
/-- The state left by the last chunk. -/
theorem state_C (c : Dev nD) (t : Fin cfg0.N) (h0 : ¬t.val % 32 = 0) (h1 : t.val % 32 = 31) (h : Fin 4) (e : Fin 512)
    (x : Fin 256) :
    (outsAt0 m c t.val t.isLt).2.2 (ix3 h e x)
      = stepState (iblk m c 1 t) (iblk m c 2 t) (gates (iblk m c 4 t) (iblk m c 5 t) (iblk m c 6 t))
          (fun h x e => (outsAt0 m c (t.val - 1) (Nat.lt_of_le_of_lt (Nat.sub_le _ _) t.isLt)).2.2 (ix3 h e x)) h x e := by
  rw [outsAt0_C m c t h0 h1]; dsimp only; unfold sout0_C_0
  rw [View.read_writes_eq_canon _ _ _ (by intro y; apply scover0_C_0)]
  unfold kernelRun0_C; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) (Nat.lt_of_le_of_lt (Nat.sub_le _ _) t.isLt)).2.2 = S
  frame_out
  simp (disch := decide) only [read_unread_whole]
  refine View.canon_append_of_piecesOf (Val := Elt Ideal) (s := S4x512x256) (e := .f32)
    (blockState x1 x2 (gates x4 x5 x6) (fun h x e => S (ix3 h e x))) [] [_, _, _, _] ⟨?_, ?_, ?_, ?_, trivial⟩ (ix3 h e x) ?_
  rotate_left 4
  · exact View.cover_of_tiledL _ ![1, 512, 256] (by rfl) _
  · refine state3_piece x1 x2 (k0_pay9 x6) (k0_pay16 x4 x5) _ _ (fun e x => ?_)
    exact congrArg S (place_state 3 _ e x)
  · refine state2_piece x1 x2 (k0_pay9 x6) (k0_pay16 x4 x5) _ _ (fun e x => ?_)
    exact congrArg S (place_state 2 _ e x)
  · refine state1_piece x1 x2 (k0_pay9 x6) (k0_pay16 x4 x5) _ _ (fun e x => ?_)
    exact congrArg S (place_state 1 _ e x)
  · refine state0_piece x1 x2 (k0_pay9 x6) (k0_pay16 x4 x5) _ _ (fun e x => ?_)
    exact congrArg S (place_state 0 _ e x)

set_option maxHeartbeats 2000000 in
/-- The output block of the first chunk of a batch row. -/
theorem out_A (c : Dev nD) (t : Fin cfg0.N) (h0 : t.val % 32 = 0) (h1 : ¬t.val % 32 = 31) (y : S64x2048.Idx) :
    (outsAt0 m c t.val t.isLt).1 y
      = blockOut (k0_pay15 (iblk m c 0 t)) (iblk m c 1 t) (iblk m c 2 t) (iblk m c 3 t)
          (gates (iblk m c 4 t) (iblk m c 5 t) (iblk m c 6 t)) (iblk m c 7 t)
          (fun _ _ _ => 0) y := by
  rw [outsAt0_A m c t h0 h1]; dsimp only; unfold out0_A_8
  rw [View.read_writes_eq_canon _ _ _ (by intro y; apply cover0_A_8)]
  unfold kernelRun0_A; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_out
  simp (disch := decide) only [↓ View.readCov_skip, ↓ View.readCov_cons_toLoadRect]
  refine View.canon_append_of_piecesOf (Val := Elt Ideal) (s := S64x2048) (e := .bf16)
    (blockOut (k0_pay15 x0) x1 x2 x3 (gates x4 x5 x6) x7 (fun _ _ _ => 0)) [] [_, _, _, _] ⟨?_, ?_, ?_, ?_, trivial⟩ y ?_
  rotate_left 4
  · exact View.cover_of_tiledL _ ![64, 512] (by rfl) _
  · refine out3_piece (k0_pay15 x0) x1 x2 x3 x7 (k0_pay9 x6) (k0_pay16 x4 x5) _ _ (fun e x => ?_) (by decide)
    exact zero3_at e x
  · refine out2_piece (k0_pay15 x0) x1 x2 x3 x7 (k0_pay9 x6) (k0_pay16 x4 x5) _ _ (fun e x => ?_) (by decide)
    exact zero2_at e x
  · refine out1_piece (k0_pay15 x0) x1 x2 x3 x7 (k0_pay9 x6) (k0_pay16 x4 x5) _ _ (fun e x => ?_) (by decide)
    exact zero1_at e x
  · refine out0_piece (k0_pay15 x0) x1 x2 x3 x7 (k0_pay9 x6) (k0_pay16 x4 x5) _ _ (fun e x => ?_) (by decide)
    exact zero0_at e x

set_option maxHeartbeats 2000000 in
/-- The output block of a later chunk. -/
theorem out_B (c : Dev nD) (t : Fin cfg0.N) (h0 : ¬t.val % 32 = 0) (h1 : ¬t.val % 32 = 31) (y : S64x2048.Idx) :
    (outsAt0 m c t.val t.isLt).1 y
      = blockOut (k0_pay15 (iblk m c 0 t)) (iblk m c 1 t) (iblk m c 2 t) (iblk m c 3 t)
          (gates (iblk m c 4 t) (iblk m c 5 t) (iblk m c 6 t)) (iblk m c 7 t)
          (fun h x e => (outsAt0 m c (t.val - 1) (Nat.lt_of_le_of_lt (Nat.sub_le _ _) t.isLt)).2.2 (ix3 h e x)) y := by
  rw [outsAt0_B m c t h0 h1]; dsimp only; unfold out0_B_8
  rw [View.read_writes_eq_canon _ _ _ (by intro y; apply cover0_B_8)]
  unfold kernelRun0_B; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) (Nat.lt_of_le_of_lt (Nat.sub_le _ _) t.isLt)).2.2 = S
  frame_out
  simp (disch := decide) only [read_unread_whole]
  refine View.canon_append_of_piecesOf (Val := Elt Ideal) (s := S64x2048) (e := .bf16)
    (blockOut (k0_pay15 x0) x1 x2 x3 (gates x4 x5 x6) x7 (fun h x e => S (ix3 h e x))) [] [_, _, _, _] ⟨?_, ?_, ?_, ?_, trivial⟩ y ?_
  rotate_left 4
  · exact View.cover_of_tiledL _ ![64, 512] (by rfl) _
  · refine out3_piece (k0_pay15 x0) x1 x2 x3 x7 (k0_pay9 x6) (k0_pay16 x4 x5) _ _ (fun e x => ?_) (by decide)
    exact congrArg S (place_state 3 _ e x)
  · refine out2_piece (k0_pay15 x0) x1 x2 x3 x7 (k0_pay9 x6) (k0_pay16 x4 x5) _ _ (fun e x => ?_) (by decide)
    exact congrArg S (place_state 2 _ e x)
  · refine out1_piece (k0_pay15 x0) x1 x2 x3 x7 (k0_pay9 x6) (k0_pay16 x4 x5) _ _ (fun e x => ?_) (by decide)
    exact congrArg S (place_state 1 _ e x)
  · refine out0_piece (k0_pay15 x0) x1 x2 x3 x7 (k0_pay9 x6) (k0_pay16 x4 x5) _ _ (fun e x => ?_) (by decide)
    exact congrArg S (place_state 0 _ e x)

set_option maxHeartbeats 2000000 in
/-- The output block of the last chunk. -/
theorem out_C (c : Dev nD) (t : Fin cfg0.N) (h0 : ¬t.val % 32 = 0) (h1 : t.val % 32 = 31) (y : S64x2048.Idx) :
    (outsAt0 m c t.val t.isLt).1 y
      = blockOut (k0_pay15 (iblk m c 0 t)) (iblk m c 1 t) (iblk m c 2 t) (iblk m c 3 t)
          (gates (iblk m c 4 t) (iblk m c 5 t) (iblk m c 6 t)) (iblk m c 7 t)
          (fun h x e => (outsAt0 m c (t.val - 1) (Nat.lt_of_le_of_lt (Nat.sub_le _ _) t.isLt)).2.2 (ix3 h e x)) y := by
  rw [outsAt0_C m c t h0 h1]; dsimp only; unfold out0_C_8
  rw [View.read_writes_eq_canon _ _ _ (by intro y; apply cover0_C_8)]
  unfold kernelRun0_C; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) (Nat.lt_of_le_of_lt (Nat.sub_le _ _) t.isLt)).2.2 = S
  frame_out
  simp (disch := decide) only [read_unread_whole]
  refine View.canon_append_of_piecesOf (Val := Elt Ideal) (s := S64x2048) (e := .bf16)
    (blockOut (k0_pay15 x0) x1 x2 x3 (gates x4 x5 x6) x7 (fun h x e => S (ix3 h e x))) [] [_, _, _, _] ⟨?_, ?_, ?_, ?_, trivial⟩ y ?_
  rotate_left 4
  · exact View.cover_of_tiledL _ ![64, 512] (by rfl) _
  · refine out3_piece (k0_pay15 x0) x1 x2 x3 x7 (k0_pay9 x6) (k0_pay16 x4 x5) _ _ (fun e x => ?_) (by decide)
    exact congrArg S (place_state 3 _ e x)
  · refine out2_piece (k0_pay15 x0) x1 x2 x3 x7 (k0_pay9 x6) (k0_pay16 x4 x5) _ _ (fun e x => ?_) (by decide)
    exact congrArg S (place_state 2 _ e x)
  · refine out1_piece (k0_pay15 x0) x1 x2 x3 x7 (k0_pay9 x6) (k0_pay16 x4 x5) _ _ (fun e x => ?_) (by decide)
    exact congrArg S (place_state 1 _ e x)
  · refine out0_piece (k0_pay15 x0) x1 x2 x3 x7 (k0_pay9 x6) (k0_pay16 x4 x5) _ _ (fun e x => ?_) (by decide)
    exact congrArg S (place_state 0 _ e x)

set_option maxHeartbeats 2000000 in
/-- The state written out at the last chunk of a batch row is the state that chunk leaves. -/
theorem final_C (c : Dev nD) (t : Fin cfg0.N) (h0 : ¬t.val % 32 = 0) (h1 : t.val % 32 = 31) (h : Fin 4) (x : Fin 256) (e : Fin 512) :
    (outsAt0 m c t.val t.isLt).2.1 (ix4 0 h x e) = (outsAt0 m c t.val t.isLt).2.2 (ix3 h e x) := by
  rw [state_C m c t h0 h1]
  rw [outsAt0_C m c t h0 h1]; dsimp only; unfold out0_C_9
  rw [View.read_writes_eq_canon _ _ _ (by intro y; apply cover0_C_9)]
  unfold kernelRun0_C; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) (Nat.lt_of_le_of_lt (Nat.sub_le _ _) t.isLt)).2.2 = S
  frame_out
  simp (disch := decide) only [read_unread_whole]
  refine View.canon_append_of_piecesOf (Val := Elt Ideal) (s := S1x4x256x512) (e := .f32)
    (blockFinal x1 x2 (gates x4 x5 x6) (fun h x e => S (ix3 h e x))) [] [_, _, _, _] ⟨?_, ?_, ?_, ?_, trivial⟩ (ix4 0 h x e) ?_
  rotate_left 4
  · exact View.cover_of_tiledL _ ![1, 1, 256, 512] (by rfl) _
  · refine final3_piece x1 x2 (k0_pay9 x6) (k0_pay16 x4 x5) _ _ (fun e x => ?_) (by decide)
    exact congrArg S (place_state 3 _ e x)
  · refine final2_piece x1 x2 (k0_pay9 x6) (k0_pay16 x4 x5) _ _ (fun e x => ?_) (by decide)
    exact congrArg S (place_state 2 _ e x)
  · refine final1_piece x1 x2 (k0_pay9 x6) (k0_pay16 x4 x5) _ _ (fun e x => ?_) (by decide)
    exact congrArg S (place_state 1 _ e x)
  · refine final0_piece x1 x2 (k0_pay9 x6) (k0_pay16 x4 x5) _ _ (fun e x => ?_) (by decide)
    exact congrArg S (place_state 0 _ e x)

end Cert.Gla

end
-- ==== Proof.Results.lean ====
module

public import proofs.«01_k».proof.Proof.Spec
public import proofs.«01_k».proof.Proof.Steps
public import Idealize.ShloMosaic.Lib.Claim
public import Idealize.ShloMosaic.Lib.StableHlo.ReadAt

/-! # The kernel's two results, from its arguments -/

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-- Where each window's block lies. -/
theorem places : ∀ t : Fin cfg0.N, win0_0.index t = ![t.val, 0] ∧ win0_1.index t = ![t.val, 1]
    ∧ win0_2.index t = ![t.val, 1] ∧ win0_3.index t = ![t.val, 2] ∧ win0_4.index t = ![t.val, 0]
    ∧ win0_5.index t = ![0, 0] ∧ win0_6.index t = ![0, 0] ∧ win0_7.index t = ![0, 0] :=
  (by decide +kernel : ∀ t : Fin grid0.N, win0_0.index t = ![t.val, 0] ∧ win0_1.index t = ![t.val, 1]
    ∧ win0_2.index t = ![t.val, 1] ∧ win0_3.index t = ![t.val, 2] ∧ win0_4.index t = ![t.val, 0]
    ∧ win0_5.index t = ![0, 0] ∧ win0_6.index t = ![0, 0] ∧ win0_7.index t = ![0, 0])

variable (m : (ℓ : Loc nD τ sig) → Buf (Elt Ideal) ℓ) (c : Dev nD)

/-- The call's arguments as functions of coordinates. -/
def argP (i : Fin 8448) (j : Fin 6144) : EReal := m ((c : Thread nD τ).loc main_arg0) (ix2 i j)

/-- The gate's low-rank inputs, by coordinates. -/
def argGa (i : Fin 8448) (j : Fin 128) : EReal := m ((c : Thread nD τ).loc main_arg1) (ix2 i j)

/-- The gate's second projection, by coordinates. -/
def argW (i : Fin 16) (j : Fin 1024) : EReal := m ((c : Thread nD τ).loc main_arg2) (ix3 0 i j)

/-- The gate's bias, by coordinates. -/
def argB (j : Fin 1024) : EReal := m ((c : Thread nD τ).loc main_arg3) (ix2 0 j)

/-- The gain, by coordinates. -/
def argU (j : Fin 2048) : EReal := m ((c : Thread nD τ).loc main_arg4) (ix2 0 j)

/-- There are 128 points in the grid. -/
theorem point_lt (t : Fin cfg0.N) : t.val < 128 := lt_of_lt_of_eq t.isLt (show cfg0.N = 128 from N_0)

/-- The row of a chunk and a token. -/
theorem row_val (n : ℕ) (hn : n < 128) (r : Fin 64) : (row n r).val = 64 * n + r.val := by
  simp only [row]; omega

/-- The block of queries. -/
theorem block0 (t : Fin cfg0.N) (r : Fin 64) (l : Fin 1024) :
    (iblk m c 0 t : FVec Ideal S64x1024 .f32) (ix2 r l) = argP m c (row t.val r) ⟨l.val, by omega⟩ := by
  have hr := row_val t.val (point_lt t) r
  unfold argP
  blk_ext [iblk, V, places t]

/-- The block of keys. -/
theorem block1 (t : Fin cfg0.N) (r : Fin 64) (l : Fin 1024) :
    (iblk m c 1 t : FVec Ideal S64x1024 .f32) (ix2 r l) = argP m c (row t.val r) ⟨1024 + l.val, by omega⟩ := by
  have hr := row_val t.val (point_lt t) r
  unfold argP
  blk_ext [iblk, V, places t]

/-- The block of values. -/
theorem block2 (t : Fin cfg0.N) (r : Fin 64) (l : Fin 2048) :
    (iblk m c 2 t : FVec Ideal S64x2048 .f32) (ix2 r l) = argP m c (row t.val r) ⟨2048 + l.val, by omega⟩ := by
  have hr := row_val t.val (point_lt t) r
  unfold argP
  blk_ext [iblk, V, places t]

/-- The block of output gates. -/
theorem block3 (t : Fin cfg0.N) (r : Fin 64) (l : Fin 2048) :
    (iblk m c 3 t : FVec Ideal S64x2048 .f32) (ix2 r l) = argP m c (row t.val r) ⟨4096 + l.val, by omega⟩ := by
  have hr := row_val t.val (point_lt t) r
  unfold argP
  blk_ext [iblk, V, places t]

/-- The block of the gate's low-rank inputs. -/
theorem block4 (t : Fin cfg0.N) (r : Fin 64) (l : Fin 128) :
    (iblk m c 4 t : FVec Ideal S64x128 .f32) (ix2 r l) = argGa m c (row t.val r) l := by
  have hr := row_val t.val (point_lt t) r
  unfold argGa
  blk_ext [iblk, V, places t]

/-- The gate's second projection stands padded with rows of zeros. -/
theorem block5 (t : Fin cfg0.N) (r : Fin 128) (l : Fin 1024) :
    (iblk m c 5 t : FVec Ideal S128x1024 .f32) (ix2 r l) = if h : r.val < 16 then argW m c ⟨r.val, h⟩ l else 0 := by
  have e : (win0_5.blk t).view.emb (ix2 r l) = ix2 r l := by blk_ext [places t]
  blk_simp [iblk, places t]
  rw [e]
  unfold argW V
  after_reads_at
  have h0 : (FloatOps.sitofp FTy.f32 0#32 : Ideal FTy.f32) = (0 : EReal) := by
    show (((0#32 : BitVec 32).toInt : ℝ) : EReal) = 0
    norm_num
  rw [h0]

/-- The block of the gate's bias. -/
theorem block6 (t : Fin cfg0.N) (l : Fin 1024) :
    (iblk m c 6 t : FVec Ideal S1x1024 .f32) (ix2 0 l) = argB m c l := by
  have e : (win0_6.blk t).view.emb (ix2 0 l) = ix2 0 l := by blk_ext [places t]
  blk_simp [iblk, places t]
  rw [e]
  unfold argB V
  after_reads_at

/-- The block of the gain. -/
theorem block7 (t : Fin cfg0.N) (l : Fin 2048) :
    (iblk m c 7 t : FVec Ideal S1x2048 .f32) (ix2 0 l) = argU m c l := by
  have e : (win0_7.blk t).view.emb (ix2 0 l) = ix2 0 l := by blk_ext [places t]
  blk_simp [iblk, places t]
  rw [e]
  unfold argU V
  after_reads_at

/-- A product with a matrix whose rows past the sixteenth are zero. -/
theorem sum_padded (f : Fin 128 → EReal) (w : Fin 16 → EReal) :
    (∑ j : Fin 128, f j * (if h : j.val < 16 then w ⟨j.val, h⟩ else 0)) = ∑ j : Fin 16, f ⟨j.val, by omega⟩ * w j := by
  refine (Fin.sum_univ_add (a := 16) (b := 112)
    (fun j => f j * (if h : j.val < 16 then w ⟨j.val, h⟩ else 0))).trans ?_
  rw [Finset.sum_eq_zero (s := (Finset.univ : Finset (Fin 112))) (fun j _ => by
    rw [dif_neg (by simp), mul_zero]), add_zero]
  refine Finset.sum_congr rfl fun j _ => ?_
  rw [dif_pos (by simp : (Fin.castAdd 112 j).val < 16)]
  rfl

/-- The gate's product at an index. -/
theorem product_at (a : FVec Ideal S64x128 .f32) (w : FVec Ideal S128x1024 .f32) (s : Fin 64) (l : Fin 1024) :
    (k0_pay16 a w : FVec Ideal S64x1024 .f32) (ix2 s l) = ∑ j : Fin 128, (a (ix2 s j) * w (ix2 j l) : EReal) := by
  pointwise [k0_pay16]

/-- The gate's bias at an index. -/
theorem bias_at (b : FVec Ideal S1x1024 .f32) (l : Fin 1024) :
    (k0_pay9 b : FVec Ideal S1x1024 .f32) (ix2 0 l) = b (ix2 0 l) := by
  pointwise [k0_pay9]

/-- The scaled queries at an index. -/
theorem scaled_at (q : FVec Ideal S64x1024 .f32) (s : Fin 64) (l : Fin 1024) :
    (k0_pay15 q : FVec Ideal S64x1024 .f32) (ix2 s l) = (q (ix2 s l) * Ideal.ofBits FTy.f32 1031798784#32 : EReal) := by
  pointwise [k0_pay15]

/-- A chunk's accumulated gates, from the call's arguments. -/
theorem gates_at (t : Fin cfg0.N) (r : Fin 64) (h : Fin 4) (x : Fin 256) :
    gates (iblk m c 4 t) (iblk m c 5 t) (iblk m c 6 t) (ix2 r (chan h x))
      = gs (argGa m c) (argW m c) (argB m c) t.val h r x := by
  rw [gates, sums_at, gs]
  congr 1
  funext s
  rw [product_at, bias_at, block6, ← sum_padded (argGa m c (row t.val s)) (fun j => argW m c j (chan h x))]
  simp only [block4, block5]

/-- A chunk's keys, from the call's arguments. -/
theorem keys_at (t : Fin cfg0.N) (r : Fin 64) (h : Fin 4) (x : Fin 256) :
    (iblk m c 1 t : FVec Ideal S64x1024 .f32) (ix2 r (chan h x)) = ks (argP m c) t.val h r x := block1 m c t r _

/-- A chunk's values, from the call's arguments. -/
theorem values_at (t : Fin cfg0.N) (r : Fin 64) (h : Fin 4) (e : Fin 512) :
    (iblk m c 2 t : FVec Ideal S64x2048 .f32) (ix2 r (vchan h e)) = vs (argP m c) t.val h r e := block2 m c t r _

/-- A chunk's output gates, from the call's arguments. -/
theorem outgates_at (t : Fin cfg0.N) (r : Fin 64) (h : Fin 4) (e : Fin 512) :
    (iblk m c 3 t : FVec Ideal S64x2048 .f32) (ix2 r (vchan h e)) = zs (argP m c) t.val h r e := block3 m c t r _

/-- A chunk's queries, from the call's arguments. -/
theorem queries_at (t : Fin cfg0.N) (r : Fin 64) (h : Fin 4) (x : Fin 256) :
    (k0_pay15 (iblk m c 0 t) : FVec Ideal S64x1024 .f32) (ix2 r (chan h x)) = qs (argP m c) t.val h r x := by
  exact (scaled_at (iblk m c 0 t) r (chan h x)).trans
    (congrArg (fun z : EReal => z * Ideal.ofBits FTy.f32 1031798784#32) (block0 m c t r (chan h x)))

/-- One chunk's step, from the call's arguments. -/
theorem step_at (t : Fin cfg0.N) (S : Fin 4 → Fin 256 → Fin 512 → EReal) (h : Fin 4) (x : Fin 256) (e : Fin 512) :
    stepState (iblk m c 1 t) (iblk m c 2 t) (gates (iblk m c 4 t) (iblk m c 5 t) (iblk m c 6 t)) S h x e
      = after (ks (argP m c) t.val h) (gs (argGa m c) (argW m c) (argB m c) t.val h) (vs (argP m c) t.val h) (S h) x e := by
  rw [stepState]
  simp only [gates_at, keys_at, values_at]

/-- One chunk's output, from the call's arguments. -/
theorem stepOut_at (t : Fin cfg0.N) (S : Fin 4 → Fin 256 → Fin 512 → EReal) (r : Fin 64) (h : Fin 4) (e : Fin 512) :
    stepOut (k0_pay15 (iblk m c 0 t)) (iblk m c 1 t) (iblk m c 2 t) (iblk m c 3 t)
        (gates (iblk m c 4 t) (iblk m c 5 t) (iblk m c 6 t)) (iblk m c 7 t) S r h e
      = normed (mix (qs (argP m c) t.val h) (ks (argP m c) t.val h)
          (gs (argGa m c) (argW m c) (argB m c) t.val h) (vs (argP m c) t.val h) (S h) r)
          (fun e => argU m c (vchan h e)) (zs (argP m c) t.val h r) e := by
  rw [stepOut]
  simp only [gates_at, keys_at, values_at, queries_at, outgates_at, block7]

/-- The scratch after a point: the state of its batch row after its chunk. -/
theorem scratch_at : ∀ (n : ℕ) (hn : n < cfg0.N) (h : Fin 4) (x : Fin 256) (e : Fin 512),
    (outsAt0 m c n hn).2.2 (ix3 h e x)
      = stateAt (argP m c) (argGa m c) (argW m c) (argB m c) (n / 32) (n % 32 + 1) h x e := by
  intro n
  induction n with
  | zero =>
    intro hn h x e
    refine (state_A m c ⟨0, hn⟩ (by simp) (by simp) h e x).trans ?_
    rw [step_at]
    rfl
  | succ n ih =>
    intro hn h x e
    have key : ∀ S : Fin 4 → Fin 256 → Fin 512 → EReal,
        S h = stateAt (argP m c) (argGa m c) (argW m c) (argB m c) ((n + 1) / 32) ((n + 1) % 32) h →
        stepState (iblk m c 1 ⟨n + 1, hn⟩) (iblk m c 2 ⟨n + 1, hn⟩)
          (gates (iblk m c 4 ⟨n + 1, hn⟩) (iblk m c 5 ⟨n + 1, hn⟩) (iblk m c 6 ⟨n + 1, hn⟩)) S h x e
        = stateAt (argP m c) (argGa m c) (argW m c) (argB m c) ((n + 1) / 32) ((n + 1) % 32 + 1) h x e := by
      intro S hS
      rw [step_at, hS, stateAt, show 32 * ((n + 1) / 32) + (n + 1) % 32 = n + 1 by omega]
    by_cases h0 : (n + 1) % 32 = 0
    · refine (state_A m c ⟨n + 1, hn⟩ h0 (by simp only; omega) h e x).trans (key _ ?_)
      rw [h0]
      rfl
    · have hS : (fun (x : Fin 256) (e : Fin 512) => (outsAt0 m c n (Nat.lt_of_succ_lt hn)).2.2 (ix3 h e x))
          = stateAt (argP m c) (argGa m c) (argW m c) (argB m c) ((n + 1) / 32) ((n + 1) % 32) h := by
        funext x e
        rw [ih, show (n + 1) / 32 = n / 32 by omega, show (n + 1) % 32 = n % 32 + 1 by omega]
      by_cases h1 : (n + 1) % 32 = 31
      · exact (state_C m c ⟨n + 1, hn⟩ h0 h1 h e x).trans (key _ hS)
      · exact (state_B m c ⟨n + 1, hn⟩ h0 h1 h e x).trans (key _ hS)

/-- The output block of a point. -/
theorem output_at (n : ℕ) (hn : n < cfg0.N) (r : Fin 64) (h : Fin 4) (e : Fin 512) :
    (outsAt0 m c n hn).1 (ix2 r (vchan h e))
      = outAt (argP m c) (argGa m c) (argW m c) (argB m c) (argU m c) (n / 32) (n % 32) r h e := by
  have key : ∀ S : Fin 4 → Fin 256 → Fin 512 → EReal,
      S h = stateAt (argP m c) (argGa m c) (argW m c) (argB m c) (n / 32) (n % 32) h →
      blockOut (k0_pay15 (iblk m c 0 ⟨n, hn⟩)) (iblk m c 1 ⟨n, hn⟩) (iblk m c 2 ⟨n, hn⟩) (iblk m c 3 ⟨n, hn⟩)
        (gates (iblk m c 4 ⟨n, hn⟩) (iblk m c 5 ⟨n, hn⟩) (iblk m c 6 ⟨n, hn⟩)) (iblk m c 7 ⟨n, hn⟩) S (ix2 r (vchan h e))
      = outAt (argP m c) (argGa m c) (argW m c) (argB m c) (argU m c) (n / 32) (n % 32) r h e := by
    intro S hS
    rw [blockOut_at, stepOut_at, hS, outAt, show 32 * (n / 32) + n % 32 = n by omega]
  by_cases h0 : n % 32 = 0
  · refine (out_A m c ⟨n, hn⟩ h0 (by simp only; omega) _).trans (key _ ?_)
    rw [h0]
    rfl
  · have hS : (fun (x : Fin 256) (e : Fin 512) =>
          (outsAt0 m c (n - 1) (Nat.lt_of_le_of_lt (Nat.sub_le _ _) hn)).2.2 (ix3 h e x))
        = stateAt (argP m c) (argGa m c) (argW m c) (argB m c) (n / 32) (n % 32) h := by
      funext x e
      rw [scratch_at, show (n - 1) / 32 = n / 32 by omega, show (n - 1) % 32 + 1 = n % 32 by omega]
    by_cases h1 : n % 32 = 31
    · exact (out_C m c ⟨n, hn⟩ h0 h1 _).trans (key _ hS)
    · exact (out_B m c ⟨n, hn⟩ h0 h1 _).trans (key _ hS)

/-- The kernel's first result, at an index. -/
theorem result_out (i : Fin 8192) (h : Fin 4) (e : Fin 512) :
    Value.G8 m c (ix2 i (vchan h e))
      = outAt (argP m c) (argGa m c) (argW m c) (argB m c) (argU m c) (i.val / 2048) (i.val / 64 % 32)
          ⟨i.val % 64, Nat.mod_lt _ (by decide)⟩ h e := by
  have hv : (vchan h e).val < 2048 := (vchan h e).isLt
  have hp : Value.pt8Of (ix2 i (vchan h e)) = i.val / 64 := by
    show 1 * (i.val / 64 - 0) + 1 * ((vchan h e).val / 2048 - 0) = i.val / 64
    omega
  have hN : i.val / 64 < cfg0.N := by rw [show cfg0.N = 128 from N_0]; omega
  unfold Value.G8
  rw [dif_pos (by rw [hp]; exact hN), ← Value.outsAt0_sweep m c _ (by rw [hp]; exact hN)]
  have hl : Value.loc8Of (ix2 i (vchan h e)) = ix2 (⟨i.val % 64, Nat.mod_lt _ (by decide)⟩ : Fin 64) (vchan h e) := by
    funext a
    match a with
    | 0 => rfl
    | 1 => exact Fin.ext (Nat.mod_eq_of_lt hv)
  rw [hl]
  rw [output_at]
  simp only [hp]
  rw [show i.val / 64 / 32 = i.val / 2048 by omega]

/-- The kernel's second result, at an index. -/
theorem result_state (a : Fin 4) (h : Fin 4) (x : Fin 256) (e : Fin 512) :
    Value.G9 m c (ix4 a h x e) = stateAt (argP m c) (argGa m c) (argW m c) (argB m c) a.val 32 h x e := by
  have hp : Value.pt9Of (ix4 a h x e) = 32 * a.val + 31 := by
    show 32 * (1 * (a.val / 1 - 0) + 1 * (h.val / 4 - 0) + 1 * (x.val / 256 - 0) + 1 * (e.val / 512 - 0)) + 31 = _
    omega
  have hN : 32 * a.val + 31 < cfg0.N := by rw [show cfg0.N = 128 from N_0]; omega
  unfold Value.G9
  rw [dif_pos (by rw [hp]; exact hN), ← Value.outsAt0_sweep m c _ (by rw [hp]; exact hN)]
  have hl : Value.loc9Of (ix4 a h x e) = ix4 (0 : Fin 1) h x e := by
    funext b
    match b with
    | 0 => exact Fin.ext (Nat.mod_one _)
    | 1 => exact Fin.ext (Nat.mod_eq_of_lt h.isLt)
    | 2 => exact Fin.ext (Nat.mod_eq_of_lt x.isLt)
    | 3 => exact Fin.ext (Nat.mod_eq_of_lt e.isLt)
  rw [hl]
  have hf := final_C m c ⟨Value.pt9Of (ix4 a h x e), by rw [hp]; exact hN⟩ (by simp only [hp]; omega)
    (by simp only [hp]; omega) h x e
  refine hf.trans ?_
  rw [scratch_at]
  simp only [hp]
  rw [show (32 * a.val + 31) / 32 = a.val by omega, show (32 * a.val + 31) % 32 + 1 = 32 by omega]

end Cert.Gla

end
-- ==== Proof.ProjRun.lean ====
module

public import proofs.«01_k».proof.Proof.Gen.Kernel2Ideal.Frame
public import Idealize.ShloMosaic.Lib.Pipeline.ValueKit
public import Idealize.ShloMosaic.Init
public import Idealize.ShloMosaic.Lib.StableHlo.ReadAt

/-! # The projections' run, down to the arrays it leaves

The generated frame of the program names what each array holds after each launch and after each stretch of host
operations; the last of these valuations is what the run leaves. -/

@[expose] public section

set_option maxRecDepth 16384

noncomputable section

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

namespace Cert.Proj

open Cert.Kernel2Ideal Cert.Kernel2Ideal.Gen

variable (m : (ℓ : Loc nD τ sig) → Buf (Elt Ideal) ℓ) (ρ : Dev nD → PrngReg)

set_option backward.isDefEq.respectTransparency.types false in
/-- Every weakly fair run of the projections ends, and each of the program's arrays then holds what the last valuation says. -/
theorem run_ends : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W8 m ρ c (Proc.devRef .tc b)) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W8 m ρ c b)
    (hu₀ := ?tokens) (hch := ?chain) (hinit := ?start) (hfin := ?finish)
    (hQ := fun s h _ c b hb => h c _ (mem_uc b hb))
  case tokens =>
    iintro Htok
    imodintro
    isplitl [Htok]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Htok
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  case chain =>
    refine ⟨fun _ => .rfl, fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨Harr, Hreg, Howe⟩
    isplitl [Harr Hreg]
    · isplitl [Harr]
      · iexact Harr
      · iexact Hreg
    · iexact Howe
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Harr, -, Howe, -, Hreg, -⟩, -⟩
    imodintro
    isplitl [Harr]
    · iexact Harr
    isplitl [Hreg]
    · iexists _
      iexact Hreg
    · iexists ∅
      iexact Howe
  case finish =>
    intro c s
    iintro ⟨⟨Harr, -⟩, Hstate⟩
    unfold StableHlo.held
    imodintro
    iapply (pointsTo_read_all (Pipeline.ucRefs τ sig) (fun b => (((c : Thread nD τ)).1, b)) (W8 m ρ c) s)
    isplitl [Harr] <;> iassumption

end Cert.Proj

end
-- ==== Proof.ProjTiles.lean ====
module

public import proofs.«01_k».proof.Proof.Gen.Kernel2Ideal.Frame
public import Idealize.ShloMosaic.Lib.Pipeline.ValueKit

/-! # The projections' launches, read tile by tile

Each launch multiplies a block of normalised tokens by a block of weight rows; its whole array is the product of the whole operands. -/

@[expose] public section

set_option maxRecDepth 16384

noncomputable section

open Idealize.ShloMosaic Idealize.ShloMosaic.TcCoe Idealize.SL.Sem
open Idealize.ShloMosaic.Pipeline (Dat)

namespace Cert.Proj

open Cert.Kernel2Ideal Cert.Kernel2Ideal.Gen

variable (V : (c : Dev nD) → (b : Ref sig .tc) → Buf (Elt Ideal) ((c : Thread nD τ).loc b)) (c : Dev nD)

/-- A token's row divided by the root of its mean square, times the gain. -/
def normed (x g : Fin 4096 → EReal) (j : Fin 4096) : EReal :=
  x j * Ideal.rsqrt (Ideal.div (∑ d : Fin 4096, x d * x d) (Ideal.ofBits FTy.f32 1166016512#32) + Ideal.ofBits FTy.f32 897988541#32) * g j

/-- The blocks of the normalisation: the prompt's row block (the last one once the prompt is over), the sample's, the gain. -/
theorem idx0 : ∀ t : Fin cfg0.N, win0_0.index t = ![min t.val 31, 0] ∧ win0_1.index t = ![t.val - 32, 0] ∧ win0_2.index t = ![0, 0]
    ∧ win0_3.index t = ![t.val, 0] :=
  (by decide +kernel : ∀ t : Fin grid0.N, _)

/-- The normalisation's block at an index. -/
theorem norm_at (x : FVec Ideal S256x4096 .f32) (g : FVec Ideal S1x4096 .f32) (r : Fin 256) (j : Fin 4096) :
    k0_pay1 (F := Ideal) x g (ix2 r j) = normed (fun d => x (ix2 r d)) (fun d => g (ix2 0 d)) j := by
  pointwise [k0_pay1, normed]

/-- All normalised tokens: the prompt's rows, then the sample's. -/
def tokens (xp : FVec Ideal S8192x4096 .f32) (xs : FVec Ideal S256x4096 .f32) (g : FVec Ideal S1x4096 .f32) (i : Fin 8448) (j : Fin 4096) : EReal :=
  if h : i.val < 8192 then normed (fun d => xp (ix2 ⟨i.val, h⟩ d)) (fun d => g (ix2 0 d)) j
  else normed (fun d => xs (ix2 ⟨i.val - 8192, by omega⟩ d)) (fun d => g (ix2 0 d)) j

/-- The prompt's block at a point before the thirty-second. -/
theorem block_prompt (t : Fin cfg0.N) (h : t.val < 32) (r : Fin 256) (d : Fin 4096) :
    (iblk0 V c 0 t (ix2 r d) : EReal) = (show FVec Ideal S8192x4096 .f32 from V c main_v0) (ix2 ⟨t.val * 256 + r.val, by omega⟩ d) := by
  blk_ext [iblk0, idx0 t]

/-- The sample's block at the last point. -/
theorem block_sample (t : Fin cfg0.N) (h : ¬ t.val < 32) (ht : t.val < 33) (r : Fin 256) (d : Fin 4096) :
    (iblk0 V c 1 t (ix2 r d) : EReal) = (show FVec Ideal S256x4096 .f32 from V c main_v1) (ix2 ⟨t.val * 256 + r.val - 8192, by omega⟩ d) := by
  blk_ext [iblk0, idx0 t]

/-- The gain's block, at every point. -/
theorem block_gain (t : Fin cfg0.N) (d : Fin 4096) :
    (iblk0 V c 2 t (ix2 0 d) : EReal) = (show FVec Ideal S1x4096 .f32 from V c main_v12) (ix2 0 d) := by
  blk_ext [iblk0, idx0 t]

/-- The normalisation's whole array. -/
theorem final0 : (dat0 V c).arrAt 3 cfg0.N
    = (fun i : S8448x4096.Idx => tokens (V c main_v0) (V c main_v1) (V c main_v12) (i 0) (i 1)) := by
  refine (dat0 V c).arrAt_eq_of_covers 3 _ (by decide +kernel) fun t _ y => ?_
  have ht : t.val < 33 := lt_of_lt_of_eq t.isLt (show cfg0.N = 33 from N_0)
  obtain ⟨r, j, rfl⟩ : ∃ (r : Fin 256) (j : Fin 4096), y = ix2 r j := ⟨y 0, y 1, eq_ix2 y⟩
  have e : ((cfg0.win 3).blk t).view.emb (ix2 r j) = (ix2 (⟨t.val * 256 + r.val, by omega⟩ : Fin 8448) j : S8448x4096.Idx) := by
    blk_ext [idx0 t]
  have e0 := congrFun e 0
  have e1 := congrFun e 1
  refine Eq.trans ?_ (congrArg₂ (tokens (V c main_v0) (V c main_v1) (V c main_v12)) e0 e1).symm
  blk_simp
  rw [after0_3]
  by_cases h : t.val < 32
  · rw [outsAt0_A V c t h (by omega)]; frame_out
    refine (norm_at _ _ r j).trans ?_
    have hi : t.val * 256 + r.val < 8192 := by omega
    refine Eq.trans ?_ (dif_pos (c := (⟨t.val * 256 + r.val, by omega⟩ : Fin 8448).val < 8192) hi).symm
    exact congrFun (congrArg₂ normed (funext fun d => block_prompt V c t h r d) (funext fun d => block_gain V c t d)) j
  · rw [outsAt0_B V c t h (by omega)]; frame_out
    refine (norm_at _ _ r j).trans ?_
    have hi : ¬ t.val * 256 + r.val < 8192 := by omega
    refine Eq.trans ?_ (dif_neg (c := (⟨t.val * 256 + r.val, by omega⟩ : Fin 8448).val < 8192) hi).symm
    exact congrFun (congrArg₂ normed (funext fun d => block_sample V c t h ht r d) (funext fun d => block_gain V c t d)) j

/-- Where the blocks of the first product lie. -/
theorem idx1 : ∀ t : Fin cfg1.N, win1_0.index t = ![t.val / 12, 0] ∧ win1_1.index t = ![t.val % 12, 0] ∧ win1_2.index t = ![t.val / 12, t.val % 12] :=
  (by decide +kernel : ∀ t : Fin grid1.N, _)

/-- A block of the first product, against the whole product. -/
theorem point1 (t : Fin cfg1.N) (y : S1408x512.Idx) : k1_pay1 (F := Ideal) (iblk1 V c 0 t) (iblk1 V c 1 t) y
    = (fun i : S8448x6144.Idx => ∑ d : Fin 4096, (show FVec Ideal S8448x4096 .bf16 from V c main_v13) (ix2 (i 0) d) * (show FVec Ideal S6144x4096 .bf16 from V c main_v5) (ix2 (i 1) d)) (((cfg1.win 2).blk t).view.emb y) := by
  pointwise [k1_pay1]
  blk_point [iblk1, idx1 t]

/-- The whole array of the first product. -/
theorem final1 : (dat1 V c).arrAt 2 cfg1.N
    = (fun i : S8448x6144.Idx => ∑ d : Fin 4096, (show FVec Ideal S8448x4096 .bf16 from V c main_v13) (ix2 (i 0) d) * (show FVec Ideal S6144x4096 .bf16 from V c main_v5) (ix2 (i 1) d)) := by
  refine (dat1 V c).arrAt_eq_of_covers 2 _ (by decide +kernel) fun t _ y => ?_
  blk_simp
  rw [after1_2]; frame_out
  exact point1 V c t y

/-- Where the blocks of the second product lie. -/
theorem idx2 : ∀ t : Fin cfg2.N, win2_0.index t = ![t.val / 12, 0] ∧ win2_1.index t = ![t.val % 12, 0] ∧ win2_2.index t = ![t.val / 12, t.val % 12] :=
  (by decide +kernel : ∀ t : Fin grid2.N, _)

/-- A block of the second product, against the whole product. -/
theorem point2 (t : Fin cfg2.N) (y : S1408x512.Idx) : k2_pay1 (F := Ideal) (iblk2 V c 0 t) (iblk2 V c 1 t) y
    = (fun i : S8448x6144.Idx => ∑ d : Fin 4096, (show FVec Ideal S8448x4096 .bf16 from V c main_v13) (ix2 (i 0) d) * (show FVec Ideal S6144x4096 .bf16 from V c main_v7) (ix2 (i 1) d)) (((cfg2.win 2).blk t).view.emb y) := by
  pointwise [k2_pay1]
  blk_point [iblk2, idx2 t]

/-- The whole array of the second product. -/
theorem final2 : (dat2 V c).arrAt 2 cfg2.N
    = (fun i : S8448x6144.Idx => ∑ d : Fin 4096, (show FVec Ideal S8448x4096 .bf16 from V c main_v13) (ix2 (i 0) d) * (show FVec Ideal S6144x4096 .bf16 from V c main_v7) (ix2 (i 1) d)) := by
  refine (dat2 V c).arrAt_eq_of_covers 2 _ (by decide +kernel) fun t _ y => ?_
  blk_simp
  rw [after2_2]; frame_out
  exact point2 V c t y

/-- Where the blocks of the gates' product lie. -/
theorem idx3 : ∀ t : Fin cfg3.N, win3_0.index t = ![t.val, 0] ∧ win3_1.index t = ![0, 0] ∧ win3_2.index t = ![t.val, 0] :=
  (by decide +kernel : ∀ t : Fin grid3.N, _)

/-- A block of the gates' product, against the whole product. -/
theorem point3 (t : Fin cfg3.N) (y : S768x128.Idx) : k3_pay1 (F := Ideal) (iblk3 V c 0 t) (iblk3 V c 1 t) y
    = (fun i : S8448x128.Idx => ∑ d : Fin 4096, (show FVec Ideal S8448x4096 .bf16 from V c main_v13) (ix2 (i 0) d) * (show FVec Ideal S128x4096 .bf16 from V c main_v10) (ix2 (i 1) d)) (((cfg3.win 2).blk t).view.emb y) := by
  pointwise [k3_pay1]
  blk_point [iblk3, idx3 t]

/-- The whole array of the gates' product. -/
theorem final3 : (dat3 V c).arrAt 2 cfg3.N
    = (fun i : S8448x128.Idx => ∑ d : Fin 4096, (show FVec Ideal S8448x4096 .bf16 from V c main_v13) (ix2 (i 0) d) * (show FVec Ideal S128x4096 .bf16 from V c main_v10) (ix2 (i 1) d)) := by
  refine (dat3 V c).arrAt_eq_of_covers 2 _ (by decide +kernel) fun t _ y => ?_
  blk_simp
  rw [after3_2]; frame_out
  exact point3 V c t y

end Cert.Proj

end
-- ==== Proof.ProjArrays.lean ====
module

public import proofs.«01_k».proof.Proof.ProjTiles
public import Idealize.ShloMosaic.Lib.StableHlo.ReadAt

/-! # The arrays the projections' run leaves, from its arguments

The host's stretches before the launches lay the tokens out as rows and the weight as three groups of rows; the launches
normalise and multiply; the stretch after them splits the products into the ten results. -/

@[expose] public section

set_option maxRecDepth 16384

noncomputable section

open Idealize.ShloMosaic Idealize.ShloMosaic.TcCoe Idealize.ShloMosaic.Tactic Idealize.SL.Sem
open scoped BigOperators

namespace Cert.Proj

open Cert.Kernel2Ideal Cert.Kernel2Ideal.Gen

/-- A token's projection: the normalised row times a column of the weight. -/
def projected (x g : Fin 4096 → EReal) (w : Fin 4096 → EReal) : EReal := ∑ d : Fin 4096, normed x g d * w d

section Stretches

variable (V : Valuation τ sig (Elt Ideal))

/-- The prompt's tokens as rows. -/
theorem rows_prompt (i : Fin 8192) (d : Fin 4096) :
    StableHlo.after hostOps0 V (Proc.devRef .tc main_v0) (ix2 i d)
      = (show FVec Ideal S4x2048x4096 .f32 from V (Proc.devRef .tc main_arg0)) (ix3 ⟨i.val / 2048, by omega⟩ ⟨i.val % 2048, by omega⟩ d) := by
  after_reads_at

/-- The sample's tokens as rows. -/
theorem rows_sample (i : Fin 256) (d : Fin 4096) :
    StableHlo.after hostOps0 V (Proc.devRef .tc main_v1) (ix2 i d)
      = (show FVec Ideal S32x8x4096 .f32 from V (Proc.devRef .tc main_arg1)) (ix3 ⟨i.val / 8, by omega⟩ ⟨i.val % 8, by omega⟩ d) := by
  after_reads_at

/-- The linear-attention group's weight rows. -/
theorem rows_first (j : Fin 6144) (d : Fin 4096) :
    StableHlo.after hostOps0 V (Proc.devRef .tc main_v5) (ix2 j d)
      = (show FVec Ideal S1x4096x12304 .f32 from V (Proc.devRef .tc main_arg3)) (ix3 0 d ⟨j.val, by omega⟩) := by
  after_reads_at

/-- The differential-attention group's weight rows. -/
theorem rows_second (j : Fin 6144) (d : Fin 4096) :
    StableHlo.after hostOps0 V (Proc.devRef .tc main_v7) (ix2 j d)
      = (show FVec Ideal S1x4096x12304 .f32 from V (Proc.devRef .tc main_arg3)) (ix3 0 d ⟨6160 + j.val, by omega⟩) := by
  after_reads_at

/-- The gates' weight rows, before padding. -/
theorem rows_gates (j : Fin 16) (d : Fin 4096) :
    StableHlo.after hostOps0 V (Proc.devRef .tc main_v8) (ix2 j d)
      = (show FVec Ideal S1x4096x12304 .f32 from V (Proc.devRef .tc main_arg3)) (ix3 0 d ⟨6144 + j.val, by omega⟩) := by
  after_reads_at

/-- Padding keeps the first sixteen rows. -/
theorem rows_padded (j : Fin 128) (hj : j.val < 16) (d : Fin 4096) :
    StableHlo.after hostOps0_1 V (Proc.devRef .tc main_v9) (ix2 j d)
      = (show FVec Ideal S16x4096 .f32 from V (Proc.devRef .tc main_v8)) (ix2 ⟨j.val, hj⟩ d) := by
  after_reads_at
  exact dif_pos hj

/-- The padded rows, in the launch's format. -/
theorem rows_cast (j : Fin 128) (d : Fin 4096) :
    StableHlo.after hostOps0_2 V (Proc.devRef .tc main_v10) (ix2 j d)
      = (show FVec Ideal S128x4096 .f32 from V (Proc.devRef .tc main_v9)) (ix2 j d) := by
  after_reads_at

/-- The gain as one row. -/
theorem row_gain (d : Fin 4096) :
    StableHlo.after hostOps0_2 V (Proc.devRef .tc main_v12) (ix2 0 d)
      = (show FVec Ideal S1x4096 .f32 from V (Proc.devRef .tc main_arg2)) (ix2 0 d) := by
  after_reads_at

/-- The linear-attention columns of the prompt. -/
theorem last_gla_prompt (b : Fin 4) (t : Fin 2048) (j : Fin 6144) :
    StableHlo.after hostOps4 V (Proc.devRef .tc main_v18) (ix3 b t j)
      = (show FVec Ideal S8448x6144 .f32 from V (Proc.devRef .tc main_v14)) (ix2 ⟨b.val * 2048 + t.val, by omega⟩ j) := by
  after_reads_at

/-- The linear-attention columns of the sample. -/
theorem last_gla_sample (b : Fin 32) (t : Fin 8) (j : Fin 6144) :
    StableHlo.after hostOps4 V (Proc.devRef .tc main_v20) (ix3 b t j)
      = (show FVec Ideal S8448x6144 .f32 from V (Proc.devRef .tc main_v14)) (ix2 ⟨8192 + (b.val * 8 + t.val), by omega⟩ j) := by
  after_reads_at

/-- The gates of the prompt. -/
theorem last_gate_prompt (b : Fin 4) (t : Fin 2048) (j : Fin 16) :
    StableHlo.after hostOps4 V (Proc.devRef .tc main_v22) (ix3 b t j)
      = (show FVec Ideal S8448x128 .f32 from V (Proc.devRef .tc main_v16)) (ix2 ⟨b.val * 2048 + t.val, by omega⟩ ⟨j.val, by omega⟩) := by
  after_reads_at

/-- The gates of the sample. -/
theorem last_gate_sample (b : Fin 32) (t : Fin 8) (j : Fin 16) :
    StableHlo.after hostOps4 V (Proc.devRef .tc main_v24) (ix3 b t j)
      = (show FVec Ideal S8448x128 .f32 from V (Proc.devRef .tc main_v16)) (ix2 ⟨8192 + (b.val * 8 + t.val), by omega⟩ ⟨j.val, by omega⟩) := by
  after_reads_at

/-- The differential queries of the prompt. -/
theorem last_query_prompt (b : Fin 4) (t : Fin 2048) (j : Fin 2048) :
    StableHlo.after hostOps4 V (Proc.devRef .tc main_v26) (ix3 b t j)
      = (show FVec Ideal S8448x6144 .f32 from V (Proc.devRef .tc main_v15)) (ix2 ⟨b.val * 2048 + t.val, by omega⟩ ⟨j.val, by omega⟩) := by
  after_reads_at

/-- The differential queries of the sample. -/
theorem last_query_sample (b : Fin 32) (t : Fin 8) (j : Fin 2048) :
    StableHlo.after hostOps4 V (Proc.devRef .tc main_v28) (ix3 b t j)
      = (show FVec Ideal S8448x6144 .f32 from V (Proc.devRef .tc main_v15)) (ix2 ⟨8192 + (b.val * 8 + t.val), by omega⟩ ⟨j.val, by omega⟩) := by
  after_reads_at

/-- The keys of the prompt. -/
theorem last_key_prompt (z : Fin 1) (b : Fin 4) (t : Fin 2048) (h : Fin 8) (p : Fin 2) (e : Fin 128) :
    StableHlo.after hostOps4 V (Proc.devRef .tc main_v30) (ix6 z b t h p e)
      = (show FVec Ideal S8448x6144 .f32 from V (Proc.devRef .tc main_v15))
          (ix2 ⟨b.val * 2048 + t.val, by omega⟩ ⟨2048 + (h.val * 256 + p.val * 128 + e.val), by omega⟩) := by
  after_reads_at

/-- The values of the prompt. -/
theorem last_value_prompt (z : Fin 1) (b : Fin 4) (t : Fin 2048) (h : Fin 8) (e : Fin 256) :
    StableHlo.after hostOps4 V (Proc.devRef .tc main_v32) (ix5 z b t h e)
      = (show FVec Ideal S8448x6144 .f32 from V (Proc.devRef .tc main_v15))
          (ix2 ⟨b.val * 2048 + t.val, by omega⟩ ⟨4096 + (h.val * 256 + e.val), by omega⟩) := by
  after_reads_at

/-- The keys of the sample. -/
theorem last_key_sample (z : Fin 1) (b : Fin 32) (t : Fin 8) (h : Fin 8) (p : Fin 2) (e : Fin 128) :
    StableHlo.after hostOps4 V (Proc.devRef .tc main_v34) (ix6 z b t h p e)
      = (show FVec Ideal S8448x6144 .f32 from V (Proc.devRef .tc main_v15))
          (ix2 ⟨8192 + (b.val * 8 + t.val), by omega⟩ ⟨2048 + (h.val * 256 + p.val * 128 + e.val), by omega⟩) := by
  after_reads_at

/-- The values of the sample. -/
theorem last_value_sample (z : Fin 1) (b : Fin 32) (t : Fin 8) (h : Fin 8) (e : Fin 256) :
    StableHlo.after hostOps4 V (Proc.devRef .tc main_v36) (ix5 z b t h e)
      = (show FVec Ideal S8448x6144 .f32 from V (Proc.devRef .tc main_v15))
          (ix2 ⟨8192 + (b.val * 8 + t.val), by omega⟩ ⟨4096 + (h.val * 256 + e.val), by omega⟩) := by
  after_reads_at

end Stretches

section Boundaries

variable (m : (ℓ : Loc nD τ sig) → Buf (Elt Ideal) ℓ) (ρ : Dev nD → PrngReg) (c : Dev nD)

/-- A token of the prompt. -/
def prompt (b : Fin 4) (t : Fin 2048) (d : Fin 4096) : EReal :=
  (show FVec Ideal S4x2048x4096 .f32 from m ((c : Thread nD τ).loc main_arg0)) (ix3 b t d)

/-- A token of the sample. -/
def sample (b : Fin 32) (t : Fin 8) (d : Fin 4096) : EReal :=
  (show FVec Ideal S32x8x4096 .f32 from m ((c : Thread nD τ).loc main_arg1)) (ix3 b t d)

/-- The normalisation's gain. -/
def gain (d : Fin 4096) : EReal := (show FVec Ideal S1x4096 .f32 from m ((c : Thread nD τ).loc main_arg2)) (ix2 0 d)

/-- A column of the projections' weight. -/
def column (j : Fin 12304) (d : Fin 4096) : EReal :=
  (show FVec Ideal S1x4096x12304 .f32 from m ((c : Thread nD τ).loc main_arg3)) (ix3 0 d j)

/-- The gain's row at the normalisation's entry. -/
theorem entry_gain (d : Fin 4096) : (show FVec Ideal S1x4096 .f32 from W3 m ρ c (Proc.devRef .tc main_v12)) (ix2 0 d) = gain m c d := by
  refine (row_gain _ d).trans ?_
  rw [W2_of m ρ c main_arg2 (by decide), W1_of m ρ c main_arg2 (by decide)]
  rfl

/-- The normalised tokens of the prompt. -/
theorem norm_prompt (b : Fin 4) (t : Fin 2048) (d : Fin 4096) :
    (show FVec Ideal S8448x4096 .bf16 from W4 m ρ c (Proc.devRef .tc main_v13)) (ix2 ⟨b.val * 2048 + t.val, by omega⟩ d)
      = normed (prompt m c b t) (gain m c) d := by
  have h := congrFun ((W4_arr m ρ c 3).trans (final0 (V3 m ρ) c)) (ix2 (⟨b.val * 2048 + t.val, by omega⟩ : Fin 8448) d)
  refine h.trans ?_
  have hi : b.val * 2048 + t.val < 8192 := by omega
  refine (dif_pos (c := (⟨b.val * 2048 + t.val, by omega⟩ : Fin 8448).val < 8192) hi).trans ?_
  refine congrFun (congrArg₂ normed (funext fun e => ?_) (funext fun e => entry_gain m ρ c e)) d
  show (show FVec Ideal S8192x4096 .f32 from W3 m ρ c (Proc.devRef .tc main_v0)) (ix2 ⟨b.val * 2048 + t.val, hi⟩ e) = _
  rw [W3_of m ρ c main_v0 (by decide), W2_of m ρ c main_v0 (by decide)]
  refine (rows_prompt _ _ e).trans ?_
  unfold prompt
  have h1 : (b.val * 2048 + t.val) / 2048 = b.val := by omega
  have h2 : (b.val * 2048 + t.val) % 2048 = t.val := by omega
  exact congrArg₂ (fun (p : Fin 4) (q : Fin 2048) => (show FVec Ideal S4x2048x4096 .f32 from m ((c : Thread nD τ).loc main_arg0)) (ix3 p q e))
    (Fin.ext h1) (Fin.ext h2)

/-- The normalised tokens of the sample. -/
theorem norm_sample (b : Fin 32) (t : Fin 8) (d : Fin 4096) :
    (show FVec Ideal S8448x4096 .bf16 from W4 m ρ c (Proc.devRef .tc main_v13)) (ix2 ⟨8192 + (b.val * 8 + t.val), by omega⟩ d)
      = normed (sample m c b t) (gain m c) d := by
  have h := congrFun ((W4_arr m ρ c 3).trans (final0 (V3 m ρ) c)) (ix2 (⟨8192 + (b.val * 8 + t.val), by omega⟩ : Fin 8448) d)
  refine h.trans ?_
  have hi : ¬ 8192 + (b.val * 8 + t.val) < 8192 := by omega
  refine (dif_neg (c := (⟨8192 + (b.val * 8 + t.val), by omega⟩ : Fin 8448).val < 8192) hi).trans ?_
  refine congrFun (congrArg₂ normed (funext fun e => ?_) (funext fun e => entry_gain m ρ c e)) d
  show (show FVec Ideal S256x4096 .f32 from W3 m ρ c (Proc.devRef .tc main_v1)) (ix2 ⟨8192 + (b.val * 8 + t.val) - 8192, by omega⟩ e) = _
  rw [W3_of m ρ c main_v1 (by decide), W2_of m ρ c main_v1 (by decide)]
  refine (rows_sample _ _ e).trans ?_
  unfold sample
  have h1 : (8192 + (b.val * 8 + t.val) - 8192) / 8 = b.val := by omega
  have h2 : (8192 + (b.val * 8 + t.val) - 8192) % 8 = t.val := by omega
  exact congrArg₂ (fun (p : Fin 32) (q : Fin 8) => (show FVec Ideal S32x8x4096 .f32 from m ((c : Thread nD τ).loc main_arg1)) (ix3 p q e))
    (Fin.ext h1) (Fin.ext h2)

/-- A sum of products, factor by factor. -/
theorem sum_products (f g x y : Fin 4096 → EReal) (hf : ∀ d, f d = x d) (hg : ∀ d, g d = y d) :
    ∑ d : Fin 4096, f d * g d = ∑ d : Fin 4096, x d * y d :=
  Finset.sum_congr rfl fun d _ => congrArg₂ (· * ·) (hf d) (hg d)

/-- The first product at its launch's end. -/
theorem product_first (i : Fin 8448) (j : Fin 6144) (x : Fin 4096 → EReal)
    (hx : ∀ d, (show FVec Ideal S8448x4096 .bf16 from W4 m ρ c (Proc.devRef .tc main_v13)) (ix2 i d) = x d) :
    (show FVec Ideal S8448x6144 .f32 from W7 m ρ c (Proc.devRef .tc main_v14)) (ix2 i j)
      = ∑ d : Fin 4096, x d * column m c ⟨j.val, by omega⟩ d := by
  rw [W7_of m ρ c main_v14 (by decide), W6_of m ρ c main_v14 (by decide)]
  have h := congrFun ((W5_arr m ρ c 2).trans (final1 (V4 m ρ) c)) (ix2 i j)
  refine h.trans (sum_products (fun d => (show FVec Ideal S8448x4096 .bf16 from W4 m ρ c (Proc.devRef .tc main_v13)) (ix2 i d))
    (fun d => (show FVec Ideal S6144x4096 .bf16 from W4 m ρ c (Proc.devRef .tc main_v5)) (ix2 j d)) _ _ (fun d => hx d) (fun d => ?_))
  show (show FVec Ideal S6144x4096 .bf16 from W4 m ρ c (Proc.devRef .tc main_v5)) (ix2 j d) = _
  rw [W4_of m ρ c main_v5 (by decide), W3_of m ρ c main_v5 (by decide), W2_of m ρ c main_v5 (by decide)]
  exact rows_first _ j d

/-- The second product at its launch's end. -/
theorem product_second (i : Fin 8448) (j : Fin 6144) (x : Fin 4096 → EReal)
    (hx : ∀ d, (show FVec Ideal S8448x4096 .bf16 from W4 m ρ c (Proc.devRef .tc main_v13)) (ix2 i d) = x d) :
    (show FVec Ideal S8448x6144 .f32 from W7 m ρ c (Proc.devRef .tc main_v15)) (ix2 i j)
      = ∑ d : Fin 4096, x d * column m c ⟨6160 + j.val, by omega⟩ d := by
  rw [W7_of m ρ c main_v15 (by decide)]
  have h := congrFun ((W6_arr m ρ c 2).trans (final2 (V5 m ρ) c)) (ix2 i j)
  refine h.trans (sum_products (fun d => (show FVec Ideal S8448x4096 .bf16 from W5 m ρ c (Proc.devRef .tc main_v13)) (ix2 i d))
    (fun d => (show FVec Ideal S6144x4096 .bf16 from W5 m ρ c (Proc.devRef .tc main_v7)) (ix2 j d)) _ _ (fun d => ?_) (fun d => ?_))
  · show (show FVec Ideal S8448x4096 .bf16 from W5 m ρ c (Proc.devRef .tc main_v13)) (ix2 i d) = _
    rw [W5_of m ρ c main_v13 (by decide)]
    exact hx d
  · show (show FVec Ideal S6144x4096 .bf16 from W5 m ρ c (Proc.devRef .tc main_v7)) (ix2 j d) = _
    rw [W5_of m ρ c main_v7 (by decide), W4_of m ρ c main_v7 (by decide), W3_of m ρ c main_v7 (by decide), W2_of m ρ c main_v7 (by decide)]
    exact rows_second _ j d

/-- The gates' product at its launch's end, in the columns that are kept. -/
theorem product_gates (i : Fin 8448) (j : Fin 16) (x : Fin 4096 → EReal)
    (hx : ∀ d, (show FVec Ideal S8448x4096 .bf16 from W4 m ρ c (Proc.devRef .tc main_v13)) (ix2 i d) = x d) :
    (show FVec Ideal S8448x128 .f32 from W7 m ρ c (Proc.devRef .tc main_v16)) (ix2 i ⟨j.val, by omega⟩)
      = ∑ d : Fin 4096, x d * column m c ⟨6144 + j.val, by omega⟩ d := by
  have h := congrFun ((W7_arr m ρ c 2).trans (final3 (V6 m ρ) c)) (ix2 i (⟨j.val, by omega⟩ : Fin 128))
  refine h.trans (sum_products (fun d => (show FVec Ideal S8448x4096 .bf16 from W6 m ρ c (Proc.devRef .tc main_v13)) (ix2 i d))
    (fun d => (show FVec Ideal S128x4096 .bf16 from W6 m ρ c (Proc.devRef .tc main_v10)) (ix2 (⟨j.val, by omega⟩ : Fin 128) d)) _ _ (fun d => ?_) (fun d => ?_))
  · show (show FVec Ideal S8448x4096 .bf16 from W6 m ρ c (Proc.devRef .tc main_v13)) (ix2 i d) = _
    rw [W6_of m ρ c main_v13 (by decide), W5_of m ρ c main_v13 (by decide)]
    exact hx d
  · show (show FVec Ideal S128x4096 .bf16 from W6 m ρ c (Proc.devRef .tc main_v10)) (ix2 (⟨j.val, by omega⟩ : Fin 128) d) = _
    rw [W6_of m ρ c main_v10 (by decide), W5_of m ρ c main_v10 (by decide), W4_of m ρ c main_v10 (by decide)]
    exact (rows_cast _ _ d).trans ((rows_padded _ _ j.isLt d).trans (rows_gates _ j d))

/-- The linear-attention columns of the prompt, from the arguments. -/
theorem gla_prompt (b : Fin 4) (t : Fin 2048) (j : Fin 6144) :
    W8 m ρ c (Proc.devRef .tc main_v18) (ix3 b t j) = projected (prompt m c b t) (gain m c) (column m c ⟨j.val, by omega⟩) :=
  (last_gla_prompt _ b t j).trans (product_first m ρ c _ _ _ (fun d => norm_prompt m ρ c b t d))

/-- The linear-attention columns of the sample, from the arguments. -/
theorem gla_sample (b : Fin 32) (t : Fin 8) (j : Fin 6144) :
    W8 m ρ c (Proc.devRef .tc main_v20) (ix3 b t j) = projected (sample m c b t) (gain m c) (column m c ⟨j.val, by omega⟩) :=
  (last_gla_sample _ b t j).trans (product_first m ρ c _ _ _ (fun d => norm_sample m ρ c b t d))

/-- The gates of the prompt, from the arguments. -/
theorem gate_prompt (b : Fin 4) (t : Fin 2048) (j : Fin 16) :
    W8 m ρ c (Proc.devRef .tc main_v22) (ix3 b t j) = projected (prompt m c b t) (gain m c) (column m c ⟨6144 + j.val, by omega⟩) :=
  (last_gate_prompt _ b t j).trans (product_gates m ρ c _ _ _ (fun d => norm_prompt m ρ c b t d))

/-- The gates of the sample, from the arguments. -/
theorem gate_sample (b : Fin 32) (t : Fin 8) (j : Fin 16) :
    W8 m ρ c (Proc.devRef .tc main_v24) (ix3 b t j) = projected (sample m c b t) (gain m c) (column m c ⟨6144 + j.val, by omega⟩) :=
  (last_gate_sample _ b t j).trans (product_gates m ρ c _ _ _ (fun d => norm_sample m ρ c b t d))

/-- The differential queries of the prompt, from the arguments. -/
theorem query_prompt (b : Fin 4) (t : Fin 2048) (j : Fin 2048) :
    W8 m ρ c (Proc.devRef .tc main_v26) (ix3 b t j) = projected (prompt m c b t) (gain m c) (column m c ⟨6160 + j.val, by omega⟩) :=
  (last_query_prompt _ b t j).trans (product_second m ρ c _ _ _ (fun d => norm_prompt m ρ c b t d))

/-- The differential queries of the sample, from the arguments. -/
theorem query_sample (b : Fin 32) (t : Fin 8) (j : Fin 2048) :
    W8 m ρ c (Proc.devRef .tc main_v28) (ix3 b t j) = projected (sample m c b t) (gain m c) (column m c ⟨6160 + j.val, by omega⟩) :=
  (last_query_sample _ b t j).trans (product_second m ρ c _ _ _ (fun d => norm_sample m ρ c b t d))

/-- The keys of the prompt, from the arguments. -/
theorem key_prompt (z : Fin 1) (b : Fin 4) (t : Fin 2048) (h : Fin 8) (p : Fin 2) (e : Fin 128) :
    W8 m ρ c (Proc.devRef .tc main_v30) (ix6 z b t h p e) = projected (prompt m c b t) (gain m c) (column m c ⟨8208 + (h.val * 256 + p.val * 128 + e.val), by omega⟩) :=
  ((last_key_prompt _ z b t h p e).trans (product_second m ρ c _ _ _ (fun d => norm_prompt m ρ c b t d)))
    |>.trans (congrArg (fun q : Fin 12304 => projected (prompt m c b t) (gain m c) (column m c q)) (Fin.ext (show 6160 + (2048 + (h.val * 256 + p.val * 128 + e.val)) = 8208 + (h.val * 256 + p.val * 128 + e.val) by omega)))

/-- The values of the prompt, from the arguments. -/
theorem value_prompt (z : Fin 1) (b : Fin 4) (t : Fin 2048) (h : Fin 8) (e : Fin 256) :
    W8 m ρ c (Proc.devRef .tc main_v32) (ix5 z b t h e) = projected (prompt m c b t) (gain m c) (column m c ⟨10256 + (h.val * 256 + e.val), by omega⟩) :=
  ((last_value_prompt _ z b t h e).trans (product_second m ρ c _ _ _ (fun d => norm_prompt m ρ c b t d)))
    |>.trans (congrArg (fun q : Fin 12304 => projected (prompt m c b t) (gain m c) (column m c q)) (Fin.ext (show 6160 + (4096 + (h.val * 256 + e.val)) = 10256 + (h.val * 256 + e.val) by omega)))

/-- The keys of the sample, from the arguments. -/
theorem key_sample (z : Fin 1) (b : Fin 32) (t : Fin 8) (h : Fin 8) (p : Fin 2) (e : Fin 128) :
    W8 m ρ c (Proc.devRef .tc main_v34) (ix6 z b t h p e) = projected (sample m c b t) (gain m c) (column m c ⟨8208 + (h.val * 256 + p.val * 128 + e.val), by omega⟩) :=
  ((last_key_sample _ z b t h p e).trans (product_second m ρ c _ _ _ (fun d => norm_sample m ρ c b t d)))
    |>.trans (congrArg (fun q : Fin 12304 => projected (sample m c b t) (gain m c) (column m c q)) (Fin.ext (show 6160 + (2048 + (h.val * 256 + p.val * 128 + e.val)) = 8208 + (h.val * 256 + p.val * 128 + e.val) by omega)))

/-- The values of the sample, from the arguments. -/
theorem value_sample (z : Fin 1) (b : Fin 32) (t : Fin 8) (h : Fin 8) (e : Fin 256) :
    W8 m ρ c (Proc.devRef .tc main_v36) (ix5 z b t h e) = projected (sample m c b t) (gain m c) (column m c ⟨10256 + (h.val * 256 + e.val), by omega⟩) :=
  ((last_value_sample _ z b t h e).trans (product_second m ρ c _ _ _ (fun d => norm_sample m ρ c b t d)))
    |>.trans (congrArg (fun q : Fin 12304 => projected (sample m c b t) (gain m c) (column m c q)) (Fin.ext (show 6160 + (4096 + (h.val * 256 + e.val)) = 10256 + (h.val * 256 + e.val) by omega)))

end Boundaries

end Cert.Proj

end
-- ==== Proof.ProjResults.lean ====
module

public import proofs.«01_k».proof.Defs
public import proofs.«01_k».proof.Proof.ProjRun
public import proofs.«01_k».proof.Proof.ProjArrays
public import proofs.«01_k».proof.Proof.Gen.Reference2Ideal
public import Idealize.ShloMosaic.Lib.Quiescent
public import Idealize.ShloMosaic.Lib.Claim

/-! # The projections compute what their reference does -/

@[expose] public section

set_option maxRecDepth 16384

noncomputable section

open Idealize.ShloMosaic Idealize.ShloMosaic.TcCoe Idealize.ShloMosaic.Tactic Idealize.SL.Sem
open scoped BigOperators

namespace Cert.Proj

/-- What the kernel's run leaves in one of its arrays. -/
def left (m : (ℓ : Loc Cert.Kernel2Ideal.nD Cert.Kernel2Ideal.τ Cert.Kernel2Ideal.sig) → Buf (Elt Ideal) ℓ) (g : Dev Cert.Kernel2Ideal.nD → PrngReg)
    (c : Dev Cert.Kernel2Ideal.nD) (b : Ref Cert.Kernel2Ideal.sig .tc) : Buf (Elt Ideal) ((c.tc : Thread Cert.Kernel2Ideal.nD Cert.Kernel2Ideal.τ).loc b) :=
  Cert.Kernel2Ideal.Gen.W8 m g c (Proc.devRef .tc b)

set_option maxHeartbeats 1600000 in
/-- The reference ends with its arguments unchanged and every counter at zero. -/
theorem reference_frame : Cert.quiescent_Reference2Ideal (hReference2Ideal := Cert.Reference2Ideal.Gen.facts) := by
  intro m g _
  hlo_run
  · exact fun _ => ⟨trivial, trivial, trivial, trivial⟩
  · exact sem_eq_zero_of_no_sems rfl _

set_option maxHeartbeats 1600000 in
/-- The kernel and the reference leave the same ten arrays. -/
theorem same_results : Cert.algebraic_Kernel2Ideal_Reference2Ideal (hKernel2Ideal := Cert.Kernel2Ideal.Gen.facts)
    (hReference2Ideal := Cert.Reference2Ideal.Gen.facts) := by
  intro m g m' g' _ hargs
  have hp (c) : prompt m c = fun b t d => (show FVec Ideal Cert.Reference2Ideal.S4x2048x4096 .f32 from
      m' ((c.tc : Thread Cert.Reference2Ideal.nD Cert.Reference2Ideal.τ).loc Cert.Reference2Ideal.main_arg0)) (ix3 b t d) :=
    funext fun b => funext fun t => funext fun d => (congrFun (hargs c).1 (ix3 b t d)).symm
  have hs (c) : sample m c = fun b t d => (show FVec Ideal Cert.Reference2Ideal.S32x8x4096 .f32 from
      m' ((c.tc : Thread Cert.Reference2Ideal.nD Cert.Reference2Ideal.τ).loc Cert.Reference2Ideal.main_arg1)) (ix3 b t d) :=
    funext fun b => funext fun t => funext fun d => (congrFun (hargs c).2.1 (ix3 b t d)).symm
  have hg (c) : gain m c = fun d => (show FVec Ideal Cert.Reference2Ideal.S1x4096 .f32 from
      m' ((c.tc : Thread Cert.Reference2Ideal.nD Cert.Reference2Ideal.τ).loc Cert.Reference2Ideal.main_arg2)) (ix2 0 d) :=
    funext fun d => (congrFun (hargs c).2.2.1 (ix2 0 d)).symm
  have hw (c) : column m c = fun j d => (show FVec Ideal Cert.Reference2Ideal.S1x4096x12304 .f32 from
      m' ((c.tc : Thread Cert.Reference2Ideal.nD Cert.Reference2Ideal.τ).loc Cert.Reference2Ideal.main_arg3)) (ix3 0 d j) :=
    funext fun j => funext fun d => (congrFun (hargs c).2.2.2 (ix3 0 d j)).symm
  refine ⟨fun c => left m g c Cert.Kernel2Ideal.main_v18, fun c => left m g c Cert.Kernel2Ideal.main_v20, fun c => left m g c Cert.Kernel2Ideal.main_v22, fun c => left m g c Cert.Kernel2Ideal.main_v24, fun c => left m g c Cert.Kernel2Ideal.main_v26, fun c => left m g c Cert.Kernel2Ideal.main_v28, fun c => left m g c Cert.Kernel2Ideal.main_v30, fun c => left m g c Cert.Kernel2Ideal.main_v32, fun c => left m g c Cert.Kernel2Ideal.main_v34, fun c => left m g c Cert.Kernel2Ideal.main_v36, ?_, ?_⟩
  · refine (θ_run _ _ _).mono (fun r h c => ?_) (run_ends m g)
    exact ⟨h c _ (by decide), h c _ (by decide), h c _ (by decide), h c _ (by decide), h c _ (by decide), h c _ (by decide), h c _ (by decide), h c _ (by decide), h c _ (by decide), h c _ (by decide),
      (h c _ (by decide)).trans (Cert.Kernel2Ideal.Gen.W8_main_arg0 m g c), (h c _ (by decide)).trans (Cert.Kernel2Ideal.Gen.W8_main_arg1 m g c),
      (h c _ (by decide)).trans (Cert.Kernel2Ideal.Gen.W8_main_arg2 m g c), (h c _ (by decide)).trans (Cert.Kernel2Ideal.Gen.W8_main_arg3 m g c)⟩
  · hlo_run
    · refine funext fun y => ?_
      obtain ⟨b, t, j, rfl⟩ : ∃ (b : Fin 4) (t : Fin 2048) (j : Fin 6144), y = ix3 b t j := ⟨y 0, y 1, y 2, eq_ix3 y⟩
      refine Eq.trans ?_ (gla_prompt m g c b t j).symm
      rw [hp c, hg c, hw c]
      pointwise [projected, normed]
    · refine funext fun y => ?_
      obtain ⟨b, t, j, rfl⟩ : ∃ (b : Fin 32) (t : Fin 8) (j : Fin 6144), y = ix3 b t j := ⟨y 0, y 1, y 2, eq_ix3 y⟩
      refine Eq.trans ?_ (gla_sample m g c b t j).symm
      rw [hs c, hg c, hw c]
      pointwise [projected, normed]
    · refine funext fun y => ?_
      obtain ⟨b, t, j, rfl⟩ : ∃ (b : Fin 4) (t : Fin 2048) (j : Fin 16), y = ix3 b t j := ⟨y 0, y 1, y 2, eq_ix3 y⟩
      refine Eq.trans ?_ (gate_prompt m g c b t j).symm
      rw [hp c, hg c, hw c]
      pointwise [projected, normed]
    · refine funext fun y => ?_
      obtain ⟨b, t, j, rfl⟩ : ∃ (b : Fin 32) (t : Fin 8) (j : Fin 16), y = ix3 b t j := ⟨y 0, y 1, y 2, eq_ix3 y⟩
      refine Eq.trans ?_ (gate_sample m g c b t j).symm
      rw [hs c, hg c, hw c]
      pointwise [projected, normed]
    · refine funext fun y => ?_
      obtain ⟨b, t, j, rfl⟩ : ∃ (b : Fin 4) (t : Fin 2048) (j : Fin 2048), y = ix3 b t j := ⟨y 0, y 1, y 2, eq_ix3 y⟩
      refine Eq.trans ?_ (query_prompt m g c b t j).symm
      rw [hp c, hg c, hw c]
      pointwise [projected, normed]
    · refine funext fun y => ?_
      obtain ⟨b, t, j, rfl⟩ : ∃ (b : Fin 32) (t : Fin 8) (j : Fin 2048), y = ix3 b t j := ⟨y 0, y 1, y 2, eq_ix3 y⟩
      refine Eq.trans ?_ (query_sample m g c b t j).symm
      rw [hs c, hg c, hw c]
      pointwise [projected, normed]
    · refine funext fun y => ?_
      obtain ⟨z, b, t, h, p, e, rfl⟩ : ∃ (z : Fin 1) (b : Fin 4) (t : Fin 2048) (h : Fin 8) (p : Fin 2) (e : Fin 128), y = ix6 z b t h p e := ⟨y 0, y 1, y 2, y 3, y 4, y 5, eq_ix6 y⟩
      refine Eq.trans ?_ (key_prompt m g c z b t h p e).symm
      rw [hp c, hg c, hw c]
      pointwise [projected, normed]
    · refine funext fun y => ?_
      obtain ⟨z, b, t, h, e, rfl⟩ : ∃ (z : Fin 1) (b : Fin 4) (t : Fin 2048) (h : Fin 8) (e : Fin 256), y = ix5 z b t h e := ⟨y 0, y 1, y 2, y 3, y 4, eq_ix5 y⟩
      refine Eq.trans ?_ (value_prompt m g c z b t h e).symm
      rw [hp c, hg c, hw c]
      pointwise [projected, normed]
    · refine funext fun y => ?_
      obtain ⟨z, b, t, h, p, e, rfl⟩ : ∃ (z : Fin 1) (b : Fin 32) (t : Fin 8) (h : Fin 8) (p : Fin 2) (e : Fin 128), y = ix6 z b t h p e := ⟨y 0, y 1, y 2, y 3, y 4, y 5, eq_ix6 y⟩
      refine Eq.trans ?_ (key_sample m g c z b t h p e).symm
      rw [hs c, hg c, hw c]
      pointwise [projected, normed]
    · refine funext fun y => ?_
      obtain ⟨z, b, t, h, e, rfl⟩ : ∃ (z : Fin 1) (b : Fin 32) (t : Fin 8) (h : Fin 8) (e : Fin 256), y = ix5 z b t h e := ⟨y 0, y 1, y 2, y 3, y 4, eq_ix5 y⟩
      refine Eq.trans ?_ (value_sample m g c z b t h e).symm
      rw [hs c, hg c, hw c]
      pointwise [projected, normed]

end Cert.Proj

end
-- ==== Proof.MixRun.lean ====
module

public import proofs.«01_k».proof.Proof.Gen.Kernel3Ideal.Frame
public import Idealize.ShloMosaic.Lib.Pipeline.ValueKit
public import Idealize.ShloMosaic.Init
public import Idealize.ShloMosaic.Lib.StableHlo.ReadAt

/-! # The run of the launches after the mixers, down to the arrays it leaves

The generated frame of the program names what each array holds after each launch and after each stretch of host
operations; the last of these valuations is what the run leaves. -/

@[expose] public section

set_option maxRecDepth 16384

noncomputable section

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

namespace Cert.Mix

open Cert.Kernel3Ideal Cert.Kernel3Ideal.Gen

variable (m : (ℓ : Loc nD τ sig) → Buf (Elt Ideal) ℓ) (ρ : Dev nD → PrngReg)

set_option backward.isDefEq.respectTransparency.types false in
/-- Every weakly fair run of this program ends, and each of the program's arrays then holds what the last valuation says. -/
theorem run_ends : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W8 m ρ c (Proc.devRef .tc b)) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W8 m ρ c b)
    (hu₀ := ?tokens) (hch := ?chain) (hinit := ?start) (hfin := ?finish)
    (hQ := fun s h _ c b hb => h c _ (mem_uc b hb))
  case tokens =>
    iintro Htok
    imodintro
    isplitl [Htok]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Htok
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  case chain =>
    exact ⟨fun _ => .rfl, fun _ => .rfl, fun _ => .rfl, fun _ => .rfl, fun _ => .rfl, fun _ => .rfl, fun _ => .rfl, fun _ => .rfl, fun _ => .rfl⟩
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Harr, -, Howe, -, Hreg, -⟩, -⟩
    imodintro
    isplitl [Harr]
    · iexact Harr
    isplitl [Hreg]
    · iexists _
      iexact Hreg
    · iexists ∅
      iexact Howe
  case finish =>
    intro c s
    iintro ⟨⟨Harr, -⟩, Hstate⟩
    unfold StableHlo.held
    imodintro
    iapply (pointsTo_read_all (Pipeline.ucRefs τ sig) (fun b => (((c : Thread nD τ)).1, b)) (W8 m ρ c) s)
    isplitl [Harr] <;> iassumption

end Cert.Mix

end
-- ==== Proof.MixTiles.lean ====
module

public import proofs.«01_k».proof.Proof.Gen.Kernel3Ideal.Frame
public import Idealize.ShloMosaic.Lib.Pipeline.ValueKit

/-! # The launches after the mixers, read tile by tile

The output projection of the prompt and of the sample, the second normalisation and the experts' queries: each launch's
whole array from what its operands hold at its entry. -/

@[expose] public section

set_option maxRecDepth 16384

noncomputable section

open Idealize.ShloMosaic Idealize.ShloMosaic.TcCoe Idealize.SL.Sem
open Idealize.ShloMosaic.Pipeline (Dat)

namespace Cert.Mix

open Cert.Kernel3Ideal Cert.Kernel3Ideal.Gen

variable (V : (c : Dev nD) → (b : Ref sig .tc) → Buf (Elt Ideal) ((c : Thread nD τ).loc b)) (c : Dev nD)

/-- The residual plus both mixers' outputs times their halves of a column of the weight. -/
def mixed (r : EReal) (a b : Fin 2048 → EReal) (w : Fin 4096 → EReal) : EReal :=
  r + (∑ d : Fin 2048, a d * w ⟨d.val, by omega⟩) + ∑ d : Fin 2048, b d * w ⟨2048 + d.val, by omega⟩

/-- The prompt's blocks: 8 row blocks by 4 column blocks. -/
theorem idx0 : ∀ t : Fin cfg0.N, win0_0.index t = ![t.val / 4, 0] ∧ win0_1.index t = ![t.val / 4, 0] ∧ win0_2.index t = ![0, t.val % 4]
    ∧ win0_3.index t = ![t.val / 4, t.val % 4] ∧ win0_4.index t = ![t.val / 4, t.val % 4] :=
  (by decide +kernel : ∀ t : Fin grid0.N, _)

/-- The prompt's output projection with its residual, whole. -/
theorem final0 : (dat0 V c).arrAt 4 cfg0.N
    = (fun i : S8192x4096.Idx => mixed ((show FVec Ideal S8192x4096 .f32 from V c main_v0) (ix2 (i 0) (i 1)))
        (fun d => (show FVec Ideal S8192x2048 .bf16 from V c main_arg0) (ix2 (i 0) d))
        (fun d => (show FVec Ideal S8192x2048 .bf16 from V c main_arg1) (ix2 (i 0) d))
        (fun d => (show FVec Ideal S4096x4096 .bf16 from V c main_v3) (ix2 d (i 1)))) := by
  refine (dat0 V c).arrAt_eq_of_covers 4 _ (by decide +kernel) fun t _ y => ?_
  blk_simp
  rw [after0_4]; frame_out
  pointwise [k0_pay1, mixed]
  blk_point [iblk0, idx0 t]

/-- The sample's blocks: 4 column blocks. -/
theorem idx1 : ∀ t : Fin cfg1.N, win1_0.index t = ![0, 0] ∧ win1_1.index t = ![0, 0] ∧ win1_2.index t = ![0, t.val]
    ∧ win1_3.index t = ![0, t.val] ∧ win1_4.index t = ![0, t.val] :=
  (by decide +kernel : ∀ t : Fin grid1.N, _)

/-- The sample's output projection with its residual, whole. -/
theorem final1 : (dat1 V c).arrAt 4 cfg1.N
    = (fun i : S256x4096.Idx => mixed ((show FVec Ideal S256x4096 .f32 from V c main_v1) (ix2 (i 0) (i 1)))
        (fun d => (show FVec Ideal S256x2048 .bf16 from V c main_v5) (ix2 (i 0) d))
        (fun d => (show FVec Ideal S256x2048 .bf16 from V c main_v6) (ix2 (i 0) d))
        (fun d => (show FVec Ideal S4096x4096 .bf16 from V c main_v3) (ix2 d (i 1)))) := by
  refine (dat1 V c).arrAt_eq_of_covers 4 _ (by decide +kernel) fun t _ y => ?_
  blk_simp
  rw [after1_4]; frame_out
  pointwise [k1_pay1, mixed]
  blk_point [iblk1, idx1 t]

/-- A token's row divided by the root of its mean square, times the gain. -/
def normed (x g : Fin 4096 → EReal) (j : Fin 4096) : EReal :=
  x j * Ideal.rsqrt (Ideal.div (∑ d : Fin 4096, x d * x d) (Ideal.ofBits FTy.f32 1166016512#32) + Ideal.ofBits FTy.f32 897988541#32) * g j

/-- The blocks of the normalisation: the prompt's row block (the last one once the prompt is over), the sample's, the gain. -/
theorem idx2 : ∀ t : Fin cfg2.N, win2_0.index t = ![min t.val 31, 0] ∧ win2_1.index t = ![t.val - 32, 0] ∧ win2_2.index t = ![0, 0]
    ∧ win2_3.index t = ![t.val, 0] :=
  (by decide +kernel : ∀ t : Fin grid2.N, _)

/-- The normalisation's block at an index. -/
theorem norm_at (x : FVec Ideal S256x4096 .f32) (g : FVec Ideal S1x4096 .f32) (r : Fin 256) (j : Fin 4096) :
    k2_pay1 (F := Ideal) x g (ix2 r j) = normed (fun d => x (ix2 r d)) (fun d => g (ix2 0 d)) j := by
  pointwise [k2_pay1, normed]

/-- All normalised tokens: the prompt's rows, then the sample's. -/
def tokens (xp : FVec Ideal S8192x4096 .f32) (xs : FVec Ideal S256x4096 .f32) (g : FVec Ideal S1x4096 .f32) (i : Fin 8448) (j : Fin 4096) : EReal :=
  if h : i.val < 8192 then normed (fun d => xp (ix2 ⟨i.val, h⟩ d)) (fun d => g (ix2 0 d)) j
  else normed (fun d => xs (ix2 ⟨i.val - 8192, by omega⟩ d)) (fun d => g (ix2 0 d)) j

/-- The prompt's block at a point before the thirty-second. -/
theorem block_prompt (t : Fin cfg2.N) (h : t.val < 32) (r : Fin 256) (d : Fin 4096) :
    (iblk2 V c 0 t (ix2 r d) : EReal) = (show FVec Ideal S8192x4096 .f32 from V c main_v4) (ix2 ⟨t.val * 256 + r.val, by omega⟩ d) := by
  blk_ext [iblk2, idx2 t]

/-- The sample's block at the last point. -/
theorem block_sample (t : Fin cfg2.N) (h : ¬ t.val < 32) (ht : t.val < 33) (r : Fin 256) (d : Fin 4096) :
    (iblk2 V c 1 t (ix2 r d) : EReal) = (show FVec Ideal S256x4096 .f32 from V c main_v7) (ix2 ⟨t.val * 256 + r.val - 8192, by omega⟩ d) := by
  blk_ext [iblk2, idx2 t]

/-- The gain's block, at every point. -/
theorem block_gain (t : Fin cfg2.N) (d : Fin 4096) :
    (iblk2 V c 2 t (ix2 0 d) : EReal) = (show FVec Ideal S1x4096 .f32 from V c main_v9) (ix2 0 d) := by
  blk_ext [iblk2, idx2 t]

/-- The normalisation's whole array. -/
theorem final2 : (dat2 V c).arrAt 3 cfg2.N
    = (fun i : S8448x4096.Idx => tokens (V c main_v4) (V c main_v7) (V c main_v9) (i 0) (i 1)) := by
  refine (dat2 V c).arrAt_eq_of_covers 3 _ (by decide +kernel) fun t _ y => ?_
  have ht : t.val < 33 := lt_of_lt_of_eq t.isLt (show cfg2.N = 33 from N_2)
  obtain ⟨r, j, rfl⟩ : ∃ (r : Fin 256) (j : Fin 4096), y = ix2 r j := ⟨y 0, y 1, eq_ix2 y⟩
  have e : ((cfg2.win 3).blk t).view.emb (ix2 r j) = (ix2 (⟨t.val * 256 + r.val, by omega⟩ : Fin 8448) j : S8448x4096.Idx) := by
    blk_ext [idx2 t]
  have e0 := congrFun e 0
  have e1 := congrFun e 1
  refine Eq.trans ?_ (congrArg₂ (tokens (V c main_v4) (V c main_v7) (V c main_v9)) e0 e1).symm
  blk_simp
  rw [after2_3]
  by_cases h : t.val < 32
  · rw [outsAt2_A V c t h (by omega)]; frame_out
    refine (norm_at _ _ r j).trans ?_
    have hi : t.val * 256 + r.val < 8192 := by omega
    refine Eq.trans ?_ (dif_pos (c := (⟨t.val * 256 + r.val, by omega⟩ : Fin 8448).val < 8192) hi).symm
    exact congrFun (congrArg₂ normed (funext fun d => block_prompt V c t h r d) (funext fun d => block_gain V c t d)) j
  · rw [outsAt2_B V c t h (by omega)]; frame_out
    refine (norm_at _ _ r j).trans ?_
    have hi : ¬ t.val * 256 + r.val < 8192 := by omega
    refine Eq.trans ?_ (dif_neg (c := (⟨t.val * 256 + r.val, by omega⟩ : Fin 8448).val < 8192) hi).symm
    exact congrFun (congrArg₂ normed (funext fun d => block_sample V c t h ht r d) (funext fun d => block_gain V c t d)) j

/-- Where the blocks of the queries' product lie. -/
theorem idx3 : ∀ t : Fin cfg3.N, win3_0.index t = ![0, 0] ∧ win3_1.index t = ![t.val, 0] ∧ win3_2.index t = ![0, t.val] :=
  (by decide +kernel : ∀ t : Fin grid3.N, _)

/-- A block of the queries' product, against the whole product. -/
theorem point3 (t : Fin cfg3.N) (y : S1024x768.Idx) : k3_pay1 (F := Ideal) (iblk3 V c 0 t) (iblk3 V c 1 t) y
    = (fun i : S1024x8448.Idx => ∑ d : Fin 4096, (show FVec Ideal S1024x4096 .bf16 from V c main_v13) (ix2 (i 0) d) * (show FVec Ideal S8448x4096 .bf16 from V c main_v10) (ix2 (i 1) d)) (((cfg3.win 2).blk t).view.emb y) := by
  pointwise [k3_pay1]
  blk_point [iblk3, idx3 t]

/-- The whole array of the queries' product. -/
theorem final3 : (dat3 V c).arrAt 2 cfg3.N
    = (fun i : S1024x8448.Idx => ∑ d : Fin 4096, (show FVec Ideal S1024x4096 .bf16 from V c main_v13) (ix2 (i 0) d) * (show FVec Ideal S8448x4096 .bf16 from V c main_v10) (ix2 (i 1) d)) := by
  refine (dat3 V c).arrAt_eq_of_covers 2 _ (by decide +kernel) fun t _ y => ?_
  blk_simp
  rw [after3_2]; frame_out
  exact point3 V c t y

end Cert.Mix

end
-- ==== Proof.MixArrays.lean ====
module

public import proofs.«01_k».proof.Proof.MixTiles
public import Idealize.ShloMosaic.Lib.StableHlo.ReadAt

/-! # The arrays left by the launches after the mixers, from the arguments

The host's stretches lay the tokens out as rows and change formats; the launches project, add the residual, normalise and
multiply by the queries' weight. -/

@[expose] public section

set_option maxRecDepth 16384

noncomputable section

open Idealize.ShloMosaic Idealize.ShloMosaic.TcCoe Idealize.ShloMosaic.Tactic Idealize.SL.Sem
open scoped BigOperators

namespace Cert.Mix

open Cert.Kernel3Ideal Cert.Kernel3Ideal.Gen

section Stretches

variable (V : Valuation τ sig (Elt Ideal))

/-- The prompt's tokens as rows. -/
theorem rows_prompt (i : Fin 8192) (d : Fin 4096) :
    StableHlo.after hostOps0 V (Proc.devRef .tc main_v0) (ix2 i d)
      = (show FVec Ideal S4x2048x4096 .f32 from V (Proc.devRef .tc main_arg5)) (ix3 ⟨i.val / 2048, by omega⟩ ⟨i.val % 2048, by omega⟩ d) := by
  after_reads_at

/-- The sample's tokens as rows. -/
theorem rows_sample (i : Fin 256) (d : Fin 4096) :
    StableHlo.after hostOps0 V (Proc.devRef .tc main_v1) (ix2 i d)
      = (show FVec Ideal S32x8x4096 .f32 from V (Proc.devRef .tc main_arg6)) (ix3 ⟨i.val / 8, by omega⟩ ⟨i.val % 8, by omega⟩ d) := by
  after_reads_at

/-- The output projection's weight in the launches' format. -/
theorem weight_out (i j : Fin 4096) :
    StableHlo.after hostOps0 V (Proc.devRef .tc main_v3) (ix2 i j)
      = (show FVec Ideal S1x4096x4096 .f32 from V (Proc.devRef .tc main_arg4)) (ix3 0 i j) := by
  after_reads_at

/-- The sample's linear attention in the launch's format. -/
theorem cast_linear (i : Fin 256) (d : Fin 2048) :
    StableHlo.after hostOps1 V (Proc.devRef .tc main_v5) (ix2 i d)
      = (show FVec Ideal S256x2048 .f32 from V (Proc.devRef .tc main_arg2)) (ix2 i d) := by
  after_reads_at

/-- The sample's differential attention in the launch's format. -/
theorem cast_diff (i : Fin 256) (d : Fin 2048) :
    StableHlo.after hostOps1 V (Proc.devRef .tc main_v6) (ix2 i d)
      = (show FVec Ideal S256x2048 .f32 from V (Proc.devRef .tc main_arg3)) (ix2 i d) := by
  after_reads_at

/-- The gain as one row. -/
theorem row_gain (d : Fin 4096) :
    StableHlo.after hostOps2 V (Proc.devRef .tc main_v9) (ix2 0 d)
      = (show FVec Ideal S1x4096 .f32 from V (Proc.devRef .tc main_arg7)) (ix2 0 d) := by
  after_reads_at

/-- The queries' weight, transposed. -/
theorem weight_query (q : Fin 1024) (d : Fin 4096) :
    StableHlo.after hostOps3 V (Proc.devRef .tc main_v13) (ix2 q d)
      = (show FVec Ideal S1x4096x1024 .f32 from V (Proc.devRef .tc main_arg8)) (ix3 0 d q) := by
  after_reads_at

end Stretches

section Boundaries

variable (m : (ℓ : Loc nD τ sig) → Buf (Elt Ideal) ℓ) (ρ : Dev nD → PrngReg) (c : Dev nD)

/-- The prompt's linear attention. -/
def linearP (i : Fin 8192) (d : Fin 2048) : EReal := (show FVec Ideal S8192x2048 .bf16 from m ((c : Thread nD τ).loc main_arg0)) (ix2 i d)

/-- The prompt's differential attention. -/
def diffP (i : Fin 8192) (d : Fin 2048) : EReal := (show FVec Ideal S8192x2048 .bf16 from m ((c : Thread nD τ).loc main_arg1)) (ix2 i d)

/-- The sample's linear attention. -/
def linearS (i : Fin 256) (d : Fin 2048) : EReal := (show FVec Ideal S256x2048 .f32 from m ((c : Thread nD τ).loc main_arg2)) (ix2 i d)

/-- The sample's differential attention. -/
def diffS (i : Fin 256) (d : Fin 2048) : EReal := (show FVec Ideal S256x2048 .f32 from m ((c : Thread nD τ).loc main_arg3)) (ix2 i d)

/-- A column of the output projection's weight. -/
def columnOut (j d : Fin 4096) : EReal := (show FVec Ideal S1x4096x4096 .f32 from m ((c : Thread nD τ).loc main_arg4)) (ix3 0 d j)

/-- A token of the prompt, by its row. -/
def tokenP (i : Fin 8192) (d : Fin 4096) : EReal :=
  (show FVec Ideal S4x2048x4096 .f32 from m ((c : Thread nD τ).loc main_arg5)) (ix3 ⟨i.val / 2048, by omega⟩ ⟨i.val % 2048, by omega⟩ d)

/-- A token of the sample, by its row. -/
def tokenS (i : Fin 256) (d : Fin 4096) : EReal :=
  (show FVec Ideal S32x8x4096 .f32 from m ((c : Thread nD τ).loc main_arg6)) (ix3 ⟨i.val / 8, by omega⟩ ⟨i.val % 8, by omega⟩ d)

/-- The second normalisation's gain. -/
def gain (d : Fin 4096) : EReal := (show FVec Ideal S1x4096 .f32 from m ((c : Thread nD τ).loc main_arg7)) (ix2 0 d)

/-- A column of the queries' weight. -/
def columnQ (q : Fin 1024) (d : Fin 4096) : EReal := (show FVec Ideal S1x4096x1024 .f32 from m ((c : Thread nD τ).loc main_arg8)) (ix3 0 d q)

/-- The prompt's hidden state after the mixers. -/
def hiddenP (i : Fin 8192) (j : Fin 4096) : EReal := mixed (tokenP m c i j) (linearP m c i) (diffP m c i) (columnOut m c j)

/-- The sample's hidden state after the mixers. -/
def hiddenS (i : Fin 256) (j : Fin 4096) : EReal := mixed (tokenS m c i j) (linearS m c i) (diffS m c i) (columnOut m c j)

/-- `mixed` of equal parts. -/
theorem mixed_congr {r r' : EReal} {a a' b b' : Fin 2048 → EReal} {w w' : Fin 4096 → EReal} (hr : r = r') (ha : ∀ d, a d = a' d)
    (hb : ∀ d, b d = b' d) (hw : ∀ d, w d = w' d) : mixed r a b w = mixed r' a' b' w' := by
  rw [hr, funext ha, funext hb, funext hw]

/-- The prompt's hidden state at its launch's end. -/
theorem hidden_prompt (i : Fin 8192) (j : Fin 4096) :
    (show FVec Ideal S8192x4096 .f32 from W2 m ρ c (Proc.devRef .tc main_v4)) (ix2 i j) = hiddenP m c i j := by
  have h := congrFun ((W2_arr m ρ c 4).trans (final0 (V1 m ρ) c)) (ix2 i j)
  refine h.trans (mixed_congr (rows_prompt _ i j) (fun d => ?_) (fun d => ?_) (fun d => weight_out _ d j))
  · show (show FVec Ideal S8192x2048 .bf16 from W1 m ρ c (Proc.devRef .tc main_arg0)) (ix2 i d) = _
    rw [W1_of m ρ c main_arg0 (by decide)]
    rfl
  · show (show FVec Ideal S8192x2048 .bf16 from W1 m ρ c (Proc.devRef .tc main_arg1)) (ix2 i d) = _
    rw [W1_of m ρ c main_arg1 (by decide)]
    rfl

/-- The sample's hidden state at its launch's end. -/
theorem hidden_sample (i : Fin 256) (j : Fin 4096) :
    (show FVec Ideal S256x4096 .f32 from W4 m ρ c (Proc.devRef .tc main_v7)) (ix2 i j) = hiddenS m c i j := by
  have h := congrFun ((W4_arr m ρ c 4).trans (final1 (V3 m ρ) c)) (ix2 i j)
  refine h.trans (mixed_congr ?_ (fun d => ?_) (fun d => ?_) (fun d => ?_))
  · show (show FVec Ideal S256x4096 .f32 from W3 m ρ c (Proc.devRef .tc main_v1)) (ix2 i j) = _
    rw [W3_of m ρ c main_v1 (by decide), W2_of m ρ c main_v1 (by decide)]
    exact rows_sample _ i j
  · refine (cast_linear _ i d).trans ?_
    rw [W2_of m ρ c main_arg2 (by decide), W1_of m ρ c main_arg2 (by decide)]
    rfl
  · refine (cast_diff _ i d).trans ?_
    rw [W2_of m ρ c main_arg3 (by decide), W1_of m ρ c main_arg3 (by decide)]
    rfl
  · show (show FVec Ideal S4096x4096 .bf16 from W3 m ρ c (Proc.devRef .tc main_v3)) (ix2 d j) = _
    rw [W3_of m ρ c main_v3 (by decide), W2_of m ρ c main_v3 (by decide)]
    exact weight_out _ d j

/-- The gain's row at the normalisation's entry. -/
theorem entry_gain (d : Fin 4096) : (show FVec Ideal S1x4096 .f32 from W5 m ρ c (Proc.devRef .tc main_v9)) (ix2 0 d) = gain m c d := by
  refine (row_gain _ d).trans ?_
  rw [W4_of m ρ c main_arg7 (by decide), W3_of m ρ c main_arg7 (by decide), W2_of m ρ c main_arg7 (by decide), W1_of m ρ c main_arg7 (by decide)]
  rfl

/-- A row of the normalised hidden states: the prompt's, then the sample's. -/
def row (i : Fin 8448) : Fin 4096 → EReal :=
  if h : i.val < 8192 then normed (hiddenP m c ⟨i.val, h⟩) (gain m c) else normed (hiddenS m c ⟨i.val - 8192, by omega⟩) (gain m c)

/-- A row of the prompt. -/
theorem row_pos (i : Fin 8448) (h : i.val < 8192) : row m c i = normed (hiddenP m c ⟨i.val, h⟩) (gain m c) := dif_pos h

/-- A row of the sample. -/
theorem row_neg (i : Fin 8448) (h : ¬ i.val < 8192) : row m c i = normed (hiddenS m c ⟨i.val - 8192, by omega⟩) (gain m c) := dif_neg h

/-- The normalised hidden states at their launch's end. -/
theorem norm_rows (i : Fin 8448) (d : Fin 4096) :
    (show FVec Ideal S8448x4096 .bf16 from W6 m ρ c (Proc.devRef .tc main_v10)) (ix2 i d) = row m c i d := by
  have h := congrFun ((W6_arr m ρ c 3).trans (final2 (V5 m ρ) c)) (ix2 i d)
  refine h.trans ?_
  by_cases hi : i.val < 8192
  · refine (dif_pos (c := i.val < 8192) hi).trans (Eq.trans ?_ (congrFun (row_pos m c i hi) d).symm)
    refine congrFun (congrArg₂ normed (funext fun e => ?_) (funext fun e => entry_gain m ρ c e)) d
    show (show FVec Ideal S8192x4096 .f32 from W5 m ρ c (Proc.devRef .tc main_v4)) (ix2 ⟨i.val, hi⟩ e) = _
    rw [W5_of m ρ c main_v4 (by decide), W4_of m ρ c main_v4 (by decide), W3_of m ρ c main_v4 (by decide)]
    exact hidden_prompt m ρ c _ e
  · refine (dif_neg (c := i.val < 8192) hi).trans (Eq.trans ?_ (congrFun (row_neg m c i hi) d).symm)
    refine congrFun (congrArg₂ normed (funext fun e => ?_) (funext fun e => entry_gain m ρ c e)) d
    show (show FVec Ideal S256x4096 .f32 from W5 m ρ c (Proc.devRef .tc main_v7)) (ix2 ⟨i.val - 8192, by omega⟩ e) = _
    rw [W5_of m ρ c main_v7 (by decide)]
    exact hidden_sample m ρ c _ e

/-- A sum of products, factor by factor. -/
theorem sum_products (f g x y : Fin 4096 → EReal) (hf : ∀ d, f d = x d) (hg : ∀ d, g d = y d) :
    ∑ d : Fin 4096, f d * g d = ∑ d : Fin 4096, y d * x d :=
  Finset.sum_congr rfl fun d _ => (congrArg₂ (· * ·) (hf d) (hg d)).trans (mul_comm _ _)

/-- The queries, one column a row of hidden states. -/
theorem queries (q : Fin 1024) (i : Fin 8448) :
    W8 m ρ c (Proc.devRef .tc main_v14) (ix2 q i) = ∑ d : Fin 4096, row m c i d * columnQ m c q d := by
  have h := congrFun ((W8_arr m ρ c 2).trans (final3 (V7 m ρ) c)) (ix2 q i)
  refine h.trans (sum_products (fun d => (show FVec Ideal S1024x4096 .bf16 from W7 m ρ c (Proc.devRef .tc main_v13)) (ix2 q d))
    (fun d => (show FVec Ideal S8448x4096 .bf16 from W7 m ρ c (Proc.devRef .tc main_v10)) (ix2 i d)) _ _ (fun d => ?_) (fun d => ?_))
  · refine (weight_query _ q d).trans ?_
    rw [W6_of m ρ c main_arg8 (by decide), W5_of m ρ c main_arg8 (by decide), W4_of m ρ c main_arg8 (by decide),
      W3_of m ρ c main_arg8 (by decide), W2_of m ρ c main_arg8 (by decide), W1_of m ρ c main_arg8 (by decide)]
    rfl
  · show (show FVec Ideal S8448x4096 .bf16 from W7 m ρ c (Proc.devRef .tc main_v10)) (ix2 i d) = _
    rw [W7_of m ρ c main_v10 (by decide)]
    exact norm_rows m ρ c i d

/-- The prompt's hidden state at the run's end. -/
theorem out_prompt (i : Fin 8192) (j : Fin 4096) : W8 m ρ c (Proc.devRef .tc main_v4) (ix2 i j) = hiddenP m c i j := by
  rw [W8_of m ρ c main_v4 (by decide), W7_of m ρ c main_v4 (by decide), W6_of m ρ c main_v4 (by decide), W5_of m ρ c main_v4 (by decide),
    W4_of m ρ c main_v4 (by decide), W3_of m ρ c main_v4 (by decide)]
  exact hidden_prompt m ρ c i j

/-- The sample's hidden state at the run's end. -/
theorem out_sample (i : Fin 256) (j : Fin 4096) : W8 m ρ c (Proc.devRef .tc main_v7) (ix2 i j) = hiddenS m c i j := by
  rw [W8_of m ρ c main_v7 (by decide), W7_of m ρ c main_v7 (by decide), W6_of m ρ c main_v7 (by decide), W5_of m ρ c main_v7 (by decide)]
  exact hidden_sample m ρ c i j

end Boundaries

end Cert.Mix

end
-- ==== Proof.MixResults.lean ====
module

public import proofs.«01_k».proof.Defs
public import proofs.«01_k».proof.Proof.MixRun
public import proofs.«01_k».proof.Proof.MixArrays
public import proofs.«01_k».proof.Proof.Gen.Reference3Ideal
public import Idealize.ShloMosaic.Lib.Quiescent
public import Idealize.ShloMosaic.Lib.Claim

/-! # The launches after the mixers compute what their reference does -/

@[expose] public section

set_option maxRecDepth 200000

noncomputable section

open Idealize.ShloMosaic Idealize.ShloMosaic.TcCoe Idealize.ShloMosaic.Tactic Idealize.SL.Sem
open scoped BigOperators

namespace Cert.Mix

/-- What the kernel's run leaves in one of its arrays. -/
def left (m : (ℓ : Loc Cert.Kernel3Ideal.nD Cert.Kernel3Ideal.τ Cert.Kernel3Ideal.sig) → Buf (Elt Ideal) ℓ) (g : Dev Cert.Kernel3Ideal.nD → PrngReg)
    (c : Dev Cert.Kernel3Ideal.nD) (b : Ref Cert.Kernel3Ideal.sig .tc) : Buf (Elt Ideal) ((c.tc : Thread Cert.Kernel3Ideal.nD Cert.Kernel3Ideal.τ).loc b) :=
  Cert.Kernel3Ideal.Gen.W8 m g c (Proc.devRef .tc b)

set_option maxHeartbeats 1600000 in
/-- The reference ends with its arguments unchanged and every counter at zero. -/
theorem reference_frame : Cert.quiescent_Reference3Ideal (hReference3Ideal := Cert.Reference3Ideal.Gen.facts) := by
  intro m g _
  hlo_run
  · exact fun _ => ⟨trivial, trivial, trivial, trivial, trivial, trivial, trivial, trivial, trivial⟩
  · exact sem_eq_zero_of_no_sems rfl _

/-- The projection's two sums, added to each other first. -/
theorem mixed_assoc (r : EReal) (a b : Fin 2048 → EReal) (w : Fin 4096 → EReal) :
    mixed r a b w = r + ((∑ d : Fin 2048, a d * w ⟨d.val, by omega⟩) + ∑ d : Fin 2048, b d * w ⟨2048 + d.val, by omega⟩) :=
  add_assoc _ _ _

set_option maxHeartbeats 1600000 in
/-- The kernel and the reference leave the same three arrays. -/
theorem same_results : Cert.algebraic_Kernel3Ideal_Reference3Ideal (hKernel3Ideal := Cert.Kernel3Ideal.Gen.facts)
    (hReference3Ideal := Cert.Reference3Ideal.Gen.facts) := by
  intro m g m' g' _ hargs
  have h0 (c) : linearP m c = fun i d => (show FVec Ideal Cert.Reference3Ideal.S8192x2048 .bf16 from
      m' ((c.tc : Thread Cert.Reference3Ideal.nD Cert.Reference3Ideal.τ).loc Cert.Reference3Ideal.main_arg0)) (ix2 i d) :=
    funext fun i => funext fun d => (congrFun (hargs c).1 (ix2 i d)).symm
  have h1 (c) : diffP m c = fun i d => (show FVec Ideal Cert.Reference3Ideal.S8192x2048 .bf16 from
      m' ((c.tc : Thread Cert.Reference3Ideal.nD Cert.Reference3Ideal.τ).loc Cert.Reference3Ideal.main_arg1)) (ix2 i d) :=
    funext fun i => funext fun d => (congrFun (hargs c).2.1 (ix2 i d)).symm
  have h2 (c) : linearS m c = fun i d => (show FVec Ideal Cert.Reference3Ideal.S256x2048 .f32 from
      m' ((c.tc : Thread Cert.Reference3Ideal.nD Cert.Reference3Ideal.τ).loc Cert.Reference3Ideal.main_arg2)) (ix2 i d) :=
    funext fun i => funext fun d => (congrFun (hargs c).2.2.1 (ix2 i d)).symm
  have h3 (c) : diffS m c = fun i d => (show FVec Ideal Cert.Reference3Ideal.S256x2048 .f32 from
      m' ((c.tc : Thread Cert.Reference3Ideal.nD Cert.Reference3Ideal.τ).loc Cert.Reference3Ideal.main_arg3)) (ix2 i d) :=
    funext fun i => funext fun d => (congrFun (hargs c).2.2.2.1 (ix2 i d)).symm
  have h4 (c) : columnOut m c = fun j d => (show FVec Ideal Cert.Reference3Ideal.S1x4096x4096 .f32 from
      m' ((c.tc : Thread Cert.Reference3Ideal.nD Cert.Reference3Ideal.τ).loc Cert.Reference3Ideal.main_arg4)) (ix3 0 d j) :=
    funext fun j => funext fun d => (congrFun (hargs c).2.2.2.2.1 (ix3 0 d j)).symm
  have h5 (c) : tokenP m c = fun i d => (show FVec Ideal Cert.Reference3Ideal.S4x2048x4096 .f32 from
      m' ((c.tc : Thread Cert.Reference3Ideal.nD Cert.Reference3Ideal.τ).loc Cert.Reference3Ideal.main_arg5)) (ix3 ⟨i.val / 2048, by omega⟩ ⟨i.val % 2048, by omega⟩ d) :=
    funext fun i => funext fun d => (congrFun (hargs c).2.2.2.2.2.1 (ix3 ⟨i.val / 2048, by omega⟩ ⟨i.val % 2048, by omega⟩ d)).symm
  have h6 (c) : tokenS m c = fun i d => (show FVec Ideal Cert.Reference3Ideal.S32x8x4096 .f32 from
      m' ((c.tc : Thread Cert.Reference3Ideal.nD Cert.Reference3Ideal.τ).loc Cert.Reference3Ideal.main_arg6)) (ix3 ⟨i.val / 8, by omega⟩ ⟨i.val % 8, by omega⟩ d) :=
    funext fun i => funext fun d => (congrFun (hargs c).2.2.2.2.2.2.1 (ix3 ⟨i.val / 8, by omega⟩ ⟨i.val % 8, by omega⟩ d)).symm
  have h7 (c) : gain m c = fun d => (show FVec Ideal Cert.Reference3Ideal.S1x4096 .f32 from
      m' ((c.tc : Thread Cert.Reference3Ideal.nD Cert.Reference3Ideal.τ).loc Cert.Reference3Ideal.main_arg7)) (ix2 0 d) :=
    funext fun d => (congrFun (hargs c).2.2.2.2.2.2.2.1 (ix2 0 d)).symm
  have h8 (c) : columnQ m c = fun q d => (show FVec Ideal Cert.Reference3Ideal.S1x4096x1024 .f32 from
      m' ((c.tc : Thread Cert.Reference3Ideal.nD Cert.Reference3Ideal.τ).loc Cert.Reference3Ideal.main_arg8)) (ix3 0 d q) :=
    funext fun q => funext fun d => (congrFun (hargs c).2.2.2.2.2.2.2.2 (ix3 0 d q)).symm
  refine ⟨fun c => left m g c Cert.Kernel3Ideal.main_v4, fun c => left m g c Cert.Kernel3Ideal.main_v7, fun c => left m g c Cert.Kernel3Ideal.main_v14, ?_, ?_⟩
  · refine (θ_run _ _ _).mono (fun r h c => ?_) (run_ends m g)
    exact ⟨h c _ (by decide), h c _ (by decide), h c _ (by decide),
      (h c _ (by decide)).trans (Cert.Kernel3Ideal.Gen.W8_main_arg0 m g c), (h c _ (by decide)).trans (Cert.Kernel3Ideal.Gen.W8_main_arg1 m g c),
      (h c _ (by decide)).trans (Cert.Kernel3Ideal.Gen.W8_main_arg2 m g c), (h c _ (by decide)).trans (Cert.Kernel3Ideal.Gen.W8_main_arg3 m g c),
      (h c _ (by decide)).trans (Cert.Kernel3Ideal.Gen.W8_main_arg4 m g c), (h c _ (by decide)).trans (Cert.Kernel3Ideal.Gen.W8_main_arg5 m g c),
      (h c _ (by decide)).trans (Cert.Kernel3Ideal.Gen.W8_main_arg6 m g c), (h c _ (by decide)).trans (Cert.Kernel3Ideal.Gen.W8_main_arg7 m g c),
      (h c _ (by decide)).trans (Cert.Kernel3Ideal.Gen.W8_main_arg8 m g c)⟩
  · hlo_run
    · refine funext fun y => ?_
      obtain ⟨i, j, rfl⟩ : ∃ (i : Fin 8192) (j : Fin 4096), y = ix2 i j := ⟨y 0, y 1, eq_ix2 y⟩
      refine Eq.trans ?_ (out_prompt m g c i j).symm
      unfold hiddenP
      rw [mixed_assoc, h0 c, h1 c, h4 c, h5 c]
      pointwise []
    · refine funext fun y => ?_
      obtain ⟨i, j, rfl⟩ : ∃ (i : Fin 256) (j : Fin 4096), y = ix2 i j := ⟨y 0, y 1, eq_ix2 y⟩
      refine Eq.trans ?_ (out_sample m g c i j).symm
      unfold hiddenS
      rw [mixed_assoc, h2 c, h3 c, h4 c, h6 c]
      pointwise []
    · refine funext fun y => ?_
      obtain ⟨q, i, rfl⟩ : ∃ (q : Fin 1024) (i : Fin 8448), y = ix2 q i := ⟨y 0, y 1, eq_ix2 y⟩
      refine Eq.trans ?_ (queries m g c q i).symm
      by_cases hi : i.val < 8192
      · rw [row_pos m c i hi]
        unfold normed hiddenP
        rw [h0 c, h1 c, h4 c, h5 c, h7 c, h8 c]
        simp only [mixed_assoc]
        pointwise []
        exact dif_pos hi
      · rw [row_neg m c i hi]
        unfold normed hiddenS
        rw [h2 c, h3 c, h4 c, h6 c, h7 c, h8 c]
        simp only [mixed_assoc]
        pointwise []
        exact dif_neg hi

end Cert.Mix

end
-- ==== Proof.OutRun.lean ====
module

public import proofs.«01_k».proof.Proof.Gen.Kernel4Ideal.Frame
public import Idealize.ShloMosaic.Lib.Pipeline.ValueKit
public import Idealize.ShloMosaic.Init
public import Idealize.ShloMosaic.Lib.StableHlo.ReadAt

/-! # The run of the last launches, down to the arrays it leaves

The generated frame of the program names what each array holds after each launch and after each stretch of host
operations; the last of these valuations is what the run leaves. -/

@[expose] public section

set_option maxRecDepth 16384

noncomputable section

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

namespace Cert.Out

open Cert.Kernel4Ideal Cert.Kernel4Ideal.Gen

variable (m : (ℓ : Loc nD τ sig) → Buf (Elt Ideal) ℓ) (ρ : Dev nD → PrngReg)

set_option backward.isDefEq.respectTransparency.types false in
/-- Every weakly fair run of this program ends, and each of the program's arrays then holds what the last valuation says. -/
theorem run_ends : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W7 m ρ c b)
    (hu₀ := ?tokens) (hch := ?chain) (hinit := ?start) (hfin := ?finish)
    (hQ := fun s h _ c b hb => h c _ (mem_uc b hb))
  case tokens =>
    iintro Htok
    imodintro
    isplitl [Htok]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Htok
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  case chain =>
    refine ⟨fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨Harr, Hreg, Howe⟩
    isplitl [Harr Hreg]
    · isplitl [Harr]
      · iexact Harr
      · iexact Hreg
    · iexact Howe
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Harr, -, Howe, -, Hreg, -⟩, -⟩
    imodintro
    isplitl [Harr]
    · iexact Harr
    isplitl [Hreg]
    · iexists _
      iexact Hreg
    · iexists ∅
      iexact Howe
  case finish =>
    intro c s
    iintro ⟨⟨Harr, -⟩, Hstate⟩
    unfold StableHlo.held
    imodintro
    iapply (pointsTo_read_all (Pipeline.ucRefs τ sig) (fun b => (((c : Thread nD τ)).1, b)) (W7 m ρ c) s)
    isplitl [Harr] <;> iassumption

end Cert.Out

end
-- ==== Proof.OutTiles.lean ====
module

public import proofs.«01_k».proof.Proof.Gen.Kernel4Ideal.Frame
public import Idealize.ShloMosaic.Lib.Pipeline.ValueKit
public import Idealize.ShloMosaic.Lib.Pipeline.ReadBack

/-! # The last launches, read tile by tile

The experts' outputs, summed over the experts in sixteen steps, and the final normalisation of both groups of tokens. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.Out

open Cert.Kernel4Ideal Cert.Kernel4Ideal.Gen

variable (V : (c : Dev nD) → (b : Ref sig .tc) → Buf (Elt Ideal) ((c : Thread nD τ).loc b)) (c : Dev nD)

/-- Where the blocks of the sum over the experts lie: 11 blocks of tokens by 16 of experts. -/
theorem idx0 : ∀ t : Fin cfg0.N, win0_0.index t = ![0, t.val % 16] ∧ win0_1.index t = ![t.val % 16, t.val / 16]
    ∧ win0_2.index t = ![0, t.val / 16] :=
  (by decide +kernel : ∀ t : Fin grid0.N, _)

/-- One step's part of the sum. -/
def part (x0 : FVec Ideal S4096x1024 .bf16) (x1 : FVec Ideal S1024x768 .bf16) (y : S4096x768.Idx) : EReal :=
  ∑ k : Fin 1024, x0 (ix2 (y 0) k) * x1 (ix2 k (y 1))

/-- A quarter of a step: 1024 rows of the block, from row `off`, each plus its part. -/
theorem quarter_eq (off : ℕ) (o : FVec Ideal S4096x768 .f32) (x0 : FVec Ideal S4096x1024 .bf16) (x1 : FVec Ideal S1024x768 .bf16)
    (ho : ∀ a, (![off, 0] : Fin 2 → ℕ) a + (![1024, 768] : Fin 2 → ℕ) a ≤ S4096x768.size a)
    (hx : ∀ a, (![off, 0] : Fin 2 → ℕ) a + (![1024, 1024] : Fin 2 → ℕ) a ≤ S4096x1024.size a)
    (x : S1024x768.Idx) (y : S4096x768.Idx) (h0 : (y 0).val = off + (x 0).val) (h1 : (y 1).val = (x 1).val) :
    k0_pay1 (View.ld (Val := Elt Ideal) (S := S4096x768) (e' := .f32) o (Rect.unit ![off, 0] ![1024, 768] ho))
      (View.ld (Val := Elt Ideal) (S := S4096x1024) (e' := .bf16) x0 (Rect.unit ![off, 0] ![1024, 1024] hx)) x1 x
      = o y + part x0 x1 y := by
  have ha : View.ld (Val := Elt Ideal) (S := S4096x768) (e' := .f32) o (Rect.unit ![off, 0] ![1024, 768] ho) x = o y :=
    View.ld_unit_apply_of (Val := Elt Ideal) (S := S4096x768) (e := .f32) _ _ _ _ _ _
      (Fin.forall_fin_two.mpr ⟨h0, h1.trans (Nat.zero_add _).symm⟩)
  have hb : ∀ k : Fin 1024, View.ld (Val := Elt Ideal) (S := S4096x1024) (e' := .bf16) x0 (Rect.unit ![off, 0] ![1024, 1024] hx)
      (ix2 (x 0) k) = x0 (ix2 (y 0) k) := fun k =>
    View.ld_unit_apply_of (Val := Elt Ideal) (S := S4096x1024) (e := .bf16) _ _ _ _ _ _
      (Fin.forall_fin_two.mpr ⟨h0, (Nat.zero_add _).symm⟩)
  obtain ⟨r, j, rfl⟩ : ∃ (r : Fin 1024) (j : Fin 768), x = ix2 r j := ⟨x 0, x 1, eq_ix2 x⟩
  obtain ⟨r', j', rfl⟩ : ∃ (r : Fin 4096) (j : Fin 768), y = ix2 r j := ⟨y 0, y 1, eq_ix2 y⟩
  obtain rfl : j' = j := Fin.ext h1
  generalize View.ld (Val := Elt Ideal) (S := S4096x768) (e' := .f32) o (Rect.unit ![off, 0] ![1024, 768] ho) = a at ha ⊢
  generalize View.ld (Val := Elt Ideal) (S := S4096x1024) (e' := .bf16) x0 (Rect.unit ![off, 0] ![1024, 1024] hx) = b at hb ⊢
  have step : k0_pay1 (a : FVec Ideal S1024x768 .f32) (b : FVec Ideal S1024x1024 .bf16) x1 (ix2 r j')
      = (a : FVec Ideal S1024x768 .f32) (ix2 r j') + ∑ k : Fin 1024, (b : FVec Ideal S1024x1024 .bf16) (ix2 r k) * x1 (ix2 k j') := by
    pointwise [k0_pay1]
  refine step.trans ?_
  rw [ha]
  exact congrArg _ (Finset.sum_congr rfl fun k _ => congrArg (· * _) (hb k))

/-- A step that is not the first adds its part. -/
theorem step_B (t : Fin cfg0.N) (h : ¬ t.val % 16 = 0) (y : S4096x768.Idx) :
    (outsAt0 V c t.val t.isLt y : EReal) = outsAt0 V c (t.val - 1) (Nat.lt_of_le_of_lt (Nat.sub_le _ _) t.isLt) y + part (iblk0 V c 0 t) (iblk0 V c 1 t) y := by
  rw [outsAt0_B V c t h]; frame_out
  canon_tiles x h
  · exact quarter_eq 3072 _ _ _ _ _ x y h0 h1
  · exact quarter_eq 2048 _ _ _ _ _ x y h0 h1
  · exact quarter_eq 1024 _ _ _ _ _ x y h0 h1
  · exact quarter_eq 0 _ _ _ _ _ x y (by omega) h1

/-- The first step starts from zero. -/
theorem step_A (t : Fin cfg0.N) (h : t.val % 16 = 0) (y : S4096x768.Idx) :
    (outsAt0 V c t.val t.isLt y : EReal) = 0 + part (iblk0 V c 0 t) (iblk0 V c 1 t) y := by
  have hz : ∀ y, (k0_pay2 : FVec Ideal S4096x768 .f32) y = 0 := fun y => by
    obtain ⟨r, j, rfl⟩ : ∃ (r : Fin 4096) (j : Fin 768), y = ix2 r j := ⟨y 0, y 1, eq_ix2 y⟩
    pointwise [k0_pay2]
  rw [outsAt0_A V c t h, ← hz y]; frame_out
  simp (disch := decide) only [View.readCov_skip, View.readCov_fill]
  refine View.canon_append_of_piecesOf (Val := Elt Ideal) (s := S4096x768) (e := .f32)
    (fun y => (k0_pay2 : FVec Ideal S4096x768 .f32) y + part (iblk0 V c 0 t) (iblk0 V c 1 t) y) [_] [_, _, _, _]
    ⟨fun x => ?_, fun x => ?_, fun x => ?_, fun x => ?_, trivial⟩ y ?_
  · exact quarter_eq 3072 _ _ _ _ _ x _ (Rect.idx_unit_val (s := S4096x768) ![3072, 0] ![1024, 768] (by decide) x 0)
      ((Rect.idx_unit_val (s := S4096x768) ![3072, 0] ![1024, 768] (by decide) x 1).trans (Nat.zero_add (x 1).val))
  · exact quarter_eq 2048 _ _ _ _ _ x _ (Rect.idx_unit_val (s := S4096x768) ![2048, 0] ![1024, 768] (by decide) x 0)
      ((Rect.idx_unit_val (s := S4096x768) ![2048, 0] ![1024, 768] (by decide) x 1).trans (Nat.zero_add (x 1).val))
  · exact quarter_eq 1024 _ _ _ _ _ x _ (Rect.idx_unit_val (s := S4096x768) ![1024, 0] ![1024, 768] (by decide) x 0)
      ((Rect.idx_unit_val (s := S4096x768) ![1024, 0] ![1024, 768] (by decide) x 1).trans (Nat.zero_add (x 1).val))
  · exact quarter_eq 0 _ _ _ _ _ x _ (Rect.idx_unit_val (s := S4096x768) ![0, 0] ![1024, 768] (by decide) x 0)
      ((Rect.idx_unit_val (s := S4096x768) ![0, 0] ![1024, 768] (by decide) x 1).trans (Nat.zero_add (x 1).val))
  · exact View.cover_of_tiled_head _ _ _ (by rfl) y

/-- A step's part, from the whole arrays: 1024 experts. -/
theorem part_eq (j kk : ℕ) (hj : j < 11) (hk : kk < 16) (t : Fin cfg0.N) (ht : t.val = j * 16 + kk) (r : Fin 4096) (l : Fin 768) :
    part (iblk0 V c 0 t) (iblk0 V c 1 t) (ix2 r l)
      = ∑ k : Fin 1024, (show FVec Ideal S4096x16384 .bf16 from V c main_v2) (ix2 r ⟨kk * 1024 + k.val, by omega⟩)
          * (show FVec Ideal S16384x8448 .bf16 from V c main_arg1) (ix2 ⟨kk * 1024 + k.val, by omega⟩ ⟨j * 768 + l.val, by omega⟩) := by
  have hd : t.val / 16 = j := by omega
  have hm : t.val % 16 = kk := by omega
  subst hd hm
  unfold part
  refine Finset.sum_congr rfl fun k _ => congrArg₂ (· * ·) ?_ ?_
  · blk_ext [iblk0, idx0 t]
  · blk_ext [iblk0, idx0 t]

/-- The sum over all experts, whole. -/
theorem final0 : (dat0 V c).arrAt 2 cfg0.N
    = (fun i : S4096x8448.Idx => ∑ e : Fin 16384, (show FVec Ideal S4096x16384 .bf16 from V c main_v2) (ix2 (i 0) e)
        * (show FVec Ideal S16384x8448 .bf16 from V c main_arg1) (ix2 e (i 1))) := by
  refine (dat0 V c).arrAt_eq_of_covers 2 _ (by decide +kernel) fun t hf y => ?_
  have ht : t.val < 176 := lt_of_lt_of_eq t.isLt (show cfg0.N = 176 from N_0)
  have hl := (flush0_2 t).mp hf
  obtain ⟨r, j, rfl⟩ : ∃ (r : Fin 4096) (j : Fin 768), y = ix2 r j := ⟨y 0, y 1, eq_ix2 y⟩
  have e : ((cfg0.win 2).blk t).view.emb (ix2 r j) = (ix2 r (⟨t.val / 16 * 768 + j.val, by omega⟩ : Fin 8448) : S4096x8448.Idx) := by
    blk_ext [idx0 t]
  rw [e]
  blk_simp
  rw [after0_2]
  rw [Pipeline.eq_sum_fin_of_reset_step_apply_of_flush (fun n h => outsAt0 V c n h) 16 (fun _ => 0)
    (fun n y => part (iblk0 V c 0 n) (iblk0 V c 1 n) y) (fun t h y => step_A V c t h y) (fun t h y => step_B V c t h y) t hl (ix2 r j)]
  refine (zero_add (_ : EReal)).trans ?_
  refine (Finset.sum_congr rfl fun s _ => part_eq V c (t.val / 16) s.val (by omega) s.isLt
    ⟨16 * (t.val / 16) + s.val, lt_of_lt_of_eq (by omega : _ < 176) (show 176 = cfg0.N from N_0.symm)⟩ (congrArg (· + s.val) (Nat.mul_comm _ _)) r j).trans ?_
  exact Fin.sum_mul_add_fin 16 1024 (fun e : Fin 16384 => (show FVec Ideal S4096x16384 .bf16 from V c main_v2) (ix2 r e)
    * (show FVec Ideal S16384x8448 .bf16 from V c main_arg1) (ix2 e ⟨t.val / 16 * 768 + j.val, by omega⟩)) (by decide)

/-- A token's row divided by the root of its mean square, times the gain. -/
def normed (x g : Fin 4096 → EReal) (j : Fin 4096) : EReal :=
  x j * Ideal.rsqrt (Ideal.div (∑ d : Fin 4096, x d * x d) (Ideal.ofBits FTy.f32 1166016512#32) + Ideal.ofBits FTy.f32 897988541#32) * g j

/-- The prompt's blocks: 32 of 256 tokens. -/
theorem idx1 : ∀ t : Fin cfg1.N, win1_0.index t = ![t.val, 0] ∧ win1_1.index t = ![0, t.val] ∧ win1_2.index t = ![0, 0]
    ∧ win1_3.index t = ![t.val, 0] :=
  (by decide +kernel : ∀ t : Fin grid1.N, _)

/-- The prompt's last normalisation, whole. -/
theorem final1 : (dat1 V c).arrAt 3 cfg1.N
    = (fun i : S8192x4096.Idx => normed (fun d => (show FVec Ideal S8192x4096 .f32 from V c main_arg2) (ix2 (i 0) d)
          + (show FVec Ideal S4096x8448 .f32 from V c main_v3) (ix2 d ⟨(i 0).val, by have := (i 0).isLt; exact Nat.lt_trans this (by decide)⟩))
        (fun d => (show FVec Ideal S1x4096 .f32 from V c main_v4) (ix2 0 d)) (i 1)) := by
  refine (dat1 V c).arrAt_eq_of_covers 3 _ (by decide +kernel) fun t _ y => ?_
  blk_simp
  rw [after1_3]; frame_out
  pointwise [k1_pay1, normed]
  blk_point [iblk1, idx1 t]

/-- The sample's block: all 256 tokens, whose experts' outputs are the last columns. -/
theorem idx2 : ∀ t : Fin cfg2.N, win2_0.index t = ![0, 0] ∧ win2_1.index t = ![0, 32] ∧ win2_2.index t = ![0, 0]
    ∧ win2_3.index t = ![0, 0] :=
  (by decide +kernel : ∀ t : Fin grid2.N, _)

/-- The sample's last normalisation, whole. -/
theorem final2 : (dat2 V c).arrAt 3 cfg2.N
    = (fun i : S256x4096.Idx => normed (fun d => (show FVec Ideal S256x4096 .f32 from V c main_arg3) (ix2 (i 0) d)
          + (show FVec Ideal S4096x8448 .f32 from V c main_v3) (ix2 d ⟨8192 + (i 0).val, by have := (i 0).isLt; exact Nat.add_lt_add_left this 8192⟩))
        (fun d => (show FVec Ideal S1x4096 .f32 from V c main_v6) (ix2 0 d)) (i 1)) := by
  refine (dat2 V c).arrAt_eq_of_covers 3 _ (by decide +kernel) fun t _ y => ?_
  blk_simp
  rw [after2_3]; frame_out
  pointwise [k2_pay1, normed]
  blk_point [iblk2, idx2 t]

end Cert.Out

end
-- ==== Proof.OutArrays.lean ====
module

public import proofs.«01_k».proof.Proof.OutTiles
public import Idealize.ShloMosaic.Lib.StableHlo.ReadAt

/-! # The arrays left by the last launches, from the arguments

The host's stretches transpose the experts' weight, lay the gain out as a row and the tokens out by sequence; the launches
sum the experts' outputs, add the residual and normalise. -/

@[expose] public section

set_option maxRecDepth 16384

noncomputable section

open Idealize.ShloMosaic Idealize.ShloMosaic.TcCoe Idealize.ShloMosaic.Tactic Idealize.SL.Sem
open scoped BigOperators

namespace Cert.Out

open Cert.Kernel4Ideal Cert.Kernel4Ideal.Gen

section Stretches

variable (V : Valuation τ sig (Elt Ideal))

/-- The experts' output weight, transposed. -/
theorem weight_experts (d : Fin 4096) (e : Fin 16384) :
    StableHlo.after hostOps0 V (Proc.devRef .tc main_v2) (ix2 d e)
      = (show FVec Ideal S1x16384x4096 .f32 from V (Proc.devRef .tc main_arg0)) (ix3 0 e d) := by
  after_reads_at

/-- The gain as one row, for the prompt. -/
theorem gain_prompt (d : Fin 4096) :
    StableHlo.after hostOps1 V (Proc.devRef .tc main_v4) (ix2 0 d)
      = (show FVec Ideal S4096 .f32 from V (Proc.devRef .tc main_arg4)) (ix1 d) := by
  after_reads_at

/-- The gain as one row, for the sample. -/
theorem gain_sample (d : Fin 4096) :
    StableHlo.after hostOps2 V (Proc.devRef .tc main_v6) (ix2 0 d)
      = (show FVec Ideal S4096 .f32 from V (Proc.devRef .tc main_arg4)) (ix1 d) := by
  after_reads_at

/-- The prompt's rows, by sequence. -/
theorem by_sequence_prompt (b : Fin 4) (t : Fin 2048) (d : Fin 4096) :
    StableHlo.after hostOps3 V (Proc.devRef .tc main_v8) (ix3 b t d)
      = (show FVec Ideal S8192x4096 .f32 from V (Proc.devRef .tc main_v5)) (ix2 ⟨b.val * 2048 + t.val, by omega⟩ d) := by
  after_reads_at

/-- The sample's rows, by sequence. -/
theorem by_sequence_sample (b : Fin 32) (t : Fin 8) (d : Fin 4096) :
    StableHlo.after hostOps3 V (Proc.devRef .tc main_v9) (ix3 b t d)
      = (show FVec Ideal S256x4096 .f32 from V (Proc.devRef .tc main_v7)) (ix2 ⟨b.val * 8 + t.val, by omega⟩ d) := by
  after_reads_at

end Stretches

section Boundaries

variable (m : (ℓ : Loc nD τ sig) → Buf (Elt Ideal) ℓ) (ρ : Dev nD → PrngReg) (c : Dev nD)

/-- An expert's output weight. -/
def expert (e : Fin 16384) (d : Fin 4096) : EReal := (show FVec Ideal S1x16384x4096 .f32 from m ((c : Thread nD τ).loc main_arg0)) (ix3 0 e d)

/-- An expert's gated activation at a token. -/
def gated (e : Fin 16384) (i : Fin 8448) : EReal := (show FVec Ideal S16384x8448 .bf16 from m ((c : Thread nD τ).loc main_arg1)) (ix2 e i)

/-- The prompt's hidden state. -/
def hiddenP (i : Fin 8192) (d : Fin 4096) : EReal := (show FVec Ideal S8192x4096 .f32 from m ((c : Thread nD τ).loc main_arg2)) (ix2 i d)

/-- The sample's hidden state. -/
def hiddenS (i : Fin 256) (d : Fin 4096) : EReal := (show FVec Ideal S256x4096 .f32 from m ((c : Thread nD τ).loc main_arg3)) (ix2 i d)

/-- The last gain. -/
def gain (d : Fin 4096) : EReal := (show FVec Ideal S4096 .f32 from m ((c : Thread nD τ).loc main_arg4)) (ix1 d)

/-- What the experts give a token. -/
def given (i : Fin 8448) (d : Fin 4096) : EReal := ∑ e : Fin 16384, gated m c e i * expert m c e d

/-- A sum of products, factor by factor. -/
theorem sum_products (f g x y : Fin 16384 → EReal) (hf : ∀ d, f d = x d) (hg : ∀ d, g d = y d) :
    ∑ d : Fin 16384, f d * g d = ∑ d : Fin 16384, y d * x d :=
  Finset.sum_congr rfl fun d _ => (congrArg₂ (· * ·) (hf d) (hg d)).trans (mul_comm _ _)

/-- The experts' sum at its launch's end. -/
theorem experts_sum (d : Fin 4096) (i : Fin 8448) :
    (show FVec Ideal S4096x8448 .f32 from W2 m ρ c (Proc.devRef .tc main_v3)) (ix2 d i) = given m c i d := by
  have h := congrFun ((W2_arr m ρ c 2).trans (final0 (V1 m ρ) c)) (ix2 d i)
  refine h.trans (sum_products (fun e => (show FVec Ideal S4096x16384 .bf16 from W1 m ρ c (Proc.devRef .tc main_v2)) (ix2 d e))
    (fun e => (show FVec Ideal S16384x8448 .bf16 from W1 m ρ c (Proc.devRef .tc main_arg1)) (ix2 e i)) _ _ (fun e => ?_) (fun e => ?_))
  · exact weight_experts _ d e
  · rw [W1_of m ρ c main_arg1 (by decide)]
    rfl

/-- `normed` of equal rows and gains. -/
theorem normed_congr {x x' g g' : Fin 4096 → EReal} (hx : ∀ d, x d = x' d) (hg : ∀ d, g d = g' d) (j : Fin 4096) :
    normed x g j = normed x' g' j := by
  rw [funext hx, funext hg]

/-- The prompt's output at its launch's end. -/
theorem norm_prompt (i : Fin 8192) (j : Fin 4096) :
    (show FVec Ideal S8192x4096 .f32 from W4 m ρ c (Proc.devRef .tc main_v5)) (ix2 i j)
      = normed (fun d => hiddenP m c i d + given m c ⟨i.val, by omega⟩ d) (gain m c) j := by
  have h := congrFun ((W4_arr m ρ c 3).trans (final1 (V3 m ρ) c)) (ix2 i j)
  refine h.trans (normed_congr (fun d => congrArg₂ (· + ·) ?_ ?_) (fun d => ?_) j)
  · show (show FVec Ideal S8192x4096 .f32 from W3 m ρ c (Proc.devRef .tc main_arg2)) (ix2 i d) = _
    rw [W3_of m ρ c main_arg2 (by decide), W2_of m ρ c main_arg2 (by decide), W1_of m ρ c main_arg2 (by decide)]
    rfl
  · show (show FVec Ideal S4096x8448 .f32 from W3 m ρ c (Proc.devRef .tc main_v3)) (ix2 d ⟨i.val, by omega⟩) = _
    rw [W3_of m ρ c main_v3 (by decide)]
    exact experts_sum m ρ c d _
  · refine (gain_prompt _ d).trans ?_
    rw [W2_of m ρ c main_arg4 (by decide), W1_of m ρ c main_arg4 (by decide)]
    rfl

/-- The sample's output at its launch's end. -/
theorem norm_sample (i : Fin 256) (j : Fin 4096) :
    (show FVec Ideal S256x4096 .f32 from W6 m ρ c (Proc.devRef .tc main_v7)) (ix2 i j)
      = normed (fun d => hiddenS m c i d + given m c ⟨8192 + i.val, by omega⟩ d) (gain m c) j := by
  have h := congrFun ((W6_arr m ρ c 3).trans (final2 (V5 m ρ) c)) (ix2 i j)
  refine h.trans (normed_congr (fun d => congrArg₂ (· + ·) ?_ ?_) (fun d => ?_) j)
  · show (show FVec Ideal S256x4096 .f32 from W5 m ρ c (Proc.devRef .tc main_arg3)) (ix2 i d) = _
    rw [W5_of m ρ c main_arg3 (by decide), W4_of m ρ c main_arg3 (by decide), W3_of m ρ c main_arg3 (by decide),
      W2_of m ρ c main_arg3 (by decide), W1_of m ρ c main_arg3 (by decide)]
    rfl
  · show (show FVec Ideal S4096x8448 .f32 from W5 m ρ c (Proc.devRef .tc main_v3)) (ix2 d ⟨8192 + i.val, by omega⟩) = _
    rw [W5_of m ρ c main_v3 (by decide), W4_of m ρ c main_v3 (by decide), W3_of m ρ c main_v3 (by decide)]
    exact experts_sum m ρ c d _
  · refine (gain_sample _ d).trans ?_
    rw [W4_of m ρ c main_arg4 (by decide), W3_of m ρ c main_arg4 (by decide), W2_of m ρ c main_arg4 (by decide),
      W1_of m ρ c main_arg4 (by decide)]
    rfl

/-- The prompt's output at the run's end. -/
theorem out_prompt (b : Fin 4) (t : Fin 2048) (j : Fin 4096) :
    W7 m ρ c (Proc.devRef .tc main_v8) (ix3 b t j)
      = normed (fun d => hiddenP m c ⟨b.val * 2048 + t.val, by omega⟩ d + given m c ⟨b.val * 2048 + t.val, by omega⟩ d) (gain m c) j := by
  refine (by_sequence_prompt _ b t j).trans ?_
  rw [W6_of m ρ c main_v5 (by decide), W5_of m ρ c main_v5 (by decide)]
  exact norm_prompt m ρ c _ j

/-- The sample's output at the run's end. -/
theorem out_sample (b : Fin 32) (t : Fin 8) (j : Fin 4096) :
    W7 m ρ c (Proc.devRef .tc main_v9) (ix3 b t j)
      = normed (fun d => hiddenS m c ⟨b.val * 8 + t.val, by omega⟩ d + given m c ⟨8192 + (b.val * 8 + t.val), by omega⟩ d) (gain m c) j := by
  refine (by_sequence_sample _ b t j).trans ?_
  exact norm_sample m ρ c _ j

end Boundaries

end Cert.Out

end
-- ==== Proof.OutResults.lean ====
module

public import proofs.«01_k».proof.Defs
public import proofs.«01_k».proof.Proof.OutRun
public import proofs.«01_k».proof.Proof.OutArrays
public import proofs.«01_k».proof.Proof.Gen.Reference4Ideal
public import Idealize.ShloMosaic.Lib.Quiescent
public import Idealize.ShloMosaic.Lib.Claim

/-! # The last launches compute what their reference does -/

@[expose] public section

set_option maxRecDepth 200000

noncomputable section

open Idealize.ShloMosaic Idealize.ShloMosaic.TcCoe Idealize.ShloMosaic.Tactic Idealize.SL.Sem
open scoped BigOperators

namespace Cert.Out

/-- What the kernel's run leaves in one of its arrays. -/
def left (m : (ℓ : Loc Cert.Kernel4Ideal.nD Cert.Kernel4Ideal.τ Cert.Kernel4Ideal.sig) → Buf (Elt Ideal) ℓ) (g : Dev Cert.Kernel4Ideal.nD → PrngReg)
    (c : Dev Cert.Kernel4Ideal.nD) (b : Ref Cert.Kernel4Ideal.sig .tc) : Buf (Elt Ideal) ((c.tc : Thread Cert.Kernel4Ideal.nD Cert.Kernel4Ideal.τ).loc b) :=
  Cert.Kernel4Ideal.Gen.W7 m g c (Proc.devRef .tc b)

set_option maxHeartbeats 1600000 in
/-- The reference ends with its arguments unchanged and every counter at zero. -/
theorem reference_frame : Cert.quiescent_Reference4Ideal (hReference4Ideal := Cert.Reference4Ideal.Gen.facts) := by
  intro m g _
  hlo_run
  · exact fun _ => ⟨trivial, trivial, trivial, trivial, trivial⟩
  · exact sem_eq_zero_of_no_sems rfl _

set_option maxHeartbeats 1600000 in
/-- The kernel and the reference leave the same two arrays. -/
theorem same_results : Cert.algebraic_Kernel4Ideal_Reference4Ideal (hKernel4Ideal := Cert.Kernel4Ideal.Gen.facts)
    (hReference4Ideal := Cert.Reference4Ideal.Gen.facts) := by
  intro m g m' g' _ hargs
  have h0 (c) : expert m c = fun e d => (show FVec Ideal Cert.Reference4Ideal.S1x16384x4096 .f32 from
      m' ((c.tc : Thread Cert.Reference4Ideal.nD Cert.Reference4Ideal.τ).loc Cert.Reference4Ideal.main_arg0)) (ix3 0 e d) :=
    funext fun e => funext fun d => (congrFun (hargs c).1 (ix3 0 e d)).symm
  have h1 (c) : gated m c = fun e i => (show FVec Ideal Cert.Reference4Ideal.S16384x8448 .bf16 from
      m' ((c.tc : Thread Cert.Reference4Ideal.nD Cert.Reference4Ideal.τ).loc Cert.Reference4Ideal.main_arg1)) (ix2 e i) :=
    funext fun e => funext fun i => (congrFun (hargs c).2.1 (ix2 e i)).symm
  have h2 (c) : hiddenP m c = fun i d => (show FVec Ideal Cert.Reference4Ideal.S8192x4096 .f32 from
      m' ((c.tc : Thread Cert.Reference4Ideal.nD Cert.Reference4Ideal.τ).loc Cert.Reference4Ideal.main_arg2)) (ix2 i d) :=
    funext fun i => funext fun d => (congrFun (hargs c).2.2.1 (ix2 i d)).symm
  have h3 (c) : hiddenS m c = fun i d => (show FVec Ideal Cert.Reference4Ideal.S256x4096 .f32 from
      m' ((c.tc : Thread Cert.Reference4Ideal.nD Cert.Reference4Ideal.τ).loc Cert.Reference4Ideal.main_arg3)) (ix2 i d) :=
    funext fun i => funext fun d => (congrFun (hargs c).2.2.2.1 (ix2 i d)).symm
  have h4 (c) : gain m c = fun d => (show FVec Ideal Cert.Reference4Ideal.S4096 .f32 from
      m' ((c.tc : Thread Cert.Reference4Ideal.nD Cert.Reference4Ideal.τ).loc Cert.Reference4Ideal.main_arg4)) (ix1 d) :=
    funext fun d => (congrFun (hargs c).2.2.2.2 (ix1 d)).symm
  refine ⟨fun c => left m g c Cert.Kernel4Ideal.main_v8, fun c => left m g c Cert.Kernel4Ideal.main_v9, ?_, ?_⟩
  · refine (θ_run _ _ _).mono (fun r h c => ?_) (run_ends m g)
    exact ⟨h c _ (by decide), h c _ (by decide),
      (h c _ (by decide)).trans (Cert.Kernel4Ideal.Gen.W7_main_arg0 m g c), (h c _ (by decide)).trans (Cert.Kernel4Ideal.Gen.W7_main_arg1 m g c),
      (h c _ (by decide)).trans (Cert.Kernel4Ideal.Gen.W7_main_arg2 m g c), (h c _ (by decide)).trans (Cert.Kernel4Ideal.Gen.W7_main_arg3 m g c),
      (h c _ (by decide)).trans (Cert.Kernel4Ideal.Gen.W7_main_arg4 m g c)⟩
  · hlo_run
    · refine funext fun y => ?_
      obtain ⟨b, t, j, rfl⟩ : ∃ (b : Fin 4) (t : Fin 2048) (j : Fin 4096), y = ix3 b t j := ⟨y 0, y 1, y 2, eq_ix3 y⟩
      refine Eq.trans ?_ (out_prompt m g c b t j).symm
      unfold normed given
      rw [h0 c, h1 c, h2 c, h4 c]
      pointwise []
    · refine funext fun y => ?_
      obtain ⟨b, t, j, rfl⟩ : ∃ (b : Fin 32) (t : Fin 8) (j : Fin 4096), y = ix3 b t j := ⟨y 0, y 1, y 2, eq_ix3 y⟩
      refine Eq.trans ?_ (out_sample m g c b t j).symm
      unfold normed given
      rw [h0 c, h1 c, h3 c, h4 c]
      pointwise []

end Cert.Out

end
-- ==== Proof.SampChunk.lean ====
module

public import proofs.«01_k».proof.Proof.Chunk
public import Idealize.ShloMosaic.Lib.WordCmp

/-! # Gated linear attention over the eight tokens of a sample's batch row

The formulas both programs of the sample are shown to compute, over functions. The kernel works on sixteen rows, of
which the last eight are zeros; the lemmas at the end read its masks and its triangle of ones. -/

@[expose] public section

noncomputable section

namespace Cert.Samp

open Idealize.ShloMosaic
open Cert.Gla (logSig gate gate_nonpos normed chan vchan min_decay)
open scoped BigOperators

/-- What has accumulated of the gates `g` up to and including token `r`. -/
def cum (g : Fin 8 → EReal) (r : Fin 8) : EReal := ∑ s : Fin 8, if s ≤ r then g s else 0

/-- Accumulated gates are never positive. -/
theorem cum_nonpos {g : Fin 8 → EReal} (hg : ∀ s, g s ≤ 0) (r : Fin 8) : cum g r ≤ 0 :=
  Finset.sum_nonpos fun s _ => by split <;> simp [hg]

/-- Accumulated gates only fall. -/
theorem cum_anti {g : Fin 8 → EReal} (hg : ∀ s, g s ≤ 0) {r t : Fin 8} (h : r ≤ t) : cum g t ≤ cum g r :=
  Finset.sum_le_sum fun s _ => by
    by_cases h1 : s ≤ r
    · rw [if_pos h1, if_pos (h1.trans h)]
    · rw [if_neg h1]; split <;> simp [hg]

/-- The weight of token `s` for token `t` in a head: the query against the key, each channel with the decay between the
    two tokens, and nothing for a later token. -/
def weight (Q K G : Fin 8 → Fin 256 → EReal) (t s : Fin 8) : EReal :=
  ∑ x : Fin 256, Q t x * K s x * Ideal.exp (if s ≤ t then G t x - G s x else ⊥)

/-- What token `r` reads: the state the row began with, and the tokens up to `r`. -/
def mix (Q K G : Fin 8 → Fin 256 → EReal) (V : Fin 8 → Fin 512 → EReal) (S : Fin 256 → Fin 512 → EReal)
    (r : Fin 8) (e : Fin 512) : EReal :=
  (∑ x : Fin 256, Q r x * Ideal.exp (G r x) * S x e) + ∑ s : Fin 8, weight Q K G r s * V s e

/-- The state after the eight tokens. -/
def after (K G : Fin 8 → Fin 256 → EReal) (V : Fin 8 → Fin 512 → EReal) (S : Fin 256 → Fin 512 → EReal)
    (x : Fin 256) (e : Fin 512) : EReal :=
  S x e * Ideal.exp (G 7 x) + ∑ s : Fin 8, V s e * (K s x * Ideal.exp (G 7 x - G s x))

/-- A later token has no weight. -/
theorem weight_later (Q K G : Fin 8 → Fin 256 → EReal) {t s : Fin 8} (h : ¬ s ≤ t) : weight Q K G t s = 0 :=
  Finset.sum_eq_zero fun x _ => by simp [if_neg h]

/-- The difference of the accumulated gates is not positive, so the kernel's minimum with zero does nothing. -/
theorem weight_own (Q K G : Fin 8 → Fin 256 → EReal) {t s : Fin 8} (h : s ≤ t) (h0 : ∀ x, G s x ≤ 0)
    (ha : ∀ x, G t x ≤ G s x) :
    (∑ x : Fin 256, Q t x * Ideal.exp (min (G t x - G s x) 0) * K s x) = weight Q K G t s :=
  Finset.sum_congr rfl fun x _ => by
    rw [if_pos h, min_decay (ha x) (h0 x), mul_assoc, mul_assoc, mul_comm (Ideal.exp _)]

/-- Row `r` of the eight, among the sixteen. -/
abbrev lift (r : Fin 8) : Fin 16 := ⟨r.val, by omega⟩

/-- A product with a matrix whose rows past the sixteenth are zero. -/
theorem sum_padded (f : Fin 128 → EReal) (w : Fin 16 → EReal) :
    (∑ j : Fin 128, f j * (if h : j.val < 16 then w ⟨j.val, h⟩ else 0)) = ∑ j : Fin 16, f ⟨j.val, by omega⟩ * w j := by
  refine (Fin.sum_univ_add (a := 16) (b := 112)
    (fun j => f j * (if h : j.val < 16 then w ⟨j.val, h⟩ else 0))).trans ?_
  rw [Finset.sum_eq_zero (s := (Finset.univ : Finset (Fin 112))) (fun j _ => by
    rw [dif_neg (by simp), mul_zero]), add_zero]
  refine Finset.sum_congr rfl fun j _ => ?_
  rw [dif_pos (by simp : (Fin.castAdd 112 j).val < 16)]
  rfl

/-- A select on a decided statement is a choice. -/
theorem select_decide {α : Type} (p : Prop) [Decidable p] (a b : α) :
    Scalar.select (BitVec.ofBool (decide p)) a b = if p then a else b := by
  by_cases h : p
  · simp [Scalar.select, h]
  · simp [Scalar.select, h]

/-- A select on "the column is `s`" is a choice on the column. -/
theorem select_eq {α : Type} (s : ℕ) (l : Fin 16) (hs : s < 16) (a b : α) :
    Scalar.select (IntOp.cmpi CmpIPredicate.eq (BitVec.ofNat 32 l.val) (BitVec.ofNat 32 s)) a b
      = if l.val = s then a else b := by
  have hl := l.isLt
  rw [WordCmp.cmpi_eq_eq_toNat, select_decide]
  simp only [BitVec.toNat_ofNat]
  rw [Nat.mod_eq_of_lt (by omega), Nat.mod_eq_of_lt (by omega)]

/-- A select on "the row lies before `s`" is a choice on the row. -/
theorem select_lt {α : Type} (s l : ℕ) (hs : s < 64) (hl : l < 64) (a b : α) :
    Scalar.select (IntOp.cmpi CmpIPredicate.slt (BitVec.ofNat 32 l) (BitVec.ofNat 32 s)) a b
      = if l < s then a else b := by
  rw [WordCmp.cmpi_slt_ofNat (by omega) (by omega), select_decide]

/-- A select on "the column is not after the row" is a choice on the two. -/
theorem select_le {α : Type} (r l : ℕ) (hr : r < 16) (hl : l < 16) (a b : α) :
    Scalar.select (IntOp.cmpi CmpIPredicate.sle (BitVec.ofNat 32 l) (IntOp.addi (0#32) (BitVec.ofNat 32 r))) a b
      = if l ≤ r then a else b := by
  rw [show IntOp.addi (0#32) (BitVec.ofNat 32 r) = BitVec.ofNat 32 (0 + r) from
    (BitVec.ofNat_add ..).symm, WordCmp.cmpi_sle_ofNat (by omega) (by omega), select_decide, Nat.zero_add]

/-- The sixteenth by which the gates and the queries are scaled. -/
theorem ofBits_sixteenth : Ideal.ofBits FTy.f32 1031798784#32 = ((1 / 16 : ℝ) : EReal) := by
  simp [Ideal.ofBits, Ideal.ieee, -EReal.coe_mul]; norm_num

/-- The kernel's triangle of ones and zeros, entry by entry. -/
theorem triangle (r s : ℕ) (hr : r < 16) (hs : s < 16) :
    (FloatOps.sitofp FTy.f32 (BitVec.setWidth 32 (IntOp.cmpi CmpIPredicate.sle (BitVec.ofNat 32 s)
      (BitVec.ofNat 32 r))) : Ideal FTy.f32) = if s ≤ r then (1 : EReal) else 0 := by
  rw [WordCmp.cmpi_sle_ofNat (by omega) (by omega)]
  by_cases h : s ≤ r
  · rw [if_pos h, decide_eq_true h]
    show (((1#32 : BitVec 32).toInt : ℝ) : EReal) = 1
    norm_num
  · rw [if_neg h, decide_eq_false h]
    show (((0#32 : BitVec 32).toInt : ℝ) : EReal) = 0
    norm_num

end Cert.Samp

end
-- ==== Proof.SampRows.lean ====
module

public import proofs.«01_k».proof.Proof.SampChunk
public import proofs.«01_k».proof.Proof.Gen.Kernel5Ideal.Skeleton

/-! # The sample's attention weights, read at an index

The four heads' weight matrices over sixteen rows, as the kernel computes them, and their entries in the first eight. -/

@[expose] public section

set_option maxRecDepth 16384

noncomputable section

namespace Cert.Samp

open Idealize.ShloMosaic Idealize.ShloMosaic.TcCoe Idealize.ShloMosaic.Tactic
open Cert.Kernel5Ideal Cert.Kernel5Ideal.Gen
open Cert.Gla (gate gate_nonpos normed chan vchan)
open scoped BigOperators

/-- Accumulated gates: never positive, and falling from token to token. -/
structure Falls (G : FVec Ideal S16x1024 .f32) : Prop where
  /-- No entry is positive. -/
  nonpos : ∀ (r : Fin 8) l, G (ix2 (lift r) l) ≤ 0
  /-- A later token's entry is not greater. -/
  anti : ∀ (r t : Fin 8) l, r ≤ t → G (ix2 (lift t) l) ≤ G (ix2 (lift r) l)

/-- Head 0's weights. -/
def weights0 (K Q G : FVec Ideal S16x1024 .f32) : FVec Ideal S16x16 .f32 :=
  (k0_pay118 K Q G (iota Kind.tc S16x16 32 [1] iota_S16x16_d1_w32) (iota Kind.tc S16x16 32 [0] iota_S16x16_d0_w32)
    (k0_pay109 K Q G (iota Kind.tc S16x16 32 [1] iota_S16x16_d1_w32) (k0_pay104 K Q G (iota Kind.tc S16x16 32 [1]
    iota_S16x16_d1_w32) (k0_pay99 K Q G (iota Kind.tc S16x16 32 [1] iota_S16x16_d1_w32) (k0_pay94 K Q G (iota
    Kind.tc S16x16 32 [1] iota_S16x16_d1_w32) (k0_pay83 K (iota Kind.tc S16x16 32 [1] iota_S16x16_d1_w32) (k0_pay77
    K Q G (iota Kind.tc S16x16 32 [1] iota_S16x16_d1_w32) (k0_pay71 K Q G (iota Kind.tc S16x16 32 [1]
    iota_S16x16_d1_w32) (k0_pay66 K Q G (iota Kind.tc S16x16 32 [1] iota_S16x16_d1_w32) (k0_pay61 K Q G (iota
    Kind.tc S16x16 32 [1] iota_S16x16_d1_w32) (k0_pay56 K Q G (iota Kind.tc S16x16 32 [1] iota_S16x16_d1_w32)
    (k0_pay46 K Q (iota Kind.tc S16x16 32 [1] iota_S16x16_d1_w32) (k0_pay39 K Q G (iota Kind.tc S16x16 32 [1]
    iota_S16x16_d1_w32) (k0_pay33 K Q G)) (k0_pay43 G) k0_pay44) (k0_pay51 K Q G)))))) (k0_pay81 Q G)) (k0_pay88 K Q
    G) k0_pay89)))) (k0_pay113 G))

set_option maxHeartbeats 4000000 in
/-- Their entries in the first eight rows. -/
theorem weights0_at (K Q G : FVec Ideal S16x1024 .f32) (hG : Falls G) (r : Fin 8) (l : Fin 16) :
    weights0 K Q G (ix2 (lift r) l)
      = if h : l.val < 8 then weight (fun t x => Q (ix2 (lift t) ⟨x.val, by omega⟩)) (fun t x => K (ix2 (lift t) ⟨x.val, by omega⟩))
          (fun t x => G (ix2 (lift t) ⟨x.val, by omega⟩)) r ⟨l.val, h⟩ else 0 := by
  pointwise [weights0, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay128]
  simp only [select_le r.val l.val (by omega) (by omega), select_eq 0 _ (by decide), select_eq 1 _ (by decide), select_eq 2 _ (by decide),
    select_eq 3 _ (by decide), select_eq 4 _ (by decide), select_eq 5 _ (by decide), select_eq 6 _ (by decide),
    select_eq 7 _ (by decide), select_eq 8 _ (by decide), select_eq 9 _ (by decide), select_eq 10 _ (by decide),
    select_eq 11 _ (by decide), select_eq 12 _ (by decide), select_eq 13 _ (by decide), select_eq 14 _ (by decide),
    select_eq 15 _ (by decide)]
  have hr := r.isLt
  by_cases hl : l.val ≤ r.val
  · rw [if_pos hl, dif_pos (by omega)]
    have hlo : 0 ≤ l.val := Nat.zero_le _
    rcases l with ⟨l, hl16⟩
    simp only at hl hlo ⊢
    have hl' : l < 8 := by omega
    interval_cases l
    all_goals
      simp only [Nat.reduceEqDiff, if_true, if_false, -Fin.reduceFinMk]
      exact weight_own (fun t x => Q (ix2 (lift t) ⟨x.val, by omega⟩)) (fun t x => K (ix2 (lift t) ⟨x.val, by omega⟩))
        (fun t x => G (ix2 (lift t) ⟨x.val, by omega⟩)) (t := r) (s := ⟨_, hl'⟩) (Fin.le_def.mpr hl) (fun x => hG.nonpos ⟨_, hl'⟩ _)
        (fun x => hG.anti ⟨_, hl'⟩ r _ (Fin.le_def.mpr hl))
  · rw [if_neg hl]
    split
    · exact (weight_later _ _ _ (fun h => hl (Fin.le_def.mp h))).symm
    · rfl

/-- Head 1's weights. -/
def weights1 (K Q G : FVec Ideal S16x1024 .f32) : FVec Ideal S16x16 .bf16 :=
  (k0_pay128 (k0_pay115 K Q G (iota Kind.tc S16x16 32 [1] iota_S16x16_d1_w32) (k0_pay110 K Q G (iota Kind.tc S16x16
    32 [1] iota_S16x16_d1_w32) (k0_pay105 K Q G (iota Kind.tc S16x16 32 [1] iota_S16x16_d1_w32) (k0_pay100 K Q G
    (iota Kind.tc S16x16 32 [1] iota_S16x16_d1_w32) (k0_pay90 (iota Kind.tc S16x16 32 [1] iota_S16x16_d1_w32)
    (k0_pay84 K (iota Kind.tc S16x16 32 [1] iota_S16x16_d1_w32) (k0_pay78 K Q G (iota Kind.tc S16x16 32 [1]
    iota_S16x16_d1_w32) (k0_pay72 K Q G (iota Kind.tc S16x16 32 [1] iota_S16x16_d1_w32) (k0_pay67 K Q G (iota
    Kind.tc S16x16 32 [1] iota_S16x16_d1_w32) (k0_pay62 K Q G (iota Kind.tc S16x16 32 [1] iota_S16x16_d1_w32)
    (k0_pay52 (iota Kind.tc S16x16 32 [1] iota_S16x16_d1_w32) (k0_pay47 K Q (iota Kind.tc S16x16 32 [1]
    iota_S16x16_d1_w32) (k0_pay40 K Q G (iota Kind.tc S16x16 32 [1] iota_S16x16_d1_w32) (k0_pay34 K Q G)) (k0_pay43
    G) k0_pay44) (k0_pay50 K Q G)) (k0_pay57 K Q G))))) (k0_pay81 Q G)) (k0_pay87 K Q G)) (k0_pay95 K Q G) 11#32)))
    (k0_pay113 G)) (k0_pay119 (iota Kind.tc S16x16 32 [1] iota_S16x16_d1_w32) (iota Kind.tc S16x16 32 [0]
    iota_S16x16_d0_w32)))

set_option maxHeartbeats 4000000 in
/-- Their entries in the first eight rows. -/
theorem weights1_at (K Q G : FVec Ideal S16x1024 .f32) (hG : Falls G) (r : Fin 8) (l : Fin 16) :
    weights1 K Q G (ix2 (lift r) l)
      = if h : l.val < 8 then weight (fun t x => Q (ix2 (lift t) ⟨256 + x.val, by omega⟩)) (fun t x => K (ix2 (lift t) ⟨256 + x.val, by omega⟩))
          (fun t x => G (ix2 (lift t) ⟨256 + x.val, by omega⟩)) r ⟨l.val, h⟩ else 0 := by
  pointwise [weights1, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay128]
  simp only [select_le r.val l.val (by omega) (by omega), select_eq 0 _ (by decide), select_eq 1 _ (by decide), select_eq 2 _ (by decide),
    select_eq 3 _ (by decide), select_eq 4 _ (by decide), select_eq 5 _ (by decide), select_eq 6 _ (by decide),
    select_eq 7 _ (by decide), select_eq 8 _ (by decide), select_eq 9 _ (by decide), select_eq 10 _ (by decide),
    select_eq 11 _ (by decide), select_eq 12 _ (by decide), select_eq 13 _ (by decide), select_eq 14 _ (by decide),
    select_eq 15 _ (by decide)]
  have hr := r.isLt
  by_cases hl : l.val ≤ r.val
  · rw [if_pos hl, dif_pos (by omega)]
    have hlo : 0 ≤ l.val := Nat.zero_le _
    rcases l with ⟨l, hl16⟩
    simp only at hl hlo ⊢
    have hl' : l < 8 := by omega
    interval_cases l
    all_goals
      simp only [Nat.reduceEqDiff, if_true, if_false, -Fin.reduceFinMk]
      exact weight_own (fun t x => Q (ix2 (lift t) ⟨256 + x.val, by omega⟩)) (fun t x => K (ix2 (lift t) ⟨256 + x.val, by omega⟩))
        (fun t x => G (ix2 (lift t) ⟨256 + x.val, by omega⟩)) (t := r) (s := ⟨_, hl'⟩) (Fin.le_def.mpr hl) (fun x => hG.nonpos ⟨_, hl'⟩ _)
        (fun x => hG.anti ⟨_, hl'⟩ r _ (Fin.le_def.mpr hl))
  · rw [if_neg hl]
    split
    · exact (weight_later _ _ _ (fun h => hl (Fin.le_def.mp h))).symm
    · rfl

/-- Head 2's weights. -/
def weights2 (K Q G : FVec Ideal S16x1024 .f32) : FVec Ideal S16x16 .f32 :=
  (k0_pay120 (iota Kind.tc S16x16 32 [1] iota_S16x16_d1_w32) (iota Kind.tc S16x16 32 [0] iota_S16x16_d0_w32)
    (k0_pay116 K Q G (iota Kind.tc S16x16 32 [1] iota_S16x16_d1_w32) (k0_pay111 K Q G (iota Kind.tc S16x16 32 [1]
    iota_S16x16_d1_w32) (k0_pay106 K Q G (iota Kind.tc S16x16 32 [1] iota_S16x16_d1_w32) (k0_pay96 (iota Kind.tc
    S16x16 32 [1] iota_S16x16_d1_w32) (k0_pay91 (iota Kind.tc S16x16 32 [1] iota_S16x16_d1_w32) (k0_pay85 K (iota
    Kind.tc S16x16 32 [1] iota_S16x16_d1_w32) (k0_pay79 K Q G (iota Kind.tc S16x16 32 [1] iota_S16x16_d1_w32)
    (k0_pay73 K Q G (iota Kind.tc S16x16 32 [1] iota_S16x16_d1_w32) (k0_pay68 K Q G (iota Kind.tc S16x16 32 [1]
    iota_S16x16_d1_w32) (k0_pay58 (iota Kind.tc S16x16 32 [1] iota_S16x16_d1_w32) (k0_pay53 (iota Kind.tc S16x16 32
    [1] iota_S16x16_d1_w32) (k0_pay48 K Q (iota Kind.tc S16x16 32 [1] iota_S16x16_d1_w32) (k0_pay41 K Q G (iota
    Kind.tc S16x16 32 [1] iota_S16x16_d1_w32) (k0_pay35 K Q G)) (k0_pay43 G) k0_pay44) (k0_pay50 K Q G)) (k0_pay55 K
    Q G)) (k0_pay63 K Q G)))) (k0_pay81 Q G)) (k0_pay87 K Q G)) (k0_pay93 K Q G)) (k0_pay101 K Q G))) (k0_pay113
    G)))

set_option maxHeartbeats 4000000 in
/-- Their entries in the first eight rows. -/
theorem weights2_at (K Q G : FVec Ideal S16x1024 .f32) (hG : Falls G) (r : Fin 8) (l : Fin 16) :
    weights2 K Q G (ix2 (lift r) l)
      = if h : l.val < 8 then weight (fun t x => Q (ix2 (lift t) ⟨512 + x.val, by omega⟩)) (fun t x => K (ix2 (lift t) ⟨512 + x.val, by omega⟩))
          (fun t x => G (ix2 (lift t) ⟨512 + x.val, by omega⟩)) r ⟨l.val, h⟩ else 0 := by
  pointwise [weights2, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay128]
  simp only [select_le r.val l.val (by omega) (by omega), select_eq 0 _ (by decide), select_eq 1 _ (by decide), select_eq 2 _ (by decide),
    select_eq 3 _ (by decide), select_eq 4 _ (by decide), select_eq 5 _ (by decide), select_eq 6 _ (by decide),
    select_eq 7 _ (by decide), select_eq 8 _ (by decide), select_eq 9 _ (by decide), select_eq 10 _ (by decide),
    select_eq 11 _ (by decide), select_eq 12 _ (by decide), select_eq 13 _ (by decide), select_eq 14 _ (by decide),
    select_eq 15 _ (by decide)]
  have hr := r.isLt
  by_cases hl : l.val ≤ r.val
  · rw [if_pos hl, dif_pos (by omega)]
    have hlo : 0 ≤ l.val := Nat.zero_le _
    rcases l with ⟨l, hl16⟩
    simp only at hl hlo ⊢
    have hl' : l < 8 := by omega
    interval_cases l
    all_goals
      simp only [Nat.reduceEqDiff, if_true, if_false, -Fin.reduceFinMk]
      exact weight_own (fun t x => Q (ix2 (lift t) ⟨512 + x.val, by omega⟩)) (fun t x => K (ix2 (lift t) ⟨512 + x.val, by omega⟩))
        (fun t x => G (ix2 (lift t) ⟨512 + x.val, by omega⟩)) (t := r) (s := ⟨_, hl'⟩) (Fin.le_def.mpr hl) (fun x => hG.nonpos ⟨_, hl'⟩ _)
        (fun x => hG.anti ⟨_, hl'⟩ r _ (Fin.le_def.mpr hl))
  · rw [if_neg hl]
    split
    · exact (weight_later _ _ _ (fun h => hl (Fin.le_def.mp h))).symm
    · rfl

/-- Head 3's weights. -/
def weights3 (K Q G : FVec Ideal S16x1024 .f32) : FVec Ideal S16x16 .f32 :=
  (k0_pay121 (iota Kind.tc S16x16 32 [1] iota_S16x16_d1_w32) (iota Kind.tc S16x16 32 [0] iota_S16x16_d0_w32)
    (k0_pay117 K Q G (iota Kind.tc S16x16 32 [1] iota_S16x16_d1_w32) (k0_pay112 K Q G (iota Kind.tc S16x16 32 [1]
    iota_S16x16_d1_w32) (k0_pay102 (iota Kind.tc S16x16 32 [1] iota_S16x16_d1_w32) (k0_pay97 (iota Kind.tc S16x16 32
    [1] iota_S16x16_d1_w32) (k0_pay92 (iota Kind.tc S16x16 32 [1] iota_S16x16_d1_w32) (k0_pay86 K (iota Kind.tc
    S16x16 32 [1] iota_S16x16_d1_w32) (k0_pay80 K Q G (iota Kind.tc S16x16 32 [1] iota_S16x16_d1_w32) (k0_pay69
    (iota Kind.tc S16x16 32 [1] iota_S16x16_d1_w32) (k0_pay64 (iota Kind.tc S16x16 32 [1] iota_S16x16_d1_w32)
    (k0_pay59 (iota Kind.tc S16x16 32 [1] iota_S16x16_d1_w32) (k0_pay54 (iota Kind.tc S16x16 32 [1]
    iota_S16x16_d1_w32) (k0_pay49 K Q (iota Kind.tc S16x16 32 [1] iota_S16x16_d1_w32) (k0_pay42 K Q G (iota Kind.tc
    S16x16 32 [1] iota_S16x16_d1_w32) k0_pay31 (k0_pay36 K Q G) k0_pay37) (k0_pay43 G) k0_pay44) (k0_pay50 K Q G))
    (k0_pay55 K Q G)) (k0_pay60 K Q G)) (k0_pay65 K Q G)) (k0_pay74 (iota Kind.tc S16x16 32 [1] iota_S16x16_d1_w32))
    (k0_pay75 K Q G)) (k0_pay81 Q G)) (k0_pay87 K Q G)) (k0_pay93 K Q G)) (k0_pay98 K Q G)) (k0_pay107 K Q G))
    (k0_pay113 G)))

set_option maxHeartbeats 4000000 in
/-- Their entries in the first eight rows. -/
theorem weights3_at (K Q G : FVec Ideal S16x1024 .f32) (hG : Falls G) (r : Fin 8) (l : Fin 16) :
    weights3 K Q G (ix2 (lift r) l)
      = if h : l.val < 8 then weight (fun t x => Q (ix2 (lift t) ⟨768 + x.val, by omega⟩)) (fun t x => K (ix2 (lift t) ⟨768 + x.val, by omega⟩))
          (fun t x => G (ix2 (lift t) ⟨768 + x.val, by omega⟩)) r ⟨l.val, h⟩ else 0 := by
  pointwise [weights3, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay128]
  simp only [select_le r.val l.val (by omega) (by omega), select_eq 0 _ (by decide), select_eq 1 _ (by decide), select_eq 2 _ (by decide),
    select_eq 3 _ (by decide), select_eq 4 _ (by decide), select_eq 5 _ (by decide), select_eq 6 _ (by decide),
    select_eq 7 _ (by decide), select_eq 8 _ (by decide), select_eq 9 _ (by decide), select_eq 10 _ (by decide),
    select_eq 11 _ (by decide), select_eq 12 _ (by decide), select_eq 13 _ (by decide), select_eq 14 _ (by decide),
    select_eq 15 _ (by decide)]
  have hr := r.isLt
  by_cases hl : l.val ≤ r.val
  · rw [if_pos hl, dif_pos (by omega)]
    have hlo : 0 ≤ l.val := Nat.zero_le _
    rcases l with ⟨l, hl16⟩
    simp only at hl hlo ⊢
    have hl' : l < 8 := by omega
    interval_cases l
    all_goals
      simp only [Nat.reduceEqDiff, if_true, if_false, -Fin.reduceFinMk]
      exact weight_own (fun t x => Q (ix2 (lift t) ⟨768 + x.val, by omega⟩)) (fun t x => K (ix2 (lift t) ⟨768 + x.val, by omega⟩))
        (fun t x => G (ix2 (lift t) ⟨768 + x.val, by omega⟩)) (t := r) (s := ⟨_, hl'⟩) (Fin.le_def.mpr hl) (fun x => hG.nonpos ⟨_, hl'⟩ _)
        (fun x => hG.anti ⟨_, hl'⟩ r _ (Fin.le_def.mpr hl))
  · rw [if_neg hl]
    split
    · exact (weight_later _ _ _ (fun h => hl (Fin.le_def.mp h))).symm
    · rfl

end Cert.Samp

end
-- ==== Proof.SampHeads.lean ====
module

public import proofs.«01_k».proof.Proof.SampRows

/-! # The sample's eight tokens, read at an index

The accumulated gates, each head's output and each head's new state, as the kernel's expressions over sixteen rows
compute them from a batch row's blocks. -/

@[expose] public section

set_option maxRecDepth 16384

noncomputable section

namespace Cert.Samp

open Idealize.ShloMosaic Idealize.ShloMosaic.TcCoe Idealize.ShloMosaic.Tactic
open Cert.Kernel5Ideal Cert.Kernel5Ideal.Gen
open Cert.Gla (gate gate_nonpos normed chan vchan chan_0 chan_1 chan_2 chan_3 vchan_0 vchan_1 vchan_2 vchan_3)
open scoped BigOperators

/-- A token's gates before the sigmoid, from its row of the gate block, the weights and the bias. -/
def raw (x4 : FVec Ideal S8x128 .f32) (x5 : FVec Ideal S128x1024 .f32) (x6 : FVec Ideal S1x1024 .f32) (s : Fin 8)
    (l : Fin 1024) : EReal := (∑ j : Fin 128, x4 (ix2 s j) * x5 (ix2 j l)) + x6 (ix2 0 l)

/-- The accumulated gates as the kernel computes them from its blocks. -/
abbrev gates (x4 : FVec Ideal S8x128 .f32) (x5 : FVec Ideal S128x1024 .f32) (x6 : FVec Ideal S1x1024 .f32) :
    FVec Ideal S16x1024 .f32 := k0_pay23 (k0_pay14 x4) (k0_pay15 x5) (k0_pay16 x6)

/-- The accumulated gates: the product with the triangle is the running sum over the eight tokens. -/
theorem sums_at (x4 : FVec Ideal S8x128 .f32) (x5 : FVec Ideal S128x1024 .f32) (x6 : FVec Ideal S1x1024 .f32)
    (r : Fin 16) (l : Fin 1024) :
    gates x4 x5 x6 (ix2 r l) = ∑ s : Fin 8, if lift s ≤ r then gate (raw x4 x5 x6 s l) else 0 := by
  pointwise [gates, k0_pay23, k0_pay14, k0_pay15, k0_pay16]
  refine Eq.trans (congrArg₂ (· + ·) (Finset.sum_congr rfl fun s _ => ?_) (Finset.sum_eq_zero fun s _ => ?_))
    (add_zero _)
  · rw [select_lt 8 s.val (by decide) (by omega), if_pos s.isLt, triangle r.val s.val r.isLt (by omega)]
    by_cases h : s.val ≤ r.val
    · rw [if_pos h, if_pos (Fin.le_def.mpr h), one_mul, ofBits_sixteenth, zero_sub]; rfl
    · rw [if_neg h, if_neg (fun h' => h (Fin.le_def.mp h')), zero_mul]
  · rw [select_lt 8 (8 + s.val) (by decide) (by omega), if_neg (by omega)]

/-- In the first eight rows they are the running sums. -/
theorem sums_row (x4 : FVec Ideal S8x128 .f32) (x5 : FVec Ideal S128x1024 .f32) (x6 : FVec Ideal S1x1024 .f32)
    (r : Fin 8) (l : Fin 1024) :
    gates x4 x5 x6 (ix2 (lift r) l) = cum (fun s => gate (raw x4 x5 x6 s l)) r := by
  rw [sums_at]
  rfl

/-- The last of the sixteen rows has all eight, as the eighth does. -/
theorem sums_last (x4 : FVec Ideal S8x128 .f32) (x5 : FVec Ideal S128x1024 .f32) (x6 : FVec Ideal S1x1024 .f32)
    (l : Fin 1024) : gates x4 x5 x6 (ix2 15 l) = gates x4 x5 x6 (ix2 (lift 7) l) := by
  rw [sums_at, sums_at]
  refine Finset.sum_congr rfl fun s _ => ?_
  have hs := s.isLt
  rw [if_pos (Fin.le_def.mpr (by show s.val ≤ 15; omega)), if_pos (Fin.le_def.mpr (by show s.val ≤ 7; omega))]

/-- The row from which the kernel takes the decay over all tokens. -/
theorem whole_at (x4 : FVec Ideal S8x128 .f32) (x5 : FVec Ideal S128x1024 .f32) (x6 : FVec Ideal S1x1024 .f32)
    (l : Fin 1024) :
    k0_pay24 (k0_pay14 x4) (k0_pay15 x5) (k0_pay16 x6) (ix2 0 l) = gates x4 x5 x6 (ix2 (lift 7) l) := by
  rw [← sums_last]
  pointwise [k0_pay24]

/-- The accumulated gates are never positive and only fall. -/
theorem sums_fall (x4 : FVec Ideal S8x128 .f32) (x5 : FVec Ideal S128x1024 .f32) (x6 : FVec Ideal S1x1024 .f32) :
    Falls (gates x4 x5 x6) where
  nonpos r l := by rw [sums_row]; exact cum_nonpos (fun _ => gate_nonpos _) r
  anti r t l h := by rw [sums_row, sums_row]; exact cum_anti (fun _ => gate_nonpos _) h

/-- A key row among the sixteen. -/
theorem key_at (x1 : FVec Ideal S8x1024 .f32) (r : Fin 8) (l : Fin 1024) :
    k0_pay12 x1 (ix2 (lift r) l) = x1 (ix2 r l) := by
  pointwise [k0_pay12]

/-- A query row among the sixteen, scaled. -/
theorem query_at (x0 : FVec Ideal S8x1024 .f32) (r : Fin 8) (l : Fin 1024) :
    k0_pay22 (k0_pay11 x0) (ix2 (lift r) l) = x0 (ix2 r l) * ((1 / 16 : ℝ) : EReal) := by
  pointwise [k0_pay22, k0_pay11, ofBits_sixteenth]

/-- Head 0's new state. -/
theorem state0_at (x1 : FVec Ideal S8x1024 .f32) (x2 : FVec Ideal S8x2048 .f32) (x4 : FVec Ideal S8x128 .f32)
    (x5 : FVec Ideal S128x1024 .f32) (x6 : FVec Ideal S1x1024 .f32) (s : FVec Ideal S1x1x256x512 .f32)
    (x : Fin 256) (e : Fin 512) :
    k0_pay3 (k0_pay126 (k0_pay12 x1) (k0_pay13 x2) (k0_pay18 (k0_pay7 s)) (gates x4 x5 x6)
      (k0_pay24 (k0_pay14 x4) (k0_pay15 x5) (k0_pay16 x6))) (ix4 0 0 x e)
      = after (fun r x => x1 (ix2 r (chan 0 x))) (fun r x => gates x4 x5 x6 (ix2 (lift r) (chan 0 x)))
          (fun r e => x2 (ix2 r (vchan 0 e))) (fun x e => s (ix4 0 0 x e)) x e := by
  pointwise [k0_pay3, k0_pay126, k0_pay18, k0_pay7, k0_pay12, k0_pay13, k0_pay122, k0_pay123, k0_pay124,
    whole_at, chan_0, vchan_0]
  simp only [zero_mul, Finset.sum_const_zero, add_zero]
  rfl

/-- Head 0's weights of the first eight rows, over the blocks. -/
theorem own0_at (x0 x1 : FVec Ideal S8x1024 .f32) (G : FVec Ideal S16x1024 .f32) (hG : Falls G) (r l : Fin 8) :
    weights0 (k0_pay12 x1) (k0_pay22 (k0_pay11 x0)) G (ix2 (lift r) (lift l))
      = weight (fun r x => x0 (ix2 r (chan 0 x)) * ((1 / 16 : ℝ) : EReal)) (fun r x => x1 (ix2 r (chan 0 x)))
          (fun r x => G (ix2 (lift r) (chan 0 x))) r l := by
  rw [weights0_at _ _ _ hG, dif_pos (show (lift l).val < 8 from l.isLt)]
  simp only [key_at, query_at, chan_0]

set_option maxHeartbeats 1000000 in
/-- Head 0's output, with its weights `w`. -/
theorem out0_at (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (s : FVec Ideal S1x1x256x512 .f32) (w : FVec Ideal S16x16 .f32)
    (hw : ∀ r l : Fin 8, w (ix2 (lift r) (lift l))
      = weight (fun r x => x0 (ix2 r (chan 0 x)) * ((1 / 16 : ℝ) : EReal)) (fun r x => x1 (ix2 r (chan 0 x)))
          (fun r x => gates x4 x5 x6 (ix2 (lift r) (chan 0 x))) r l) (r : Fin 8) (e : Fin 512) :
    k0_pay127 (k0_pay13 x2) x3 (k0_pay17 x7) (k0_pay26 (k0_pay11 x0) (k0_pay14 x4) (k0_pay15 x5) (k0_pay16 x6) (k0_pay18 (k0_pay7 s))) w (ix2 r e)
      = normed (mix (fun r x => x0 (ix2 r (chan 0 x)) * ((1 / 16 : ℝ) : EReal)) (fun r x => x1 (ix2 r (chan 0 x)))
          (fun r x => gates x4 x5 x6 (ix2 (lift r) (chan 0 x))) (fun r e => x2 (ix2 r (vchan 0 e)))
          (fun x e => s (ix4 0 0 x e)) r)
          (fun e => x7 (ix2 0 (vchan 0 e))) (fun e => x3 (ix2 r (vchan 0 e))) e := by
  pointwise [k0_pay127, k0_pay26, k0_pay18, k0_pay7, k0_pay17, k0_pay11, k0_pay13, k0_pay22, k0_pay25, k0_pay124,
    k0_pay125, ofBits_sixteenth, chan_0, vchan_0]
  simp only [hw, mul_zero, Finset.sum_const_zero, add_zero]
  rfl

/-- Head 1's new state. -/
theorem state1_at (x1 : FVec Ideal S8x1024 .f32) (x2 : FVec Ideal S8x2048 .f32) (x4 : FVec Ideal S8x128 .f32)
    (x5 : FVec Ideal S128x1024 .f32) (x6 : FVec Ideal S1x1024 .f32) (s : FVec Ideal S1x1x256x512 .f32)
    (x : Fin 256) (e : Fin 512) :
    k0_pay4 (k0_pay130 (k0_pay19 (k0_pay8 s)) (k0_pay122 (k0_pay12 x1) (gates x4 x5 x6)
      (k0_pay24 (k0_pay14 x4) (k0_pay15 x5) (k0_pay16 x6))) (k0_pay123 (k0_pay24 (k0_pay14 x4) (k0_pay15 x5) (k0_pay16 x6)))
      (k0_pay124 (k0_pay13 x2))) (ix4 0 0 x e)
      = after (fun r x => x1 (ix2 r (chan 1 x))) (fun r x => gates x4 x5 x6 (ix2 (lift r) (chan 1 x)))
          (fun r e => x2 (ix2 r (vchan 1 e))) (fun x e => s (ix4 0 0 x e)) x e := by
  pointwise [k0_pay4, k0_pay130, k0_pay19, k0_pay8, k0_pay12, k0_pay13, k0_pay122, k0_pay123, k0_pay124,
    whole_at, chan_1, vchan_1]
  simp only [zero_mul, Finset.sum_const_zero, add_zero]
  rfl

/-- Head 1's weights of the first eight rows, over the blocks. -/
theorem own1_at (x0 x1 : FVec Ideal S8x1024 .f32) (G : FVec Ideal S16x1024 .f32) (hG : Falls G) (r l : Fin 8) :
    weights1 (k0_pay12 x1) (k0_pay22 (k0_pay11 x0)) G (ix2 (lift r) (lift l))
      = weight (fun r x => x0 (ix2 r (chan 1 x)) * ((1 / 16 : ℝ) : EReal)) (fun r x => x1 (ix2 r (chan 1 x)))
          (fun r x => G (ix2 (lift r) (chan 1 x))) r l := by
  rw [weights1_at _ _ _ hG, dif_pos (show (lift l).val < 8 from l.isLt)]
  simp only [key_at, query_at, chan_1]

set_option maxHeartbeats 1000000 in
/-- Head 1's output, with its weights `w`. -/
theorem out1_at (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (s : FVec Ideal S1x1x256x512 .f32) (w : FVec Ideal S16x16 .bf16)
    (hw : ∀ r l : Fin 8, w (ix2 (lift r) (lift l))
      = weight (fun r x => x0 (ix2 r (chan 1 x)) * ((1 / 16 : ℝ) : EReal)) (fun r x => x1 (ix2 r (chan 1 x)))
          (fun r x => gates x4 x5 x6 (ix2 (lift r) (chan 1 x))) r l) (r : Fin 8) (e : Fin 512) :
    k0_pay131 (k0_pay17 x7) (k0_pay27 (k0_pay11 x0) (k0_pay14 x4) (k0_pay15 x5) (k0_pay16 x6) (k0_pay19 (k0_pay8 s)))
      (k0_pay125 x3) w (k0_pay129 (k0_pay13 x2)) (ix2 r e)
      = normed (mix (fun r x => x0 (ix2 r (chan 1 x)) * ((1 / 16 : ℝ) : EReal)) (fun r x => x1 (ix2 r (chan 1 x)))
          (fun r x => gates x4 x5 x6 (ix2 (lift r) (chan 1 x))) (fun r e => x2 (ix2 r (vchan 1 e)))
          (fun x e => s (ix4 0 0 x e)) r)
          (fun e => x7 (ix2 0 (vchan 1 e))) (fun e => x3 (ix2 r (vchan 1 e))) e := by
  pointwise [k0_pay131, k0_pay27, k0_pay19, k0_pay8, k0_pay129, k0_pay17, k0_pay11, k0_pay13, k0_pay22, k0_pay25, k0_pay124,
    k0_pay125, ofBits_sixteenth, chan_1, vchan_1]
  simp only [hw, mul_zero, Finset.sum_const_zero, add_zero]
  rfl

/-- Head 2's new state. -/
theorem state2_at (x1 : FVec Ideal S8x1024 .f32) (x2 : FVec Ideal S8x2048 .f32) (x4 : FVec Ideal S8x128 .f32)
    (x5 : FVec Ideal S128x1024 .f32) (x6 : FVec Ideal S1x1024 .f32) (s : FVec Ideal S1x1x256x512 .f32)
    (x : Fin 256) (e : Fin 512) :
    k0_pay5 (k0_pay132 (k0_pay20 (k0_pay9 s)) (k0_pay122 (k0_pay12 x1) (gates x4 x5 x6)
      (k0_pay24 (k0_pay14 x4) (k0_pay15 x5) (k0_pay16 x6))) (k0_pay123 (k0_pay24 (k0_pay14 x4) (k0_pay15 x5) (k0_pay16 x6)))
      (k0_pay124 (k0_pay13 x2))) (ix4 0 0 x e)
      = after (fun r x => x1 (ix2 r (chan 2 x))) (fun r x => gates x4 x5 x6 (ix2 (lift r) (chan 2 x)))
          (fun r e => x2 (ix2 r (vchan 2 e))) (fun x e => s (ix4 0 0 x e)) x e := by
  pointwise [k0_pay5, k0_pay132, k0_pay20, k0_pay9, k0_pay12, k0_pay13, k0_pay122, k0_pay123, k0_pay124,
    whole_at, chan_2, vchan_2]
  simp only [zero_mul, Finset.sum_const_zero, add_zero]
  rfl

/-- Head 2's weights of the first eight rows, over the blocks. -/
theorem own2_at (x0 x1 : FVec Ideal S8x1024 .f32) (G : FVec Ideal S16x1024 .f32) (hG : Falls G) (r l : Fin 8) :
    weights2 (k0_pay12 x1) (k0_pay22 (k0_pay11 x0)) G (ix2 (lift r) (lift l))
      = weight (fun r x => x0 (ix2 r (chan 2 x)) * ((1 / 16 : ℝ) : EReal)) (fun r x => x1 (ix2 r (chan 2 x)))
          (fun r x => G (ix2 (lift r) (chan 2 x))) r l := by
  rw [weights2_at _ _ _ hG, dif_pos (show (lift l).val < 8 from l.isLt)]
  simp only [key_at, query_at, chan_2]

set_option maxHeartbeats 1000000 in
/-- Head 2's output, with its weights `w`. -/
theorem out2_at (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (s : FVec Ideal S1x1x256x512 .f32) (w : FVec Ideal S16x16 .f32)
    (hw : ∀ r l : Fin 8, w (ix2 (lift r) (lift l))
      = weight (fun r x => x0 (ix2 r (chan 2 x)) * ((1 / 16 : ℝ) : EReal)) (fun r x => x1 (ix2 r (chan 2 x)))
          (fun r x => gates x4 x5 x6 (ix2 (lift r) (chan 2 x))) r l) (r : Fin 8) (e : Fin 512) :
    k0_pay134 (k0_pay125 x3) (k0_pay133 (k0_pay17 x7) (k0_pay28 (k0_pay11 x0) (k0_pay14 x4) (k0_pay15 x5) (k0_pay16 x6) (k0_pay9 s))
      w (k0_pay124 (k0_pay13 x2))) (ix2 r e)
      = normed (mix (fun r x => x0 (ix2 r (chan 2 x)) * ((1 / 16 : ℝ) : EReal)) (fun r x => x1 (ix2 r (chan 2 x)))
          (fun r x => gates x4 x5 x6 (ix2 (lift r) (chan 2 x))) (fun r e => x2 (ix2 r (vchan 2 e)))
          (fun x e => s (ix4 0 0 x e)) r)
          (fun e => x7 (ix2 0 (vchan 2 e))) (fun e => x3 (ix2 r (vchan 2 e))) e := by
  pointwise [k0_pay134, k0_pay133, k0_pay28, k0_pay20, k0_pay9, k0_pay17, k0_pay11, k0_pay13, k0_pay22, k0_pay25, k0_pay124,
    k0_pay125, ofBits_sixteenth, chan_2, vchan_2]
  simp only [hw, mul_zero, Finset.sum_const_zero, add_zero]
  rfl

/-- Head 3's new state. -/
theorem state3_at (x1 : FVec Ideal S8x1024 .f32) (x2 : FVec Ideal S8x2048 .f32) (x4 : FVec Ideal S8x128 .f32)
    (x5 : FVec Ideal S128x1024 .f32) (x6 : FVec Ideal S1x1024 .f32) (s : FVec Ideal S1x1x256x512 .f32)
    (x : Fin 256) (e : Fin 512) :
    k0_pay6 (k0_pay135 (k0_pay21 (k0_pay10 s)) (k0_pay122 (k0_pay12 x1) (gates x4 x5 x6)
      (k0_pay24 (k0_pay14 x4) (k0_pay15 x5) (k0_pay16 x6))) (k0_pay123 (k0_pay24 (k0_pay14 x4) (k0_pay15 x5) (k0_pay16 x6)))
      (k0_pay124 (k0_pay13 x2))) (ix4 0 0 x e)
      = after (fun r x => x1 (ix2 r (chan 3 x))) (fun r x => gates x4 x5 x6 (ix2 (lift r) (chan 3 x)))
          (fun r e => x2 (ix2 r (vchan 3 e))) (fun x e => s (ix4 0 0 x e)) x e := by
  pointwise [k0_pay6, k0_pay135, k0_pay21, k0_pay10, k0_pay12, k0_pay13, k0_pay122, k0_pay123, k0_pay124,
    whole_at, chan_3, vchan_3]
  simp only [zero_mul, Finset.sum_const_zero, add_zero]
  rfl

/-- Head 3's weights of the first eight rows, over the blocks. -/
theorem own3_at (x0 x1 : FVec Ideal S8x1024 .f32) (G : FVec Ideal S16x1024 .f32) (hG : Falls G) (r l : Fin 8) :
    weights3 (k0_pay12 x1) (k0_pay22 (k0_pay11 x0)) G (ix2 (lift r) (lift l))
      = weight (fun r x => x0 (ix2 r (chan 3 x)) * ((1 / 16 : ℝ) : EReal)) (fun r x => x1 (ix2 r (chan 3 x)))
          (fun r x => G (ix2 (lift r) (chan 3 x))) r l := by
  rw [weights3_at _ _ _ hG, dif_pos (show (lift l).val < 8 from l.isLt)]
  simp only [key_at, query_at, chan_3]

set_option maxHeartbeats 1000000 in
/-- Head 3's output, with its weights `w`. -/
theorem out3_at (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (s : FVec Ideal S1x1x256x512 .f32) (w : FVec Ideal S16x16 .f32)
    (hw : ∀ r l : Fin 8, w (ix2 (lift r) (lift l))
      = weight (fun r x => x0 (ix2 r (chan 3 x)) * ((1 / 16 : ℝ) : EReal)) (fun r x => x1 (ix2 r (chan 3 x)))
          (fun r x => gates x4 x5 x6 (ix2 (lift r) (chan 3 x))) r l) (r : Fin 8) (e : Fin 512) :
    k0_pay136 (k0_pay17 x7) (k0_pay30 (k0_pay21 (k0_pay10 s)) (k0_pay29 (k0_pay11 x0) (k0_pay14 x4) (k0_pay15 x5) (k0_pay16 x6)))
      w (k0_pay124 (k0_pay13 x2)) (k0_pay125 x3) (ix2 r e)
      = normed (mix (fun r x => x0 (ix2 r (chan 3 x)) * ((1 / 16 : ℝ) : EReal)) (fun r x => x1 (ix2 r (chan 3 x)))
          (fun r x => gates x4 x5 x6 (ix2 (lift r) (chan 3 x))) (fun r e => x2 (ix2 r (vchan 3 e)))
          (fun x e => s (ix4 0 0 x e)) r)
          (fun e => x7 (ix2 0 (vchan 3 e))) (fun e => x3 (ix2 r (vchan 3 e))) e := by
  pointwise [k0_pay136, k0_pay30, k0_pay29, k0_pay21, k0_pay10, k0_pay17, k0_pay11, k0_pay13, k0_pay22, k0_pay25, k0_pay124,
    k0_pay125, ofBits_sixteenth, chan_3, vchan_3]
  simp only [hw, mul_zero, Finset.sum_const_zero, add_zero]
  rfl

end Cert.Samp

end
-- ==== Proof.SampSteps.lean ====
module

public import proofs.«01_k».proof.Proof.SampHeads
public import proofs.«01_k».proof.Proof.Gen.Kernel5Ideal.Frame
public import Idealize.ShloMosaic.Lib.Pipeline.ValueKit
public import Idealize.ShloMosaic.Lib.Pipeline.ReadBack

/-! # What one batch row of the sample leaves

Each grid point of the kernel works on the eight tokens of one batch row. Here its two output blocks are read off the
run, as the formulas over the point's input blocks. -/

@[expose] public section

set_option maxRecDepth 16384

noncomputable section

namespace Cert.Samp

open Idealize.ShloMosaic Idealize.ShloMosaic.TcCoe Idealize.ShloMosaic.Tactic
open Cert.Kernel5Ideal Cert.Kernel5Ideal.Gen
open Cert.Gla (gate gate_nonpos normed chan vchan)
open scoped BigOperators

/-- The state a batch row leaves, from its blocks, as the block in which it is written out. -/
def blockState (x1 : FVec Ideal S8x1024 .f32) (x2 : FVec Ideal S8x2048 .f32) (G : FVec Ideal S16x1024 .f32)
    (x8 : FVec Ideal S1x4x256x512 .f32) (y : S1x4x256x512.Idx) : EReal :=
  after (fun r x => x1 (ix2 r (chan (y 1) x))) (fun r x => G (ix2 (lift r) (chan (y 1) x)))
    (fun r e => x2 (ix2 r (vchan (y 1) e))) (fun x e => x8 (ix4 0 (y 1) x e)) (y 2) (y 3)

/-- A batch row's output from its blocks: token `r`, head `h`, entry `e`. -/
def rowOut (x0 x1 : FVec Ideal S8x1024 .f32) (x2 x3 : FVec Ideal S8x2048 .f32) (G : FVec Ideal S16x1024 .f32)
    (x7 : FVec Ideal S1x2048 .f32) (x8 : FVec Ideal S1x4x256x512 .f32) (r : Fin 8) (h : Fin 4) (e : Fin 512) : EReal :=
  normed (mix (fun r x => x0 (ix2 r (chan h x)) * ((1 / 16 : ℝ) : EReal)) (fun r x => x1 (ix2 r (chan h x)))
      (fun r x => G (ix2 (lift r) (chan h x))) (fun r e => x2 (ix2 r (vchan h e))) (fun x e => x8 (ix4 0 h x e)) r)
    (fun e => x7 (ix2 0 (vchan h e))) (fun e => x3 (ix2 r (vchan h e))) e

/-- The same, laid out as the kernel's output block. -/
def blockOut (x0 x1 : FVec Ideal S8x1024 .f32) (x2 x3 : FVec Ideal S8x2048 .f32) (G : FVec Ideal S16x1024 .f32)
    (x7 : FVec Ideal S1x2048 .f32) (x8 : FVec Ideal S1x4x256x512 .f32) (y : S8x2048.Idx) : EReal :=
  rowOut x0 x1 x2 x3 G x7 x8 (y 0)
    ⟨(y 1).val / 512, by have h : (y 1).val < 2048 := (y 1).isLt; omega⟩ ⟨(y 1).val % 512, Nat.mod_lt _ (by decide)⟩

/-- The output block at a head's column. -/
theorem blockOut_at (x0 x1 : FVec Ideal S8x1024 .f32) (x2 x3 : FVec Ideal S8x2048 .f32) (G : FVec Ideal S16x1024 .f32)
    (x7 : FVec Ideal S1x2048 .f32) (x8 : FVec Ideal S1x4x256x512 .f32) (r : Fin 8) (h : Fin 4) (e : Fin 512) :
    blockOut x0 x1 x2 x3 G x7 x8 (ix2 r (vchan h e)) = rowOut x0 x1 x2 x3 G x7 x8 r h e := by
  have h1 : (512 * h.val + e.val) / 512 = h.val := by omega
  have h2 : (512 * h.val + e.val) % 512 = e.val := by omega
  show rowOut x0 x1 x2 x3 G x7 x8 r ⟨(512 * h.val + e.val) / 512, _⟩ ⟨(512 * h.val + e.val) % 512, _⟩ = _
  congr 1
  · exact Fin.ext h1
  · exact Fin.ext h2

/-- Where a head's output lies in the block. -/
theorem place_out (h : Fin 4) (o : ℕ) (ho : o = 512 * h.val)
    (inb : ∀ a, (![0, o] : Fin 2 → ℕ) a + (![8, 512] : Fin 2 → ℕ) a ≤ S8x2048.size a) (r : Fin 8) (e : Fin 512) :
    (Rect.unit (s := S8x2048) ![0, o] ![8, 512] inb).emb (ix2 r e) = ix2 r (vchan h e) := by
  subst ho
  funext a
  refine Fin.ext ((Rect.idx_unit_val _ _ _ _ a).trans ?_)
  match a with
  | 0 => simp
  | 1 => simp [vchan]

/-- An index whose first two axes have one value each. -/
theorem unit_both (y : S1x1x256x512.Idx) : ∃ x e, y = ix4 0 0 x e := by
  idx_vars y
  obtain rfl : y0 = 0 := Subsingleton.elim _ _
  obtain rfl : y1 = 0 := Subsingleton.elim _ _
  exact ⟨y2, y3, rfl⟩

/-- Where a head's state lies in a block of states. -/
theorem place_state (h : ℕ)
    (inb : ∀ a, (![0, h, 0, 0] : Fin 4 → ℕ) a + (![1, 1, 256, 512] : Fin 4 → ℕ) a ≤ S1x4x256x512.size a)
    (x : Fin 256) (e : Fin 512) :
    (Rect.unit (s := S1x4x256x512) ![0, h, 0, 0] ![1, 1, 256, 512] inb).emb (ix4 0 0 x e)
      = ix4 (0 : Fin 1) (⟨h, by have := inb 1; simp at this; omega⟩ : Fin 4) x e := by
  funext a
  refine Fin.ext ((Rect.idx_unit_val _ _ _ _ a).trans ?_)
  match a with
  | 0 => simp
  | 1 => simp
  | 2 => simp
  | 3 => simp

/-- Head 0's new state, at its place in the block. -/
theorem state0_piece (x1 : FVec Ideal S8x1024 .f32) (x2 : FVec Ideal S8x2048 .f32) (x4 : FVec Ideal S8x128 .f32)
    (x5 : FVec Ideal S128x1024 .f32) (x6 : FVec Ideal S1x1024 .f32) (x8 : FVec Ideal S1x4x256x512 .f32)
    (s : FVec Ideal S1x1x256x512 .f32) (hs : ∀ x e, s (ix4 0 0 x e) = x8 (ix4 0 0 x e))
    (inb : ∀ a, (![0, 0, 0, 0] : Fin 4 → ℕ) a + (![1, 1, 256, 512] : Fin 4 → ℕ) a ≤ S1x4x256x512.size a)
    (y : (Rect.unit (s := S1x4x256x512) ![0, 0, 0, 0] ![1, 1, 256, 512] inb).shape.Idx) :
    (k0_pay3 (k0_pay126 (k0_pay12 x1) (k0_pay13 x2) (k0_pay18 (k0_pay7 (F := Ideal) s)) (gates x4 x5 x6)
      (k0_pay24 (k0_pay14 x4) (k0_pay15 x5) (k0_pay16 x6))) : FVec Ideal S1x1x256x512 .f32) y
      = blockState x1 x2 (gates x4 x5 x6) x8
          ((Rect.unit (s := S1x4x256x512) ![0, 0, 0, 0] ![1, 1, 256, 512] inb).emb y) := by
  obtain ⟨x, e, rfl⟩ : ∃ x e, y = ix4 0 0 x e := unit_both y
  rw [place_state 0 inb x e, state0_at]
  simp only [hs]
  rfl

/-- Head 0's output, at its place in the block. -/
theorem out0_piece (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (x8 : FVec Ideal S1x4x256x512 .f32) (s : FVec Ideal S1x1x256x512 .f32)
    (hs : ∀ x e, s (ix4 0 0 x e) = x8 (ix4 0 0 x e))
    (inb : ∀ a, (![0, 0] : Fin 2 → ℕ) a + (![8, 512] : Fin 2 → ℕ) a ≤ S8x2048.size a)
    (y : (Rect.unit (s := S8x2048) ![0, 0] ![8, 512] inb).shape.Idx) :
    (k0_pay127 (k0_pay13 x2) x3 (k0_pay17 x7) (k0_pay26 (k0_pay11 x0) (k0_pay14 x4) (k0_pay15 x5) (k0_pay16 x6) (k0_pay18 (k0_pay7 (F := Ideal) s))) (weights0 (k0_pay12 x1) (k0_pay22 (k0_pay11 x0)) (gates x4 x5 x6)) : FVec Ideal S8x512 .f32) y
      = blockOut x0 x1 x2 x3 (gates x4 x5 x6) x7 x8 ((Rect.unit (s := S8x2048) ![0, 0] ![8, 512] inb).emb y) := by
  obtain ⟨r, e, rfl⟩ : ∃ r e, y = ix2 r e := ⟨y 0, y 1, by idx_vars y⟩
  rw [place_out 0 0 (by rfl) inb, blockOut_at,
    out0_at _ _ _ _ _ _ _ _ _ _ (own0_at x0 x1 _ (sums_fall x4 x5 x6))]
  simp only [hs]
  rfl

/-- Head 1's new state, at its place in the block. -/
theorem state1_piece (x1 : FVec Ideal S8x1024 .f32) (x2 : FVec Ideal S8x2048 .f32) (x4 : FVec Ideal S8x128 .f32)
    (x5 : FVec Ideal S128x1024 .f32) (x6 : FVec Ideal S1x1024 .f32) (x8 : FVec Ideal S1x4x256x512 .f32)
    (s : FVec Ideal S1x1x256x512 .f32) (hs : ∀ x e, s (ix4 0 0 x e) = x8 (ix4 0 1 x e))
    (inb : ∀ a, (![0, 1, 0, 0] : Fin 4 → ℕ) a + (![1, 1, 256, 512] : Fin 4 → ℕ) a ≤ S1x4x256x512.size a)
    (y : (Rect.unit (s := S1x4x256x512) ![0, 1, 0, 0] ![1, 1, 256, 512] inb).shape.Idx) :
    (k0_pay4 (k0_pay130 (k0_pay19 (k0_pay8 (F := Ideal) s)) (k0_pay122 (k0_pay12 x1) (gates x4 x5 x6)
      (k0_pay24 (k0_pay14 x4) (k0_pay15 x5) (k0_pay16 x6))) (k0_pay123 (k0_pay24 (k0_pay14 x4) (k0_pay15 x5) (k0_pay16 x6)))
      (k0_pay124 (k0_pay13 x2))) : FVec Ideal S1x1x256x512 .f32) y
      = blockState x1 x2 (gates x4 x5 x6) x8
          ((Rect.unit (s := S1x4x256x512) ![0, 1, 0, 0] ![1, 1, 256, 512] inb).emb y) := by
  obtain ⟨x, e, rfl⟩ : ∃ x e, y = ix4 0 0 x e := unit_both y
  rw [place_state 1 inb x e, state1_at]
  simp only [hs]
  rfl

/-- Head 1's output, at its place in the block. -/
theorem out1_piece (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (x8 : FVec Ideal S1x4x256x512 .f32) (s : FVec Ideal S1x1x256x512 .f32)
    (hs : ∀ x e, s (ix4 0 0 x e) = x8 (ix4 0 1 x e))
    (inb : ∀ a, (![0, 512] : Fin 2 → ℕ) a + (![8, 512] : Fin 2 → ℕ) a ≤ S8x2048.size a)
    (y : (Rect.unit (s := S8x2048) ![0, 512] ![8, 512] inb).shape.Idx) :
    (k0_pay131 (k0_pay17 x7) (k0_pay27 (k0_pay11 x0) (k0_pay14 x4) (k0_pay15 x5) (k0_pay16 x6) (k0_pay19 (k0_pay8 (F := Ideal) s)))
      (k0_pay125 x3) (weights1 (k0_pay12 x1) (k0_pay22 (k0_pay11 x0)) (gates x4 x5 x6)) (k0_pay129 (k0_pay13 x2)) : FVec Ideal S8x512 .f32) y
      = blockOut x0 x1 x2 x3 (gates x4 x5 x6) x7 x8 ((Rect.unit (s := S8x2048) ![0, 512] ![8, 512] inb).emb y) := by
  obtain ⟨r, e, rfl⟩ : ∃ r e, y = ix2 r e := ⟨y 0, y 1, by idx_vars y⟩
  rw [place_out 1 512 (by rfl) inb, blockOut_at,
    out1_at _ _ _ _ _ _ _ _ _ _ (own1_at x0 x1 _ (sums_fall x4 x5 x6))]
  simp only [hs]
  rfl

/-- Head 2's new state, at its place in the block. -/
theorem state2_piece (x1 : FVec Ideal S8x1024 .f32) (x2 : FVec Ideal S8x2048 .f32) (x4 : FVec Ideal S8x128 .f32)
    (x5 : FVec Ideal S128x1024 .f32) (x6 : FVec Ideal S1x1024 .f32) (x8 : FVec Ideal S1x4x256x512 .f32)
    (s : FVec Ideal S1x1x256x512 .f32) (hs : ∀ x e, s (ix4 0 0 x e) = x8 (ix4 0 2 x e))
    (inb : ∀ a, (![0, 2, 0, 0] : Fin 4 → ℕ) a + (![1, 1, 256, 512] : Fin 4 → ℕ) a ≤ S1x4x256x512.size a)
    (y : (Rect.unit (s := S1x4x256x512) ![0, 2, 0, 0] ![1, 1, 256, 512] inb).shape.Idx) :
    (k0_pay5 (k0_pay132 (k0_pay20 (k0_pay9 (F := Ideal) s)) (k0_pay122 (k0_pay12 x1) (gates x4 x5 x6)
      (k0_pay24 (k0_pay14 x4) (k0_pay15 x5) (k0_pay16 x6))) (k0_pay123 (k0_pay24 (k0_pay14 x4) (k0_pay15 x5) (k0_pay16 x6)))
      (k0_pay124 (k0_pay13 x2))) : FVec Ideal S1x1x256x512 .f32) y
      = blockState x1 x2 (gates x4 x5 x6) x8
          ((Rect.unit (s := S1x4x256x512) ![0, 2, 0, 0] ![1, 1, 256, 512] inb).emb y) := by
  obtain ⟨x, e, rfl⟩ : ∃ x e, y = ix4 0 0 x e := unit_both y
  rw [place_state 2 inb x e, state2_at]
  simp only [hs]
  rfl

/-- Head 2's output, at its place in the block. -/
theorem out2_piece (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (x8 : FVec Ideal S1x4x256x512 .f32) (s : FVec Ideal S1x1x256x512 .f32)
    (hs : ∀ x e, s (ix4 0 0 x e) = x8 (ix4 0 2 x e))
    (inb : ∀ a, (![0, 1024] : Fin 2 → ℕ) a + (![8, 512] : Fin 2 → ℕ) a ≤ S8x2048.size a)
    (y : (Rect.unit (s := S8x2048) ![0, 1024] ![8, 512] inb).shape.Idx) :
    (k0_pay134 (k0_pay125 x3) (k0_pay133 (k0_pay17 x7) (k0_pay28 (k0_pay11 x0) (k0_pay14 x4) (k0_pay15 x5) (k0_pay16 x6) (k0_pay9 (F := Ideal) s))
      (weights2 (k0_pay12 x1) (k0_pay22 (k0_pay11 x0)) (gates x4 x5 x6)) (k0_pay124 (k0_pay13 x2))) : FVec Ideal S8x512 .f32) y
      = blockOut x0 x1 x2 x3 (gates x4 x5 x6) x7 x8 ((Rect.unit (s := S8x2048) ![0, 1024] ![8, 512] inb).emb y) := by
  obtain ⟨r, e, rfl⟩ : ∃ r e, y = ix2 r e := ⟨y 0, y 1, by idx_vars y⟩
  rw [place_out 2 1024 (by rfl) inb, blockOut_at,
    out2_at _ _ _ _ _ _ _ _ _ _ (own2_at x0 x1 _ (sums_fall x4 x5 x6))]
  simp only [hs]
  rfl

/-- Head 3's new state, at its place in the block. -/
theorem state3_piece (x1 : FVec Ideal S8x1024 .f32) (x2 : FVec Ideal S8x2048 .f32) (x4 : FVec Ideal S8x128 .f32)
    (x5 : FVec Ideal S128x1024 .f32) (x6 : FVec Ideal S1x1024 .f32) (x8 : FVec Ideal S1x4x256x512 .f32)
    (s : FVec Ideal S1x1x256x512 .f32) (hs : ∀ x e, s (ix4 0 0 x e) = x8 (ix4 0 3 x e))
    (inb : ∀ a, (![0, 3, 0, 0] : Fin 4 → ℕ) a + (![1, 1, 256, 512] : Fin 4 → ℕ) a ≤ S1x4x256x512.size a)
    (y : (Rect.unit (s := S1x4x256x512) ![0, 3, 0, 0] ![1, 1, 256, 512] inb).shape.Idx) :
    (k0_pay6 (k0_pay135 (k0_pay21 (k0_pay10 (F := Ideal) s)) (k0_pay122 (k0_pay12 x1) (gates x4 x5 x6)
      (k0_pay24 (k0_pay14 x4) (k0_pay15 x5) (k0_pay16 x6))) (k0_pay123 (k0_pay24 (k0_pay14 x4) (k0_pay15 x5) (k0_pay16 x6)))
      (k0_pay124 (k0_pay13 x2))) : FVec Ideal S1x1x256x512 .f32) y
      = blockState x1 x2 (gates x4 x5 x6) x8
          ((Rect.unit (s := S1x4x256x512) ![0, 3, 0, 0] ![1, 1, 256, 512] inb).emb y) := by
  obtain ⟨x, e, rfl⟩ : ∃ x e, y = ix4 0 0 x e := unit_both y
  rw [place_state 3 inb x e, state3_at]
  simp only [hs]
  rfl

/-- Head 3's output, at its place in the block. -/
theorem out3_piece (x0 x1 : FVec Ideal S8x1024 .f32) (x2 x3 : FVec Ideal S8x2048 .f32) (x4 : FVec Ideal S8x128 .f32)
    (x5 : FVec Ideal S128x1024 .f32) (x6 : FVec Ideal S1x1024 .f32) (x7 : FVec Ideal S1x2048 .f32)
    (x8 : FVec Ideal S1x4x256x512 .f32) (s : FVec Ideal S1x1x256x512 .f32)
    (hs : ∀ x e, s (ix4 0 0 x e) = x8 (ix4 0 3 x e))
    (inb : ∀ a, (![0, 1536] : Fin 2 → ℕ) a + (![8, 512] : Fin 2 → ℕ) a ≤ S8x2048.size a)
    (y : (Rect.unit (s := S8x2048) ![0, 1536] ![8, 512] inb).shape.Idx) :
    (k0_pay136 (k0_pay17 x7) (k0_pay30 (k0_pay21 (k0_pay10 (F := Ideal) s)) (k0_pay29 (k0_pay11 x0) (k0_pay14 x4) (k0_pay15 x5) (k0_pay16 x6)))
      (weights3 (k0_pay12 x1) (k0_pay22 (k0_pay11 x0)) (gates x4 x5 x6)) (k0_pay124 (k0_pay13 x2)) (k0_pay125 x3) : FVec Ideal S8x512 .f32) y
      = blockOut x0 x1 x2 x3 (gates x4 x5 x6) x7 x8 ((Rect.unit (s := S8x2048) ![0, 1536] ![8, 512] inb).emb y) := by
  obtain ⟨r, e, rfl⟩ : ∃ r e, y = ix2 r e := ⟨y 0, y 1, by idx_vars y⟩
  rw [place_out 3 1536 (by rfl) inb, blockOut_at,
    out3_at _ _ _ _ _ _ _ _ _ _ (own3_at x0 x1 _ (sums_fall x4 x5 x6))]
  simp only [hs]
  rfl

variable (m : (ℓ : Loc nD τ sig) → Buf (Elt Ideal) ℓ)

set_option maxHeartbeats 4000000 in
/-- The output block of a batch row. -/
theorem out_block (c : Dev nD) (t : Fin cfg0.N) (y : S8x2048.Idx) :
    (outsAt0 m c t).1 y
      = blockOut (iblk m c 0 t) (iblk m c 1 t) (iblk m c 2 t) (iblk m c 3 t)
          (gates (iblk m c 4 t) (iblk m c 5 t) (iblk m c 6 t)) (iblk m c 7 t) (iblk m c 8 t) y := by
  unfold outsAt0; dsimp only; unfold out0_A_9
  rw [View.read_writes_eq_canon _ _ _ (by intro y; apply cover0_A_9)]
  unfold kernelRun0_A; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_out
  simp (disch := decide) only [↓ View.readCov_skip, ↓ View.readCov_cons_toLoadRect]
  refine View.canon_append_of_piecesOf (Val := Elt Ideal) (s := S8x2048) (e := .f32)
    (blockOut x0 x1 x2 x3 (gates x4 x5 x6) x7 x8) [] [_, _, _, _] ⟨?_, ?_, ?_, ?_, trivial⟩ y ?_
  rotate_left 4
  · exact View.cover_of_tiledL _ ![8, 512] (by rfl) _
  · refine out3_piece x0 x1 x2 x3 x4 x5 x6 x7 x8 _ (fun x e => ?_) (by decide)
    exact congrArg x8 (place_state 3 _ x e)
  · refine out2_piece x0 x1 x2 x3 x4 x5 x6 x7 x8 _ (fun x e => ?_) (by decide)
    exact congrArg x8 (place_state 2 _ x e)
  · refine out1_piece x0 x1 x2 x3 x4 x5 x6 x7 x8 _ (fun x e => ?_) (by decide)
    exact congrArg x8 (place_state 1 _ x e)
  · refine out0_piece x0 x1 x2 x3 x4 x5 x6 x7 x8 _ (fun x e => ?_) (by decide)
    exact congrArg x8 (place_state 0 _ x e)

set_option maxHeartbeats 4000000 in
/-- The block of states a batch row writes. -/
theorem state_block (c : Dev nD) (t : Fin cfg0.N) (y : S1x4x256x512.Idx) :
    (outsAt0 m c t).2 y
      = blockState (iblk m c 1 t) (iblk m c 2 t) (gates (iblk m c 4 t) (iblk m c 5 t) (iblk m c 6 t)) (iblk m c 8 t) y := by
  unfold outsAt0; dsimp only; unfold out0_A_10
  rw [View.read_writes_eq_canon _ _ _ (by intro y; apply cover0_A_10)]
  unfold kernelRun0_A; dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_out
  simp (disch := decide) only [↓ View.readCov_skip, ↓ View.readCov_cons_toLoadRect]
  refine View.canon_append_of_piecesOf (Val := Elt Ideal) (s := S1x4x256x512) (e := .f32)
    (blockState x1 x2 (gates x4 x5 x6) x8) [] [_, _, _, _] ⟨?_, ?_, ?_, ?_, trivial⟩ y ?_
  rotate_left 4
  · exact View.cover_of_tiledL _ ![1, 1, 256, 512] (by rfl) _
  · refine state3_piece x1 x2 x4 x5 x6 x8 _ (fun x e => ?_) (by decide)
    exact congrArg x8 (place_state 3 _ x e)
  · refine state2_piece x1 x2 x4 x5 x6 x8 _ (fun x e => ?_) (by decide)
    exact congrArg x8 (place_state 2 _ x e)
  · refine state1_piece x1 x2 x4 x5 x6 x8 _ (fun x e => ?_) (by decide)
    exact congrArg x8 (place_state 1 _ x e)
  · refine state0_piece x1 x2 x4 x5 x6 x8 _ (fun x e => ?_) (by decide)
    exact congrArg x8 (place_state 0 _ x e)

end Cert.Samp

end
-- ==== Proof.SampArrays.lean ====
module

public import proofs.«01_k».proof.Proof.SampSteps
public import Idealize.ShloMosaic.Lib.Claim
public import Idealize.ShloMosaic.Lib.StableHlo.ReadAt

/-! # The sample's two arrays, from the call's arguments

`P` holds the projections of every token, `Ga` the low-rank gate inputs, `W` and `B` the gate's second projection, `U`
the gains, `St` the states the batch rows begin with. Batch row `t` of the sample is the eight tokens from 8192 + 8 t
on. -/

@[expose] public section

set_option maxRecDepth 16384

noncomputable section

namespace Cert.Samp

open Idealize.ShloMosaic Idealize.ShloMosaic.TcCoe Idealize.ShloMosaic.Tactic Idealize.SL.Sem
open Cert.Kernel5Ideal Cert.Kernel5Ideal.Gen
open Cert.Gla (gate normed chan vchan)
open scoped BigOperators

/-- Token `r` of batch row `t`. -/
def row (t : Fin 32) (r : Fin 8) : Fin 8448 := ⟨8192 + (8 * t.val + r.val), by omega⟩

/-- A batch row's queries, scaled. -/
def qs (P : Fin 8448 → Fin 6144 → EReal) (t : Fin 32) (h : Fin 4) (r : Fin 8) (x : Fin 256) : EReal :=
  P (row t r) ⟨256 * h.val + x.val, by omega⟩ * ((1 / 16 : ℝ) : EReal)

/-- A batch row's keys. -/
def ks (P : Fin 8448 → Fin 6144 → EReal) (t : Fin 32) (h : Fin 4) (r : Fin 8) (x : Fin 256) : EReal :=
  P (row t r) ⟨1024 + (256 * h.val + x.val), by omega⟩

/-- A batch row's values. -/
def vs (P : Fin 8448 → Fin 6144 → EReal) (t : Fin 32) (h : Fin 4) (r : Fin 8) (e : Fin 512) : EReal :=
  P (row t r) ⟨2048 + (512 * h.val + e.val), by omega⟩

/-- A batch row's output gates. -/
def zs (P : Fin 8448 → Fin 6144 → EReal) (t : Fin 32) (h : Fin 4) (r : Fin 8) (e : Fin 512) : EReal :=
  P (row t r) ⟨4096 + (512 * h.val + e.val), by omega⟩

/-- A batch row's accumulated forget gates. -/
def gs (Ga : Fin 8448 → Fin 128 → EReal) (W : Fin 16 → Fin 1024 → EReal) (B : Fin 1024 → EReal) (t : Fin 32) (h : Fin 4)
    (r : Fin 8) (x : Fin 256) : EReal :=
  cum (fun s => gate ((∑ j : Fin 16, Ga (row t s) ⟨j.val, by omega⟩ * W j (chan h x)) + B (chan h x))) r

/-- The state batch row `t` is left with. -/
def stateAt (P : Fin 8448 → Fin 6144 → EReal) (Ga : Fin 8448 → Fin 128 → EReal) (W : Fin 16 → Fin 1024 → EReal)
    (B : Fin 1024 → EReal) (St : Fin 32 → Fin 4 → Fin 256 → Fin 512 → EReal) (t : Fin 32) (h : Fin 4) (x : Fin 256)
    (e : Fin 512) : EReal :=
  after (ks P t h) (gs Ga W B t h) (vs P t h) (St t h) x e

/-- What head `h` puts out for token `r` of batch row `t`. -/
def outAt (P : Fin 8448 → Fin 6144 → EReal) (Ga : Fin 8448 → Fin 128 → EReal) (W : Fin 16 → Fin 1024 → EReal)
    (B : Fin 1024 → EReal) (U : Fin 2048 → EReal) (St : Fin 32 → Fin 4 → Fin 256 → Fin 512 → EReal) (t : Fin 32)
    (r : Fin 8) (h : Fin 4) (e : Fin 512) : EReal :=
  normed (mix (qs P t h) (ks P t h) (gs Ga W B t h) (vs P t h) (St t h) r) (fun e => U (vchan h e)) (zs P t h r) e

/-- Where each window's block lies. -/
theorem places : ∀ t : Fin cfg0.N, win0_0.index t = ![1024 + t.val, 0] ∧ win0_1.index t = ![1024 + t.val, 1]
    ∧ win0_2.index t = ![1024 + t.val, 1] ∧ win0_3.index t = ![1024 + t.val, 2] ∧ win0_4.index t = ![1024 + t.val, 0]
    ∧ win0_5.index t = ![0, 0] ∧ win0_6.index t = ![0, 0] ∧ win0_7.index t = ![0, 0] ∧ win0_8.index t = ![t.val, 0, 0, 0]
    ∧ win0_9.index t = ![t.val, 0] ∧ win0_10.index t = ![t.val, 0, 0, 0] :=
  (by decide +kernel : ∀ t : Fin grid0.N, win0_0.index t = ![1024 + t.val, 0] ∧ win0_1.index t = ![1024 + t.val, 1]
    ∧ win0_2.index t = ![1024 + t.val, 1] ∧ win0_3.index t = ![1024 + t.val, 2] ∧ win0_4.index t = ![1024 + t.val, 0]
    ∧ win0_5.index t = ![0, 0] ∧ win0_6.index t = ![0, 0] ∧ win0_7.index t = ![0, 0] ∧ win0_8.index t = ![t.val, 0, 0, 0]
    ∧ win0_9.index t = ![t.val, 0] ∧ win0_10.index t = ![t.val, 0, 0, 0])

variable (m : (ℓ : Loc nD τ sig) → Buf (Elt Ideal) ℓ) (c : Dev nD)

/-- The projections, by coordinates. -/
def argP (i : Fin 8448) (j : Fin 6144) : EReal := m ((c : Thread nD τ).loc main_arg0) (ix2 i j)
/-- The gate's low-rank inputs, by coordinates. -/
def argGa (i : Fin 8448) (j : Fin 128) : EReal := m ((c : Thread nD τ).loc main_arg1) (ix2 i j)
/-- The gate's second projection, by coordinates. -/
def argW (i : Fin 16) (j : Fin 1024) : EReal := m ((c : Thread nD τ).loc main_arg2) (ix3 0 i j)
/-- The gate's bias, by coordinates. -/
def argB (j : Fin 1024) : EReal := m ((c : Thread nD τ).loc main_arg3) (ix2 0 j)
/-- The gains, by coordinates. -/
def argU (j : Fin 2048) : EReal := m ((c : Thread nD τ).loc main_arg4) (ix2 0 j)
/-- The states the batch rows begin with, by coordinates. -/
def argS (t : Fin 32) (h : Fin 4) (x : Fin 256) (e : Fin 512) : EReal := m ((c : Thread nD τ).loc main_arg5) (ix5 0 t h x e)

/-- The batch row a grid point works on. -/
def rowOf (t : Fin cfg0.N) : Fin 32 := ⟨t.val, lt_of_lt_of_eq t.isLt (show cfg0.N = 32 from N_0)⟩

/-- A token's place among all. -/
theorem row_val (t : Fin cfg0.N) (r : Fin 8) : (row (rowOf t) r).val = 8192 + (8 * t.val + r.val) := rfl

/-- The block of queries. -/
theorem block0 (t : Fin cfg0.N) (r : Fin 8) (l : Fin 1024) :
    (iblk m c 0 t : FVec Ideal S8x1024 .f32) (ix2 r l) = argP m c (row (rowOf t) r) ⟨l.val, by omega⟩ := by
  have hr := row_val t r
  unfold argP
  blk_ext [iblk, V, places t]

/-- The block of keys. -/
theorem block1 (t : Fin cfg0.N) (r : Fin 8) (l : Fin 1024) :
    (iblk m c 1 t : FVec Ideal S8x1024 .f32) (ix2 r l) = argP m c (row (rowOf t) r) ⟨1024 + l.val, by omega⟩ := by
  have hr := row_val t r
  unfold argP
  blk_ext [iblk, V, places t]

/-- The block of values. -/
theorem block2 (t : Fin cfg0.N) (r : Fin 8) (l : Fin 2048) :
    (iblk m c 2 t : FVec Ideal S8x2048 .f32) (ix2 r l) = argP m c (row (rowOf t) r) ⟨2048 + l.val, by omega⟩ := by
  have hr := row_val t r
  unfold argP
  blk_ext [iblk, V, places t]

/-- The block of output gates. -/
theorem block3 (t : Fin cfg0.N) (r : Fin 8) (l : Fin 2048) :
    (iblk m c 3 t : FVec Ideal S8x2048 .f32) (ix2 r l) = argP m c (row (rowOf t) r) ⟨4096 + l.val, by omega⟩ := by
  have hr := row_val t r
  unfold argP
  blk_ext [iblk, V, places t]

/-- The block of low-rank gate inputs. -/
theorem block4 (t : Fin cfg0.N) (r : Fin 8) (l : Fin 128) :
    (iblk m c 4 t : FVec Ideal S8x128 .f32) (ix2 r l) = argGa m c (row (rowOf t) r) l := by
  have hr := row_val t r
  unfold argGa
  blk_ext [iblk, V, places t]

/-- The gate's second projection stands padded with rows of zeros. -/
theorem block5 (t : Fin cfg0.N) (r : Fin 128) (l : Fin 1024) :
    (iblk m c 5 t : FVec Ideal S128x1024 .f32) (ix2 r l) = if h : r.val < 16 then argW m c ⟨r.val, h⟩ l else 0 := by
  have e : (win0_5.blk t).view.emb (ix2 r l) = ix2 r l := by blk_ext [places t]
  blk_simp [iblk, places t]
  rw [e]
  unfold argW V
  after_reads_at
  have h0 : (FloatOps.sitofp FTy.f32 0#32 : Ideal FTy.f32) = (0 : EReal) := by
    show (((0#32 : BitVec 32).toInt : ℝ) : EReal) = 0
    norm_num
  rw [h0]

/-- The bias row. -/
theorem block6 (t : Fin cfg0.N) (l : Fin 1024) :
    (iblk m c 6 t : FVec Ideal S1x1024 .f32) (ix2 0 l) = argB m c l := by
  have e : (win0_6.blk t).view.emb (ix2 0 l) = ix2 0 l := by blk_ext [places t]
  blk_simp [iblk, places t]
  rw [e]
  unfold argB V
  after_reads_at

/-- The row of gains. -/
theorem block7 (t : Fin cfg0.N) (l : Fin 2048) :
    (iblk m c 7 t : FVec Ideal S1x2048 .f32) (ix2 0 l) = argU m c l := by
  have e : (win0_7.blk t).view.emb (ix2 0 l) = ix2 0 l := by blk_ext [places t]
  blk_simp [iblk, places t]
  rw [e]
  unfold argU V
  after_reads_at

/-- The states the batch row begins with. -/
theorem block8 (t : Fin cfg0.N) (h : Fin 4) (x : Fin 256) (k : Fin 512) :
    (iblk m c 8 t : FVec Ideal S1x4x256x512 .f32) (ix4 0 h x k) = argS m c (rowOf t) h x k := by
  have e : (win0_8.blk t).view.emb (ix4 0 h x k) = ix4 (rowOf t) h x k := by
    have hr : (rowOf t).val = t.val := rfl
    blk_ext [places t]
  blk_simp [iblk, places t]
  rw [e]
  unfold argS V
  after_reads_at

/-- The accumulated gates, from blocks that are parts of the gate's three arrays. -/
theorem gates_of (x4 : FVec Ideal S8x128 .f32) (x5 : FVec Ideal S128x1024 .f32) (x6 : FVec Ideal S1x1024 .f32)
    (Ga : Fin 8448 → Fin 128 → EReal) (W : Fin 16 → Fin 1024 → EReal) (B : Fin 1024 → EReal) (t : Fin 32)
    (h4 : ∀ r l, x4 (ix2 r l) = Ga (row t r) l)
    (h5 : ∀ (r : Fin 128) (l : Fin 1024), x5 (ix2 r l) = if h : r.val < 16 then W ⟨r.val, h⟩ l else 0)
    (h6 : ∀ l, x6 (ix2 0 l) = B l) (r : Fin 8) (h : Fin 4) (x : Fin 256) :
    gates x4 x5 x6 (ix2 (lift r) (chan h x)) = gs Ga W B t h r x := by
  refine (sums_row x4 x5 x6 r (chan h x)).trans ?_
  unfold gs
  congr 1
  funext s
  rw [raw, h6, ← sum_padded (Ga (row t s)) (fun j => W j (chan h x))]
  simp only [h4, h5]

/-- The accumulated gates of a batch row, from the arguments. -/
theorem gates_at (t : Fin cfg0.N) (r : Fin 8) (h : Fin 4) (x : Fin 256) :
    gates (iblk m c 4 t) (iblk m c 5 t) (iblk m c 6 t) (ix2 (lift r) (chan h x))
      = gs (argGa m c) (argW m c) (argB m c) (rowOf t) h r x :=
  gates_of _ _ _ _ _ _ _ (block4 m c t) (block5 m c t) (block6 m c t) r h x

/-- The output block of a batch row, from the arguments. -/
theorem out_point (t : Fin cfg0.N) (r : Fin 8) (h : Fin 4) (e : Fin 512) :
    (outsAt0 m c t).1 (ix2 r (vchan h e))
      = outAt (argP m c) (argGa m c) (argW m c) (argB m c) (argU m c) (argS m c) (rowOf t) r h e := by
  rw [out_block, blockOut_at, rowOut, outAt]
  simp only [gates_at, block0, block1, block2, block3, block7, block8]
  rfl

/-- The block of states of a batch row, from the arguments. -/
theorem state_point (t : Fin cfg0.N) (h : Fin 4) (x : Fin 256) (e : Fin 512) :
    (outsAt0 m c t).2 (ix4 0 h x e)
      = stateAt (argP m c) (argGa m c) (argW m c) (argB m c) (argS m c) (rowOf t) h x e := by
  rw [state_block]
  show after (fun r x => (iblk m c 1 t : FVec Ideal S8x1024 .f32) (ix2 r (chan h x)))
    (fun r x => gates (iblk m c 4 t) (iblk m c 5 t) (iblk m c 6 t) (ix2 (lift r) (chan h x)))
    (fun r e => (iblk m c 2 t : FVec Ideal S8x2048 .f32) (ix2 r (vchan h e)))
    (fun x e => (iblk m c 8 t : FVec Ideal S1x4x256x512 .f32) (ix4 0 h x e)) x e = _
  simp only [gates_at, block1, block2, block8]
  rfl

/-- The array of outputs the kernel leaves. -/
def outs (i : S256x2048.Idx) : EReal :=
  outAt (argP m c) (argGa m c) (argW m c) (argB m c) (argU m c) (argS m c)
    ⟨(i 0).val / 8, by have h : (i 0).val < 256 := (i 0).isLt; omega⟩ ⟨(i 0).val % 8, Nat.mod_lt _ (by decide)⟩
    ⟨(i 1).val / 512, by have h : (i 1).val < 2048 := (i 1).isLt; omega⟩ ⟨(i 1).val % 512, Nat.mod_lt _ (by decide)⟩

/-- The array of states the kernel leaves. -/
def states (i : S32x4x256x512.Idx) : EReal :=
  stateAt (argP m c) (argGa m c) (argW m c) (argB m c) (argS m c) (i 0) (i 1) (i 2) (i 3)

/-- Every value channel belongs to a head. -/
theorem vchan_surj (j : Fin 2048) : ∃ h e, j = vchan h e :=
  ⟨⟨j.val / 512, by omega⟩, ⟨j.val % 512, Nat.mod_lt _ (by decide)⟩, Fin.ext (by show j.val = 512 * (j.val / 512) + j.val % 512; omega)⟩

/-- The outputs at a token and a head's channel. -/
theorem outs_at (t : Fin 32) (r : Fin 8) (h : Fin 4) (e : Fin 512) (i : Fin 256) (hi : i.val = 8 * t.val + r.val) :
    outs m c (ix2 i (vchan h e)) = outAt (argP m c) (argGa m c) (argW m c) (argB m c) (argU m c) (argS m c) t r h e := by
  have h1 : (512 * h.val + e.val) / 512 = h.val := by omega
  have h2 : (512 * h.val + e.val) % 512 = e.val := by omega
  show outAt _ _ _ _ _ _ ⟨i.val / 8, _⟩ ⟨i.val % 8, _⟩ ⟨(512 * h.val + e.val) / 512, _⟩ ⟨(512 * h.val + e.val) % 512, _⟩ = _
  congr 1
  · exact Fin.ext (by show i.val / 8 = t.val; omega)
  · exact Fin.ext (by show i.val % 8 = r.val; omega)
  · exact Fin.ext h1
  · exact Fin.ext h2

/-- The outputs, whole. -/
theorem final9 : (dats m 0 c).arrAt 9 cfg0.N = outs m c := by
  refine (dats m 0 c).arrAt_eq_of_covers 9 _ (by decide +kernel) fun t _ y => ?_
  obtain ⟨r, j, rfl⟩ : ∃ (r : Fin 8) (j : Fin 2048), y = ix2 r j := ⟨y 0, y 1, eq_ix2 y⟩
  obtain ⟨h, k, rfl⟩ := vchan_surj j
  have ht : t.val < 32 := lt_of_lt_of_eq t.isLt (show cfg0.N = 32 from N_0)
  have e : ((cfg0.win 9).blk t).view.emb (ix2 r (vchan h k))
      = (ix2 (⟨8 * t.val + r.val, by omega⟩ : Fin 256) (vchan h k) : S256x2048.Idx) := by
    blk_ext [places t]
  rw [e, outs_at m c (rowOf t) r h k _ rfl]
  blk_simp
  rw [after0_9]
  exact out_point m c t r h k

/-- The states, whole. -/
theorem final10 : (dats m 0 c).arrAt 10 cfg0.N = states m c := by
  refine (dats m 0 c).arrAt_eq_of_covers 10 _ (by decide +kernel) fun t _ y => ?_
  obtain ⟨a, h, x, k, rfl⟩ : ∃ (a : Fin 1) (h : Fin 4) (x : Fin 256) (k : Fin 512), y = ix4 a h x k :=
    ⟨y 0, y 1, y 2, y 3, eq_ix4 y⟩
  obtain rfl : a = 0 := Subsingleton.elim _ _
  have e : ((cfg0.win 10).blk t).view.emb (ix4 0 h x k) = (ix4 (rowOf t) h x k : S32x4x256x512.Idx) := by
    have hr : (rowOf t).val = t.val := rfl
    blk_ext [places t]
  rw [e]
  blk_simp
  rw [after0_10]
  exact state_point m c t h x k

end Cert.Samp

end
-- ==== Proof.SampRef.lean ====
module

public import proofs.«01_k».proof.Proof.SampArrays
public import proofs.«01_k».proof.Proof.Gen.Reference5Ideal
public import Idealize.ShloMosaic.Lib.Pointwise

/-! # The sample's reference, array by array

The reference computes on whole arrays: 32 batch rows of 8 tokens. Each array is named here as it is computed from the
arguments, and read at an index. -/

@[expose] public section

set_option maxRecDepth 16384

noncomputable section

namespace Cert.Samp.Ref

open Idealize.ShloMosaic Idealize.ShloMosaic.TcCoe Idealize.ShloMosaic.Tactic
open Cert.Reference5Ideal Cert.Reference5Ideal.Gen
open Cert.Gla (gate logSig normed chan vchan neg_softplus div_sixteen)
open scoped BigOperators

/-- The sample's rows of the projections. -/
def rows (P : FVec Ideal S8448x6144 .f32) : FVec Ideal S32x8x6144 .f32 :=
  shapeCast S32x8x6144 (extractStridedSlice S256x6144 ![8192, 0] P slices_S8448x6144_S256x6144_8192_0)
    shapeCasts_S256x6144_S32x8x6144

/-- The queries, scaled. -/
def queries (P : FVec Ideal S8448x6144 .f32) : FVec Ideal S32x8x4x256 .f32 :=
  mulf (shapeCast S32x8x4x256 (extractStridedSlice S32x8x1024 ![0, 0, 0] (rows P) slices_S32x8x6144_S32x8x1024_0_0_0)
      shapeCasts_S32x8x1024_S32x8x4x256)
    (broadcastInDim S32x8x4x256 ![] bcast_S_S32x8x4x256 (constant S_ .f32 0x3D800000#32))

/-- The keys. -/
def keys (P : FVec Ideal S8448x6144 .f32) : FVec Ideal S32x8x4x256 .f32 :=
  shapeCast S32x8x4x256 (extractStridedSlice S32x8x1024 ![0, 0, 1024] (rows P) slices_S32x8x6144_S32x8x1024_0_0_1024)
    shapeCasts_S32x8x1024_S32x8x4x256

/-- The values. -/
def values (P : FVec Ideal S8448x6144 .f32) : FVec Ideal S32x8x4x512 .f32 :=
  shapeCast S32x8x4x512 (extractStridedSlice S32x8x2048 ![0, 0, 2048] (rows P) slices_S32x8x6144_S32x8x2048_0_0_2048)
    shapeCasts_S32x8x2048_S32x8x4x512

/-- The output gates. -/
def outgates (P : FVec Ideal S8448x6144 .f32) : FVec Ideal S32x8x2048 .f32 :=
  extractStridedSlice S32x8x2048 ![0, 0, 4096] (rows P) slices_S32x8x6144_S32x8x2048_0_0_4096

/-- The forget gates before the logarithm of the sigmoid. -/
def logits (Ga : FVec Ideal S8448x128 .f32) (W : FVec Ideal S1x16x1024 .f32) (B : FVec Ideal S1x1024 .f32) :
    FVec Ideal S32x8x1024 .f32 :=
  addf (Host.dotGeneral dot_S32x8x16_S16x1024_S32x8x1024_2_0_01_1_n_n none
      (shapeCast S32x8x16 (extractStridedSlice S256x16 ![8192, 0] Ga slices_S8448x128_S256x16_8192_0) shapeCasts_S256x16_S32x8x16)
      (shapeCast S16x1024 W shapeCasts_S1x16x1024_S16x1024))
    (broadcastInDim S32x8x1024 ![0, 1, 2] bcast_S1x1x1024_S32x8x1024_0_1_2
      (broadcastInDim S1x1x1024 ![2] bcast_S1024_S1x1x1024_2 (shapeCast S1024 B shapeCasts_S1x1024_S1024)))

/-- A zero for every gate. -/
def zeros : FVec Ideal S32x8x1024 .f32 := broadcastInDim S32x8x1024 ![] bcast_S_S32x8x1024 (constant S_ .f32 0#32)

/-- The logarithm of one and the exponential, as the reference takes it. -/
def softplus (X : FVec Ideal S32x8x1024 .f32) : FVec Ideal S32x8x1024 .f32 :=
  select (cmpf CmpFPredicate.une (subf X zeros) (subf X zeros)) (addf X zeros)
    (addf (maximumf X zeros) (Host.log1p (Host.exp (Host.negf (Host.absf (subf X zeros))))))

/-- The forget gates: logarithms of decays. -/
def logGates (Ga : FVec Ideal S8448x128 .f32) (W : FVec Ideal S1x16x1024 .f32) (B : FVec Ideal S1x1024 .f32) :
    FVec Ideal S32x8x4x256 .f32 :=
  shapeCast S32x8x4x256 (Host.divf (Host.negf (softplus (Host.negf (logits Ga W B))))
      (broadcastInDim S32x8x1024 ![] bcast_S_S32x8x1024 (constant S_ .f32 0x41800000#32)))
    shapeCasts_S32x8x1024_S32x8x4x256

/-- The running sum of an array along its tokens. -/
def sums (X : FVec Ideal S32x8x4x256 .f32) : FVec Ideal S32x8x4x256 .f32 :=
  Host.reduceWindowAdd ![1, 8, 1, 1] ![1, 1, 1, 1] ![0, 7, 0, 0] ![0, 0, 0, 0] X
    (broadcastInDim S_ ![] bcast_S_S_ (constant S_ .f32 0#32))
    reduceWindows_S32x8x4x256_S32x8x4x256_w1s1p0_0_w8s1p7_0_w1s1p0_0_w1s1p0_0 h_S_

/-- Which token may read which. -/
def causal : IVec S8x8 1 :=
  select (cmpi .sge (addi (iotaInDim S8x8 32 0) (broadcastInDim S8x8 ![] bcast_S_S8x8 (constantI S_ 32 0#32))) (iotaInDim S8x8 32 1))
    (broadcastInDim S8x8 ![] bcast_S_S8x8 (constantI S_ 1 1#1)) (broadcastInDim S8x8 ![] bcast_S_S8x8 (constantI S_ 1 0#1))

/-- An array of one value per token, for every pair of tokens, by the first of the two. -/
def early (X : FVec Ideal S32x8x4x256 .f32) : FVec Ideal S32x8x8x4x256 .f32 :=
  broadcastInDim S32x8x8x4x256 ![0, 1, 2, 3, 4] bcast_S32x8x1x4x256_S32x8x8x4x256_0_1_2_3_4
    (broadcastInDim S32x8x1x4x256 ![0, 1, 3, 4] bcast_S32x8x4x256_S32x8x1x4x256_0_1_3_4 X)

/-- The same, by the second of the two. -/
def late (X : FVec Ideal S32x8x4x256 .f32) : FVec Ideal S32x8x8x4x256 .f32 :=
  broadcastInDim S32x8x8x4x256 ![0, 1, 2, 3, 4] bcast_S32x1x8x4x256_S32x8x8x4x256_0_1_2_3_4
    (broadcastInDim S32x1x8x4x256 ![0, 2, 3, 4] bcast_S32x8x4x256_S32x1x8x4x256_0_2_3_4 X)

/-- The weights of all pairs of tokens, from queries, keys and accumulated gates. -/
def weights (Q K G : FVec Ideal S32x8x4x256 .f32) : FVec Ideal S32x8x8x4 .f32 :=
  Host.reduceAdd (mulf (mulf (early Q) (late K))
      (Host.exp (select (broadcastInDim S32x8x8x4x256 ![0, 1, 2, 3, 4] bcast_S1x8x8x1x1_S32x8x8x4x256_0_1_2_3_4
          (broadcastInDim S1x8x8x1x1 ![1, 2] bcast_S8x8_S1x8x8x1x1_1_2 causal))
        (subf (early G) (late G))
        (broadcastInDim S32x8x8x4x256 ![] bcast_S_S32x8x8x4x256 (constant S_ .f32 0xFF800000#32)))))
    (constant S_ .f32 0#32) reducesTo_S32x8x8x4x256_S32x8x8x4_d4 h_S_

/-- The states the batch rows begin with. -/
def begins (St : FVec Ideal S1x32x4x256x512 .f32) : FVec Ideal S32x4x256x512 .f32 :=
  shapeCast S32x4x256x512 St shapeCasts_S1x32x4x256x512_S32x4x256x512

/-- What every token reads. -/
def reads (Q K G : FVec Ideal S32x8x4x256 .f32) (V : FVec Ideal S32x8x4x512 .f32) (S : FVec Ideal S32x4x256x512 .f32) :
    FVec Ideal S32x8x4x512 .f32 :=
  addf (transpose S32x8x4x512 [0, 3, 1, 2]
      (Host.dotGeneral dot_S32x4x256x512_S32x8x4x256_S32x4x512x8_2_3_3_1_01_02 none S (mulf Q (Host.exp G)))
      transposes_S32x4x512x8_S32x8x4x512_0_3_1_2)
    (transpose S32x8x4x512 [0, 3, 1, 2]
      (Host.dotGeneral dot_S32x8x4x512_S32x8x8x4_S32x4x512x8_1_2_3_1_02_03 none V (weights Q K G))
      transposes_S32x4x512x8_S32x8x4x512_0_3_1_2)

/-- The accumulated gates of the last token. -/
def ends (G : FVec Ideal S32x8x4x256 .f32) : FVec Ideal S32x4x256 .f32 :=
  shapeCast S32x4x256 (extractStridedSlice S32x1x4x256 ![0, 7, 0, 0] G slices_S32x8x4x256_S32x1x4x256_0_7_0_0)
    shapeCasts_S32x1x4x256_S32x4x256

/-- The states the batch rows are left with. -/
def leaves (K G : FVec Ideal S32x8x4x256 .f32) (V : FVec Ideal S32x8x4x512 .f32) (S : FVec Ideal S32x4x256x512 .f32) :
    FVec Ideal S32x4x256x512 .f32 :=
  addf (mulf (broadcastInDim S32x4x256x512 ![0, 1, 2, 3] bcast_S32x4x256x1_S32x4x256x512_0_1_2_3
      (broadcastInDim S32x4x256x1 ![0, 1, 2] bcast_S32x4x256_S32x4x256x1_0_1_2 (Host.exp (ends G)))) S)
    (Host.dotGeneral dot_S32x8x4x256_S32x8x4x512_S32x4x256x512_1_1_3_3_02_02 none
      (mulf K (Host.exp (subf (broadcastInDim S32x8x4x256 ![0, 1, 2, 3] bcast_S32x1x4x256_S32x8x4x256_0_1_2_3
        (broadcastInDim S32x1x4x256 ![0, 2, 3] bcast_S32x4x256_S32x1x4x256_0_2_3 (ends G))) G))) V)

/-- One over one and the exponential of the negative, times the value. -/
def silu (Z : FVec Ideal S32x8x2048 .f32) : FVec Ideal S32x8x2048 .f32 :=
  mulf Z (Host.divf (broadcastInDim S32x8x2048 ![] bcast_S_S32x8x2048 (constant S_ .f32 0x3F800000#32))
    (addf (broadcastInDim S32x8x2048 ![] bcast_S_S32x8x2048 (constant S_ .f32 0x3F800000#32)) (Host.exp (Host.negf Z))))

/-- The root of the mean square of what a token reads in a head, inverted. -/
def scale (O : FVec Ideal S32x8x4x512 .f32) : FVec Ideal S32x8x4x512 .f32 :=
  broadcastInDim S32x8x4x512 ![0, 1, 2, 3] bcast_S32x8x4x1_S32x8x4x512_0_1_2_3
    (Host.rsqrt (addf (Host.divf
        (broadcastInDim S32x8x4x1 ![0, 1, 2] bcast_S32x8x4_S32x8x4x1_0_1_2
          (Host.reduceAdd (mulf O O) (constant S_ .f32 0#32) reducesTo_S32x8x4x512_S32x8x4_d3 h_S_))
        (broadcastInDim S32x8x4x1 ![] bcast_S_S32x8x4x1 (constant S_ .f32 0x44000000#32)))
      (broadcastInDim S32x8x4x1 ![] bcast_S_S32x8x4x1 (constant S_ .f32 0x358637BD#32))))

/-- The outputs: what every token reads, normalised, with the gains and the output gates. -/
def results (O : FVec Ideal S32x8x4x512 .f32) (U : FVec Ideal S1x2048 .f32) (Z : FVec Ideal S32x8x2048 .f32) :
    FVec Ideal S256x2048 .f32 :=
  shapeCast S256x2048 (mulf (shapeCast S32x8x2048 (mulf (mulf O (scale O))
        (broadcastInDim S32x8x4x512 ![0, 1, 2, 3] bcast_S1x1x4x512_S32x8x4x512_0_1_2_3
          (broadcastInDim S1x1x4x512 ![2, 3] bcast_S4x512_S1x1x4x512_2_3
            (shapeCast S4x512 (shapeCast S2048 U shapeCasts_S1x2048_S2048) shapeCasts_S2048_S4x512))))
      shapeCasts_S32x8x4x512_S32x8x2048) (silu Z)) shapeCasts_S32x8x2048_S256x2048

/-! The arrays at an index. -/

variable (P : FVec Ideal S8448x6144 .f32) (Ga : FVec Ideal S8448x128 .f32) (W : FVec Ideal S1x16x1024 .f32)
  (B : FVec Ideal S1x1024 .f32) (U : FVec Ideal S1x2048 .f32) (St : FVec Ideal S1x32x4x256x512 .f32)

/-- An index moved to an equal place. -/
theorem at_place {X : FVec Ideal S8448x6144 .f32} {i i' : Fin 8448} {j j' : Fin 6144} (hi : i.val = i'.val) (hj : j.val = j'.val) :
    X (ix2 i j) = X (ix2 i' j') := by rw [Fin.ext hi, Fin.ext hj]

/-- The queries at an index. -/
theorem queries_at (t : Fin 32) (r : Fin 8) (h : Fin 4) (x : Fin 256) :
    queries P (ix4 t r h x) = qs (fun i j => P (ix2 i j)) t h r x := by
  pointwise [queries, rows, ofBits_sixteenth]
  refine congrArg (fun z : EReal => z * ((1 / 16 : ℝ) : EReal)) (at_place ?_ ?_)
  · show 8192 + (t.val * 8 + r.val) = 8192 + (8 * t.val + r.val); omega
  · show h.val * 256 + x.val = 256 * h.val + x.val; omega

/-- The keys at an index. -/
theorem keys_at (t : Fin 32) (r : Fin 8) (h : Fin 4) (x : Fin 256) :
    keys P (ix4 t r h x) = ks (fun i j => P (ix2 i j)) t h r x := by
  pointwise [keys, rows]
  refine at_place ?_ ?_
  · show 8192 + (t.val * 8 + r.val) = 8192 + (8 * t.val + r.val); omega
  · show 1024 + (h.val * 256 + x.val) = 1024 + (256 * h.val + x.val); omega

/-- The values at an index. -/
theorem values_at (t : Fin 32) (r : Fin 8) (h : Fin 4) (x : Fin 512) :
    values P (ix4 t r h x) = vs (fun i j => P (ix2 i j)) t h r x := by
  pointwise [values, rows]
  refine at_place ?_ ?_
  · show 8192 + (t.val * 8 + r.val) = 8192 + (8 * t.val + r.val); omega
  · show 2048 + (h.val * 512 + x.val) = 2048 + (512 * h.val + x.val); omega

/-- The output gates at an index. -/
theorem outgates_at (t : Fin 32) (r : Fin 8) (h : Fin 4) (x : Fin 512) :
    outgates P (ix3 t r (vchan h x)) = zs (fun i j => P (ix2 i j)) t h r x := by
  pointwise [outgates, rows]
  refine at_place ?_ ?_
  · show 8192 + (t.val * 8 + r.val) = 8192 + (8 * t.val + r.val); omega
  · rfl

/-- The reference's softplus, twice negated, is the logarithm of the sigmoid. -/
theorem softplus_at (X : FVec Ideal S32x8x1024 .f32) (t : Fin 32) (r : Fin 8) (l : Fin 1024) :
    Host.negf (softplus (Host.negf X)) (ix3 t r l) = logSig (X (ix3 t r l)) := by
  pointwise [softplus, zeros]
  rw [if_neg (by simp)]
  have h := neg_softplus (X (ix3 t r l))
  simp only [sub_zero] at h
  exact h

/-- The forget gates at an index. -/
theorem logGates_at (t : Fin 32) (r : Fin 8) (h : Fin 4) (x : Fin 256) :
    logGates Ga W B (ix4 t r h x) = gate ((∑ j : Fin 16, (Ga (ix2 (row t r) ⟨j.val, by omega⟩) * W (ix3 0 j (chan h x)) : EReal))
      + B (ix2 0 (chan h x))) := by
  pointwise [logGates]
  rw [show Ideal.ofBits FTy.f32 1098907648#32 = ((16 : ℝ) : EReal) by simp [Ideal.ofBits, Ideal.ieee, -EReal.coe_mul]; norm_num]
  refine (div_sixteen _).trans ?_
  refine congrArg (fun z : EReal => z * ((1 / 16 : ℝ) : EReal)) ((softplus_at (logits Ga W B) t r _).trans (congrArg logSig ?_))
  have hc : (⟨h.val * 256 + x.val, by omega⟩ : Fin 1024) = chan h x := Fin.ext (by show h.val * 256 + x.val = 256 * h.val + x.val; omega)
  have hr : ∀ hh, (⟨8192 + (t.val * 8 + r.val), hh⟩ : Fin 8448) = row t r := fun hh => Fin.ext (by
    show 8192 + (t.val * 8 + r.val) = 8192 + (8 * t.val + r.val); omega)
  rw [hc]
  pointwise [logits]
  simp only [hr]

/-- The sum of a list, as it is folded up. -/
theorem foldl_sum {n : ℕ} (g : Fin n → EReal) : (List.finRange n).foldl (fun r i => r + g i) 0 = ∑ i, g i := by
  rw [← List.foldl_map (f := g) (g := fun r y => r + y), ← List.sum_eq_foldl, ← List.ofFn_eq_map, List.sum_ofFn]

/-- The windows of the running sum are the columns of eight rows. -/
def windowRows : Fin 8 ≃ (⟨4, ![1, 8, 1, 1]⟩ : Shape).Idx where
  toFun s := ix4 (0 : Fin 1) s (0 : Fin 1) (0 : Fin 1)
  invFun w := w 1
  left_inv _ := rfl
  right_inv w := by
    funext i
    match i with
    | 0 => exact Subsingleton.elim (α := Fin 1) _ _
    | 1 => rfl
    | 2 => exact Subsingleton.elim (α := Fin 1) _ _
    | 3 => exact Subsingleton.elim (α := Fin 1) _ _

/-- The running sum along the tokens is the sum over the tokens up to and including this one. -/
theorem sums_at (X : FVec Ideal S32x8x4x256 .f32) (a : Fin 32) (r : Fin 8) (h : Fin 4) (x : Fin 256) :
    sums X (ix4 a r h x) = cum (fun s => X (ix4 a s h x)) r := by
  have hi : (broadcastInDim S_ ![] bcast_S_S_ (constant S_ .f32 0#32) : FVec Ideal S_ .f32) (Shape.Idx.first h_S_) = (0 : EReal) := by
    pointwise
  show Host.reduceWindow (u := (⟨0, ![]⟩ : Shape)) (fun p q : EReal => p + q) ![1, 8, 1, 1] ![1, 1, 1, 1] ![0, 7, 0, 0] ![0, 0, 0, 0] X
    (fun _ => (broadcastInDim S_ ![] bcast_S_S_ (constant S_ .f32 0#32) : FVec Ideal S_ .f32) (Shape.Idx.first h_S_))
    reduceWindows_S32x8x4x256_S32x8x4x256_w1s1p0_0_w8s1p7_0_w1s1p0_0_w1s1p0_0 (by decide) (ix4 a r h x) = _
  unfold Host.reduceWindow
  dsimp only
  rw [hi, foldl_sum]
  rw [← Equiv.sum_comp (windowRows.trans (⟨4, ![1, 8, 1, 1]⟩ : Shape).rowMajor)]
  unfold cum
  refine (Finset.sum_congr rfl (fun w _ =>
    (?_ : _ = if 7 ≤ r.val + w.val then X (ix4 a ⟨(r.val + w.val - 7) % 8, Nat.mod_lt _ (by norm_num)⟩ h x) else 0))).trans ?_
  · simp only [Equiv.trans_apply, Equiv.symm_apply_apply]
    have hr := r.isLt
    have hw := w.isLt
    by_cases h7 : 7 ≤ r.val + w.val
    · rw [if_pos h7, dif_pos (by
        intro i
        match i with
        | 0 => exact ⟨Nat.zero_le _, by show a.val * 1 + 0 - 0 < 32; omega⟩
        | 1 => exact ⟨by show 7 ≤ r.val * 1 + w.val; omega, by show r.val * 1 + w.val - 7 < 8; omega⟩
        | 2 => exact ⟨Nat.zero_le _, by show h.val * 1 + 0 - 0 < 4; omega⟩
        | 3 => exact ⟨Nat.zero_le _, by show x.val * 1 + 0 - 0 < 256; omega⟩)]
      congr 1
      funext i
      apply Fin.ext
      match i with
      | 0 => show a.val * 1 + 0 - 0 = a.val; omega
      | 1 => show r.val * 1 + w.val - 7 = (r.val + w.val - 7) % 8; omega
      | 2 => show h.val * 1 + 0 - 0 = h.val; omega
      | 3 => show x.val * 1 + 0 - 0 = x.val; omega
    · rw [if_neg h7, dif_neg]
      intro hin
      have := (hin 1).1
      have h1 : 7 ≤ r.val * 1 + w.val := this
      omega
  rw [← Finset.sum_filter, ← Finset.sum_filter]
  refine Finset.sum_nbij' (fun w => ⟨(r.val + w.val - 7) % 8, Nat.mod_lt _ (by norm_num)⟩)
    (fun s => ⟨(s.val + 7 - r.val) % 8, Nat.mod_lt _ (by norm_num)⟩) ?_ ?_ ?_ ?_ ?_
  · intro w hw
    have := (Finset.mem_filter.mp hw).2
    refine Finset.mem_filter.mpr ⟨Finset.mem_univ _, Fin.le_def.mpr ?_⟩
    show (r.val + w.val - 7) % 8 ≤ r.val
    omega
  · intro s hs
    have := Fin.le_def.mp (Finset.mem_filter.mp hs).2
    refine Finset.mem_filter.mpr ⟨Finset.mem_univ _, ?_⟩
    show 7 ≤ r.val + (s.val + 7 - r.val) % 8
    omega
  · intro w hw
    have := (Finset.mem_filter.mp hw).2
    apply Fin.ext
    show ((r.val + w.val - 7) % 8 + 7 - r.val) % 8 = w.val
    omega
  · intro s hs
    have := Fin.le_def.mp (Finset.mem_filter.mp hs).2
    apply Fin.ext
    show (r.val + (s.val + 7 - r.val) % 8 - 7) % 8 = s.val
    omega
  · intro w hw
    rfl

/-- The accumulated gates at an index. -/
theorem gates_at (t : Fin 32) (r : Fin 8) (h : Fin 4) (x : Fin 256) :
    sums (logGates Ga W B) (ix4 t r h x)
      = gs (fun i j => Ga (ix2 i j)) (fun i j => W (ix3 0 i j)) (fun j => B (ix2 0 j)) t h r x := by
  rw [sums_at]
  simp only [logGates_at]
  rfl

/-- A token may read the tokens not after it. -/
theorem causal_at (t s : Fin 8) : causal (ix2 t s) = if s ≤ t then 1#1 else 0#1 := by
  have h : ∀ t s : Fin 8, (Scalar.select (IntOp.cmpi CmpIPredicate.sge (IntOp.addi (BitVec.ofNat 32 t.val) 0#32) (BitVec.ofNat 32 s.val)) 1#1 0#1 : BitVec 1)
      = if s ≤ t then 1#1 else 0#1 := by decide +kernel
  pointwise [causal]
  exact h t s

/-- The weights at an index. -/
theorem weights_at (Q K G : FVec Ideal S32x8x4x256 .f32) (t : Fin 32) (r s : Fin 8) (h : Fin 4) :
    weights Q K G (ix4 t r s h) = weight (fun r x => Q (ix4 t r h x)) (fun r x => K (ix4 t r h x)) (fun r x => G (ix4 t r h x)) r s := by
  pointwise [weights, early, late, causal_at]
  unfold weight
  refine Finset.sum_congr rfl fun x _ => ?_
  by_cases hs : s ≤ r
  · simp only [if_pos hs]; rfl
  · simp only [if_neg hs]
    have hb : Ideal.ofBits FTy.f32 4286578688#32 = (⊥ : EReal) := by simp [Ideal.ofBits, Ideal.ieee]
    rw [hb]; rfl

/-- What a token reads, at an index. -/
theorem reads_at (Q K G : FVec Ideal S32x8x4x256 .f32) (V : FVec Ideal S32x8x4x512 .f32) (S : FVec Ideal S32x4x256x512 .f32)
    (t : Fin 32) (r : Fin 8) (h : Fin 4) (e : Fin 512) :
    reads Q K G V S (ix4 t r h e) = mix (fun r x => Q (ix4 t r h x)) (fun r x => K (ix4 t r h x)) (fun r x => G (ix4 t r h x))
      (fun r e => V (ix4 t r h e)) (fun x e => S (ix4 t h x e)) r e := by
  pointwise [reads, weights_at]
  unfold mix
  refine congrArg₂ (fun a b : EReal => a + b) (Finset.sum_congr rfl fun x _ => mul_comm _ _) (Finset.sum_congr rfl fun s _ => mul_comm _ _)

/-- The states left, at an index. -/
theorem leaves_at (K G : FVec Ideal S32x8x4x256 .f32) (V : FVec Ideal S32x8x4x512 .f32) (S : FVec Ideal S32x4x256x512 .f32)
    (t : Fin 32) (h : Fin 4) (x : Fin 256) (e : Fin 512) :
    leaves K G V S (ix4 t h x e) = after (fun r x => K (ix4 t r h x)) (fun r x => G (ix4 t r h x))
      (fun r e => V (ix4 t r h e)) (fun x e => S (ix4 t h x e)) x e := by
  pointwise [leaves, ends]
  unfold after
  refine congrArg₂ (fun a b : EReal => a + b) (mul_comm _ _) (Finset.sum_congr rfl fun s _ => mul_comm _ _)

/-- The outputs at an index. -/
theorem results_at (O : FVec Ideal S32x8x4x512 .f32) (Z : FVec Ideal S32x8x2048 .f32) (t : Fin 32) (r : Fin 8) (h : Fin 4)
    (e : Fin 512) :
    results O U Z (ix2 ⟨8 * t.val + r.val, by omega⟩ (vchan h e))
      = normed (fun e => O (ix4 t r h e)) (fun e => U (ix2 0 (vchan h e))) (fun e => Z (ix3 t r (vchan h e))) e := by
  pointwise [results, scale, silu]
  have hh : ∀ hl, (⟨(vchan h e).val / 512, hl⟩ : Fin 4) = h := fun hl => Fin.ext (by show (512 * h.val + e.val) / 512 = h.val; omega)
  have he : ∀ hl, (⟨(vchan h e).val % 512, hl⟩ : Fin 512) = e := fun hl => Fin.ext (by show (512 * h.val + e.val) % 512 = e.val; omega)
  simp only [hh, he]
  rfl

/-- The states at the beginning, at an index. -/
theorem begins_at (t : Fin 32) (h : Fin 4) (x : Fin 256) (e : Fin 512) : begins St (ix4 t h x e) = St (ix5 0 t h x e) := by
  pointwise [begins]

/-- The outputs as a whole are, at a token and a head's channel, what the kernel's are. -/
theorem outputs_at (t : Fin 32) (r : Fin 8) (h : Fin 4) (e : Fin 512) :
    results (reads (queries P) (keys P) (sums (logGates Ga W B)) (values P) (begins St)) U (outgates P)
        (ix2 ⟨8 * t.val + r.val, by omega⟩ (vchan h e))
      = outAt (fun i j => P (ix2 i j)) (fun i j => Ga (ix2 i j)) (fun i j => W (ix3 0 i j)) (fun j => B (ix2 0 j))
          (fun j => U (ix2 0 j)) (fun t h x e => St (ix5 0 t h x e)) t r h e := by
  rw [results_at]
  simp only [reads_at, queries_at, keys_at, gates_at, values_at, outgates_at, begins_at]
  rfl

/-- The states left as a whole are, at an index, what the kernel's are. -/
theorem states_at (t : Fin 32) (h : Fin 4) (x : Fin 256) (e : Fin 512) :
    leaves (keys P) (sums (logGates Ga W B)) (values P) (begins St) (ix4 t h x e)
      = stateAt (fun i j => P (ix2 i j)) (fun i j => Ga (ix2 i j)) (fun i j => W (ix3 0 i j)) (fun j => B (ix2 0 j))
          (fun t h x e => St (ix5 0 t h x e)) t h x e := by
  rw [leaves_at]
  simp only [keys_at, gates_at, values_at, begins_at]
  rfl

end Cert.Samp.Ref

end
-- ==== Proof.SampResults.lean ====
module

public import proofs.«01_k».proof.Defs
public import proofs.«01_k».proof.Proof.SampArrays
public import proofs.«01_k».proof.Proof.SampRef
public import proofs.«01_k».proof.Proof.Gen.Reference5Ideal
public import Idealize.ShloMosaic.Lib.Quiescent
public import Idealize.ShloMosaic.Lib.Claim

/-! # The sample's linear attention computes what its reference does -/

@[expose] public section

set_option maxRecDepth 200000

noncomputable section

open Idealize.ShloMosaic Idealize.ShloMosaic.TcCoe Idealize.ShloMosaic.Tactic Idealize.SL.Sem
open scoped BigOperators

namespace Cert.Samp

section Tail

open Cert.Kernel5Ideal Cert.Kernel5Ideal.Gen

variable (m : (ℓ : Loc nD τ sig) → Buf (Elt Ideal) ℓ) (c : Dev nD)

/-- The array of states with its leading axis of one. -/
theorem states_left : Pipeline.afterTail₀ cfgs (dats m) 0 (V0 m) [hostOps1] c main_v8
    = (broadcastInDim S1x32x4x256x512 ![1, 2, 3, 4] bcast_S32x4x256x512_S1x32x4x256x512_1_2_3_4
        (states m c : FVec Ideal S32x4x256x512 .f32) : FVec Ideal S1x32x4x256x512 .f32) := by
  have h : Pipeline.withArrays spec0 c (V0 m c) (fun w => (dats m 0 c).arrAt w cfg0.N) (Proc.devRef .tc main_v7_1)
      = states m c :=
    (Pipeline.withArrays_arr_shared spec0 c (V0 m c) (fun w => (dats m 0 c).arrAt w cfg0.N)
      (Pipeline.Dat.arrAt_sharedIn (dats m 0 c) sharedIn0 (V0 m c) (fun w => A_eq m c w) cfg0.N) 10).trans (final10 m c)
  show StableHlo.after ([hostOps1] : List _).flatten _ (Proc.devRef .tc main_v8) = _
  simp only [List.flatten_cons, List.flatten_nil, List.append_nil]
  refine Eq.trans ?_ (congrArg _ h)
  after_reads_simp

end Tail

set_option maxHeartbeats 1600000 in
/-- The reference ends with its arguments unchanged and every counter at zero. -/
theorem reference_frame : Cert.quiescent_Reference5Ideal (hReference5Ideal := Cert.Reference5Ideal.Gen.facts) := by
  intro m g _
  hlo_run
  · exact fun _ => ⟨trivial, trivial, trivial, trivial, trivial, trivial⟩
  · exact sem_eq_zero_of_no_sems rfl _

set_option maxHeartbeats 1600000 in
/-- The kernel and the reference leave the same two arrays. -/
theorem same_results : Cert.algebraic_Kernel5Ideal_Reference5Ideal (hKernel5Ideal := Cert.Kernel5Ideal.Gen.facts)
    (hReference5Ideal := Cert.Reference5Ideal.Gen.facts) := by
  intro m g m' g' _ hargs
  refine ⟨fun c => outs m c, fun c => Pipeline.afterTail₀ Cert.Kernel5Ideal.cfgs (Cert.Kernel5Ideal.Gen.dats m) 0
    (Cert.Kernel5Ideal.Gen.V0 m) [Cert.Kernel5Ideal.Gen.hostOps1] c Cert.Kernel5Ideal.main_v8, ?_, ?_⟩
  · refine (θ_run _ _ _).mono (fun r h c => ?_) (θ_run_and (Cert.Kernel5Ideal.Gen.run_main m g) (Cert.Kernel5Ideal.Gen.unchanged m g))
    exact ⟨((h.1 c).1 9).trans (final9 m c),
      (h.1 c).2 Cert.Kernel5Ideal.main_v8 (Pipeline.mem_restRefs_of Cert.Kernel5Ideal.main_v8 (by decide) (by decide)), h.2 c⟩
  · have h0 (c : Dev Cert.Kernel5Ideal.nD) : argP m c = fun i j => (m' ((c.tc : Thread Cert.Reference5Ideal.nD Cert.Reference5Ideal.τ).loc Cert.Reference5Ideal.main_arg0)) (ix2 i j) :=
      funext fun i => funext fun j => (congrFun (hargs c).1 _).symm
    have h1 (c : Dev Cert.Kernel5Ideal.nD) : argGa m c = fun i j => (m' ((c.tc : Thread Cert.Reference5Ideal.nD Cert.Reference5Ideal.τ).loc Cert.Reference5Ideal.main_arg1)) (ix2 i j) :=
      funext fun i => funext fun j => (congrFun (hargs c).2.1 _).symm
    have h2 (c : Dev Cert.Kernel5Ideal.nD) : argW m c = fun i j => (m' ((c.tc : Thread Cert.Reference5Ideal.nD Cert.Reference5Ideal.τ).loc Cert.Reference5Ideal.main_arg2)) (ix3 0 i j) :=
      funext fun i => funext fun j => (congrFun (hargs c).2.2.1 _).symm
    have h3 (c : Dev Cert.Kernel5Ideal.nD) : argB m c = fun j => (m' ((c.tc : Thread Cert.Reference5Ideal.nD Cert.Reference5Ideal.τ).loc Cert.Reference5Ideal.main_arg3)) (ix2 0 j) :=
      funext fun j => (congrFun (hargs c).2.2.2.1 _).symm
    have h4 (c : Dev Cert.Kernel5Ideal.nD) : argU m c = fun j => (m' ((c.tc : Thread Cert.Reference5Ideal.nD Cert.Reference5Ideal.τ).loc Cert.Reference5Ideal.main_arg4)) (ix2 0 j) :=
      funext fun j => (congrFun (hargs c).2.2.2.2.1 _).symm
    have h5 (c : Dev Cert.Kernel5Ideal.nD) : argS m c = fun t h x e => (m' ((c.tc : Thread Cert.Reference5Ideal.nD Cert.Reference5Ideal.τ).loc Cert.Reference5Ideal.main_arg5)) (ix5 0 t h x e) :=
      funext fun t => funext fun h => funext fun x => funext fun e => (congrFun (hargs c).2.2.2.2.2 _).symm
    have hout (c : Dev Cert.Kernel5Ideal.nD) : Ref.results (Ref.reads (Ref.queries (m' ((c.tc : Thread Cert.Reference5Ideal.nD Cert.Reference5Ideal.τ).loc Cert.Reference5Ideal.main_arg0))) (Ref.keys (m' ((c.tc : Thread Cert.Reference5Ideal.nD Cert.Reference5Ideal.τ).loc Cert.Reference5Ideal.main_arg0)))
          (Ref.sums (Ref.logGates (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)))) (Ref.values (m' ((c.tc : Thread Cert.Reference5Ideal.nD Cert.Reference5Ideal.τ).loc Cert.Reference5Ideal.main_arg0))) (Ref.begins (m' ((c.tc : Thread Cert.Reference5Ideal.nD Cert.Reference5Ideal.τ).loc Cert.Reference5Ideal.main_arg5)))) (m' ((c.tc : Thread Cert.Reference5Ideal.nD Cert.Reference5Ideal.τ).loc Cert.Reference5Ideal.main_arg4)) (Ref.outgates (m' ((c.tc : Thread Cert.Reference5Ideal.nD Cert.Reference5Ideal.τ).loc Cert.Reference5Ideal.main_arg0)))
        = outs m c := by
      funext y
      obtain ⟨i, j, rfl⟩ : ∃ (i : Fin 256) (j : Fin 2048), y = ix2 i j := ⟨y 0, y 1, eq_ix2 y⟩
      obtain ⟨h, e, rfl⟩ := vchan_surj j
      have hi : i = ⟨8 * (⟨i.val / 8, by omega⟩ : Fin 32).val + (⟨i.val % 8, by omega⟩ : Fin 8).val, by
        show 8 * (i.val / 8) + i.val % 8 < 256; omega⟩ := Fin.ext (by show i.val = 8 * (i.val / 8) + i.val % 8; omega)
      rw [hi, outs_at m c _ _ h e _ rfl, h0, h1, h2, h3, h4, h5]
      exact Ref.outputs_at _ _ _ _ _ _ _ _ h e
    have hst (c : Dev Cert.Kernel5Ideal.nD) : Ref.leaves (Ref.keys (m' ((c.tc : Thread Cert.Reference5Ideal.nD Cert.Reference5Ideal.τ).loc Cert.Reference5Ideal.main_arg0))) (Ref.sums (Ref.logGates (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)))) (Ref.values (m' ((c.tc : Thread Cert.Reference5Ideal.nD Cert.Reference5Ideal.τ).loc Cert.Reference5Ideal.main_arg0))) (Ref.begins (m' ((c.tc : Thread Cert.Reference5Ideal.nD Cert.Reference5Ideal.τ).loc Cert.Reference5Ideal.main_arg5)))
        = states m c := by
      funext y
      obtain ⟨t, h, x, e, rfl⟩ : ∃ (t : Fin 32) (h : Fin 4) (x : Fin 256) (e : Fin 512), y = ix4 t h x e :=
        ⟨y 0, y 1, y 2, y 3, eq_ix4 y⟩
      refine (Ref.states_at _ _ _ _ _ t h x e).trans ?_
      show _ = stateAt (argP m c) (argGa m c) (argW m c) (argB m c) (argS m c) t h x e
      rw [h0, h1, h2, h3, h5]
    hlo_run
    · refine Eq.trans ?_ (hout _)
      rfl
    · rw [states_left, ← hst]
      rfl

end Cert.Samp

end
-- ==== Proof.ActTiles.lean ====
module

public import proofs.«01_k».proof.Proof.Gen.Kernel6Ideal.Frame
public import Idealize.ShloMosaic.Lib.Pipeline.ValueKit
public import Idealize.ShloMosaic.Lib.Pipeline.ReadBack

/-! # One step of the experts' activations

A step works on 1024 experts and 768 tokens. It multiplies the experts' weights with the tokens' activations, and then
goes through the products in tiles of 128 experts by 128 tokens. In a tile all experts share their first factor's row:
expert `128 g + j` has the first factor of row `g` and the second of row `j`. -/

@[expose] public section

set_option maxRecDepth 16384

noncomputable section

namespace Cert.Act

open Idealize.ShloMosaic Idealize.ShloMosaic.TcCoe Idealize.ShloMosaic.Tactic Idealize.SL.Sem
open Cert.Kernel6Ideal Cert.Kernel6Ideal.Gen
open scoped BigOperators

/-- A product of two factors, kept where it passes the threshold. -/
def kept (a b th : EReal) : EReal := if a * b > th then a * b else 0

/-- Twice the smooth gate of `x`, times `x`. -/
def swell (x : EReal) : EReal :=
  x * ((Ideal.ofBits FTy.f32 0x3F800000#32 : EReal) + (FloatOps.tanh (F := Ideal) (φ := FTy.f32)
    ((Ideal.ofBits FTy.f32 0x3F4C422A#32 : EReal) * (x + (Ideal.ofBits FTy.f32 0x3D372713#32 : EReal) * (x * x * x))) : EReal))

/-- A row of 128 tokens, repeated over 128 experts. -/
def over (v : FVec Ideal S1x128 .f32) : FVec Ideal S128x128 .f32 :=
  concatenate S128x128 0 [⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩, ⟨S8x128, (broadcastTo S8x128 (shapeCast S1x128 v shapeCasts_S1x128_S1x128) broadcasts_S1x128_S8x128)⟩]
    concatenates_S8x128_S8x128_S8x128_S8x128_S8x128_S8x128_S8x128_S8x128_S8x128_S8x128_S8x128_S8x128_S8x128_S8x128_S8x128_S8x128_S128x128_d0

/-- Each expert has the row. -/
theorem over_at (v : FVec Ideal S1x128 .f32) (j l : Fin 128) : over v (ix2 j l) = v (ix2 0 l) := by
  pointwise [over]
  simp only [dite_eq_ite, ite_self]

/-- One head's product, added to the weights so far where it passes the head's threshold. -/
def add (w : FVec Ideal S128x128 .f32) (a : FVec Ideal S1x1x1x128 .f32) (th : FVec Ideal S1x1x128 .f32) (b : FVec Ideal S1x1x128x128 .f32) :
    FVec Ideal S128x128 .f32 :=
  addf w (select (cmpf .ogt (mulf (shapeCast S128x128 b shapeCasts_S1x1x128x128_S128x128) (over (shapeCast S1x128 a shapeCasts_S1x1x1x128_S1x128)))
      (over (shapeCast S1x128 th shapeCasts_S1x1x128_S1x128)))
    (mulf (shapeCast S128x128 b shapeCasts_S1x1x128x128_S128x128) (over (shapeCast S1x128 a shapeCasts_S1x1x1x128_S1x128)))
    (broadcast S128x128 (Scalar.ofBits .f32 0x00000000#32)))

/-- The same at an expert and a token. -/
theorem add_at (w : FVec Ideal S128x128 .f32) (a : FVec Ideal S1x1x1x128 .f32) (th : FVec Ideal S1x1x128 .f32) (b : FVec Ideal S1x1x128x128 .f32)
    (j l : Fin 128) :
    add w a th b (ix2 j l) = w (ix2 j l) + kept (b (ix4 0 0 j l)) (a (ix4 0 0 0 l)) (th (ix3 0 0 l)) := by
  pointwise [add, over_at, kept]

/-- The activations of a tile from its products and its weights. -/
def finish (x w : FVec Ideal S128x128 .f32) : FVec Ideal S128x128 .bf16 :=
  truncf .bf16 (mulf (mulf x (addf (broadcast S128x128 (Scalar.ofBits .f32 0x3F800000#32)) (tanh
    (mulf (broadcast S128x128 (Scalar.ofBits .f32 0x3F4C422A#32)) (addf x (mulf (broadcast S128x128 (Scalar.ofBits .f32 0x3D372713#32)) (mulf (mulf x x) x))))))) w)
    bitsLt_bf16_f32

/-- The same at an expert and a token. -/
theorem finish_at (x w : FVec Ideal S128x128 .f32) (j l : Fin 128) :
    finish x w (ix2 j l) = swell (x (ix2 j l)) * w (ix2 j l) := by
  pointwise [finish, swell]

/-- A row of first factors: head `h`, token block `b`, row `g`. -/
def first (x3 : FVec Ideal S8x6x8x128 .f32) (h : Fin 8) (b g : ℕ) (hb : b < 6) (hg : g < 8) : FVec Ideal S1x1x1x128 .f32 :=
  View.ld (Val := Elt Ideal) (S := S8x6x8x128) (e' := .f32) x3 (Rect.unit (s := S8x6x8x128) ![h.val, b, g, 0] S1x1x1x128.size
    (fun | 0 => h.isLt | 1 => hb | 2 => hg | 3 => Nat.le_refl 128))

/-- A row of thresholds: token block `b`, head `h`. -/
def floor (x4 : FVec Ideal S6x8x128 .f32) (h : Fin 8) (b : ℕ) (hb : b < 6) : FVec Ideal S1x1x128 .f32 :=
  View.ld (Val := Elt Ideal) (S := S6x8x128) (e' := .f32) x4 (Rect.unit (s := S6x8x128) ![b, h.val, 0] S1x1x128.size
    (fun | 0 => hb | 1 => h.isLt | 2 => Nat.le_refl 128))

/-- A square of second factors: head `h`, token block `b`. -/
def second (x2 : FVec Ideal S8x6x128x128 .f32) (h : Fin 8) (b : ℕ) (hb : b < 6) : FVec Ideal S1x1x128x128 .f32 :=
  View.ld (Val := Elt Ideal) (S := S8x6x128x128) (e' := .f32) x2 (Rect.unit (s := S8x6x128x128) ![h.val, b, 0, 0] S1x1x128x128.size
    (fun | 0 => h.isLt | 1 => hb | 2 => Nat.le_refl 128 | 3 => Nat.le_refl 128))

/-- The row at a token. -/
theorem first_at (x3 : FVec Ideal S8x6x8x128 .f32) (h : Fin 8) (b g : ℕ) (hb : b < 6) (hg : g < 8) (l : Fin 128) :
    first x3 h b g hb hg (ix4 0 0 0 l) = x3 (ix4 h ⟨b, hb⟩ ⟨g, hg⟩ l) :=
  View.ld_unit_apply_of (Val := Elt Ideal) (S := S8x6x8x128) (e := .f32) _ _ _ _ _ _
    (fun | 0 => rfl | 1 => rfl | 2 => rfl | 3 => (Nat.zero_add _).symm)

/-- The thresholds at a token. -/
theorem floor_at (x4 : FVec Ideal S6x8x128 .f32) (h : Fin 8) (b : ℕ) (hb : b < 6) (l : Fin 128) :
    floor x4 h b hb (ix3 0 0 l) = x4 (ix3 ⟨b, hb⟩ h l) :=
  View.ld_unit_apply_of (Val := Elt Ideal) (S := S6x8x128) (e := .f32) _ _ _ _ _ _
    (fun | 0 => rfl | 1 => rfl | 2 => (Nat.zero_add _).symm)

/-- The square at an expert's row and a token. -/
theorem second_at (x2 : FVec Ideal S8x6x128x128 .f32) (h : Fin 8) (b : ℕ) (hb : b < 6) (j l : Fin 128) :
    second x2 h b hb (ix4 0 0 j l) = x2 (ix4 h ⟨b, hb⟩ j l) :=
  View.ld_unit_apply_of (Val := Elt Ideal) (S := S8x6x128x128) (e := .f32) _ _ _ _ _ _
    (fun | 0 => rfl | 1 => rfl | 2 => (Nat.zero_add _).symm | 3 => (Nat.zero_add _).symm)

/-- The weights of a tile: the eight heads' kept products. -/
def weights (x2 : FVec Ideal S8x6x128x128 .f32) (x3 : FVec Ideal S8x6x8x128 .f32) (x4 : FVec Ideal S6x8x128 .f32) (b g : ℕ)
    (hb : b < 6) (hg : g < 8) : FVec Ideal S128x128 .f32 :=
  add (add (add (add (add (add (add (add (broadcast S128x128 (Scalar.ofBits .f32 0x00000000#32))
      (first x3 0 b g hb hg) (floor x4 0 b hb) (second x2 0 b hb))
      (first x3 1 b g hb hg) (floor x4 1 b hb) (second x2 1 b hb))
      (first x3 2 b g hb hg) (floor x4 2 b hb) (second x2 2 b hb))
      (first x3 3 b g hb hg) (floor x4 3 b hb) (second x2 3 b hb))
      (first x3 4 b g hb hg) (floor x4 4 b hb) (second x2 4 b hb))
      (first x3 5 b g hb hg) (floor x4 5 b hb) (second x2 5 b hb))
      (first x3 6 b g hb hg) (floor x4 6 b hb) (second x2 6 b hb))
      (first x3 7 b g hb hg) (floor x4 7 b hb) (second x2 7 b hb)

/-- The same at an expert and a token. -/
theorem weights_at (x2 : FVec Ideal S8x6x128x128 .f32) (x3 : FVec Ideal S8x6x8x128 .f32) (x4 : FVec Ideal S6x8x128 .f32) (b g : ℕ)
    (hb : b < 6) (hg : g < 8) (j l : Fin 128) :
    weights x2 x3 x4 b g hb hg (ix2 j l)
      = ∑ h : Fin 8, kept (x2 (ix4 h ⟨b, hb⟩ j l)) (x3 (ix4 h ⟨b, hb⟩ ⟨g, hg⟩ l)) (x4 (ix3 ⟨b, hb⟩ h l)) := by
  unfold weights
  simp only [add_at, first_at, floor_at, second_at, Fin.sum_univ_eight]
  have h0 : (broadcast S128x128 (Scalar.ofBits (F := Ideal) .f32 0x00000000#32) : FVec Ideal S128x128 .f32) (ix2 j l) = (0 : EReal) := by
    pointwise
  rw [h0, zero_add]

/-- A tile of activations. -/
def tile (p : FVec Ideal S1024x768 .f32) (x2 : FVec Ideal S8x6x128x128 .f32) (x3 : FVec Ideal S8x6x8x128 .f32) (x4 : FVec Ideal S6x8x128 .f32)
    (b g : ℕ) (hb : b < 6) (hg : g < 8) (hs : S1024x768.Slices ![128 * g, 128 * b] S128x128) : FVec Ideal S128x128 .bf16 :=
  finish (extractStridedSlice S128x128 ![128 * g, 128 * b] p hs) (weights x2 x3 x4 b g hb hg)

/-- The products of a step. -/
theorem products_at (x0 : FVec Ideal S768x4096 .bf16) (x1 : FVec Ideal S1024x4096 .bf16) (x2 : FVec Ideal S8x6x128x128 .f32)
    (x3 : FVec Ideal S8x6x8x128 .f32) (x4 : FVec Ideal S6x8x128 .f32) (i : Fin 1024) (l : Fin 768) :
    (k0_pay530 x0 x1 x2 x3 x4 : FVec Ideal S1024x768 .f32) (ix2 i l) = ∑ k : Fin 4096, x1 (ix2 i k) * x0 (ix2 l k) := by
  pointwise [k0_pay530, k0_pay2]

/-- What a step leaves at an expert and a token of its block. -/
def stepAt (x0 : FVec Ideal S768x4096 .bf16) (x1 : FVec Ideal S1024x4096 .bf16) (x2 : FVec Ideal S8x6x128x128 .f32)
    (x3 : FVec Ideal S8x6x8x128 .f32) (x4 : FVec Ideal S6x8x128 .f32) (i : Fin 1024) (n : Fin 768) : EReal :=
  swell (∑ k : Fin 4096, x1 (ix2 i k) * x0 (ix2 n k))
    * ∑ h : Fin 8, kept (x2 (ix4 h ⟨n.val / 128, by omega⟩ ⟨i.val % 128, by omega⟩ ⟨n.val % 128, by omega⟩))
        (x3 (ix4 h ⟨n.val / 128, by omega⟩ ⟨i.val / 128, by omega⟩ ⟨n.val % 128, by omega⟩))
        (x4 (ix3 ⟨n.val / 128, by omega⟩ h ⟨n.val % 128, by omega⟩))

/-- A tile holds its part of what the step leaves. -/
theorem tile_piece (x0 : FVec Ideal S768x4096 .bf16) (x1 : FVec Ideal S1024x4096 .bf16) (x2 : FVec Ideal S8x6x128x128 .f32)
    (x3 : FVec Ideal S8x6x8x128 .f32) (x4 : FVec Ideal S6x8x128 .f32) (b g : ℕ) (hb : b < 6) (hg : g < 8)
    (hs : S1024x768.Slices ![128 * g, 128 * b] S128x128)
    (inb : ∀ a, (![128 * g, 128 * b] : Fin 2 → ℕ) a + S128x128.size a ≤ S1024x768.size a)
    (x : (Rect.unit (s := S1024x768) ![128 * g, 128 * b] S128x128.size inb).shape.Idx) :
    tile (k0_pay530 x0 x1 x2 x3 x4) x2 x3 x4 b g hb hg hs x
      = (fun y : S1024x768.Idx => stepAt x0 x1 x2 x3 x4 (y 0) (y 1))
          ((Rect.unit (s := S1024x768) ![128 * g, 128 * b] S128x128.size inb).emb x) := by
  obtain ⟨j, l, rfl⟩ : ∃ (j l : Fin 128), x = ix2 j l := ⟨x 0, x 1, eq_ix2 x⟩
  have hj := j.isLt
  have hl := l.isLt
  have h0 : ((Rect.unit (s := S1024x768) ![128 * g, 128 * b] S128x128.size inb).emb (ix2 j l)) 0 = (⟨128 * g + j.val, by omega⟩ : Fin 1024) :=
    Fin.ext (Rect.idx_unit_val (s := S1024x768) ![128 * g, 128 * b] S128x128.size inb (ix2 j l) 0)
  have h1 : ((Rect.unit (s := S1024x768) ![128 * g, 128 * b] S128x128.size inb).emb (ix2 j l)) 1 = (⟨128 * b + l.val, by omega⟩ : Fin 768) :=
    Fin.ext (Rect.idx_unit_val (s := S1024x768) ![128 * g, 128 * b] S128x128.size inb (ix2 j l) 1)
  have hp : (extractStridedSlice S128x128 ![128 * g, 128 * b] (k0_pay530 (F := Ideal) x0 x1 x2 x3 x4) hs : FVec Ideal S128x128 .f32) (ix2 j l)
      = ∑ k : Fin 4096, x1 (ix2 (⟨128 * g + j.val, by omega⟩ : Fin 1024) k) * x0 (ix2 (⟨128 * b + l.val, by omega⟩ : Fin 768) k) := by
    rw [← products_at x0 x1 x2 x3 x4]
    generalize (k0_pay530 x0 x1 x2 x3 x4 : FVec Ideal S1024x768 .f32) = p
    pointwise
  show finish _ _ (ix2 j l) = stepAt x0 x1 x2 x3 x4 _ _
  rw [h0, h1, finish_at, weights_at, hp, stepAt]
  have e1 : (128 * g + j.val) / 128 = g := by omega
  have e2 : (128 * g + j.val) % 128 = j.val := by omega
  have e3 : (128 * b + l.val) / 128 = b := by omega
  have e4 : (128 * b + l.val) % 128 = l.val := by omega
  simp only [e1, e2, e3, e4]

set_option maxHeartbeats 4000000 in
/-- What a step leaves in its block: forty-eight tiles. -/
theorem step_at (x0 : FVec Ideal S768x4096 .bf16) (x1 : FVec Ideal S1024x4096 .bf16) (x2 : FVec Ideal S8x6x128x128 .f32)
    (x3 : FVec Ideal S8x6x8x128 .f32) (x4 : FVec Ideal S6x8x128 .f32) (y : S1024x768.Idx) :
    (out0_5 (F := Ideal) x0 x1 x2 x3 x4 : FVec Ideal S1024x768 .bf16) y = stepAt x0 x1 x2 x3 x4 (y 0) (y 1) := by
  unfold out0_5
  refine View.canon_append_of_piecesOf (Val := Elt Ideal) (s := S1024x768) (e := .bf16)
    (fun y : S1024x768.Idx => stepAt x0 x1 x2 x3 x4 (y 0) (y 1)) [] [_, _, _, _, _, _, _, _, _, _, _, _, _, _, _, _, _, _, _, _, _, _, _, _, _, _, _, _, _, _, _, _, _, _, _, _, _, _, _, _, _, _, _, _, _, _, _, _]
    ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ y ?_
  · exact tile_piece x0 x1 x2 x3 x4 5 7 (by decide) (by decide) slices_S1024x768_o896_640_S128x128 inb_S1024x768_S128x128_896_640 x
  · exact tile_piece x0 x1 x2 x3 x4 4 7 (by decide) (by decide) slices_S1024x768_o896_512_S128x128 inb_S1024x768_S128x128_896_512 x
  · exact tile_piece x0 x1 x2 x3 x4 3 7 (by decide) (by decide) slices_S1024x768_o896_384_S128x128 inb_S1024x768_S128x128_896_384 x
  · exact tile_piece x0 x1 x2 x3 x4 2 7 (by decide) (by decide) slices_S1024x768_o896_256_S128x128 inb_S1024x768_S128x128_896_256 x
  · exact tile_piece x0 x1 x2 x3 x4 1 7 (by decide) (by decide) slices_S1024x768_o896_128_S128x128 inb_S1024x768_S128x128_896_128 x
  · exact tile_piece x0 x1 x2 x3 x4 0 7 (by decide) (by decide) slices_S1024x768_o896_0_S128x128 inb_S1024x768_S128x128_896_0 x
  · exact tile_piece x0 x1 x2 x3 x4 5 6 (by decide) (by decide) slices_S1024x768_o768_640_S128x128 inb_S1024x768_S128x128_768_640 x
  · exact tile_piece x0 x1 x2 x3 x4 4 6 (by decide) (by decide) slices_S1024x768_o768_512_S128x128 inb_S1024x768_S128x128_768_512 x
  · exact tile_piece x0 x1 x2 x3 x4 3 6 (by decide) (by decide) slices_S1024x768_o768_384_S128x128 inb_S1024x768_S128x128_768_384 x
  · exact tile_piece x0 x1 x2 x3 x4 2 6 (by decide) (by decide) slices_S1024x768_o768_256_S128x128 inb_S1024x768_S128x128_768_256 x
  · exact tile_piece x0 x1 x2 x3 x4 1 6 (by decide) (by decide) slices_S1024x768_o768_128_S128x128 inb_S1024x768_S128x128_768_128 x
  · exact tile_piece x0 x1 x2 x3 x4 0 6 (by decide) (by decide) slices_S1024x768_o768_0_S128x128 inb_S1024x768_S128x128_768_0 x
  · exact tile_piece x0 x1 x2 x3 x4 5 5 (by decide) (by decide) slices_S1024x768_o640_640_S128x128 inb_S1024x768_S128x128_640_640 x
  · exact tile_piece x0 x1 x2 x3 x4 4 5 (by decide) (by decide) slices_S1024x768_o640_512_S128x128 inb_S1024x768_S128x128_640_512 x
  · exact tile_piece x0 x1 x2 x3 x4 3 5 (by decide) (by decide) slices_S1024x768_o640_384_S128x128 inb_S1024x768_S128x128_640_384 x
  · exact tile_piece x0 x1 x2 x3 x4 2 5 (by decide) (by decide) slices_S1024x768_o640_256_S128x128 inb_S1024x768_S128x128_640_256 x
  · exact tile_piece x0 x1 x2 x3 x4 1 5 (by decide) (by decide) slices_S1024x768_o640_128_S128x128 inb_S1024x768_S128x128_640_128 x
  · exact tile_piece x0 x1 x2 x3 x4 0 5 (by decide) (by decide) slices_S1024x768_o640_0_S128x128 inb_S1024x768_S128x128_640_0 x
  · exact tile_piece x0 x1 x2 x3 x4 5 4 (by decide) (by decide) slices_S1024x768_o512_640_S128x128 inb_S1024x768_S128x128_512_640 x
  · exact tile_piece x0 x1 x2 x3 x4 4 4 (by decide) (by decide) slices_S1024x768_o512_512_S128x128 inb_S1024x768_S128x128_512_512 x
  · exact tile_piece x0 x1 x2 x3 x4 3 4 (by decide) (by decide) slices_S1024x768_o512_384_S128x128 inb_S1024x768_S128x128_512_384 x
  · exact tile_piece x0 x1 x2 x3 x4 2 4 (by decide) (by decide) slices_S1024x768_o512_256_S128x128 inb_S1024x768_S128x128_512_256 x
  · exact tile_piece x0 x1 x2 x3 x4 1 4 (by decide) (by decide) slices_S1024x768_o512_128_S128x128 inb_S1024x768_S128x128_512_128 x
  · exact tile_piece x0 x1 x2 x3 x4 0 4 (by decide) (by decide) slices_S1024x768_o512_0_S128x128 inb_S1024x768_S128x128_512_0 x
  · exact tile_piece x0 x1 x2 x3 x4 5 3 (by decide) (by decide) slices_S1024x768_o384_640_S128x128 inb_S1024x768_S128x128_384_640 x
  · exact tile_piece x0 x1 x2 x3 x4 4 3 (by decide) (by decide) slices_S1024x768_o384_512_S128x128 inb_S1024x768_S128x128_384_512 x
  · exact tile_piece x0 x1 x2 x3 x4 3 3 (by decide) (by decide) slices_S1024x768_o384_384_S128x128 inb_S1024x768_S128x128_384_384 x
  · exact tile_piece x0 x1 x2 x3 x4 2 3 (by decide) (by decide) slices_S1024x768_o384_256_S128x128 inb_S1024x768_S128x128_384_256 x
  · exact tile_piece x0 x1 x2 x3 x4 1 3 (by decide) (by decide) slices_S1024x768_o384_128_S128x128 inb_S1024x768_S128x128_384_128 x
  · exact tile_piece x0 x1 x2 x3 x4 0 3 (by decide) (by decide) slices_S1024x768_o384_0_S128x128 inb_S1024x768_S128x128_384_0 x
  · exact tile_piece x0 x1 x2 x3 x4 5 2 (by decide) (by decide) slices_S1024x768_o256_640_S128x128 inb_S1024x768_S128x128_256_640 x
  · exact tile_piece x0 x1 x2 x3 x4 4 2 (by decide) (by decide) slices_S1024x768_o256_512_S128x128 inb_S1024x768_S128x128_256_512 x
  · exact tile_piece x0 x1 x2 x3 x4 3 2 (by decide) (by decide) slices_S1024x768_o256_384_S128x128 inb_S1024x768_S128x128_256_384 x
  · exact tile_piece x0 x1 x2 x3 x4 2 2 (by decide) (by decide) slices_S1024x768_o256_256_S128x128 inb_S1024x768_S128x128_256_256 x
  · exact tile_piece x0 x1 x2 x3 x4 1 2 (by decide) (by decide) slices_S1024x768_o256_128_S128x128 inb_S1024x768_S128x128_256_128 x
  · exact tile_piece x0 x1 x2 x3 x4 0 2 (by decide) (by decide) slices_S1024x768_o256_0_S128x128 inb_S1024x768_S128x128_256_0 x
  · exact tile_piece x0 x1 x2 x3 x4 5 1 (by decide) (by decide) slices_S1024x768_o128_640_S128x128 inb_S1024x768_S128x128_128_640 x
  · exact tile_piece x0 x1 x2 x3 x4 4 1 (by decide) (by decide) slices_S1024x768_o128_512_S128x128 inb_S1024x768_S128x128_128_512 x
  · exact tile_piece x0 x1 x2 x3 x4 3 1 (by decide) (by decide) slices_S1024x768_o128_384_S128x128 inb_S1024x768_S128x128_128_384 x
  · exact tile_piece x0 x1 x2 x3 x4 2 1 (by decide) (by decide) slices_S1024x768_o128_256_S128x128 inb_S1024x768_S128x128_128_256 x
  · exact tile_piece x0 x1 x2 x3 x4 1 1 (by decide) (by decide) slices_S1024x768_o128_128_S128x128 inb_S1024x768_S128x128_128_128 x
  · exact tile_piece x0 x1 x2 x3 x4 0 1 (by decide) (by decide) slices_S1024x768_o128_0_S128x128 inb_S1024x768_S128x128_128_0 x
  · exact tile_piece x0 x1 x2 x3 x4 5 0 (by decide) (by decide) slices_S1024x768_o0_640_S128x128 inb_S1024x768_S128x128_0_640 x
  · exact tile_piece x0 x1 x2 x3 x4 4 0 (by decide) (by decide) slices_S1024x768_o0_512_S128x128 inb_S1024x768_S128x128_0_512 x
  · exact tile_piece x0 x1 x2 x3 x4 3 0 (by decide) (by decide) slices_S1024x768_o0_384_S128x128 inb_S1024x768_S128x128_0_384 x
  · exact tile_piece x0 x1 x2 x3 x4 2 0 (by decide) (by decide) slices_S1024x768_o0_256_S128x128 inb_S1024x768_S128x128_0_256 x
  · exact tile_piece x0 x1 x2 x3 x4 1 0 (by decide) (by decide) slices_S1024x768_o0_128_S128x128 inb_S1024x768_S128x128_0_128 x
  · exact tile_piece x0 x1 x2 x3 x4 0 0 (by decide) (by decide) slices_S1024x768_o0_0_S128x128 inb_S1024x768_S128x128_0_0 x
  · exact cover0_5 _ _ _ _ _ _ _ _ _ _ _ _ _ _ _ _ _ _ _ _ _ _ _ _ _ _ _ _ _ _ _ _ _ _ _ _ _ _ _ _ _ _ _ _ _ _ _ _ y

end Cert.Act

end
-- ==== Proof.ActArrays.lean ====
module

public import proofs.«01_k».proof.Proof.ActTiles
public import Idealize.ShloMosaic.Lib.Claim
public import Idealize.ShloMosaic.Lib.StableHlo.ReadAt

/-! # The array of the experts' activations, from the call's arguments

`X` holds the tokens' activations, `U` the experts' weights, `A` and `B` the two factors of the experts' gates, `T` the
thresholds. Expert `e` has the first factor of row `e / 128` and the second of row `e % 128`; tokens come in blocks of 128. -/

@[expose] public section

set_option maxRecDepth 16384

noncomputable section

namespace Cert.Act

open Idealize.ShloMosaic Idealize.ShloMosaic.TcCoe Idealize.ShloMosaic.Tactic Idealize.SL.Sem
open Cert.Kernel6Ideal Cert.Kernel6Ideal.Gen
open scoped BigOperators

/-- The sum of the eight heads' kept products for expert `e` and token `n`. -/
def gateAt (A B : Fin 8 → Fin 66 → Fin 128 → Fin 128 → EReal) (T : Fin 66 → Fin 8 → Fin 128 → EReal) (e : Fin 16384)
    (n : Fin 8448) : EReal :=
  ∑ h : Fin 8, kept (B h ⟨n.val / 128, by omega⟩ ⟨e.val % 128, by omega⟩ ⟨n.val % 128, by omega⟩)
    (A h ⟨n.val / 128, by omega⟩ ⟨e.val / 128, by omega⟩ ⟨n.val % 128, by omega⟩)
    (T ⟨n.val / 128, by omega⟩ h ⟨n.val % 128, by omega⟩)

/-- The activation of expert `e` for token `n`. -/
def actAt (X : Fin 8448 → Fin 4096 → EReal) (U : Fin 16384 → Fin 4096 → EReal) (A B : Fin 8 → Fin 66 → Fin 128 → Fin 128 → EReal)
    (T : Fin 66 → Fin 8 → Fin 128 → EReal) (e : Fin 16384) (n : Fin 8448) : EReal :=
  swell (∑ k : Fin 4096, U e k * X n k) * gateAt A B T e n

/-- Where each window's block lies. -/
theorem places : ∀ t : Fin cfg0.N, win0_0.index t = ![t.val / 16, 0] ∧ win0_1.index t = ![t.val % 16, 0]
    ∧ win0_2.index t = ![0, t.val / 16, 0, 0] ∧ win0_3.index t = ![0, t.val / 16, t.val % 16, 0]
    ∧ win0_4.index t = ![t.val / 16, 0, 0] ∧ win0_5.index t = ![t.val % 16, t.val / 16] :=
  (by decide +kernel : ∀ t : Fin grid0.N, win0_0.index t = ![t.val / 16, 0] ∧ win0_1.index t = ![t.val % 16, 0]
    ∧ win0_2.index t = ![0, t.val / 16, 0, 0] ∧ win0_3.index t = ![0, t.val / 16, t.val % 16, 0]
    ∧ win0_4.index t = ![t.val / 16, 0, 0] ∧ win0_5.index t = ![t.val % 16, t.val / 16])

variable (m : (ℓ : Loc nD τ sig) → Buf (Elt Ideal) ℓ) (c : Dev nD)

/-- The tokens' activations, by coordinates. -/
def argX (i : Fin 8448) (j : Fin 4096) : EReal := m ((c : Thread nD τ).loc main_arg0) (ix2 i j)
/-- The experts' weights, by coordinates. -/
def argU (i : Fin 16384) (j : Fin 4096) : EReal := m ((c : Thread nD τ).loc main_arg1) (ix3 0 i j)
/-- The first factors, by coordinates. -/
def argA (h : Fin 8) (b : Fin 66) (i l : Fin 128) : EReal := m ((c : Thread nD τ).loc main_arg2) (ix4 h b i l)
/-- The second factors, by coordinates. -/
def argB (h : Fin 8) (b : Fin 66) (i l : Fin 128) : EReal := m ((c : Thread nD τ).loc main_arg3) (ix4 h b i l)
/-- The thresholds, by coordinates. -/
def argT (b : Fin 66) (h : Fin 8) (l : Fin 128) : EReal := m ((c : Thread nD τ).loc main_arg4) (ix3 b h l)

/-- The grid has 176 points. -/
theorem point_lt (t : Fin cfg0.N) : t.val < 176 := lt_of_lt_of_eq t.isLt (show cfg0.N = 176 from N_0)

/-- The block of tokens. -/
theorem block0 (t : Fin cfg0.N) (r : Fin 768) (k : Fin 4096) :
    (iblk m c 0 t : FVec Ideal S768x4096 .bf16) (ix2 r k) = argX m c ⟨768 * (t.val / 16) + r.val, by have := point_lt t; omega⟩ k := by
  have ht := point_lt t
  unfold argX
  blk_ext [iblk, V, places t]

/-- The block of experts. -/
theorem block1 (t : Fin cfg0.N) (r : Fin 1024) (k : Fin 4096) :
    (iblk m c 1 t : FVec Ideal S1024x4096 .bf16) (ix2 r k) = argU m c ⟨1024 * (t.val % 16) + r.val, by omega⟩ k := by
  have e : (win0_1.blk t).view.emb (ix2 r k) = (ix2 (⟨1024 * (t.val % 16) + r.val, by omega⟩ : Fin 16384) k : S16384x4096.Idx) := by
    blk_ext [places t]
  blk_simp [iblk, places t]
  rw [e]
  unfold argU V
  after_reads_at

/-- The block of second factors. -/
theorem block2 (t : Fin cfg0.N) (h : Fin 8) (b : Fin 6) (j l : Fin 128) :
    (iblk m c 2 t : FVec Ideal S8x6x128x128 .f32) (ix4 h b j l)
      = argB m c h ⟨6 * (t.val / 16) + b.val, by have := point_lt t; omega⟩ j l := by
  have ht := point_lt t
  unfold argB
  blk_ext [iblk, V, places t]

/-- The block of first factors. -/
theorem block3 (t : Fin cfg0.N) (h : Fin 8) (b : Fin 6) (g : Fin 8) (l : Fin 128) :
    (iblk m c 3 t : FVec Ideal S8x6x8x128 .f32) (ix4 h b g l)
      = argA m c h ⟨6 * (t.val / 16) + b.val, by have := point_lt t; omega⟩ ⟨8 * (t.val % 16) + g.val, by omega⟩ l := by
  have ht := point_lt t
  unfold argA
  blk_ext [iblk, V, places t]

/-- The block of thresholds. -/
theorem block4 (t : Fin cfg0.N) (b : Fin 6) (h : Fin 8) (l : Fin 128) :
    (iblk m c 4 t : FVec Ideal S6x8x128 .f32) (ix3 b h l)
      = argT m c ⟨6 * (t.val / 16) + b.val, by have := point_lt t; omega⟩ h l := by
  have ht := point_lt t
  unfold argT
  blk_ext [iblk, V, places t]

/-- What a step leaves at an expert and a token, from the arguments. -/
theorem step_point (t : Fin cfg0.N) (i : Fin 1024) (n : Fin 768) :
    (out0_5 (F := Ideal) (iblk m c 0 t) (iblk m c 1 t) (iblk m c 2 t) (iblk m c 3 t) (iblk m c 4 t) : FVec Ideal S1024x768 .bf16) (ix2 i n)
      = actAt (argX m c) (argU m c) (argA m c) (argB m c) (argT m c) ⟨1024 * (t.val % 16) + i.val, by omega⟩
          ⟨768 * (t.val / 16) + n.val, by have := point_lt t; omega⟩ := by
  refine (step_at _ _ _ _ _ _).trans ?_
  show stepAt _ _ _ _ _ i n = _
  unfold stepAt actAt gateAt
  simp only [block0, block1, block2, block3, block4]
  have ht := point_lt t
  have h1 : (1024 * (t.val % 16) + i.val) / 128 = 8 * (t.val % 16) + i.val / 128 := by omega
  have h2 : (1024 * (t.val % 16) + i.val) % 128 = i.val % 128 := by omega
  have h3 : (768 * (t.val / 16) + n.val) / 128 = 6 * (t.val / 16) + n.val / 128 := by omega
  have h4 : (768 * (t.val / 16) + n.val) % 128 = n.val % 128 := by omega
  simp only [h1, h2, h3, h4]

/-- The array the kernel leaves. -/
def acts (i : S16384x8448.Idx) : EReal :=
  actAt (argX m c) (argU m c) (argA m c) (argB m c) (argT m c) (i 0) (i 1)

/-- The activations, whole. -/
theorem final5 : (dats m 0 c).arrAt 5 cfg0.N = acts m c := by
  refine (dats m 0 c).arrAt_eq_of_covers 5 _ (by decide +kernel) fun t _ y => ?_
  obtain ⟨i, n, rfl⟩ : ∃ (i : Fin 1024) (n : Fin 768), y = ix2 i n := ⟨y 0, y 1, eq_ix2 y⟩
  have ht := point_lt t
  have e : ((cfg0.win 5).blk t).view.emb (ix2 i n)
      = (ix2 (⟨1024 * (t.val % 16) + i.val, by omega⟩ : Fin 16384) (⟨768 * (t.val / 16) + n.val, by omega⟩ : Fin 8448) : S16384x8448.Idx) := by
    blk_ext [places t]
  rw [e]
  blk_simp
  rw [after0_5]
  exact step_point m c t i n

end Cert.Act

end
-- ==== Proof.ActRef.lean ====
module

public import proofs.«01_k».proof.Proof.ActArrays
public import proofs.«01_k».proof.Proof.Gen.Reference6Ideal
public import Idealize.ShloMosaic.Lib.Pointwise

/-! # The reference of the experts' activations, array by array

The reference computes on whole arrays, token by token. Each array is named here as it is computed from the arguments,
and read at an index. -/

@[expose] public section

set_option maxRecDepth 16384

noncomputable section

namespace Cert.Act.Ref

open Idealize.ShloMosaic Idealize.ShloMosaic.TcCoe Idealize.ShloMosaic.Tactic
open Cert.Reference6Ideal Cert.Reference6Ideal.Gen
open scoped BigOperators

/-- Factors, token by token. -/
def byToken (A : FVec Ideal S8x66x128x128 .f32) : FVec Ideal S8448x8x128 .f32 :=
  shapeCast S8448x8x128 (transpose S66x128x8x128 [1, 3, 0, 2] A transposes_S8x66x128x128_S66x128x8x128_1_3_0_2)
    shapeCasts_S66x128x8x128_S8448x8x128

/-- The same at an index. -/
theorem byToken_at (A : FVec Ideal S8x66x128x128 .f32) (n : Fin 8448) (h : Fin 8) (i : Fin 128) :
    byToken A (ix3 n h i) = A (ix4 h ⟨n.val / 128, by omega⟩ i ⟨n.val % 128, by omega⟩) := by
  pointwise [byToken]

/-- The products of the two factors. -/
def products (A B : FVec Ideal S8x66x128x128 .f32) : FVec Ideal S8448x8x128x128 .f32 :=
  mulf (broadcastInDim S8448x8x128x128 ![0, 1, 2, 3] bcast_S8448x8x128x1_S8448x8x128x128_0_1_2_3
      (broadcastInDim S8448x8x128x1 ![0, 1, 2] bcast_S8448x8x128_S8448x8x128x1_0_1_2 (byToken A)))
    (broadcastInDim S8448x8x128x128 ![0, 1, 2, 3] bcast_S8448x8x1x128_S8448x8x128x128_0_1_2_3
      (broadcastInDim S8448x8x1x128 ![0, 1, 3] bcast_S8448x8x128_S8448x8x1x128_0_1_3 (byToken B)))

/-- The same at an index. -/
theorem products_at (A B : FVec Ideal S8x66x128x128 .f32) (n : Fin 8448) (h : Fin 8) (i j : Fin 128) :
    products A B (ix4 n h i j) = A (ix4 h ⟨n.val / 128, by omega⟩ i ⟨n.val % 128, by omega⟩)
      * B (ix4 h ⟨n.val / 128, by omega⟩ j ⟨n.val % 128, by omega⟩) := by
  pointwise [products, byToken_at]

/-- The thresholds, token by token. -/
def floors (T : FVec Ideal S66x8x128 .f32) : FVec Ideal S8448x8x128x128 .f32 :=
  broadcastInDim S8448x8x128x128 ![0, 1, 2, 3] bcast_S8448x8x1x1_S8448x8x128x128_0_1_2_3
    (broadcastInDim S8448x8x1x1 ![0, 1] bcast_S8448x8_S8448x8x1x1_0_1
      (shapeCast S8448x8 (transpose S66x128x8 [0, 2, 1] T transposes_S66x8x128_S66x128x8_0_2_1) shapeCasts_S66x128x8_S8448x8))

/-- The same at an index. -/
theorem floors_at (T : FVec Ideal S66x8x128 .f32) (n : Fin 8448) (h : Fin 8) (i j : Fin 128) :
    floors T (ix4 n h i j) = T (ix3 ⟨n.val / 128, by omega⟩ h ⟨n.val % 128, by omega⟩) := by
  pointwise [floors]

/-- The products that pass their threshold; zero elsewhere. -/
def keeps (A B : FVec Ideal S8x66x128x128 .f32) (T : FVec Ideal S66x8x128 .f32) : FVec Ideal S8448x8x128x128 .f32 :=
  select (cmpf .ogt (products A B) (floors T)) (products A B)
    (broadcastInDim S8448x8x128x128 ![] bcast_S_S8448x8x128x128 (constant S_ .f32 0x00000000#32))

/-- The same at an index. -/
theorem keeps_at (A B : FVec Ideal S8x66x128x128 .f32) (T : FVec Ideal S66x8x128 .f32) (n : Fin 8448) (h : Fin 8) (i j : Fin 128) :
    keeps A B T (ix4 n h i j) = kept (A (ix4 h ⟨n.val / 128, by omega⟩ i ⟨n.val % 128, by omega⟩))
      (B (ix4 h ⟨n.val / 128, by omega⟩ j ⟨n.val % 128, by omega⟩)) (T (ix3 ⟨n.val / 128, by omega⟩ h ⟨n.val % 128, by omega⟩)) := by
  pointwise [keeps, products_at, floors_at, kept]

/-- The gates: the heads' kept products, summed. -/
def gates (A B : FVec Ideal S8x66x128x128 .f32) (T : FVec Ideal S66x8x128 .f32) : FVec Ideal S8448x16384 .f32 :=
  shapeCast S8448x16384 (Host.reduceAdd (keeps A B T) (constant S_ .f32 0x00000000#32 : FVec Ideal S_ .f32)
    reducesTo_S8448x8x128x128_S8448x128x128_d1 h_S_) shapeCasts_S8448x128x128_S8448x16384

/-- The same at a token and an expert. -/
theorem gates_at (A B : FVec Ideal S8x66x128x128 .f32) (T : FVec Ideal S66x8x128 .f32) (n : Fin 8448) (e : Fin 16384) :
    gates A B T (ix2 n e) = gateAt (fun h b i l => A (ix4 h b i l)) (fun h b i l => B (ix4 h b i l)) (fun b h l => T (ix3 b h l)) e n := by
  have hk : ∀ a b t : EReal, kept a b t = kept b a t := fun a b t => by unfold kept; rw [mul_comm]
  have : gates A B T (ix2 n e) = ∑ h : Fin 8, keeps A B T (ix4 n h ⟨e.val / 128, by omega⟩ ⟨e.val % 128, by omega⟩) := by
    pointwise [gates]
  rw [this]
  unfold gateAt
  exact Finset.sum_congr rfl fun h _ => (keeps_at _ _ _ _ _ _ _).trans (hk _ _ _)

/-- The tokens' products with the experts' weights. -/
def pres (X : FVec Ideal S8448x4096 .bf16) (U : FVec Ideal S1x16384x4096 .f32) : FVec Ideal S8448x16384 .f32 :=
  Host.dotGeneral dot_S8448x4096_S16384x4096_S8448x16384_1_1_0_0_n_n none (extf .f32 X bitsLt_bf16_f32)
    (shapeCast S16384x4096 U shapeCasts_S1x16384x4096_S16384x4096)

/-- The same at a token and an expert. -/
theorem pres_at (X : FVec Ideal S8448x4096 .bf16) (U : FVec Ideal S1x16384x4096 .f32) (n : Fin 8448) (e : Fin 16384) :
    pres X U (ix2 n e) = ∑ k : Fin 4096, X (ix2 n k) * U (ix3 0 e k) := by
  pointwise [pres]

/-- The smooth gate's cube term. -/
def bends (P : FVec Ideal S8448x16384 .f32) : FVec Ideal S8448x16384 .f32 :=
  addf P (mulf (broadcastInDim S8448x16384 ![] bcast_S_S8448x16384 (constant S_ .f32 0x3D372713#32)) (mulf (mulf P P) P))

/-- The products through the smooth gate. -/
def gelus (P : FVec Ideal S8448x16384 .f32) : FVec Ideal S8448x16384 .f32 :=
  mulf P (mulf (broadcastInDim S8448x16384 ![] bcast_S_S8448x16384 (constant S_ .f32 0x3F000000#32))
    (addf (broadcastInDim S8448x16384 ![] bcast_S_S8448x16384 (constant S_ .f32 0x3F800000#32))
      (Host.tanh (mulf (broadcastInDim S8448x16384 ![] bcast_S_S8448x16384 (constant S_ .f32 0x3F4C422A#32)) (bends P)))))

/-- The activations: one column to a token. -/
def results (P G : FVec Ideal S8448x16384 .f32) : FVec Ideal S16384x8448 .bf16 :=
  truncf .bf16 (transpose S16384x8448 [1, 0] (mulf (gelus P) (mulf (broadcastInDim S8448x16384 ![] bcast_S_S8448x16384 (constant S_ .f32 0x40000000#32)) G))
    transposes_S8448x16384_S16384x8448_1_0) bitsLt_bf16_f32

/-- Half of twice a value. -/
theorem half_two (x y g : EReal) : x * ((Ideal.ofBits FTy.f32 0x3F000000#32 : EReal) * y) * ((Ideal.ofBits FTy.f32 0x40000000#32 : EReal) * g) = x * y * g := by
  have h : (Ideal.ofBits FTy.f32 0x3F000000#32 : EReal) * (Ideal.ofBits FTy.f32 0x40000000#32 : EReal) = 1 := by
    rw [show Ideal.ofBits FTy.f32 0x3F000000#32 = ((1 / 2 : ℝ) : EReal) by simp [Ideal.ofBits, Ideal.ieee, -EReal.coe_mul]; norm_num,
      show Ideal.ofBits FTy.f32 0x40000000#32 = ((2 : ℝ) : EReal) by simp [Ideal.ofBits, Ideal.ieee, -EReal.coe_mul]; norm_num,
      ← EReal.coe_mul]
    norm_num
  calc _ = x * y * g * ((Ideal.ofBits FTy.f32 0x3F000000#32 : EReal) * (Ideal.ofBits FTy.f32 0x40000000#32 : EReal)) := by ac_rfl
    _ = _ := by rw [h, mul_one]

/-- The activations at an expert and a token. -/
theorem results_at (P G : FVec Ideal S8448x16384 .f32) (e : Fin 16384) (n : Fin 8448) :
    results P G (ix2 e n) = swell (P (ix2 n e)) * G (ix2 n e) := by
  unfold swell
  rw [← half_two]
  pointwise [results, gelus, bends]

/-- The activations, from the arguments. -/
theorem acts_at (X : FVec Ideal S8448x4096 .bf16) (U : FVec Ideal S1x16384x4096 .f32) (A B : FVec Ideal S8x66x128x128 .f32)
    (T : FVec Ideal S66x8x128 .f32) (e : Fin 16384) (n : Fin 8448) :
    results (pres X U) (gates A B T) (ix2 e n)
      = actAt (fun n k => X (ix2 n k)) (fun e k => U (ix3 0 e k)) (fun h b i l => A (ix4 h b i l)) (fun h b i l => B (ix4 h b i l))
          (fun b h l => T (ix3 b h l)) e n := by
  rw [results_at, pres_at, gates_at, actAt]
  congr 2
  exact Finset.sum_congr rfl fun k _ => mul_comm _ _

end Cert.Act.Ref

end
-- ==== Proof.ActResults.lean ====
module

public import proofs.«01_k».proof.Defs
public import proofs.«01_k».proof.Proof.ActArrays
public import proofs.«01_k».proof.Proof.ActRef
public import proofs.«01_k».proof.Proof.Gen.Reference6Ideal
public import Idealize.ShloMosaic.Lib.Quiescent
public import Idealize.ShloMosaic.Lib.Claim

/-! # The experts' activations are what their reference computes -/

@[expose] public section

set_option maxRecDepth 200000

noncomputable section

open Idealize.ShloMosaic Idealize.ShloMosaic.TcCoe Idealize.ShloMosaic.Tactic Idealize.SL.Sem
open scoped BigOperators

namespace Cert.Act

set_option maxHeartbeats 1600000 in
/-- The reference ends with its arguments unchanged and every counter at zero. -/
theorem reference_frame : Cert.quiescent_Reference6Ideal (hReference6Ideal := Cert.Reference6Ideal.Gen.facts) := by
  intro m g _
  hlo_run
  · exact fun _ => ⟨trivial, trivial, trivial, trivial, trivial⟩
  · exact sem_eq_zero_of_no_sems rfl _

set_option maxHeartbeats 1600000 in
/-- The kernel and the reference leave the same array. -/
theorem same_results : Cert.algebraic_Kernel6Ideal_Reference6Ideal (hKernel6Ideal := Cert.Kernel6Ideal.Gen.facts)
    (hReference6Ideal := Cert.Reference6Ideal.Gen.facts) := by
  intro m g m' g' _ hargs
  refine ⟨fun c => acts m c, ?_, ?_⟩
  · refine (θ_run _ _ _).mono (fun r h c => ?_) (θ_run_and (Cert.Kernel6Ideal.Gen.run_main m g) (Cert.Kernel6Ideal.Gen.unchanged m g))
    exact ⟨((h.1 c).1 5).trans (final5 m c), h.2 c⟩
  · have h0 (c : Dev Cert.Kernel6Ideal.nD) : argX m c = fun i j => (m' ((c.tc : Thread Cert.Reference6Ideal.nD Cert.Reference6Ideal.τ).loc Cert.Reference6Ideal.main_arg0)) (ix2 i j) :=
      funext fun i => funext fun j => (congrFun (hargs c).1 _).symm
    have h1 (c : Dev Cert.Kernel6Ideal.nD) : argU m c = fun i j => (m' ((c.tc : Thread Cert.Reference6Ideal.nD Cert.Reference6Ideal.τ).loc Cert.Reference6Ideal.main_arg1)) (ix3 0 i j) :=
      funext fun i => funext fun j => (congrFun (hargs c).2.1 _).symm
    have h2 (c : Dev Cert.Kernel6Ideal.nD) : argA m c = fun h b i l => (m' ((c.tc : Thread Cert.Reference6Ideal.nD Cert.Reference6Ideal.τ).loc Cert.Reference6Ideal.main_arg2)) (ix4 h b i l) :=
      funext fun h => funext fun b => funext fun i => funext fun l => (congrFun (hargs c).2.2.1 _).symm
    have h3 (c : Dev Cert.Kernel6Ideal.nD) : argB m c = fun h b i l => (m' ((c.tc : Thread Cert.Reference6Ideal.nD Cert.Reference6Ideal.τ).loc Cert.Reference6Ideal.main_arg3)) (ix4 h b i l) :=
      funext fun h => funext fun b => funext fun i => funext fun l => (congrFun (hargs c).2.2.2.1 _).symm
    have h4 (c : Dev Cert.Kernel6Ideal.nD) : argT m c = fun b h l => (m' ((c.tc : Thread Cert.Reference6Ideal.nD Cert.Reference6Ideal.τ).loc Cert.Reference6Ideal.main_arg4)) (ix3 b h l) :=
      funext fun b => funext fun h => funext fun l => (congrFun (hargs c).2.2.2.2 _).symm
    have hout (c : Dev Cert.Kernel6Ideal.nD) : Ref.results (Ref.pres (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)))
          (Ref.gates (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)))
        = acts m c := by
      funext y
      obtain ⟨e, n, rfl⟩ : ∃ (e : Fin 16384) (n : Fin 8448), y = ix2 e n := ⟨y 0, y 1, eq_ix2 y⟩
      refine (Ref.acts_at _ _ _ _ _ e n).trans ?_
      show _ = actAt (argX m c) (argU m c) (argA m c) (argB m c) (argT m c) e n
      rw [h0, h1, h2, h3, h4]
    hlo_run
    refine Eq.trans ?_ (hout _)
    rfl

end Cert.Act

end
-- ==== Proof.RefTrip.lean ====
module

public import proofs.«01_k».proof.Proof.Spec
public import proofs.«01_k».proof.Proof.Gen.ReferenceIdeal.Run
public import Idealize.ShloMosaic.Lib.Claim
public import Idealize.ShloMosaic.Lib.DynamicIndex
public import Idealize.ShloMosaic.Lib.Pointwise
public import Idealize.ShloMosaic.Lib.StableHlo.ReadAt

/-! # One trip of the reference's loop: a chunk's running sums, outputs and new states -/

@[expose] public section

set_option maxRecDepth 16384

noncomputable section

namespace Cert.Gla.Ref

open Idealize.ShloMosaic Idealize.ShloMosaic.TcCoe Idealize.ShloMosaic.Tactic
open Cert.ReferenceIdeal Cert.ReferenceIdeal.Gen Cert.ReferenceIdeal.Value
open scoped BigOperators

/-- The counter at the `k`-th trip, read as a number. -/
theorem counter_toInt (k : ℕ) (hk : k < 32) : (Scf.iv 0#32 1#32 k).toInt = (k : Int) := by
  rw [show Scf.iv 0#32 1#32 k = BitVec.ofNat 32 k from by simp [Scf.iv]]
  exact toInt_ofNat_of_lt (by omega)

/-- A chunk of a 256-wide array is the array at the chunk's number. -/
theorem chunk256_at (X : FVec Ideal S32x4x64x4x256 .f32) (start : Fin 5 → Int) (k : Fin 32)
    (hs : ∀ i, start i = ((![k.val, 0, 0, 0, 0] : Fin 5 → ℕ) i : Int)) (a : Fin 4) (r : Fin 64) (h : Fin 4) (x : Fin 256) :
    shapeCast S4x64x4x256 (Host.dynamicSlice S1x4x64x4x256 X start sliceFits_S32x4x64x4x256_S1x4x64x4x256)
      shapeCasts_S1x4x64x4x256_S4x64x4x256 (ix4 a r h x) = X (ix5 k a r h x) := by
  rw [Host.dynamicSlice_eq_extractStridedSlice _ X start ![k.val, 0, 0, 0, 0] _ (by
    refine ⟨rfl, fun i => ?_⟩
    match i with
    | 0 => exact k.isLt
    | 1 => exact Nat.le_refl 4
    | 2 => exact Nat.le_refl 64
    | 3 => exact Nat.le_refl 4
    | 4 => exact Nat.le_refl 256) hs]
  pointwise

/-- A chunk of a 512-wide array is the array at the chunk's number. -/
theorem chunk512_at (X : FVec Ideal S32x4x64x4x512 .f32) (start : Fin 5 → Int) (k : Fin 32)
    (hs : ∀ i, start i = ((![k.val, 0, 0, 0, 0] : Fin 5 → ℕ) i : Int)) (a : Fin 4) (r : Fin 64) (h : Fin 4) (x : Fin 512) :
    shapeCast S4x64x4x512 (Host.dynamicSlice S1x4x64x4x512 X start sliceFits_S32x4x64x4x512_S1x4x64x4x512)
      shapeCasts_S1x4x64x4x512_S4x64x4x512 (ix4 a r h x) = X (ix5 k a r h x) := by
  rw [Host.dynamicSlice_eq_extractStridedSlice _ X start ![k.val, 0, 0, 0, 0] _ (by
    refine ⟨rfl, fun i => ?_⟩
    match i with
    | 0 => exact k.isLt
    | 1 => exact Nat.le_refl 4
    | 2 => exact Nat.le_refl 64
    | 3 => exact Nat.le_refl 4
    | 4 => exact Nat.le_refl 512) hs]
  pointwise

/-- An array with a chunk replaced: the update at that chunk, the array elsewhere. -/
theorem update_at (X : FVec Ideal S32x4x64x4x512 .f32) (U : FVec Ideal S1x4x64x4x512 .f32) (start : Fin 5 → Int) (k : Fin 32)
    (hs : ∀ i, start i = ((![k.val, 0, 0, 0, 0] : Fin 5 → ℕ) i : Int)) (n : Fin 32) (a : Fin 4) (r : Fin 64) (h : Fin 4) (x : Fin 512) :
    Host.dynamicUpdateSlice X U start updateFits_S32x4x64x4x512_S1x4x64x4x512 (ix5 n a r h x)
      = if n = k then U (ix5 0 a r h x) else X (ix5 n a r h x) := by
  have h' : S32x4x64x4x512.Slices ![k.val, 0, 0, 0, 0] S1x4x64x4x512 := by
    refine ⟨rfl, fun i => ?_⟩
    match i with
    | 0 => exact k.isLt
    | 1 => exact Nat.le_refl 4
    | 2 => exact Nat.le_refl 64
    | 3 => exact Nat.le_refl 4
    | 4 => exact Nat.le_refl 512
  rw [Host.dynamicUpdateSlice_eq_updateSlice X U start _ ![k.val, 0, 0, 0, 0] (fun i => by
    have := h'.2 i; rw [hs i]; omega) h']
  by_cases hn : n = k
  · subst hn
    rw [if_pos rfl]
    unfold updateSlice
    rw [dif_pos (by
      intro i
      match i with
      | 0 => exact ⟨Nat.le_refl _, Nat.lt_succ_self _⟩
      | 1 => exact ⟨Nat.zero_le _, by simpa using a.isLt⟩
      | 2 => exact ⟨Nat.zero_le _, by simpa using r.isLt⟩
      | 3 => exact ⟨Nat.zero_le _, by simpa using h.isLt⟩
      | 4 => exact ⟨Nat.zero_le _, by simpa using x.isLt⟩)]
    congr 1
    funext i
    match i with
    | 0 => exact Fin.ext (Nat.sub_self _)
    | 1 | 2 | 3 | 4 => rfl
  · rw [if_neg hn]
    unfold updateSlice
    rw [dif_neg]
    intro hin
    have := hin 0
    have h1 : k.val ≤ n.val ∧ n.val < k.val + 1 := this
    exact hn (Fin.ext (by omega))

/-- The sum of a list, as it is folded up. -/
theorem foldl_sum {n : ℕ} (g : Fin n → EReal) : (List.finRange n).foldl (fun r i => r + g i) 0 = ∑ i, g i := by
  rw [← List.foldl_map (f := g) (g := fun r y => r + y), ← List.sum_eq_foldl, ← List.ofFn_eq_map, List.sum_ofFn]

/-- The windows of the running sum are the columns of 64 rows. -/
def windowRows : Fin 64 ≃ (⟨4, ![1, 64, 1, 1]⟩ : Shape).Idx where
  toFun s := ix4 (0 : Fin 1) s (0 : Fin 1) (0 : Fin 1)
  invFun w := w 1
  left_inv _ := rfl
  right_inv w := by
    funext i
    match i with
    | 0 => exact Subsingleton.elim (α := Fin 1) _ _
    | 1 => rfl
    | 2 => exact Subsingleton.elim (α := Fin 1) _ _
    | 3 => exact Subsingleton.elim (α := Fin 1) _ _

/-- The running sum along the rows is the sum over the rows up to and including this one. -/
theorem cumsum_at (X : FVec Ideal S4x64x4x256 .f32) (init : FVec Ideal S_ .f32) (hi : ∀ i, init i = (0 : EReal)) (a : Fin 4) (r : Fin 64) (h : Fin 4) (x : Fin 256) :
    Host.reduceWindowAdd ![1, 64, 1, 1] ![1, 1, 1, 1] ![0, 63, 0, 0] ![0, 0, 0, 0] X init
      reduceWindows_S4x64x4x256_S4x64x4x256_w1s1p0_0_w64s1p63_0_w1s1p0_0_w1s1p0_0 h_S_ (ix4 a r h x)
      = cum (fun s => X (ix4 a s h x)) r := by
  show Host.reduceWindow (u := (⟨0, ![]⟩ : Shape)) (fun p q : EReal => p + q) ![1, 64, 1, 1] ![1, 1, 1, 1] ![0, 63, 0, 0] ![0, 0, 0, 0] X
    (fun _ => init (Shape.Idx.first h_S_)) reduceWindows_S4x64x4x256_S4x64x4x256_w1s1p0_0_w64s1p63_0_w1s1p0_0_w1s1p0_0 (by decide) (ix4 a r h x) = _
  unfold Host.reduceWindow
  dsimp only
  rw [hi, foldl_sum]
  rw [← Equiv.sum_comp (windowRows.trans (⟨4, ![1, 64, 1, 1]⟩ : Shape).rowMajor)]
  unfold cum
  refine (Finset.sum_congr rfl (fun w _ =>
    (?_ : _ = if 63 ≤ r.val + w.val then X (ix4 a ⟨(r.val + w.val - 63) % 64, Nat.mod_lt _ (by norm_num)⟩ h x) else 0))).trans ?_
  · simp only [Equiv.trans_apply, Equiv.symm_apply_apply]
    have hr := r.isLt
    have hw := w.isLt
    by_cases h63 : 63 ≤ r.val + w.val
    · rw [if_pos h63, dif_pos (by
        intro i
        match i with
        | 0 => exact ⟨Nat.zero_le _, by show a.val * 1 + 0 - 0 < 4; omega⟩
        | 1 => exact ⟨by show 63 ≤ r.val * 1 + w.val; omega, by show r.val * 1 + w.val - 63 < 64; omega⟩
        | 2 => exact ⟨Nat.zero_le _, by show h.val * 1 + 0 - 0 < 4; omega⟩
        | 3 => exact ⟨Nat.zero_le _, by show x.val * 1 + 0 - 0 < 256; omega⟩)]
      congr 1
      funext i
      apply Fin.ext
      match i with
      | 0 => show a.val * 1 + 0 - 0 = a.val; omega
      | 1 => show r.val * 1 + w.val - 63 = (r.val + w.val - 63) % 64; omega
      | 2 => show h.val * 1 + 0 - 0 = h.val; omega
      | 3 => show x.val * 1 + 0 - 0 = x.val; omega
    · rw [if_neg h63, dif_neg]
      intro hin
      have := (hin 1).1
      have h1 : 63 ≤ r.val * 1 + w.val := this
      omega
  rw [← Finset.sum_filter, ← Finset.sum_filter]
  refine Finset.sum_nbij' (fun w => ⟨(r.val + w.val - 63) % 64, Nat.mod_lt _ (by norm_num)⟩)
    (fun s => ⟨(s.val + 63 - r.val) % 64, Nat.mod_lt _ (by norm_num)⟩) ?_ ?_ ?_ ?_ ?_
  · intro w hw
    have := (Finset.mem_filter.mp hw).2
    refine Finset.mem_filter.mpr ⟨Finset.mem_univ _, Fin.le_def.mpr ?_⟩
    show (r.val + w.val - 63) % 64 ≤ r.val
    omega
  · intro s hs
    have := Fin.le_def.mp (Finset.mem_filter.mp hs).2
    refine Finset.mem_filter.mpr ⟨Finset.mem_univ _, ?_⟩
    show 63 ≤ r.val + (s.val + 63 - r.val) % 64
    omega
  · intro w hw
    have := (Finset.mem_filter.mp hw).2
    apply Fin.ext
    show ((r.val + w.val - 63) % 64 + 63 - r.val) % 64 = w.val
    omega
  · intro s hs
    have := Fin.le_def.mp (Finset.mem_filter.mp hs).2
    apply Fin.ext
    show (r.val + (s.val + 63 - r.val) % 64 - 63) % 64 = s.val
    omega
  · intro w hw
    rfl

/-- The state after a chunk, from the state before it and the chunk's keys, values and running sums. -/
theorem state_step_at (S : FVec Ideal S4x4x256x512 .f32) (K G : FVec Ideal S4x64x4x256 .f32) (W : FVec Ideal S4x64x4x512 .f32)
    (L : FVec Ideal S4x4x256 .f32) (hL : ∀ a h x, L (ix3 a h x) = G (ix4 a 63 h x)) (a h : Fin 4) (x : Fin 256) (e : Fin 512) :
    (addf (mulf (broadcastInDim S4x4x256x512 ![0, 1, 2, 3] bcast_S4x4x256x1_S4x4x256x512_0_1_2_3
        (broadcastInDim S4x4x256x1 ![0, 1, 2] bcast_S4x4x256_S4x4x256x1_0_1_2 (Host.exp L))) S)
      (Host.dotGeneral dot_S4x64x4x256_S4x64x4x512_S4x4x256x512_1_1_3_3_02_02 none
        (mulf K (Host.exp (subf (broadcastInDim S4x64x4x256 ![0, 1, 2, 3] bcast_S4x1x4x256_S4x64x4x256_0_1_2_3
          (broadcastInDim S4x1x4x256 ![0, 2, 3] bcast_S4x4x256_S4x1x4x256_0_2_3 L)) G))) W) : FVec Ideal S4x4x256x512 .f32) (ix4 a h x e)
      = after (fun s x => K (ix4 a s h x)) (fun s x => G (ix4 a s h x)) (fun s e => W (ix4 a s h e)) (fun x e => S (ix4 a h x e)) x e := by
  pointwise [hL, after]
  rw [mul_comm]
  congr 1
  refine Finset.sum_congr rfl fun s _ => ?_
  rw [mul_comm]

/-- The chunk's output before the norm. -/
theorem out_step_at (S : FVec Ideal S4x4x256x512 .f32) (Q K G : FVec Ideal S4x64x4x256 .f32) (W : FVec Ideal S4x64x4x512 .f32)
    (T : IVec S64x64 1) (hT : ∀ t s : Fin 64, T (ix2 t s) = if s ≤ t then 1#1 else 0#1) (a : Fin 4) (r : Fin 64) (h : Fin 4) (e : Fin 512) :
    (addf (transpose S4x64x4x512 [0, 3, 1, 2] (Host.dotGeneral dot_S4x4x256x512_S4x64x4x256_S4x4x512x64_2_3_3_1_01_02 none S (mulf Q (Host.exp G))) transposes_S4x4x512x64_S4x64x4x512_0_3_1_2) (transpose S4x64x4x512 [0, 3, 1, 2] (Host.dotGeneral dot_S4x64x4x512_S4x64x64x4_S4x4x512x64_1_2_3_1_02_03 none W (Host.reduceAdd (mulf (mulf (broadcastInDim S4x64x64x4x256 ![0, 1, 2, 3, 4] bcast_S4x64x1x4x256_S4x64x64x4x256_0_1_2_3_4 (broadcastInDim S4x64x1x4x256 ![0, 1, 3, 4] bcast_S4x64x4x256_S4x64x1x4x256_0_1_3_4 Q)) (broadcastInDim S4x64x64x4x256 ![0, 1, 2, 3, 4] bcast_S4x1x64x4x256_S4x64x64x4x256_0_1_2_3_4 (broadcastInDim S4x1x64x4x256 ![0, 2, 3, 4] bcast_S4x64x4x256_S4x1x64x4x256_0_2_3_4 K))) (Host.exp (select (broadcastInDim S4x64x64x4x256 ![0, 1, 2, 3, 4] bcast_S1x64x64x1x1_S4x64x64x4x256_0_1_2_3_4 (broadcastInDim S1x64x64x1x1 ![1, 2] bcast_S64x64_S1x64x64x1x1_1_2 T)) (subf (broadcastInDim S4x64x64x4x256 ![0, 1, 2, 3, 4] bcast_S4x64x1x4x256_S4x64x64x4x256_0_1_2_3_4 (broadcastInDim S4x64x1x4x256 ![0, 1, 3, 4] bcast_S4x64x4x256_S4x64x1x4x256_0_1_3_4 G)) (broadcastInDim S4x64x64x4x256 ![0, 1, 2, 3, 4] bcast_S4x1x64x4x256_S4x64x64x4x256_0_1_2_3_4 (broadcastInDim S4x1x64x4x256 ![0, 2, 3, 4] bcast_S4x64x4x256_S4x1x64x4x256_0_2_3_4 G))) (broadcastInDim S4x64x64x4x256 ![] bcast_S_S4x64x64x4x256 (id (constant S_ .f32 0xFF800000#32)))))) (constant S_ .f32 0x00000000#32) reducesTo_S4x64x64x4x256_S4x64x64x4_d4 h_S_)) transposes_S4x4x512x64_S4x64x4x512_0_3_1_2)
      : FVec Ideal S4x64x4x512 .f32) (ix4 a r h e)
      = mix (fun s x => Q (ix4 a s h x)) (fun s x => K (ix4 a s h x)) (fun s x => G (ix4 a s h x)) (fun s e => W (ix4 a s h e)) (fun x e => S (ix4 a h x e)) r e := by
  pointwise [hT, mix, weight, decay]
  congr 1
  · refine Finset.sum_congr rfl fun x _ => ?_
    rw [mul_comm]
  · refine Finset.sum_congr rfl fun s _ => ?_
    rw [mul_comm]
    congr 1
    refine Finset.sum_congr rfl fun x _ => ?_
    have hb : (id (constant S_ FTy.f32 4286578688#32 : FVec Ideal S_ .f32) ix0 : EReal) = ⊥ := by
      show Ideal.ofBits .f32 4286578688#32 = ⊥
      simp [Ideal.ofBits, Ideal.ieee]
    rw [hb]
    by_cases hs : s ≤ r
    · rw [if_pos hs, if_pos hs]; simp [Scalar.select]
    · rw [if_neg hs, if_neg hs]; simp [Scalar.select]

/-! ## One trip -/

section Trip

variable (V : Valuation τ sig (Elt Ideal)) (k : Fin 32)

/-- The trip's chunk starts. -/
theorem starts (hc : V (Proc.devRef .tc main_v35_5) = fun _ => Scf.iv 0#32 1#32 k.val) (i : Fin 5) :
    (((![V (Proc.devRef .tc main_v35_5), constantI S_ 32 0#32, constantI S_ 32 0#32, constantI S_ 32 0#32, constantI S_ 32 0#32] :
      Fin 5 → (⟨S_, .i32⟩ : BufTy).Contents (Elt Ideal))) i (Shape.Idx.first h_S_)).toInt = ((![k.val, 0, 0, 0, 0] : Fin 5 → ℕ) i : Int) := by
  match i with
  | 0 => exact (congrArg BitVec.toInt (congrFun hc _)).trans (counter_toInt k.val k.isLt)
  | 1 | 2 | 3 | 4 => rfl

/-- The trip's queries are those of its chunk. -/
theorem trip_q (hc : V (Proc.devRef .tc main_v35_5) = fun _ => Scf.iv 0#32 1#32 k.val) (a : Fin 4) (r : Fin 64) (h : Fin 4) (x : Fin 256) :
    res_main_while0b_v58 V (ix4 a r h x) = V (Proc.devRef .tc main_v35_0) (ix5 k a r h x) :=
  chunk256_at (V (Proc.devRef .tc main_v35_0)) _ k (starts V k hc) a r h x

/-- The trip's keys are those of its chunk. -/
theorem trip_k (hc : V (Proc.devRef .tc main_v35_5) = fun _ => Scf.iv 0#32 1#32 k.val) (a : Fin 4) (r : Fin 64) (h : Fin 4) (x : Fin 256) :
    res_main_while0b_v59 V (ix4 a r h x) = V (Proc.devRef .tc main_v35_1) (ix5 k a r h x) :=
  chunk256_at (V (Proc.devRef .tc main_v35_1)) _ k (starts V k hc) a r h x

/-- The trip's values are those of its chunk. -/
theorem trip_v (hc : V (Proc.devRef .tc main_v35_5) = fun _ => Scf.iv 0#32 1#32 k.val) (a : Fin 4) (r : Fin 64) (h : Fin 4) (x : Fin 512) :
    res_main_while0b_v60 V (ix4 a r h x) = V (Proc.devRef .tc main_v35_2) (ix5 k a r h x) :=
  chunk512_at (V (Proc.devRef .tc main_v35_2)) _ k (starts V k hc) a r h x

/-- The trip's accumulated gates are the running sums of its chunk's gates. -/
theorem trip_g (hc : V (Proc.devRef .tc main_v35_5) = fun _ => Scf.iv 0#32 1#32 k.val) (a : Fin 4) (r : Fin 64) (h : Fin 4) (x : Fin 256) :
    res_main_while0b_v62 V (ix4 a r h x) = cum (fun s => V (Proc.devRef .tc main_v35_3) (ix5 k a s h x)) r := by
  refine (cumsum_at _ _ (fun i => ?_) a r h x).trans (congrFun (congrArg cum (funext fun s =>
    chunk256_at (V (Proc.devRef .tc main_v35_3)) _ k (starts V k hc) a s h x)) r)
  show Ideal.ofBits .f32 0#32 = 0
  simp [Ideal.ofBits, Ideal.ieee]

/-- The last token's accumulated gates. -/
theorem trip_last (a h : Fin 4) (x : Fin 256) : res_main_while0b_v85 V (ix3 a h x) = res_main_while0b_v62 V (ix4 a 63 h x) := by
  unfold res_main_while0b_v85
  generalize hG : (res_main_while0b_v62 V) = G
  change FVec Ideal S4x64x4x256 .f32 at G
  show shapeCast S4x4x256 (extractStridedSlice S4x1x4x256 ![0, 63, 0, 0] (G : FVec Ideal S4x64x4x256 .f32) slices_S4x64x4x256_S4x1x4x256_0_63_0_0) shapeCasts_S4x1x4x256_S4x4x256 (ix3 a h x) = G (ix4 a 63 h x)
  pointwise

/-- The state after one trip. -/
theorem trip_state (hc : V (Proc.devRef .tc main_v35_5) = fun _ => Scf.iv 0#32 1#32 k.val) (a h : Fin 4) (x : Fin 256) (e : Fin 512) :
    step_main_v35_6 V (ix4 a h x e)
      = after (fun s x => V (Proc.devRef .tc main_v35_1) (ix5 k a s h x)) (fun r x => cum (fun s => V (Proc.devRef .tc main_v35_3) (ix5 k a s h x)) r)
          (fun s e => V (Proc.devRef .tc main_v35_2) (ix5 k a s h e)) (fun x e => V (Proc.devRef .tc main_v35_6) (ix4 a h x e)) x e := by
  refine (state_step_at (V (Proc.devRef .tc main_v35_6)) (res_main_while0b_v59 V) (res_main_while0b_v62 V) (res_main_while0b_v60 V)
    (res_main_while0b_v85 V) (trip_last V) a h x e).trans ?_
  simp only [trip_k V k hc, trip_g V k hc, trip_v V k hc]

/-- The outputs after one trip: this trip's chunk is new, the others are kept. -/
theorem trip_out (hc : V (Proc.devRef .tc main_v35_5) = fun _ => Scf.iv 0#32 1#32 k.val)
    (hT : ∀ t s : Fin 64, V (Proc.devRef .tc main_v35_4) (ix2 t s) = if s ≤ t then 1#1 else 0#1)
    (n : Fin 32) (a : Fin 4) (r : Fin 64) (h : Fin 4) (e : Fin 512) :
    step_main_v35_7 V (ix5 n a r h e)
      = if n = k then mix (fun s x => V (Proc.devRef .tc main_v35_0) (ix5 k a s h x)) (fun s x => V (Proc.devRef .tc main_v35_1) (ix5 k a s h x))
          (fun r x => cum (fun s => V (Proc.devRef .tc main_v35_3) (ix5 k a s h x)) r) (fun s e => V (Proc.devRef .tc main_v35_2) (ix5 k a s h e))
          (fun x e => V (Proc.devRef .tc main_v35_6) (ix4 a h x e)) r e
        else V (Proc.devRef .tc main_v35_7) (ix5 n a r h e) := by
  refine (update_at (V (Proc.devRef .tc main_v35_7)) _ _ k (starts V k hc) n a r h e).trans ?_
  congr 1
  refine Eq.trans ?_ ((out_step_at (V (Proc.devRef .tc main_v35_6)) (res_main_while0b_v58 V) (res_main_while0b_v59 V) (res_main_while0b_v62 V) (res_main_while0b_v60 V)
    (V (Proc.devRef .tc main_v35_4)) hT a r h e).trans ?_)
  · generalize (addf _ _ : FVec Ideal S4x64x4x512 .f32) = Y
    pointwise
  simp only [trip_q V k hc, trip_k V k hc, trip_g V k hc, trip_v V k hc]

end Trip

end Cert.Gla.Ref

end
-- ==== Proof.RefEntry.lean ====
module

public import proofs.«01_k».proof.Proof.RefTrip

/-! # What goes into the reference's loop: its arrays in chunks, from the arguments -/

@[expose] public section

set_option maxRecDepth 16384

noncomputable section

namespace Cert.Gla.Ref

open Idealize.ShloMosaic Idealize.ShloMosaic.TcCoe Idealize.ShloMosaic.Tactic
open Cert.ReferenceIdeal Cert.ReferenceIdeal.Gen Cert.ReferenceIdeal.Value
open Idealize.ShloMosaic.StableHlo
open scoped BigOperators

/-- The arguments as functions of coordinates, from the contents of all buffers. -/
def valP (V : Valuation τ sig (Elt Ideal)) (i : Fin 8448) (j : Fin 6144) : EReal := V (Proc.devRef .tc main_arg0) (ix2 i j)

/-- The gate's low-rank inputs, by coordinates. -/
def valGa (V : Valuation τ sig (Elt Ideal)) (i : Fin 8448) (j : Fin 128) : EReal := V (Proc.devRef .tc main_arg1) (ix2 i j)

/-- The gate's second projection, by coordinates. -/
def valW (V : Valuation τ sig (Elt Ideal)) (i : Fin 16) (j : Fin 1024) : EReal := V (Proc.devRef .tc main_arg2) (ix3 0 i j)

/-- The gate's bias, by coordinates. -/
def valB (V : Valuation τ sig (Elt Ideal)) (j : Fin 1024) : EReal := V (Proc.devRef .tc main_arg3) (ix2 0 j)

/-- The gain, by coordinates. -/
def valU (V : Valuation τ sig (Elt Ideal)) (j : Fin 2048) : EReal := V (Proc.devRef .tc main_arg4) (ix2 0 j)

variable (V : Valuation τ sig (Elt Ideal))

/-- The loop begins with states of zeros. -/
theorem entry_zero_state (a h : Fin 4) (x : Fin 256) (e : Fin 512) :
    afterL preI V (Proc.devRef .tc main_v35_6) (ix4 a h x e) = (0 : EReal) := by
  simp only [afterL_cons, afterL_nil]
  after_reads_at
  rw [id]
  pointwise

/-- A comparison of two counters as 32-bit words is that of the counters. -/
theorem sge_mask (t s : Fin 64) :
    (Scalar.select (IntOp.cmpi CmpIPredicate.sge (IntOp.addi (BitVec.ofNat 32 t.val) 0#32) (BitVec.ofNat 32 s.val)) 1#1 0#1 : BitVec 1)
      = if s ≤ t then 1#1 else 0#1 := by
  have h : ∀ t s : Fin 64, (Scalar.select (IntOp.cmpi CmpIPredicate.sge (IntOp.addi (BitVec.ofNat 32 t.val) 0#32) (BitVec.ofNat 32 s.val)) 1#1 0#1 : BitVec 1)
      = if s ≤ t then 1#1 else 0#1 := by decide +kernel
  exact h t s

/-- The mask that the loop reads: a token may read the tokens not after it. -/
theorem entry_mask (t s : Fin 64) :
    afterL preI V (Proc.devRef .tc main_v35_4) (ix2 t s) = if s ≤ t then 1#1 else 0#1 := by
  simp only [afterL_cons, afterL_nil]
  after_reads_at
  rw [id]
  pointwise
  exact sge_mask t s

/-- Where a token lies in its batch row. -/
def seat (k : Fin 32) (r : Fin 64) : Fin 2048 := ⟨k.val * 64 + r.val, by omega⟩

/-- An array of 256 channels per head, cut into chunks with the chunks first, at an index. -/
theorem seat_row256 (X : FVec Ideal S4x2048x4x256 .f32) (k : Fin 32) (a : Fin 4) (r : Fin 64) (h : Fin 4) (x : Fin 256) :
    transpose S32x4x64x4x256 [1, 0, 2, 3, 4] (shapeCast S4x32x64x4x256 X shapeCasts_S4x2048x4x256_S4x32x64x4x256)
      transposes_S4x32x64x4x256_S32x4x64x4x256_1_0_2_3_4 (ix5 k a r h x) = X (ix4 a (seat k r) h x) := by
  pointwise
  rfl

/-- The same with 512 channels per head. -/
theorem seat_row512 (X : FVec Ideal S4x2048x4x512 .f32) (k : Fin 32) (a : Fin 4) (r : Fin 64) (h : Fin 4) (x : Fin 512) :
    transpose S32x4x64x4x512 [1, 0, 2, 3, 4] (shapeCast S4x32x64x4x512 X shapeCasts_S4x2048x4x512_S4x32x64x4x512)
      transposes_S4x32x64x4x512_S32x4x64x4x512_1_0_2_3_4 (ix5 k a r h x) = X (ix4 a (seat k r) h x) := by
  pointwise
  rfl

/-- Where a token of a chunk lies among the projected tokens. -/
theorem seat_val (a : Fin 4) (k : Fin 32) (r : Fin 64) : (row (32 * a.val + k.val) r).val = a.val * 2048 + (seat k r).val := by
  show (64 * (32 * a.val + k.val) + r.val) % 8448 = a.val * 2048 + (k.val * 64 + r.val)
  omega

/-! The last stretch before the loop turns the four arrays into chunks. -/

/-- The queries in chunks. -/
theorem last_q : StableHlo.after hostOps0_4 V (Proc.devRef .tc main_v35_0)
    = (transpose S32x4x64x4x256 [1, 0, 2, 3, 4] (shapeCast S4x32x64x4x256 (V (Proc.devRef .tc main_v10) : FVec Ideal S4x2048x4x256 .f32) shapeCasts_S4x2048x4x256_S4x32x64x4x256)
      transposes_S4x32x64x4x256_S32x4x64x4x256_1_0_2_3_4 : FVec Ideal S32x4x64x4x256 .f32) := by
  after_reads_simp
  rfl

/-- The keys in chunks. -/
theorem last_k : StableHlo.after hostOps0_4 V (Proc.devRef .tc main_v35_1)
    = (transpose S32x4x64x4x256 [1, 0, 2, 3, 4] (shapeCast S4x32x64x4x256 (V (Proc.devRef .tc main_v11) : FVec Ideal S4x2048x4x256 .f32) shapeCasts_S4x2048x4x256_S4x32x64x4x256)
      transposes_S4x32x64x4x256_S32x4x64x4x256_1_0_2_3_4 : FVec Ideal S32x4x64x4x256 .f32) := by
  after_reads_simp
  rfl

/-- The values in chunks. -/
theorem last_v : StableHlo.after hostOps0_4 V (Proc.devRef .tc main_v35_2)
    = (transpose S32x4x64x4x512 [1, 0, 2, 3, 4] (shapeCast S4x32x64x4x512 (V (Proc.devRef .tc main_v12) : FVec Ideal S4x2048x4x512 .f32) shapeCasts_S4x2048x4x512_S4x32x64x4x512)
      transposes_S4x32x64x4x512_S32x4x64x4x512_1_0_2_3_4 : FVec Ideal S32x4x64x4x512 .f32) := by
  after_reads_simp
  rfl

/-- The gates in chunks. -/
theorem last_g : StableHlo.after hostOps0_4 V (Proc.devRef .tc main_v35_3)
    = (transpose S32x4x64x4x256 [1, 0, 2, 3, 4] (shapeCast S4x32x64x4x256 (V (Proc.devRef .tc main_v22) : FVec Ideal S4x2048x4x256 .f32) shapeCasts_S4x2048x4x256_S4x32x64x4x256)
      transposes_S4x32x64x4x256_S32x4x64x4x256_1_0_2_3_4 : FVec Ideal S32x4x64x4x256 .f32) := by
  after_reads_simp
  rfl

/-! The first stretch takes the arrays out of the arguments. -/

/-- The queries, from the projected tokens. -/
theorem first_q (a : Fin 4) (n : Fin 2048) (h : Fin 4) (x : Fin 256) :
    StableHlo.after hostOps0 V (Proc.devRef .tc main_v10) (ix4 a n h x)
      = valP V ⟨a.val * 2048 + n.val, by omega⟩ ⟨h.val * 256 + x.val, by omega⟩ * Ideal.ofBits .f32 1031798784#32 := by
  after_reads_at
  rfl

/-- The keys, from the projected tokens. -/
theorem first_k (a : Fin 4) (n : Fin 2048) (h : Fin 4) (x : Fin 256) :
    StableHlo.after hostOps0 V (Proc.devRef .tc main_v11) (ix4 a n h x)
      = valP V ⟨a.val * 2048 + n.val, by omega⟩ ⟨1024 + (h.val * 256 + x.val), by omega⟩ := by
  after_reads_at
  rfl

/-- The values, from the projected tokens. -/
theorem first_v (a : Fin 4) (n : Fin 2048) (h : Fin 4) (x : Fin 512) :
    StableHlo.after hostOps0 V (Proc.devRef .tc main_v12) (ix4 a n h x)
      = valP V ⟨a.val * 2048 + n.val, by omega⟩ ⟨2048 + (h.val * 512 + x.val), by omega⟩ := by
  after_reads_at
  rfl

/-- The output gates, from the projected tokens. -/
theorem first_z (a : Fin 4) (n : Fin 2048) (j : Fin 2048) :
    StableHlo.after hostOps0 V (Proc.devRef .tc main_v5) (ix3 a n j)
      = valP V ⟨a.val * 2048 + n.val, by omega⟩ ⟨4096 + j.val, by omega⟩ := by
  after_reads_at
  rfl

/-- What goes into the gates: a product over the sixteen low-rank inputs, and the bias. -/
theorem logits_at (a : Fin 4) (n : Fin 2048) (j : Fin 1024) :
    StableHlo.after hostOps0 V (Proc.devRef .tc main_v18) (ix3 a n j)
      = (∑ x : Fin 16, valGa V ⟨a.val * 2048 + n.val, by omega⟩ ⟨x.val, by omega⟩ * valW V x j) + valB V j := by
  after_reads_at
  rfl

/-- The reference's log-sigmoid, through softplus, is the log-sigmoid. -/
theorem logsig_at (a : Fin 4) (n : Fin 2048) (j : Fin 1024) :
    StableHlo.after hostOps0_1 V (Proc.devRef .tc main_v19) (ix3 a n j) = logSig (V (Proc.devRef .tc main_v18) (ix3 a n j)) := by
  after_reads_at
  generalize hz : (V (Proc.devRef .tc main_v18) (ix3 a n j) : EReal) = z
  rw [if_neg (by simp)]
  have h := neg_softplus z
  simp only [sub_zero] at h
  exact h

/-- The gates are divided by sixteen. -/
theorem gates_at (a : Fin 4) (n : Fin 2048) (h : Fin 4) (x : Fin 256) :
    StableHlo.after hostOps0_2 V (Proc.devRef .tc main_v22) (ix4 a n h x)
      = (show EReal from V (Proc.devRef .tc main_v19) (ix3 a n ⟨h.val * 256 + x.val, by omega⟩)) * ((1 / 16 : ℝ) : EReal) := by
  after_reads_at
  rw [show Ideal.ofBits FTy.f32 1098907648#32 = ((16 : ℝ) : EReal) by simp [Ideal.ofBits, Ideal.ieee, -EReal.coe_mul]; norm_num]
  exact div_sixteen _

/-! The loop's entry. -/

/-- The queries the loop reads, at a token of a chunk. -/
theorem entry_q (k : Fin 32) (a : Fin 4) (r : Fin 64) (h : Fin 4) (x : Fin 256) :
    afterL preI V (Proc.devRef .tc main_v35_0) (ix5 k a r h x) = qs (valP V) (32 * a.val + k.val) h r x := by
  simp only [afterL_cons, afterL_nil]
  rw [last_q, seat_row256, after_of_writes_sub hostOps0_3 _ hostOps0_3_writes (by decide),
    after_of_writes_sub hostOps0_2 _ hostOps0_2_writes (by decide), after_of_writes_sub hostOps0_1 _ hostOps0_1_writes (by decide), first_q]
  unfold qs
  congr 2
  · exact Fin.ext (seat_val a k r).symm
  · exact Fin.ext (by show h.val * 256 + x.val = 256 * h.val + x.val; omega)

/-- The keys the loop reads. -/
theorem entry_k (k : Fin 32) (a : Fin 4) (r : Fin 64) (h : Fin 4) (x : Fin 256) :
    afterL preI V (Proc.devRef .tc main_v35_1) (ix5 k a r h x) = ks (valP V) (32 * a.val + k.val) h r x := by
  simp only [afterL_cons, afterL_nil]
  rw [last_k, seat_row256, after_of_writes_sub hostOps0_3 _ hostOps0_3_writes (by decide),
    after_of_writes_sub hostOps0_2 _ hostOps0_2_writes (by decide), after_of_writes_sub hostOps0_1 _ hostOps0_1_writes (by decide), first_k]
  unfold ks
  congr 1
  · exact Fin.ext (seat_val a k r).symm
  · exact Fin.ext (by show 1024 + (h.val * 256 + x.val) = 1024 + (256 * h.val + x.val); omega)

/-- The values the loop reads. -/
theorem entry_v (k : Fin 32) (a : Fin 4) (r : Fin 64) (h : Fin 4) (x : Fin 512) :
    afterL preI V (Proc.devRef .tc main_v35_2) (ix5 k a r h x) = vs (valP V) (32 * a.val + k.val) h r x := by
  simp only [afterL_cons, afterL_nil]
  rw [last_v, seat_row512, after_of_writes_sub hostOps0_3 _ hostOps0_3_writes (by decide),
    after_of_writes_sub hostOps0_2 _ hostOps0_2_writes (by decide), after_of_writes_sub hostOps0_1 _ hostOps0_1_writes (by decide), first_v]
  unfold vs
  congr 1
  · exact Fin.ext (seat_val a k r).symm
  · exact Fin.ext (by show 2048 + (h.val * 512 + x.val) = 2048 + (512 * h.val + x.val); omega)

/-- The gates the loop reads. -/
theorem entry_g (k : Fin 32) (a : Fin 4) (r : Fin 64) (h : Fin 4) (x : Fin 256) :
    afterL preI V (Proc.devRef .tc main_v35_3) (ix5 k a r h x)
      = gate ((∑ j : Fin 16, valGa V (row (32 * a.val + k.val) r) ⟨j.val, by omega⟩ * valW V j (chan h x)) + valB V (chan h x)) := by
  simp only [afterL_cons, afterL_nil]
  rw [last_g, seat_row256, after_of_writes_sub hostOps0_3 _ hostOps0_3_writes (by decide), gates_at, logsig_at, logits_at]
  have hr : (⟨a.val * 2048 + (seat k r).val, by omega⟩ : Fin 8448) = row (32 * a.val + k.val) r := Fin.ext (seat_val a k r).symm
  have hx : (⟨h.val * 256 + x.val, by omega⟩ : Fin 1024) = chan h x := Fin.ext (by show h.val * 256 + x.val = 256 * h.val + x.val; omega)
  rw [hr, hx]
  rfl

end Cert.Gla.Ref

end
-- ==== Proof.RefLoop.lean ====
module

public import proofs.«01_k».proof.Proof.RefEntry

/-! # The reference's loop over all chunks, and its two results -/

@[expose] public section

set_option maxRecDepth 16384

noncomputable section

namespace Cert.Gla.Ref

open Idealize.ShloMosaic Idealize.ShloMosaic.TcCoe Idealize.ShloMosaic.Tactic
open Cert.ReferenceIdeal Cert.ReferenceIdeal.Gen Cert.ReferenceIdeal.Value
open Idealize.ShloMosaic.StableHlo
open scoped BigOperators

/-- States after a chunk agree where what they are made of agrees. -/
theorem after_congr {K K' G G' : Fin 64 → Fin 256 → EReal} {W W' : Fin 64 → Fin 512 → EReal} {S S' : Fin 256 → Fin 512 → EReal}
    (hK : ∀ s x, K s x = K' s x) (hG : ∀ s x, G s x = G' s x) (hW : ∀ s e, W s e = W' s e) (hS : ∀ x e, S x e = S' x e)
    (x : Fin 256) (e : Fin 512) : after K G W S x e = after K' G' W' S' x e := by
  rw [funext₂ hK, funext₂ hG, funext₂ hW, funext₂ hS]

/-- What a token reads agrees where what it is made of agrees. -/
theorem mix_congr {Q Q' K K' G G' : Fin 64 → Fin 256 → EReal} {W W' : Fin 64 → Fin 512 → EReal} {S S' : Fin 256 → Fin 512 → EReal}
    (hQ : ∀ s x, Q s x = Q' s x) (hK : ∀ s x, K s x = K' s x) (hG : ∀ s x, G s x = G' s x) (hW : ∀ s e, W s e = W' s e)
    (hS : ∀ x e, S x e = S' x e) (r : Fin 64) (e : Fin 512) : mix Q K G W S r e = mix Q' K' G' W' S' r e := by
  rw [funext₂ hQ, funext₂ hK, funext₂ hG, funext₂ hW, funext₂ hS]

section Loop

variable (V : Valuation τ sig (Elt Ideal))

/-- What the loop carries before trip `k`, at the entry contents `afterL preI V`. -/
theorem steps_keep : ∀ k : ℕ, STEP^[k] (afterL preI V) (Proc.devRef .tc main_v35_0) = afterL preI V (Proc.devRef .tc main_v35_0)
    ∧ STEP^[k] (afterL preI V) (Proc.devRef .tc main_v35_1) = afterL preI V (Proc.devRef .tc main_v35_1)
    ∧ STEP^[k] (afterL preI V) (Proc.devRef .tc main_v35_2) = afterL preI V (Proc.devRef .tc main_v35_2)
    ∧ STEP^[k] (afterL preI V) (Proc.devRef .tc main_v35_3) = afterL preI V (Proc.devRef .tc main_v35_3)
    ∧ STEP^[k] (afterL preI V) (Proc.devRef .tc main_v35_4) = afterL preI V (Proc.devRef .tc main_v35_4)
  | 0 => ⟨rfl, rfl, rfl, rfl, rfl⟩
  | k + 1 => by
    obtain ⟨h0, h1, h2, h3, h4⟩ := steps_keep k
    simp only [Function.iterate_succ_apply']
    exact ⟨(STEP_main_v35_0 _).trans h0, (STEP_main_v35_1 _).trans h1, (STEP_main_v35_2 _).trans h2, (STEP_main_v35_3 _).trans h3,
      (STEP_main_v35_4 _).trans h4⟩

variable (C : ∀ k : ℕ, k < 32 → STEP^[k] (afterL preI V) (Proc.devRef .tc main_v35_5) = fun _ => Scf.iv 0#32 1#32 k)

include C in
/-- The states before trip `k` are those after `k` chunks. -/
theorem state_steps : ∀ k : ℕ, k ≤ 32 → ∀ (a h : Fin 4) (x : Fin 256) (e : Fin 512),
    STEP^[k] (afterL preI V) (Proc.devRef .tc main_v35_6) (ix4 a h x e) = stateAt (valP V) (valGa V) (valW V) (valB V) a.val k h x e
  | 0, _, a, h, x, e => entry_zero_state V a h x e
  | k + 1, hk, a, h, x, e => by
    obtain ⟨h0, h1, h2, h3, h4⟩ := steps_keep V k
    rw [Function.iterate_succ_apply', STEP_main_v35_6, trip_state _ ⟨k, by omega⟩ (C k (by omega)), h1, h2, h3]
    exact after_congr (fun s x => entry_k V ⟨k, by omega⟩ a s h x)
      (fun r x => congrFun (congrArg cum (funext fun s => entry_g V ⟨k, by omega⟩ a s h x)) r)
      (fun s e => entry_v V ⟨k, by omega⟩ a s h e) (fun x e => state_steps k (by omega) a h x e) x e

include C in
/-- The chunks before `k` have been given their outputs by trip `k`. -/
theorem out_steps : ∀ k : ℕ, k ≤ 32 → ∀ (n : Fin 32) (a : Fin 4) (r : Fin 64) (h : Fin 4) (e : Fin 512), n.val < k →
    STEP^[k] (afterL preI V) (Proc.devRef .tc main_v35_7) (ix5 n a r h e)
      = mix (qs (valP V) (32 * a.val + n.val) h) (ks (valP V) (32 * a.val + n.val) h) (gs (valGa V) (valW V) (valB V) (32 * a.val + n.val) h)
          (vs (valP V) (32 * a.val + n.val) h) (stateAt (valP V) (valGa V) (valW V) (valB V) a.val n.val h) r e
  | 0, _, n, _, _, _, _, hn => absurd hn (Nat.not_lt_zero _)
  | k + 1, hk, n, a, r, h, e, hn => by
    obtain ⟨h0, h1, h2, h3, h4⟩ := steps_keep V k
    rw [Function.iterate_succ_apply', STEP_main_v35_7, trip_out _ ⟨k, by omega⟩ (C k (by omega))
      (by rw [h4]; exact entry_mask V)]
    by_cases hnk : n = ⟨k, by omega⟩
    · rw [if_pos hnk, h0, h1, h2, h3]
      have hv : n.val = k := congrArg Fin.val hnk
      rw [hv]
      exact mix_congr (fun s x => entry_q V ⟨k, by omega⟩ a s h x) (fun s x => entry_k V ⟨k, by omega⟩ a s h x)
        (fun r x => congrFun (congrArg cum (funext fun s => entry_g V ⟨k, by omega⟩ a s h x)) r)
        (fun s e => entry_v V ⟨k, by omega⟩ a s h e) (fun x e => state_steps V C k (by omega) a h x e) r e
    · rw [if_neg hnk]
      exact out_steps k (by omega) n a r h e (by
        have : n.val ≠ k := fun h => hnk (Fin.ext h)
        omega)

end Loop

/-! ## After the loop -/

section Post

variable (V : Valuation τ sig (Elt Ideal))

/-- The normalised outputs with their gains, at a token and a channel. -/
theorem post_norm_at (a : Fin 4) (n : Fin 2048) (j : Fin 2048) (h : Fin 4) (e : Fin 512) (hj : j.val = 512 * h.val + e.val) (O U : Fin 512 → EReal)
    (hO : ∀ e, V (Proc.devRef .tc main_v35_7) (ix5 (⟨n.val / 64, by omega⟩ : Fin 32) a (⟨n.val % 64, by omega⟩ : Fin 64) h e) = O e)
    (hU : V (Proc.devRef .tc main_arg4) (ix2 (0 : Fin 1) j) = U e) :
    StableHlo.after hostOps0_5 V (Proc.devRef .tc main_v53) (ix3 a n j)
      = O e * Ideal.rsqrt (Ideal.div (∑ x : Fin 512, O x * O x) (Ideal.ofBits FTy.f32 1140850688#32) + Ideal.ofBits FTy.f32 897988541#32) * U e := by
  have key : ∀ (h' : Fin 4) (e' : Fin 512) (j' : Fin 2048), h' = h → e' = e → j' = j →
      (show EReal from V (Proc.devRef .tc main_v35_7) (ix5 (⟨n.val / 64, by omega⟩ : Fin 32) a (⟨n.val % 64, by omega⟩ : Fin 64) h' e'))
        * Ideal.rsqrt (Ideal.div (∑ x : Fin 512, (show EReal from V (Proc.devRef .tc main_v35_7) (ix5 (⟨n.val / 64, by omega⟩ : Fin 32) a (⟨n.val % 64, by omega⟩ : Fin 64) h' x))
          * (show EReal from V (Proc.devRef .tc main_v35_7) (ix5 (⟨n.val / 64, by omega⟩ : Fin 32) a (⟨n.val % 64, by omega⟩ : Fin 64) h' x)))
            (Ideal.ofBits FTy.f32 1140850688#32) + Ideal.ofBits FTy.f32 897988541#32)
        * (show EReal from V (Proc.devRef .tc main_arg4) (ix2 (0 : Fin 1) j'))
      = O e * Ideal.rsqrt (Ideal.div (∑ x : Fin 512, O x * O x) (Ideal.ofBits FTy.f32 1140850688#32) + Ideal.ofBits FTy.f32 897988541#32) * U e := by
    intro h' e' j' e1 e2 e3
    rw [e1, e2, e3, hO, hU]
    simp only [hO]
  after_reads_at
  have h1 : (⟨j.val / 512, by omega⟩ : Fin 4) = h := Fin.ext (by show j.val / 512 = h.val; omega)
  have h2 : (⟨j.val % 512, by omega⟩ : Fin 512) = e := Fin.ext (by show j.val % 512 = e.val; omega)
  have h3 : (⟨j.val / 512 * 512 + j.val % 512, by omega⟩ : Fin 2048) = j := Fin.ext (by show j.val / 512 * 512 + j.val % 512 = j.val; omega)
  exact key _ _ _ h1 h2 h3

/-- The same at a channel given by its head. -/
theorem post_norm (a : Fin 4) (n : Fin 2048) (h : Fin 4) (e : Fin 512) (O U : Fin 512 → EReal)
    (hO : ∀ e, V (Proc.devRef .tc main_v35_7) (ix5 (⟨n.val / 64, by omega⟩ : Fin 32) a (⟨n.val % 64, by omega⟩ : Fin 64) h e) = O e)
    (hU : ∀ e, V (Proc.devRef .tc main_arg4) (ix2 (0 : Fin 1) (vchan h e)) = U e) :
    StableHlo.after hostOps0_5 V (Proc.devRef .tc main_v53) (ix3 a n (vchan h e))
      = O e * Ideal.rsqrt (Ideal.div (∑ x : Fin 512, O x * O x) (Ideal.ofBits FTy.f32 1140850688#32) + Ideal.ofBits FTy.f32 897988541#32) * U e :=
  post_norm_at V a n (vchan h e) h e rfl O U hO (hU e)

/-- The output gates times their sigmoids. -/
theorem post_silu (a : Fin 4) (n : Fin 2048) (j : Fin 2048) :
    StableHlo.after hostOps0_6 V (Proc.devRef .tc main_v54) (ix3 a n j)
      = (show EReal from V (Proc.devRef .tc main_v5) (ix3 a n j)) * Ideal.logistic (V (Proc.devRef .tc main_v5) (ix3 a n j)) := by
  after_reads_at
  rfl

/-- The last product, with the batch rows one after the other. -/
theorem post_last (i : Fin 8192) (j : Fin 2048) :
    StableHlo.after hostOps0_7 V (Proc.devRef .tc main_v57) (ix2 i j)
      = (show EReal from V (Proc.devRef .tc main_v53) (ix3 (⟨i.val / 2048, by omega⟩ : Fin 4) (⟨i.val % 2048, by omega⟩ : Fin 2048) j))
        * (show EReal from V (Proc.devRef .tc main_v54) (ix3 (⟨i.val / 2048, by omega⟩ : Fin 4) (⟨i.val % 2048, by omega⟩ : Fin 2048) j)) := by
  after_reads_at

/-- The output gates and the arguments: the loop writes none of them. -/
abbrev keepers : List (Ref sig .tc) := [main_v5, main_arg0, main_arg1, main_arg2, main_arg3, main_arg4]

/-- The loop's body keeps the output gates and the arguments. -/
theorem body_keeps (r : Ref sig .tc) (hr : r ∈ keepers) : afterL bodyI V (Proc.devRef .tc r) = V (Proc.devRef .tc r) := by
  simp only [afterL_cons, afterL_nil]
  fin_cases hr <;>
  rw [after_of_writes_sub while0Ops0_9 _ while0Ops0_9_writes (by decide), after_of_writes_sub while0Ops0_8 _ while0Ops0_8_writes (by decide),
    after_of_writes_sub while0Ops0_7 _ while0Ops0_7_writes (by decide), after_of_writes_sub while0Ops0_6 _ while0Ops0_6_writes (by decide),
    after_of_writes_sub while0Ops0_5 _ while0Ops0_5_writes (by decide), after_of_writes_sub while0Ops0_4 _ while0Ops0_4_writes (by decide),
    after_of_writes_sub while0Ops0_3 _ while0Ops0_3_writes (by decide), after_of_writes_sub while0Ops0_2 _ while0Ops0_2_writes (by decide),
    after_of_writes_sub while0Ops0_1 _ while0Ops0_1_writes (by decide), after_of_writes_sub while0Ops0 _ while0Ops0_writes (by decide)]

/-- The loop's condition keeps the output gates and the arguments. -/
theorem cond_keeps' (r : Ref sig .tc) (hr : r ∈ keepers) :
    StableHlo.after condOps V (Proc.devRef .tc r) = V (Proc.devRef .tc r) := by
  fin_cases hr <;> exact after_of_writes_sub condOps _ condOps_writes (by decide)

/-- The output gates at the entry of the loop. -/
theorem pre_keeps_v5 (a : Fin 4) (n : Fin 2048) (j : Fin 2048) : afterL preI V (Proc.devRef .tc main_v5) (ix3 a n j)
    = valP V ⟨a.val * 2048 + n.val, by omega⟩ ⟨4096 + j.val, by omega⟩ := by
  simp only [afterL_cons, afterL_nil]
  rw [after_of_writes_sub hostOps0_4 _ hostOps0_4_writes (by decide), after_of_writes_sub hostOps0_3 _ hostOps0_3_writes (by decide),
    after_of_writes_sub hostOps0_2 _ hostOps0_2_writes (by decide), after_of_writes_sub hostOps0_1 _ hostOps0_1_writes (by decide), first_z]

/-- The stretch before the loop keeps the arguments. -/
theorem pre_keeps (r : Ref sig .tc) (hr : r ∈ [main_arg0, main_arg1, main_arg2, main_arg3, main_arg4]) :
    afterL preI V (Proc.devRef .tc r) = V (Proc.devRef .tc r) := by
  simp only [afterL_cons, afterL_nil]
  fin_cases hr <;>
  rw [after_of_writes_sub hostOps0_4 _ hostOps0_4_writes (by decide), after_of_writes_sub hostOps0_3 _ hostOps0_3_writes (by decide),
    after_of_writes_sub hostOps0_2 _ hostOps0_2_writes (by decide), after_of_writes_sub hostOps0_1 _ hostOps0_1_writes (by decide),
    after_of_writes_sub hostOps0 _ hostOps0_writes (by decide)]

/-- The stretch after the loop keeps the arguments. -/
theorem post_keeps (r : Ref sig .tc) (hr : r ∈ [main_arg0, main_arg1, main_arg2, main_arg3, main_arg4]) :
    afterL postI V (Proc.devRef .tc r) = V (Proc.devRef .tc r) := by
  simp only [afterL_cons, afterL_nil]
  fin_cases hr <;>
  rw [after_unwritten [main_v55, main_v56, main_v57] rfl (by decide),
    after_unwritten [main_call9_v0, main_call9_v1, main_call9_cst, main_call9_v2, main_call9_v3, main_call9_cst_0, main_call9_v4, main_call9_v5, main_v54] rfl (by decide),
    after_unwritten [main_v36, main_v37, main_v38, main_v39, main_v40, main_cst_4, main_v41, main_v42, main_cst_5, main_v43, main_v44, main_cst_6, main_v45, main_v46, main_v47, main_v48, main_v49, main_v50, main_v51, main_v52, main_v53] rfl (by decide)]

end Post

variable (m : (ℓ : Loc nD τ sig) → Buf (Elt Ideal) ℓ) (c : Dev nD)

/-- All trips keep the output gates and the arguments. -/
theorem atK_keeps (r : Ref sig .tc) (hr : r ∈ keepers) : ∀ k : ℕ, atK m k c (Proc.devRef .tc r) = entryContents preI m c (Proc.devRef .tc r)
  | 0 => rfl
  | k + 1 => by
    show afterL bodyI (StableHlo.after condOps (atK m k c)) (Proc.devRef .tc r) = _
    rw [body_keeps _ r hr, cond_keeps' _ r hr, atK_keeps r hr k]

/-- The counter before trip `k` is `k`. -/
theorem counters (k : ℕ) (hk : k < 32) : STEP^[k] (entryContents preI m c) (Proc.devRef .tc main_v35_5) = fun _ => Scf.iv 0#32 1#32 k := by
  rw [← atK_agree m c k main_v35_5 (by decide), atK_ctr]

/-- The reference keeps its arguments. -/
theorem ref_keeps (r : Ref sig .tc) (hr : r ∈ [main_arg0, main_arg1, main_arg2, main_arg3, main_arg4]) :
    finalContents condOps preI bodyI postI 32 m c (Proc.devRef .tc r) = m ((c.tc : Thread nD τ).loc r) := by
  have hk : r ∈ keepers := List.mem_cons_of_mem _ hr
  show afterL postI (StableHlo.after condOps (atK m 32 c)) (Proc.devRef .tc r) = _
  rw [post_keeps _ r hr, cond_keeps' _ r hk, atK_keeps m c r hk]
  exact pre_keeps (launchContents m c) r hr

/-- The reference's final state. -/
theorem ref_state (a h : Fin 4) (x : Fin 256) (e : Fin 512) :
    finalContents condOps preI bodyI postI 32 m c (Proc.devRef .tc main_v35_6) (ix4 a h x e)
      = stateAt (valP (launchContents m c)) (valGa (launchContents m c)) (valW (launchContents m c)) (valB (launchContents m c)) a.val 32 h x e := by
  show afterL postI (StableHlo.after condOps (atK m 32 c)) (Proc.devRef .tc main_v35_6) (ix4 a h x e) = _
  simp only [afterL_cons, afterL_nil]
  rw [after_unwritten [main_v55, main_v56, main_v57] rfl (by decide), after_unwritten [main_call9_v0, main_call9_v1, main_call9_cst, main_call9_v2, main_call9_v3, main_call9_cst_0, main_call9_v4, main_call9_v5, main_v54] rfl (by decide),
    after_unwritten [main_v36, main_v37, main_v38, main_v39, main_v40, main_cst_4, main_v41, main_v42, main_cst_5, main_v43, main_v44, main_cst_6, main_v45, main_v46, main_v47, main_v48, main_v49, main_v50, main_v51, main_v52, main_v53] rfl (by decide), cond_keeps _ main_v35_6 (by decide), atK_agree m c 32 main_v35_6 (by decide)]
  exact state_steps (launchContents m c) (counters m c) 32 (le_refl _) a h x e

/-- The reference's output. -/
theorem ref_out (i : Fin 8192) (h : Fin 4) (e : Fin 512) :
    finalContents condOps preI bodyI postI 32 m c (Proc.devRef .tc main_v57) (ix2 i (vchan h e))
      = outAt (valP (launchContents m c)) (valGa (launchContents m c)) (valW (launchContents m c)) (valB (launchContents m c)) (valU (launchContents m c))
          (i.val / 2048) (i.val / 64 % 32) ⟨i.val % 64, by omega⟩ h e := by
  show afterL postI (StableHlo.after condOps (atK m 32 c)) (Proc.devRef .tc main_v57) (ix2 i (vchan h e)) = _
  simp only [afterL_cons, afterL_nil]
  rw [post_last, post_silu]
  have hz : StableHlo.after hostOps0_5 (StableHlo.after condOps (atK m 32 c)) (Proc.devRef .tc main_v5)
      (ix3 (⟨i.val / 2048, by omega⟩ : Fin 4) (⟨i.val % 2048, by omega⟩ : Fin 2048) (vchan h e))
      = zs (valP (launchContents m c)) (32 * (i.val / 2048) + i.val / 64 % 32) h ⟨i.val % 64, by omega⟩ e := by
    rw [after_unwritten [main_v36, main_v37, main_v38, main_v39, main_v40, main_cst_4, main_v41, main_v42, main_cst_5, main_v43, main_v44, main_cst_6, main_v45, main_v46, main_v47, main_v48, main_v49, main_v50, main_v51, main_v52, main_v53] rfl (by decide),
      cond_keeps' _ main_v5 (by decide), atK_keeps m c main_v5 (by decide)]
    refine (pre_keeps_v5 (launchContents m c) _ _ _).trans ?_
    unfold zs
    congr 1
    · apply Fin.ext
      show i.val / 2048 * 2048 + i.val % 2048 = (64 * (32 * (i.val / 2048) + i.val / 64 % 32) + i.val % 64) % 8448
      omega
  rw [hz]
  rw [after_unwritten [main_call9_v0, main_call9_v1, main_call9_cst, main_call9_v2, main_call9_v3, main_call9_cst_0, main_call9_v4, main_call9_v5, main_v54] rfl (by decide)]
  rw [post_norm _ _ _ h e
    (mix (qs (valP (launchContents m c)) (32 * (i.val / 2048) + i.val / 64 % 32) h) (ks (valP (launchContents m c)) (32 * (i.val / 2048) + i.val / 64 % 32) h)
      (gs (valGa (launchContents m c)) (valW (launchContents m c)) (valB (launchContents m c)) (32 * (i.val / 2048) + i.val / 64 % 32) h)
      (vs (valP (launchContents m c)) (32 * (i.val / 2048) + i.val / 64 % 32) h)
      (stateAt (valP (launchContents m c)) (valGa (launchContents m c)) (valW (launchContents m c)) (valB (launchContents m c)) (i.val / 2048) (i.val / 64 % 32) h)
      ⟨i.val % 64, by omega⟩)
    (fun e => valU (launchContents m c) (vchan h e))]
  · rfl
  · intro e
    rw [cond_keeps _ main_v35_7 (by decide), atK_agree m c 32 main_v35_7 (by decide)]
    refine (out_steps (launchContents m c) (counters m c) 32 (le_refl _) _ _ _ h e (by show i.val % 2048 / 64 < 32; omega)).trans ?_
    have hn : i.val % 2048 / 64 = i.val / 64 % 32 := by omega
    have hr : (⟨i.val % 2048 % 64, by omega⟩ : Fin 64) = ⟨i.val % 64, by omega⟩ := Fin.ext (by show i.val % 2048 % 64 = i.val % 64; omega)
    show mix (qs _ (32 * (i.val / 2048) + i.val % 2048 / 64) h) (ks _ (32 * (i.val / 2048) + i.val % 2048 / 64) h)
      (gs _ _ _ (32 * (i.val / 2048) + i.val % 2048 / 64) h) (vs _ (32 * (i.val / 2048) + i.val % 2048 / 64) h)
      (stateAt _ _ _ _ (i.val / 2048) (i.val % 2048 / 64) h) ⟨i.val % 2048 % 64, _⟩ e = _
    rw [hn, hr]
  · intro e
    rw [cond_keeps' _ main_arg4 (by decide), atK_keeps m c main_arg4 (by decide)]
    exact congrFun (pre_keeps (launchContents m c) main_arg4 (by decide)) _

end Cert.Gla.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Results
public import proofs.«01_k».proof.Proof.ProjResults
public import proofs.«01_k».proof.Proof.MixResults
public import proofs.«01_k».proof.Proof.OutResults
public import proofs.«01_k».proof.Proof.SampResults
public import proofs.«01_k».proof.Proof.ActResults
public import proofs.«01_k».proof.Proof.RefLoop
public import Idealize.ShloMosaic.Lib.Quiescent
public import Idealize.ShloMosaic.Adequacy
public import Idealize.ShloMosaic.Init

@[expose] public section

noncomputable section

namespace Cert.Proof

open Idealize.ShloMosaic Idealize.SL.Sem

/-- The reference's run, read: both results and the arguments, from its own argument arrays. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ (c : Dev Cert.ReferenceIdeal.nD) (b : Ref Cert.ReferenceIdeal.sig .tc),
        (Proc.devRef .tc b : DevRef Cert.ReferenceIdeal.τ Cert.ReferenceIdeal.sig).isScoped = false →
        r.2.mem ((c.tc : Thread Cert.ReferenceIdeal.nD Cert.ReferenceIdeal.τ).loc b)
          = StableHlo.finalContents Cert.ReferenceIdeal.Value.condOps Cert.ReferenceIdeal.Value.preI Cert.ReferenceIdeal.Value.bodyI
              Cert.ReferenceIdeal.Value.postI 32 m c (Proc.devRef .tc b)) :=
  Cert.ReferenceIdeal.Value.run_fold m g

/-- The reference ends with its arguments unchanged and every counter at zero. -/
theorem reference_frame : Cert.quiescent_ReferenceIdeal (hReferenceIdeal := Cert.ReferenceIdeal.Gen.facts) := by
  intro m g _
  refine (θ_run _ _ _).mono (fun r h => ⟨fun c => ⟨?_, ?_, ?_, ?_, ?_⟩, sem_eq_zero_of_no_sems rfl _⟩) (reference_run m g)
  · exact (h c _ rfl).trans (Cert.Gla.Ref.ref_keeps m c Cert.ReferenceIdeal.main_arg0 (by decide))
  · exact (h c _ rfl).trans (Cert.Gla.Ref.ref_keeps m c Cert.ReferenceIdeal.main_arg1 (by decide))
  · exact (h c _ rfl).trans (Cert.Gla.Ref.ref_keeps m c Cert.ReferenceIdeal.main_arg2 (by decide))
  · exact (h c _ rfl).trans (Cert.Gla.Ref.ref_keeps m c Cert.ReferenceIdeal.main_arg3 (by decide))
  · exact (h c _ rfl).trans (Cert.Gla.Ref.ref_keeps m c Cert.ReferenceIdeal.main_arg4 (by decide))

/-- The kernel and the reference leave the same outputs and the same states. -/
theorem same_results : Cert.algebraic_KernelIdeal_ReferenceIdeal (hKernelIdeal := Cert.KernelIdeal.Gen.facts)
    (hReferenceIdeal := Cert.ReferenceIdeal.Gen.facts) := by
  intro m g m' g' _ hargs
  have eP (c) : Cert.Gla.Ref.valP (StableHlo.launchContents m' c) = Cert.Gla.argP m c :=
    funext fun i => funext fun j => congrFun (hargs c).1 (ix2 i j)
  have eA (c) : Cert.Gla.Ref.valGa (StableHlo.launchContents m' c) = Cert.Gla.argGa m c :=
    funext fun i => funext fun j => congrFun (hargs c).2.1 (ix2 i j)
  have eW (c) : Cert.Gla.Ref.valW (StableHlo.launchContents m' c) = Cert.Gla.argW m c :=
    funext fun i => funext fun j => congrFun (hargs c).2.2.1 (ix3 0 i j)
  have eB (c) : Cert.Gla.Ref.valB (StableHlo.launchContents m' c) = Cert.Gla.argB m c :=
    funext fun j => congrFun (hargs c).2.2.2.1 (ix2 0 j)
  have eU (c) : Cert.Gla.Ref.valU (StableHlo.launchContents m' c) = Cert.Gla.argU m c :=
    funext fun j => congrFun (hargs c).2.2.2.2 (ix2 0 j)
  refine ⟨Cert.KernelIdeal.Value.G8 m, Cert.KernelIdeal.Value.G9 m, Cert.KernelIdeal.Value.run m g, ?_⟩
  refine (θ_run _ _ _).mono (fun r h c => ⟨?_, ?_, ?_, ?_, ?_, ?_, ?_⟩) (reference_run m' g')
  · refine (h c _ rfl).trans (funext fun y => ?_)
    obtain ⟨i, j, rfl⟩ : ∃ (i : Fin 8192) (j : Fin 2048), y = ix2 i j := ⟨y 0, y 1, eq_ix2 y⟩
    obtain ⟨hd, e, rfl⟩ : ∃ (hd : Fin 4) (e : Fin 512), j = Cert.Gla.vchan hd e :=
      ⟨⟨j.val / 512, by omega⟩, ⟨j.val % 512, by omega⟩, Fin.ext (by show j.val = 512 * (j.val / 512) + j.val % 512; omega)⟩
    refine (Cert.Gla.Ref.ref_out m' c i hd e).trans (Eq.trans ?_ (Cert.Gla.result_out m c i hd e).symm)
    rw [eP c, eA c, eW c, eB c, eU c]
  · refine (h c _ rfl).trans (funext fun y => ?_)
    obtain ⟨a, hd, x, e, rfl⟩ : ∃ (a hd : Fin 4) (x : Fin 256) (e : Fin 512), y = ix4 a hd x e :=
      ⟨y 0, y 1, y 2, y 3, eq_ix4 y⟩
    refine (Cert.Gla.Ref.ref_state m' c a hd x e).trans (Eq.trans ?_ (Cert.Gla.result_state m c a hd x e).symm)
    rw [eP c, eA c, eW c, eB c]
  · exact (h c _ rfl).trans (Cert.Gla.Ref.ref_keeps m' c Cert.ReferenceIdeal.main_arg0 (by decide))
  · exact (h c _ rfl).trans (Cert.Gla.Ref.ref_keeps m' c Cert.ReferenceIdeal.main_arg1 (by decide))
  · exact (h c _ rfl).trans (Cert.Gla.Ref.ref_keeps m' c Cert.ReferenceIdeal.main_arg2 (by decide))
  · exact (h c _ rfl).trans (Cert.Gla.Ref.ref_keeps m' c Cert.ReferenceIdeal.main_arg3 (by decide))
  · exact (h c _ rfl).trans (Cert.Gla.Ref.ref_keeps m' c Cert.ReferenceIdeal.main_arg4 (by decide))

/-- All the claims: the three frames of each part, that each idealized kernel is the printed one, and that each computes its reference. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ, Cert.Proj.reference_frame,
    fun m ρ _ => Cert.Kernel3.Gen.frame m ρ, fun m ρ _ => Cert.Kernel3Ideal.Gen.frame m ρ, Cert.Mix.reference_frame,
    fun m ρ _ => Cert.Kernel4.Gen.frame m ρ, fun m ρ _ => Cert.Kernel4Ideal.Gen.frame m ρ, Cert.Out.reference_frame,
    fun m ρ _ => Cert.Kernel5.Gen.frame m ρ, fun m ρ _ => Cert.Kernel5Ideal.Gen.frame m ρ, Cert.Samp.reference_frame,
    fun m ρ _ => Cert.Kernel6.Gen.frame m ρ, fun m ρ _ => Cert.Kernel6Ideal.Gen.frame m ρ, Cert.Act.reference_frame,
    trivial, same_results, trivial, Cert.Proj.same_results, trivial, Cert.Mix.same_results,
    trivial, Cert.Out.same_results, trivial, Cert.Samp.same_results,
    trivial, Cert.Act.same_results⟩

end Cert.Proof

end
